-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v151) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)) (v3 : (c : Dev Cert.Kernel4Ideal.nD) → Buf (Elt Ideal) ((c.tc : Thread Cert.Kernel4Ideal.nD Cert.Kernel4Ideal.τ).loc Cert.Kernel4Ideal.main_v24_3)) (v4 : (c : Dev Cert.Kernel4Ideal.nD) → Buf (Elt Ideal) ((c.tc : Thread Cert.Kernel4Ideal.nD Cert.Kernel4Ideal.τ).loc Cert.Kernel4Ideal.main_v24_4)) (v5 : (c : Dev Cert.Kernel4Ideal.nD) → Buf (Elt Ideal) ((c.tc : Thread Cert.Kernel4Ideal.nD Cert.Kernel4Ideal.τ).loc Cert.Kernel4Ideal.main_v24_5)) (v6 : (c : Dev Cert.Kernel4Ideal.nD) → Buf (Elt Ideal) ((c.tc : Thread Cert.Kernel4Ideal.nD Cert.Kernel4Ideal.τ).loc Cert.Kernel4Ideal.main_v24_6)) (v7 : (c : Dev Cert.Kernel4Ideal.nD) → Buf (Elt Ideal) ((c.tc : Thread Cert.Kernel4Ideal.nD Cert.Kernel4Ideal.τ).loc Cert.Kernel4Ideal.main_v24_7)) (v8 : (c : Dev Cert.Kernel4Ideal.nD) → Buf (Elt Ideal) ((c.tc : Thread Cert.Kernel4Ideal.nD Cert.Kernel4Ideal.τ).loc Cert.Kernel4Ideal.main_v24_8)) (v9 : (c : Dev Cert.Kernel4Ideal.nD) → Buf (Elt Ideal) ((c.tc : Thread Cert.Kernel4Ideal.nD Cert.Kernel4Ideal.τ).loc Cert.Kernel4Ideal.main_v24_9)) (v10 : (c : Dev Cert.Kernel4Ideal.nD) → Buf (Elt Ideal) ((c.tc : Thread Cert.Kernel4Ideal.nD Cert.Kernel4Ideal.τ).loc Cert.Kernel4Ideal.main_v24_10)) (v11 : (c : Dev Cert.Kernel4Ideal.nD) → Buf (Elt Ideal) ((c.tc : Thread Cert.Kernel4Ideal.nD Cert.Kernel4Ideal.τ).loc Cert.Kernel4Ideal.main_v24_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_v24_3) = v3 c
          ∧ r.2.mem ((c.tc : Thread Cert.Kernel4Ideal.nD Cert.Kernel4Ideal.τ).loc Cert.Kernel4Ideal.main_v24_4) = v4 c
          ∧ r.2.mem ((c.tc : Thread Cert.Kernel4Ideal.nD Cert.Kernel4Ideal.τ).loc Cert.Kernel4Ideal.main_v24_5) = v5 c
          ∧ r.2.mem ((c.tc : Thread Cert.Kernel4Ideal.nD Cert.Kernel4Ideal.τ).loc Cert.Kernel4Ideal.main_v24_6) = v6 c
          ∧ r.2.mem ((c.tc : Thread Cert.Kernel4Ideal.nD Cert.Kernel4Ideal.τ).loc Cert.Kernel4Ideal.main_v24_7) = v7 c
          ∧ r.2.mem ((c.tc : Thread Cert.Kernel4Ideal.nD Cert.Kernel4Ideal.τ).loc Cert.Kernel4Ideal.main_v24_8) = v8 c
          ∧ r.2.mem ((c.tc : Thread Cert.Kernel4Ideal.nD Cert.Kernel4Ideal.τ).loc Cert.Kernel4Ideal.main_v24_9) = v9 c
          ∧ r.2.mem ((c.tc : Thread Cert.Kernel4Ideal.nD Cert.Kernel4Ideal.τ).loc Cert.Kernel4Ideal.main_v24_10) = v10 c
          ∧ r.2.mem ((c.tc : Thread Cert.Kernel4Ideal.nD Cert.Kernel4Ideal.τ).loc Cert.Kernel4Ideal.main_v24_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v146) = v2 c
          ∧ r.2.mem ((c.tc : Thread Cert.Reference4Ideal.nD Cert.Reference4Ideal.τ).loc Cert.Reference4Ideal.main_v142) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_v147) = v5 c
          ∧ r.2.mem ((c.tc : Thread Cert.Reference4Ideal.nD Cert.Reference4Ideal.τ).loc Cert.Reference4Ideal.main_v148) = v6 c
          ∧ r.2.mem ((c.tc : Thread Cert.Reference4Ideal.nD Cert.Reference4Ideal.τ).loc Cert.Reference4Ideal.main_v152) = v7 c
          ∧ r.2.mem ((c.tc : Thread Cert.Reference4Ideal.nD Cert.Reference4Ideal.τ).loc Cert.Reference4Ideal.main_v141) = v8 c
          ∧ r.2.mem ((c.tc : Thread Cert.Reference4Ideal.nD Cert.Reference4Ideal.τ).loc Cert.Reference4Ideal.main_v153) = v9 c
          ∧ r.2.mem ((c.tc : Thread Cert.Reference4Ideal.nD Cert.Reference4Ideal.τ).loc Cert.Reference4Ideal.main_v155) = v10 c
          ∧ r.2.mem ((c.tc : Thread Cert.Reference4Ideal.nD Cert.Reference4Ideal.τ).loc Cert.Reference4Ideal.main_v156) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v34_0)) (v1 : (c : Dev Cert.Kernel5Ideal.nD) → Buf (Elt Ideal) ((c.tc : Thread Cert.Kernel5Ideal.nD Cert.Kernel5Ideal.τ).loc Cert.Kernel5Ideal.main_v34_1)) (v2 : (c : Dev Cert.Kernel5Ideal.nD) → Buf (Elt Ideal) ((c.tc : Thread Cert.Kernel5Ideal.nD Cert.Kernel5Ideal.τ).loc Cert.Kernel5Ideal.main_v34_2)) (v3 : (c : Dev Cert.Kernel5Ideal.nD) → Buf (Elt Ideal) ((c.tc : Thread Cert.Kernel5Ideal.nD Cert.Kernel5Ideal.τ).loc Cert.Kernel5Ideal.main_v34_3)) (v4 : (c : Dev Cert.Kernel5Ideal.nD) → Buf (Elt Ideal) ((c.tc : Thread Cert.Kernel5Ideal.nD Cert.Kernel5Ideal.τ).loc Cert.Kernel5Ideal.main_v34_4)) (v5 : (c : Dev Cert.Kernel5Ideal.nD) → Buf (Elt Ideal) ((c.tc : Thread Cert.Kernel5Ideal.nD Cert.Kernel5Ideal.τ).loc Cert.Kernel5Ideal.main_v34_5)) (v6 : (c : Dev Cert.Kernel5Ideal.nD) → Buf (Elt Ideal) ((c.tc : Thread Cert.Kernel5Ideal.nD Cert.Kernel5Ideal.τ).loc Cert.Kernel5Ideal.main_v34_6)) (v7 : (c : Dev Cert.Kernel5Ideal.nD) → Buf (Elt Ideal) ((c.tc : Thread Cert.Kernel5Ideal.nD Cert.Kernel5Ideal.τ).loc Cert.Kernel5Ideal.main_v34_7)) (v8 : (c : Dev Cert.Kernel5Ideal.nD) → Buf (Elt Ideal) ((c.tc : Thread Cert.Kernel5Ideal.nD Cert.Kernel5Ideal.τ).loc Cert.Kernel5Ideal.main_v34_8)) (v9 : (c : Dev Cert.Kernel5Ideal.nD) → Buf (Elt Ideal) ((c.tc : Thread Cert.Kernel5Ideal.nD Cert.Kernel5Ideal.τ).loc Cert.Kernel5Ideal.main_v34_9)) (v10 : (c : Dev Cert.Kernel5Ideal.nD) → Buf (Elt Ideal) ((c.tc : Thread Cert.Kernel5Ideal.nD Cert.Kernel5Ideal.τ).loc Cert.Kernel5Ideal.main_v34_10)) (v11 : (c : Dev Cert.Kernel5Ideal.nD) → Buf (Elt Ideal) ((c.tc : Thread Cert.Kernel5Ideal.nD Cert.Kernel5Ideal.τ).loc Cert.Kernel5Ideal.main_v34_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34_0) = v0 c
          ∧ r.2.mem ((c.tc : Thread Cert.Kernel5Ideal.nD Cert.Kernel5Ideal.τ).loc Cert.Kernel5Ideal.main_v34_1) = v1 c
          ∧ r.2.mem ((c.tc : Thread Cert.Kernel5Ideal.nD Cert.Kernel5Ideal.τ).loc Cert.Kernel5Ideal.main_v34_2) = v2 c
          ∧ r.2.mem ((c.tc : Thread Cert.Kernel5Ideal.nD Cert.Kernel5Ideal.τ).loc Cert.Kernel5Ideal.main_v34_3) = v3 c
          ∧ r.2.mem ((c.tc : Thread Cert.Kernel5Ideal.nD Cert.Kernel5Ideal.τ).loc Cert.Kernel5Ideal.main_v34_4) = v4 c
          ∧ r.2.mem ((c.tc : Thread Cert.Kernel5Ideal.nD Cert.Kernel5Ideal.τ).loc Cert.Kernel5Ideal.main_v34_5) = v5 c
          ∧ r.2.mem ((c.tc : Thread Cert.Kernel5Ideal.nD Cert.Kernel5Ideal.τ).loc Cert.Kernel5Ideal.main_v34_6) = v6 c
          ∧ r.2.mem ((c.tc : Thread Cert.Kernel5Ideal.nD Cert.Kernel5Ideal.τ).loc Cert.Kernel5Ideal.main_v34_7) = v7 c
          ∧ r.2.mem ((c.tc : Thread Cert.Kernel5Ideal.nD Cert.Kernel5Ideal.τ).loc Cert.Kernel5Ideal.main_v34_8) = v8 c
          ∧ r.2.mem ((c.tc : Thread Cert.Kernel5Ideal.nD Cert.Kernel5Ideal.τ).loc Cert.Kernel5Ideal.main_v34_9) = v9 c
          ∧ r.2.mem ((c.tc : Thread Cert.Kernel5Ideal.nD Cert.Kernel5Ideal.τ).loc Cert.Kernel5Ideal.main_v34_10) = v10 c
          ∧ r.2.mem ((c.tc : Thread Cert.Kernel5Ideal.nD Cert.Kernel5Ideal.τ).loc Cert.Kernel5Ideal.main_v34_11) = v11 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v153) = v2 c
          ∧ r.2.mem ((c.tc : Thread Cert.Reference5Ideal.nD Cert.Reference5Ideal.τ).loc Cert.Reference5Ideal.main_v149) = v3 c
          ∧ r.2.mem ((c.tc : Thread Cert.Reference5Ideal.nD Cert.Reference5Ideal.τ).loc Cert.Reference5Ideal.main_v20) = v4 c
          ∧ r.2.mem ((c.tc : Thread Cert.Reference5Ideal.nD Cert.Reference5Ideal.τ).loc Cert.Reference5Ideal.main_v154) = v5 c
          ∧ r.2.mem ((c.tc : Thread Cert.Reference5Ideal.nD Cert.Reference5Ideal.τ).loc Cert.Reference5Ideal.main_v155) = v6 c
          ∧ r.2.mem ((c.tc : Thread Cert.Reference5Ideal.nD Cert.Reference5Ideal.τ).loc Cert.Reference5Ideal.main_v159) = v7 c
          ∧ r.2.mem ((c.tc : Thread Cert.Reference5Ideal.nD Cert.Reference5Ideal.τ).loc Cert.Reference5Ideal.main_v148) = v8 c
          ∧ r.2.mem ((c.tc : Thread Cert.Reference5Ideal.nD Cert.Reference5Ideal.τ).loc Cert.Reference5Ideal.main_v160) = v9 c
          ∧ r.2.mem ((c.tc : Thread Cert.Reference5Ideal.nD Cert.Reference5Ideal.τ).loc Cert.Reference5Ideal.main_v162) = v10 c
          ∧ r.2.mem ((c.tc : Thread Cert.Reference5Ideal.nD Cert.Reference5Ideal.τ).loc Cert.Reference5Ideal.main_v163) = v11 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v68) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v58_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v58_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S256x512 : Shape := ⟨2, ![256, 512]⟩
abbrev S32x3x256 : Shape := ⟨3, ![32, 3, 256]⟩
abbrev S32x256 : Shape := ⟨2, ![32, 256]⟩
abbrev S4x256 : Shape := ⟨2, ![4, 256]⟩
abbrev S256 : Shape := ⟨1, ![256]⟩
abbrev S4x64x64 : Shape := ⟨3, ![4, 64, 64]⟩
abbrev S_ : Shape := ⟨0, ![]⟩
abbrev S32x8x256 : Shape := ⟨3, ![32, 8, 256]⟩
abbrev S32x1x256 : Shape := ⟨3, ![32, 1, 256]⟩
abbrev S1x256 : Shape := ⟨2, ![1, 256]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S8x512 : Shape := ⟨2, ![8, 512]⟩
abbrev S1x8x256 : Shape := ⟨3, ![1, 8, 256]⟩
abbrev S1x1x256 : Shape := ⟨3, ![1, 1, 256]⟩
abbrev S8x256 : Shape := ⟨2, ![8, 256]⟩
abbrev S16x256 : Shape := ⟨2, ![16, 256]⟩

abbrev nBuf : Space → Nat
  | .hbm => 91
  | .vmem => 21
  | .smem => 0
  | _ => 0

abbrev bufTy : (tb : Table) → Fin (tcTables nBuf tb) → BufTy
  | .hbm, ⟨0, _⟩ => ⟨S256x512, .f32⟩
  | .hbm, ⟨1, _⟩ => ⟨S32x3x256, .f32⟩
  | .hbm, ⟨2, _⟩ => ⟨S32x256, .f32⟩
  | .hbm, ⟨3, _⟩ => ⟨S4x256, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S4x64x64, .f32⟩
  | .hbm, ⟨8, _⟩ => ⟨S256, .f32⟩
  | .hbm, ⟨9, _⟩ => ⟨S256, .f32⟩
  | .hbm, ⟨10, _⟩ => ⟨S_, .i32⟩
  | .hbm, ⟨11, _⟩ => ⟨S_, .f32⟩
  | .hbm, ⟨12, _⟩ => ⟨S32x8x256, .f32⟩
  | .hbm, ⟨13, _⟩ => ⟨S32x1x256, .f32⟩
  | .hbm, ⟨14, _⟩ => ⟨S1x256, .f32⟩
  | .hbm, ⟨15, _⟩ => ⟨S_, .f32⟩
  | .hbm, ⟨16, _⟩ => ⟨S256x256, .f32⟩
  | .hbm, ⟨17, _⟩ => ⟨S1x64x64, .f32⟩
  | .hbm, ⟨18, _⟩ => ⟨S64x64, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S256x256, .f32⟩
  | .hbm, ⟨25, _⟩ => ⟨S1x64x64, .f32⟩
  | .hbm, ⟨26, _⟩ => ⟨S64x64, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S256x256, .f32⟩
  | .hbm, ⟨33, _⟩ => ⟨S1x64x64, .f32⟩
  | .hbm, ⟨34, _⟩ => ⟨S64x64, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S256x256, .f32⟩
  | .hbm, ⟨41, _⟩ => ⟨S1x64x64, .f32⟩
  | .hbm, ⟨42, _⟩ => ⟨S64x64, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S256x256, .f32⟩
  | .hbm, ⟨49, _⟩ => ⟨S256x256, .bf16⟩
  | .hbm, ⟨50, _⟩ => ⟨S1x256, .f32⟩
  | .hbm, ⟨51, _⟩ => ⟨S_, .f32⟩
  | .hbm, ⟨52, _⟩ => ⟨S256x256, .f32⟩
  | .hbm, ⟨53, _⟩ => ⟨S1x64x64, .f32⟩
  | .hbm, ⟨54, _⟩ => ⟨S64x64, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S256x256, .f32⟩
  | .hbm, ⟨61, _⟩ => ⟨S1x64x64, .f32⟩
  | .hbm, ⟨62, _⟩ => ⟨S64x64, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S256x256, .f32⟩
  | .hbm, ⟨69, _⟩ => ⟨S1x64x64, .f32⟩
  | .hbm, ⟨70, _⟩ => ⟨S64x64, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S256x256, .f32⟩
  | .hbm, ⟨77, _⟩ => ⟨S1x64x64, .f32⟩
  | .hbm, ⟨78, _⟩ => ⟨S64x64, .f32⟩
  | .hbm, ⟨79, _⟩ => ⟨S_, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S2, .i32⟩
  | .hbm, ⟨84, _⟩ => ⟨S256x256, .f32⟩
  | .hbm, ⟨85, _⟩ => ⟨S256x256, .bf16⟩
  | .hbm, ⟨86, _⟩ => ⟨S1x256, .f32⟩
  | .hbm, ⟨87, _⟩ => ⟨S1x256, .f32⟩
  | .hbm, ⟨88, _⟩ => ⟨S256x256, .f32⟩
  | .hbm, ⟨89, _⟩ => ⟨S32x8x256, .f32⟩
  | .hbm, ⟨90, _⟩ => ⟨S32x1x256, .f32⟩
  | .local _ .vmem, ⟨0, _⟩ => ⟨S8x512, .f32⟩
  | .local _ .vmem, ⟨1, _⟩ => ⟨S8x512, .f32⟩
  | .local _ .vmem, ⟨2, _⟩ => ⟨S1x8x256, .f32⟩
  | .local _ .vmem, ⟨3, _⟩ => ⟨S1x8x256, .f32⟩
  | .local _ .vmem, ⟨4, _⟩ => ⟨S1x1x256, .f32⟩
  | .local _ .vmem, ⟨5, _⟩ => ⟨S1x1x256, .f32⟩
  | .local _ .vmem, ⟨6, _⟩ => ⟨S4x256, .f32⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S1x256, .f32⟩
  | .local _ .vmem, ⟨13, _⟩ => ⟨S8x256, .f32⟩
  | .local _ .vmem, ⟨14, _⟩ => ⟨S8x256, .f32⟩
  | .local _ .vmem, ⟨15, _⟩ => ⟨S1x8x256, .f32⟩
  | .local _ .vmem, ⟨16, _⟩ => ⟨S1x8x256, .f32⟩
  | .local _ .vmem, ⟨17, _⟩ => ⟨S1x1x256, .f32⟩
  | .local _ .vmem, ⟨18, _⟩ => ⟨S1x1x256, .f32⟩
  | .local _ .vmem, ⟨19, _⟩ => ⟨S16x256, .f32⟩
  | .local _ .vmem, ⟨20, _⟩ => ⟨S1x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_c_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_13 : Ref sig .tc := ⟨.hbm, 71, rfl⟩
abbrev main_v45 : Ref sig .tc := ⟨.hbm, 72, rfl⟩
abbrev main_c_14 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_15 : Ref sig .tc := ⟨.hbm, 79, rfl⟩
abbrev main_v51 : Ref sig .tc := ⟨.hbm, 80, rfl⟩
abbrev main_c_16 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58_0 : Ref sig .tc := ⟨.hbm, 88, rfl⟩
abbrev main_v58_1 : Ref sig .tc := ⟨.hbm, 89, rfl⟩
abbrev main_v58_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S256x512 : Shape := ⟨2, ![256, 512]⟩
abbrev S32x3x256 : Shape := ⟨3, ![32, 3, 256]⟩
abbrev S32x256 : Shape := ⟨2, ![32, 256]⟩
abbrev S4x256 : Shape := ⟨2, ![4, 256]⟩
abbrev S256 : Shape := ⟨1, ![256]⟩
abbrev S4x64x64 : Shape := ⟨3, ![4, 64, 64]⟩
abbrev S32x8x512 : Shape := ⟨3, ![32, 8, 512]⟩
abbrev S32x8x256 : Shape := ⟨3, ![32, 8, 256]⟩
abbrev S32x11x256 : Shape := ⟨3, ![32, 11, 256]⟩
abbrev S1x256 : Shape := ⟨2, ![1, 256]⟩
abbrev S1x1x256 : Shape := ⟨3, ![1, 1, 256]⟩
abbrev S_ : Shape := ⟨0, ![]⟩
abbrev S32x8x4x64 : Shape := ⟨4, ![32, 8, 4, 64]⟩
abbrev S4x64x32x8 : Shape := ⟨4, ![4, 64, 32, 8]⟩
abbrev S32x1x256 : Shape := ⟨3, ![32, 1, 256]⟩
abbrev S256x256 : Shape := ⟨2, ![256, 256]⟩

abbrev nBuf : Space → Nat
  | .hbm => 187
  | .vmem => 0
  | .smem => 0
  | _ => 0

abbrev hbmTy0_0 (i : Nat) : BufTy := match i % 128 with
  | 0 => ⟨S256x512, .f32⟩
  | 1 => ⟨S32x3x256, .f32⟩
  | 2 => ⟨S32x256, .f32⟩
  | 3 => ⟨S4x256, .f32⟩
  | 4 => ⟨S256, .f32⟩
  | 5 => ⟨S4x64x64, .f32⟩
  | 6 => ⟨S256, .f32⟩
  | 7 => ⟨S4x64x64, .f32⟩
  | 8 => ⟨S256, .f32⟩
  | 9 => ⟨S256, .f32⟩
  | 10 => ⟨S32x8x512, .f32⟩
  | 11 => ⟨S32x8x256, .f32⟩
  | 12 => ⟨S32x8x256, .f32⟩
  | 13 => ⟨S32x11x256, .f32⟩
  | 14 => ⟨S32x8x256, .f32⟩
  | 15 => ⟨S1x256, .f32⟩
  | 16 => ⟨S256, .f32⟩
  | 17 => ⟨S1x1x256, .f32⟩
  | 18 => ⟨S32x8x256, .f32⟩
  | 19 => ⟨S32x8x256, .f32⟩
  | 20 => ⟨S_, .f32⟩
  | 21 => ⟨S32x8x256, .f32⟩
  | 22 => ⟨S32x8x256, .f32⟩
  | 23 => ⟨S32x8x256, .f32⟩
  | 24 => ⟨S1x256, .f32⟩
  | 25 => ⟨S256, .f32⟩
  | 26 => ⟨S1x1x256, .f32⟩
  | 27 => ⟨S32x8x256, .f32⟩
  | 28 => ⟨S32x8x256, .f32⟩
  | 29 => ⟨S32x8x256, .f32⟩
  | 30 => ⟨S32x8x256, .f32⟩
  | 31 => ⟨S1x256, .f32⟩
  | 32 => ⟨S256, .f32⟩
  | 33 => ⟨S1x1x256, .f32⟩
  | 34 => ⟨S32x8x256, .f32⟩
  | 35 => ⟨S32x8x256, .f32⟩
  | 36 => ⟨S32x8x256, .f32⟩
  | 37 => ⟨S32x8x256, .f32⟩
  | 38 => ⟨S1x256, .f32⟩
  | 39 => ⟨S256, .f32⟩
  | 40 => ⟨S1x1x256, .f32⟩
  | 41 => ⟨S32x8x256, .f32⟩
  | 42 => ⟨S32x8x256, .f32⟩
  | 43 => ⟨S32x8x256, .f32⟩
  | 44 => ⟨S1x1x256, .f32⟩
  | 45 => ⟨S32x8x256, .f32⟩
  | 46 => ⟨S32x8x256, .f32⟩
  | 47 => ⟨S32x8x4x64, .f32⟩
  | 48 => ⟨S4x64x32x8, .f32⟩
  | 49 => ⟨S32x8x4x64, .f32⟩
  | 50 => ⟨S32x8x256, .f32⟩
  | 51 => ⟨S1x1x256, .f32⟩
  | 52 => ⟨S32x8x256, .f32⟩
  | 53 => ⟨S32x8x256, .f32⟩
  | 54 => ⟨S32x8x256, .f32⟩
  | 55 => ⟨S32x8x256, .f32⟩
  | 56 => ⟨S_, .f32⟩
  | 57 => ⟨S32x8x256, .f32⟩
  | 58 => ⟨S32x8x256, .f32⟩
  | 59 => ⟨S_, .f32⟩
  | 60 => ⟨S32x8x256, .f32⟩
  | 61 => ⟨S32x8x256, .f32⟩
  | 62 => ⟨S4x64x32x8, .f32⟩
  | 63 => ⟨S32x8x4x64, .f32⟩
  | 64 => ⟨S32x8x256, .f32⟩
  | 65 => ⟨S1x1x256, .f32⟩
  | 66 => ⟨S32x8x256, .f32⟩
  | 67 => ⟨S32x8x256, .f32⟩
  | 68 => ⟨S32x8x256, .f32⟩
  | 69 => ⟨S32x8x256, .f32⟩
  | 70 => ⟨S_, .f32⟩
  | 71 => ⟨S32x8x256, .f32⟩
  | 72 => ⟨S32x8x256, .f32⟩
  | 73 => ⟨S_, .f32⟩
  | 74 => ⟨S32x8x256, .f32⟩
  | 75 => ⟨S32x8x256, .f32⟩
  | 76 => ⟨S_, .f32⟩
  | 77 => ⟨S32x8x256, .f32⟩
  | 78 => ⟨S32x8x256, .f32⟩
  | 79 => ⟨S256, .f32⟩
  | 80 => ⟨S_, .f32⟩
  | 81 => ⟨S256, .f32⟩
  | 82 => ⟨S256, .f32⟩
  | 83 => ⟨S256, .f32⟩
  | 84 => ⟨S256, .f32⟩
  | 85 => ⟨S256, .i1⟩
  | 86 => ⟨S256, .f32⟩
  | 87 => ⟨S256, .f32⟩
  | 88 => ⟨S256, .f32⟩
  | 89 => ⟨S256, .f32⟩
  | 90 => ⟨S256, .f32⟩
  | 91 => ⟨S256, .f32⟩
  | 92 => ⟨S256, .f32⟩
  | 93 => ⟨S256, .f32⟩
  | 94 => ⟨S1x1x256, .f32⟩
  | 95 => ⟨S32x8x256, .f32⟩
  | 96 => ⟨S32x8x256, .f32⟩
  | 97 => ⟨S32x8x256, .f32⟩
  | 98 => ⟨S_, .f32⟩
  | 99 => ⟨S32x8x256, .f32⟩
  | 100 => ⟨S32x8x256, .f32⟩
  | 101 => ⟨S32x8x256, .f32⟩
  | 102 => ⟨S32x8x256, .f32⟩
  | 103 => ⟨S_, .f32⟩
  | 104 => ⟨S32x8x256, .f32⟩
  | 105 => ⟨S32x8x256, .f32⟩
  | 106 => ⟨S32x8x256, .f32⟩
  | 107 => ⟨S32x8x256, .f32⟩
  | 108 => ⟨S32x8x256, .f32⟩
  | 109 => ⟨S32x1x256, .f32⟩
  | 110 => ⟨S32x256, .f32⟩
  | 111 => ⟨S32x256, .f32⟩
  | 112 => ⟨S32x1x256, .f32⟩
  | 113 => ⟨S32x256, .f32⟩
  | 114 => ⟨S32x256, .f32⟩
  | 115 => ⟨S32x1x256, .f32⟩
  | 116 => ⟨S32x256, .f32⟩
  | 117 => ⟨S32x256, .f32⟩
  | 118 => ⟨S32x1x256, .f32⟩
  | 119 => ⟨S32x256, .f32⟩
  | 120 => ⟨S32x256, .f32⟩
  | 121 => ⟨S32x1x256, .f32⟩
  | 122 => ⟨S32x256, .f32⟩
  | 123 => ⟨S32x256, .f32⟩
  | 124 => ⟨S32x1x256, .f32⟩
  | 125 => ⟨S32x256, .f32⟩
  | 126 => ⟨S32x256, .f32⟩
  | 127 => ⟨S32x1x256, .f32⟩
  | _ => ⟨S256x512, .f32⟩

abbrev hbmTy0_1 (i : Nat) : BufTy := match i % 128 with
  | 0 => ⟨S32x256, .f32⟩
  | 1 => ⟨S32x256, .f32⟩
  | 2 => ⟨S32x1x256, .f32⟩
  | 3 => ⟨S32x256, .f32⟩
  | 4 => ⟨S32x256, .f32⟩
  | 5 => ⟨S32x1x256, .f32⟩
  | 6 => ⟨S32x256, .f32⟩
  | 7 => ⟨S32x256, .f32⟩
  | 8 => ⟨S32x1x256, .f32⟩
  | 9 => ⟨S32x256, .f32⟩
  | 10 => ⟨S32x256, .f32⟩
  | 11 => ⟨S32x1x256, .f32⟩
  | 12 => ⟨S32x256, .f32⟩
  | 13 => ⟨S32x256, .f32⟩
  | 14 => ⟨S32x1x256, .f32⟩
  | 15 => ⟨S32x256, .f32⟩
  | 16 => ⟨S32x256, .f32⟩
  | 17 => ⟨S32x1x256, .f32⟩
  | 18 => ⟨S32x256, .f32⟩
  | 19 => ⟨S32x256, .f32⟩
  | 20 => ⟨S32x1x256, .f32⟩
  | 21 => ⟨S32x256, .f32⟩
  | 22 => ⟨S32x256, .f32⟩
  | 23 => ⟨S32x1x256, .f32⟩
  | 24 => ⟨S32x256, .f32⟩
  | 25 => ⟨S32x256, .f32⟩
  | 26 => ⟨S32x1x256, .f32⟩
  | 27 => ⟨S32x256, .f32⟩
  | 28 => ⟨S32x256, .f32⟩
  | 29 => ⟨S32x1x256, .f32⟩
  | 30 => ⟨S32x1x256, .f32⟩
  | 31 => ⟨S32x1x256, .f32⟩
  | 32 => ⟨S32x1x256, .f32⟩
  | 33 => ⟨S32x1x256, .f32⟩
  | 34 => ⟨S32x1x256, .f32⟩
  | 35 => ⟨S32x1x256, .f32⟩
  | 36 => ⟨S32x1x256, .f32⟩
  | 37 => ⟨S32x8x256, .f32⟩
  | 38 => ⟨S32x8x256, .f32⟩
  | 39 => ⟨S32x8x256, .f32⟩
  | 40 => ⟨S_, .f32⟩
  | 41 => ⟨S32x8x256, .f32⟩
  | 42 => ⟨S32x8x256, .f32⟩
  | 43 => ⟨S32x8x256, .f32⟩
  | 44 => ⟨S_, .f32⟩
  | 45 => ⟨S32x8x256, .f32⟩
  | 46 => ⟨S32x8x256, .f32⟩
  | 47 => ⟨S32x8x256, .f32⟩
  | 48 => ⟨S_, .f32⟩
  | 49 => ⟨S32x8x256, .f32⟩
  | 50 => ⟨S32x8x256, .f32⟩
  | 51 => ⟨S_, .f32⟩
  | 52 => ⟨S32x8x256, .f32⟩
  | 53 => ⟨S32x8x256, .f32⟩
  | 54 => ⟨S32x8x256, .f32⟩
  | 55 => ⟨S32x8x256, .f32⟩
  | 56 => ⟨S256x256, .f32⟩
  | 57 => ⟨S32x8x256, .f32⟩
  | 58 => ⟨S32x1x256, .f32⟩
  | _ => ⟨S256x512, .f32⟩

abbrev hbmTy (i : Nat) : BufTy := match i / 128 with
  | 0 => hbmTy0_0 i
  | 1 => hbmTy0_1 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_0 : Ref sig .tc := ⟨.hbm, 56, rfl⟩
abbrev main_v45 : Ref sig .tc := ⟨.hbm, 57, rfl⟩
abbrev main_v46 : Ref sig .tc := ⟨.hbm, 58, rfl⟩
abbrev main_cst_1 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_cst_4 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_6 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_7 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_8 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_9 : Ref sig .tc := ⟨.hbm, 176, rfl⟩
abbrev main_v143 : Ref sig .tc := ⟨.hbm, 177, rfl⟩
abbrev main_v144 : Ref sig .tc := ⟨.hbm, 178, rfl⟩
abbrev main_cst_10 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩

abbrev nD : Nat := 1
abbrev τ : Topo := Topo.v7x

variable {F : FTy → Type} [FloatOps F]
-- ==== Kernel2.lean ====
abbrev S16384x1024 : Shape := ⟨2, ![16384, 1024]⟩
abbrev S1x9216 : Shape := ⟨2, ![1, 9216]⟩
abbrev S1024x2816 : Shape := ⟨2, ![1024, 2816]⟩
abbrev S2816x1024 : Shape := ⟨2, ![2816, 1024]⟩
abbrev S1024 : Shape := ⟨1, ![1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x11x256, .f32⟩
  | .hbm, ⟨8, _⟩ => ⟨S11x1024x256, .f32⟩
  | .hbm, ⟨9, _⟩ => ⟨S11x1024x256, .bf16⟩
  | .hbm, ⟨10, _⟩ => ⟨S1024x11x256, .f32⟩
  | .hbm, ⟨11, _⟩ => ⟨S11x1024x256, .f32⟩
  | .hbm, ⟨12, _⟩ => ⟨S11x1024x256, .bf16⟩
  | .hbm, ⟨13, _⟩ => ⟨S11x256x1024, .f32⟩
  | .hbm, ⟨14, _⟩ => ⟨S11x256x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S11x1024x256, .bf16⟩
  | .local _ .vmem, ⟨6, _⟩ => ⟨S11x1024x256, .bf16⟩
  | .local _ .vmem, ⟨7, _⟩ => ⟨S11x256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c11_i32 : BitVec 32 := 11#32
  let v14 : BitVec 32 := Scalar.addi c0_i32 c11_i32
  let c1_i32 : BitVec 32 := 1#32
  ⟨c0_i32, v14, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v49 : Index := Scalar.indexCast arg12
  let c0_26 : Index := 0#32
  let c0_27 : Index := 0#32
  ![v49.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v68 : Index := Scalar.indexCast arg12
  let c0_37 : Index := 0#32
  let c0_38 : Index := 0#32
  ![v68.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_2 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_3 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1x9216 : Shape := ⟨2, ![1, 9216]⟩
abbrev S1024x2816 : Shape := ⟨2, ![1024, 2816]⟩
abbrev S2816x1024 : Shape := ⟨2, ![2816, 1024]⟩
abbrev S1024 : Shape := ⟨1, ![1024]⟩
abbrev S9x1024 : Shape := ⟨2, ![9, 1024]⟩
abbrev S1x1024 : Shape := ⟨2, ![1, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S9x1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S1x1024, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Kernel3.lean ====
abbrev S16384x1024 : Shape := ⟨2, ![16384, 1024]⟩
abbrev S1x9216 : Shape := ⟨2, ![1, 9216]⟩
abbrev S16384x256 : Shape := ⟨2, ![16384, 256]⟩
abbrev S1024x7768 : Shape := ⟨2, ![1024, 7768]⟩
abbrev S4x256x1024 : Shape := ⟨3, ![4, 256, 1024]⟩
abbrev S1024x1024 : Shape := ⟨2, ![1024, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S256x1024 : Shape := ⟨2, ![256, 1024]⟩
abbrev S256x256 : Shape := ⟨2, ![256, 256]⟩
abbrev S1x1024x1024 : Shape := ⟨3, ![1, 1024, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 20
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S1024x7768, .f32⟩
  | .hbm, ⟨7, _⟩ => ⟨S4x256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x4096, .f32⟩
  | .hbm, ⟨12, _⟩ => ⟨S1024x4x1024, .f32⟩
  | .hbm, ⟨13, _⟩ => ⟨S4x1024x1024, .f32⟩
  | .hbm, ⟨14, _⟩ => ⟨S4x1024x1024, .bf16⟩
  | .hbm, ⟨15, _⟩ => ⟨S4x256x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S4x1024x1024, .bf16⟩
  | .local _ .vmem, ⟨14, _⟩ => ⟨S4x256x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S1x9216 : Shape := ⟨2, ![1, 9216]⟩
abbrev S16384x256 : Shape := ⟨2, ![16384, 256]⟩
abbrev S1024x7768 : Shape := ⟨2, ![1024, 7768]⟩
abbrev S4x256x1024 : Shape := ⟨3, ![4, 256, 1024]⟩
abbrev S1024x1024 : Shape := ⟨2, ![1024, 1024]⟩
abbrev S1024 : Shape := ⟨1, ![1024]⟩
abbrev S9x1024 : Shape := ⟨2, ![9, 1024]⟩
abbrev S1x1024 : Shape := ⟨2, ![1, 1024]⟩
abbrev S_ : Shape := ⟨0, ![]⟩
abbrev S1024x4096 : Shape := ⟨2, ![1024, 4096]⟩
abbrev S16384x4096 : Shape := ⟨2, ![16384, 4096]⟩
abbrev S16384x1x256 : Shape := ⟨3, ![16384, 1, 256]⟩
abbrev S16384x4x256 : Shape := ⟨3, ![16384, 4, 256]⟩
abbrev S4x1024x16384 : Shape := ⟨3, ![4, 1024, 16384]⟩
abbrev S16384x4x1024 : Shape := ⟨3, ![16384, 4, 1024]⟩
abbrev S16384 : Shape := ⟨1, ![16384]⟩
abbrev S16384x1 : Shape := ⟨2, ![16384, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S1024x7768, .f32⟩
  | .hbm, ⟨7, _⟩ => ⟨S4x256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S9x1024, .f32⟩
  | .hbm, ⟨12, _⟩ => ⟨S1x1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x4096, .f32⟩
  | .hbm, ⟨26, _⟩ => ⟨S16384x4096, .f32⟩
  | .hbm, ⟨27, _⟩ => ⟨S16384x1x256, .f32⟩
  | .hbm, ⟨28, _⟩ => ⟨S16384x1x256, .f32⟩
  | .hbm, ⟨29, _⟩ => ⟨S16384x1x256, .f32⟩
  | .hbm, ⟨30, _⟩ => ⟨S16384x1x256, .f32⟩
  | .hbm, ⟨31, _⟩ => ⟨S16384x4x256, .f32⟩
  | .hbm, ⟨32, _⟩ => ⟨S4x1024x16384, .f32⟩
  | .hbm, ⟨33, _⟩ => ⟨S16384x4x1024, .f32⟩
  | .hbm, ⟨34, _⟩ => ⟨S16384x4x1024, .f32⟩
  | .hbm, ⟨35, _⟩ => ⟨S16384x4x1024, .f32⟩
  | .hbm, ⟨36, _⟩ => ⟨S16384x4x1024, .f32⟩
  | .hbm, ⟨37, _⟩ => ⟨S_, .f32⟩
  | .hbm, ⟨38, _⟩ => ⟨S16384x4x1024, .f32⟩
  | .hbm, ⟨39, _⟩ => ⟨S16384x4x1024, .f32⟩
  | .hbm, ⟨40, _⟩ => ⟨S_, .f32⟩
  | .hbm, ⟨41, _⟩ => ⟨S16384x4x1024, .f32⟩
  | .hbm, ⟨42, _⟩ => ⟨S16384x4x1024, .f32⟩
  | .hbm, ⟨43, _⟩ => ⟨S16384x4x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Kernel4.lean ====
abbrev S16384x1024 : Shape := ⟨2, ![16384, 1024]⟩
abbrev S1x9216 : Shape := ⟨2, ![1, 9216]⟩
abbrev S1024x7768 : Shape := ⟨2, ![1024, 7768]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1024x2888 : Shape := ⟨2, ![1024, 2888]⟩
abbrev S1024x56 : Shape := ⟨2, ![1024, 56]⟩
abbrev S1024x784 : Shape := ⟨2, ![1024, 784]⟩
abbrev S1024x112 : Shape := ⟨2, ![1024, 112]⟩
abbrev S1024x3840 : Shape := ⟨2, ![1024, 3840]⟩
abbrev S16384x512 : Shape := ⟨2, ![16384, 512]⟩
abbrev S16384x256 : Shape := ⟨2, ![16384, 256]⟩
abbrev S16384x64 : Shape := ⟨2, ![16384, 64]⟩
abbrev S16384x8 : Shape := ⟨2, ![16384, 8]⟩
abbrev S16384x896 : Shape := ⟨2, ![16384, 896]⟩
abbrev S512x1024 : Shape := ⟨2, ![512, 1024]⟩
abbrev S1x1024 : Shape := ⟨2, ![1, 1024]⟩
abbrev S512x128 : Shape := ⟨2, ![512, 128]⟩
abbrev S512x512 : Shape := ⟨2, ![512, 512]⟩
abbrev S512x256 : Shape := ⟨2, ![512, 256]⟩
abbrev S512x64 : Shape := ⟨2, ![512, 64]⟩
abbrev S512x8 : Shape := ⟨2, ![512, 8]⟩
abbrev S512x896 : Shape := ⟨2, ![512, 896]⟩
abbrev S1024x512 : Shape := ⟨2, ![1024, 512]⟩
abbrev S1024x1024 : Shape := ⟨2, ![1024, 1024]⟩
abbrev S1024x896 : Shape := ⟨2, ![1024, 896]⟩
abbrev S1024x768 : Shape := ⟨2, ![1024, 768]⟩
abbrev S512x768 : Shape := ⟨2, ![512, 768]⟩
abbrev S1024x640 : Shape := ⟨2, ![1024, 640]⟩
abbrev S512x640 : Shape := ⟨2, ![512, 640]⟩

abbrev nBuf : Space → Nat
  | .hbm => 43
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1x9216, .f32⟩
  | .hbm, ⟨2, _⟩ => ⟨S1024x7768, .f32⟩
  | .hbm, ⟨3, _⟩ => ⟨S16384, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .f32⟩
  | .hbm, ⟨13, _⟩ => ⟨S16384x1, .f32⟩
  | .hbm, ⟨14, _⟩ => ⟨S1x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x128, .f32⟩
  | .hbm, ⟨21, _⟩ => ⟨S16384x32, .f32⟩
  | .hbm, ⟨22, _⟩ => ⟨S16384x128, .f32⟩
  | .hbm, ⟨23, _⟩ => ⟨S1024x2888, .f32⟩
  | .hbm, ⟨24, _⟩ => ⟨S_, .f32⟩
  | .hbm, ⟨25, _⟩ => ⟨S1024x56, .f32⟩
  | .hbm, ⟨26, _⟩ => ⟨S1024x784, .f32⟩
  | .hbm, ⟨27, _⟩ => ⟨S_, .f32⟩
  | .hbm, ⟨28, _⟩ => ⟨S1024x112, .f32⟩
  | .hbm, ⟨29, _⟩ => ⟨S1024x3840, .f32⟩
  | .hbm, ⟨30, _⟩ => ⟨S1024x3840, .bf16⟩
  | .hbm, ⟨31, _⟩ => ⟨S16384x512, .f32⟩
  | .hbm, ⟨32, _⟩ => ⟨S16384x1024, .f32⟩
  | .hbm, ⟨33, _⟩ => ⟨S16384x256, .bf16⟩
  | .hbm, ⟨34, _⟩ => ⟨S16384x256, .f32⟩
  | .hbm, ⟨35, _⟩ => ⟨S16384x256, .f32⟩
  | .hbm, ⟨36, _⟩ => ⟨S16384x256, .bf16⟩
  | .hbm, ⟨37, _⟩ => ⟨S16384x256, .bf16⟩
  | .hbm, ⟨38, _⟩ => ⟨S16384x512, .bf16⟩
  | .hbm, ⟨39, _⟩ => ⟨S16384x64, .f32⟩
  | .hbm, ⟨40, _⟩ => ⟨S16384x64, .bf16⟩
  | .hbm, ⟨41, _⟩ => ⟨S16384x8, .f32⟩
  | .hbm, ⟨42, _⟩ => ⟨S16384x896, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x3840, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .f32⟩
  | .local _ .vmem, ⟨10, _⟩ => ⟨S512x512, .f32⟩
  | .local _ .vmem, ⟨11, _⟩ => ⟨S512x1024, .f32⟩
  | .local _ .vmem, ⟨12, _⟩ => ⟨S512x1024, .f32⟩
  | .local _ .vmem, ⟨13, _⟩ => ⟨S512x256, .bf16⟩
  | .local _ .vmem, ⟨14, _⟩ => ⟨S512x256, .bf16⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x512, .bf16⟩
  | .local _ .vmem, ⟨24, _⟩ => ⟨S512x512, .bf16⟩
  | .local _ .vmem, ⟨25, _⟩ => ⟨S512x64, .f32⟩
  | .local _ .vmem, ⟨26, _⟩ => ⟨S512x64, .f32⟩
  | .local _ .vmem, ⟨27, _⟩ => ⟨S512x64, .bf16⟩
  | .local _ .vmem, ⟨28, _⟩ => ⟨S512x64, .bf16⟩
  | .local _ .vmem, ⟨29, _⟩ => ⟨S512x8, .f32⟩
  | .local _ .vmem, ⟨30, _⟩ => ⟨S512x8, .f32⟩
  | .local _ .vmem, ⟨31, _⟩ => ⟨S512x896, .f32⟩
  | .local _ .vmem, ⟨32, _⟩ => ⟨S512x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev main_v24_2 : Ref sig .tc := ⟨.hbm, 33, rfl⟩
abbrev main_v24_3 : Ref sig .tc := ⟨.hbm, 34, rfl⟩
abbrev main_v24_4 : Ref sig .tc := ⟨.hbm, 35, rfl⟩
abbrev main_v24_5 : Ref sig .tc := ⟨.hbm, 36, rfl⟩
abbrev main_v24_6 : Ref sig .tc := ⟨.hbm, 37, rfl⟩
abbrev main_v24_7 : Ref sig .tc := ⟨.hbm, 38, rfl⟩
abbrev main_v24_8 : Ref sig .tc := ⟨.hbm, 39, rfl⟩
abbrev main_v24_9 : Ref sig .tc := ⟨.hbm, 40, rfl⟩
abbrev main_v24_10 : Ref sig .tc := ⟨.hbm, 41, rfl⟩
abbrev main_v24_11 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x896 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S16384x1024 : Shape := ⟨2, ![16384, 1024]⟩
abbrev S1x9216 : Shape := ⟨2, ![1, 9216]⟩
abbrev S1024x7768 : Shape := ⟨2, ![1024, 7768]⟩
abbrev S9x1024 : Shape := ⟨2, ![9, 1024]⟩
abbrev S1x1024 : Shape := ⟨2, ![1, 1024]⟩
abbrev S1024 : Shape := ⟨1, ![1024]⟩
abbrev S_ : Shape := ⟨0, ![]⟩
abbrev S16384x7768 : Shape := ⟨2, ![16384, 7768]⟩
abbrev S16384x512 : Shape := ⟨2, ![16384, 512]⟩
abbrev S16384x256 : Shape := ⟨2, ![16384, 256]⟩
abbrev S16384x64 : Shape := ⟨2, ![16384, 64]⟩
abbrev S16384x8 : Shape := ⟨2, ![16384, 8]⟩
abbrev S16384x784 : Shape := ⟨2, ![16384, 784]⟩
abbrev S16384x4096 : Shape := ⟨2, ![16384, 4096]⟩
abbrev S16384 : Shape := ⟨1, ![16384]⟩
abbrev S16384x4x64 : Shape := ⟨3, ![16384, 4, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x4x32 : Shape := ⟨3, ![16384, 4, 32]⟩
abbrev S16384x8x64 : Shape := ⟨3, ![16384, 8, 64]⟩
abbrev S16384x8x32 : Shape := ⟨3, ![16384, 8, 32]⟩
abbrev S16384x1x64 : Shape := ⟨3, ![16384, 1, 64]⟩
abbrev S16384x896 : Shape := ⟨2, ![16384, 896]⟩

abbrev nBuf : Space → Nat
  | .hbm => 174
  | .vmem => 0
  | .smem => 0
  | _ => 0

abbrev hbmTy0_0 (i : Nat) : BufTy := match i % 128 with
  | 0 => ⟨S16384x1024, .f32⟩
  | 1 => ⟨S1x9216, .f32⟩
  | 2 => ⟨S1024x7768, .f32⟩
  | 3 => ⟨S9x1024, .f32⟩
  | 4 => ⟨S1x1024, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S16384x1024, .f32⟩
  | 11 => ⟨S16384x1024, .f32⟩
  | 12 => ⟨S1x1024, .f32⟩
  | 13 => ⟨S1024, .f32⟩
  | 14 => ⟨S1x1024, .f32⟩
  | 15 => ⟨S16384x1024, .f32⟩
  | 16 => ⟨S16384x1024, .f32⟩
  | 17 => ⟨S16384x7768, .f32⟩
  | 18 => ⟨S16384x512, .f32⟩
  | 19 => ⟨S16384x1024, .f32⟩
  | 20 => ⟨S16384x256, .f32⟩
  | 21 => ⟨S16384x256, .f32⟩
  | 22 => ⟨S16384x256, .f32⟩
  | 23 => ⟨S16384x512, .f32⟩
  | 24 => ⟨S16384x64, .f32⟩
  | 25 => ⟨S16384x8, .f32⟩
  | 26 => ⟨S16384x784, .f32⟩
  | 27 => ⟨S16384x4096, .f32⟩
  | 28 => ⟨S16384, .i32⟩
  | 29 => ⟨S16384x4x64, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S16384, .f32⟩
  | 39 => ⟨S16384x1, .f32⟩
  | 40 => ⟨S1x32, .f32⟩
  | 41 => ⟨S16384x32, .f32⟩
  | 42 => ⟨S16384x32, .f32⟩
  | 43 => ⟨S16384x32, .f32⟩
  | 44 => ⟨S16384x32, .f32⟩
  | 45 => ⟨S16384x1x32, .f32⟩
  | 46 => ⟨S16384x32, .f32⟩
  | 47 => ⟨S16384x1x32, .f32⟩
  | 48 => ⟨S16384x4x32, .f32⟩
  | 49 => ⟨S16384x4x32, .f32⟩
  | 50 => ⟨S16384x4x32, .f32⟩
  | 51 => ⟨S16384x4x32, .f32⟩
  | 52 => ⟨S16384x4x32, .f32⟩
  | 53 => ⟨S16384x4x32, .f32⟩
  | 54 => ⟨S16384x4x32, .f32⟩
  | 55 => ⟨S16384x4x32, .f32⟩
  | 56 => ⟨S16384x4x32, .f32⟩
  | 57 => ⟨S16384x4x32, .f32⟩
  | 58 => ⟨S16384x4x32, .f32⟩
  | 59 => ⟨S16384x4x32, .f32⟩
  | 60 => ⟨S16384x4x64, .f32⟩
  | 61 => ⟨S16384x4x64, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S16384, .f32⟩
  | 71 => ⟨S16384x1, .f32⟩
  | 72 => ⟨S1x32, .f32⟩
  | 73 => ⟨S16384x32, .f32⟩
  | 74 => ⟨S16384x32, .f32⟩
  | 75 => ⟨S16384x32, .f32⟩
  | 76 => ⟨S16384x32, .f32⟩
  | 77 => ⟨S16384x1x32, .f32⟩
  | 78 => ⟨S16384x32, .f32⟩
  | 79 => ⟨S16384x1x32, .f32⟩
  | 80 => ⟨S16384x4x32, .f32⟩
  | 81 => ⟨S16384x4x32, .f32⟩
  | 82 => ⟨S16384x4x32, .f32⟩
  | 83 => ⟨S16384x4x32, .f32⟩
  | 84 => ⟨S16384x4x32, .f32⟩
  | 85 => ⟨S16384x4x32, .f32⟩
  | 86 => ⟨S16384x4x32, .f32⟩
  | 87 => ⟨S16384x4x32, .f32⟩
  | 88 => ⟨S16384x4x32, .f32⟩
  | 89 => ⟨S16384x4x32, .f32⟩
  | 90 => ⟨S16384x4x32, .f32⟩
  | 91 => ⟨S16384x4x32, .f32⟩
  | 92 => ⟨S16384x4x64, .f32⟩
  | 93 => ⟨S16384x8x64, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S16384, .f32⟩
  | 103 => ⟨S16384x1, .f32⟩
  | 104 => ⟨S1x32, .f32⟩
  | 105 => ⟨S16384x32, .f32⟩
  | 106 => ⟨S16384x32, .f32⟩
  | 107 => ⟨S16384x32, .f32⟩
  | 108 => ⟨S16384x32, .f32⟩
  | 109 => ⟨S16384x1x32, .f32⟩
  | 110 => ⟨S16384x32, .f32⟩
  | 111 => ⟨S16384x1x32, .f32⟩
  | 112 => ⟨S16384x8x32, .f32⟩
  | 113 => ⟨S16384x8x32, .f32⟩
  | 114 => ⟨S16384x8x32, .f32⟩
  | 115 => ⟨S16384x8x32, .f32⟩
  | 116 => ⟨S16384x8x32, .f32⟩
  | 117 => ⟨S16384x8x32, .f32⟩
  | 118 => ⟨S16384x8x32, .f32⟩
  | 119 => ⟨S16384x8x32, .f32⟩
  | 120 => ⟨S16384x8x32, .f32⟩
  | 121 => ⟨S16384x8x32, .f32⟩
  | 122 => ⟨S16384x8x32, .f32⟩
  | 123 => ⟨S16384x8x32, .f32⟩
  | 124 => ⟨S16384x8x64, .f32⟩
  | 125 => ⟨S16384x1x64, .f32⟩
  | 126 => ⟨S32, .f32⟩
  | 127 => ⟨S32, .f32⟩
  | _ => ⟨S16384x1024, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S16384, .f32⟩
  | 7 => ⟨S16384x1, .f32⟩
  | 8 => ⟨S1x32, .f32⟩
  | 9 => ⟨S16384x32, .f32⟩
  | 10 => ⟨S16384x32, .f32⟩
  | 11 => ⟨S16384x32, .f32⟩
  | 12 => ⟨S16384x32, .f32⟩
  | 13 => ⟨S16384x1x32, .f32⟩
  | 14 => ⟨S16384x32, .f32⟩
  | 15 => ⟨S16384x1x32, .f32⟩
  | 16 => ⟨S16384x1x32, .f32⟩
  | 17 => ⟨S16384x1x32, .f32⟩
  | 18 => ⟨S16384x1x32, .f32⟩
  | 19 => ⟨S16384x1x32, .f32⟩
  | 20 => ⟨S16384x1x32, .f32⟩
  | 21 => ⟨S16384x1x32, .f32⟩
  | 22 => ⟨S16384x1x32, .f32⟩
  | 23 => ⟨S16384x1x32, .f32⟩
  | 24 => ⟨S16384x1x64, .f32⟩
  | 25 => ⟨S16384x64, .f32⟩
  | 26 => ⟨S16384x256, .f32⟩
  | 27 => ⟨S_, .f32⟩
  | 28 => ⟨S16384x4x64, .f32⟩
  | 29 => ⟨S16384x4x64, .f32⟩
  | 30 => ⟨S16384x256, .f32⟩
  | 31 => ⟨S16384x256, .bf16⟩
  | 32 => ⟨S16384x256, .bf16⟩
  | 33 => ⟨S16384x256, .bf16⟩
  | 34 => ⟨S_, .f32⟩
  | 35 => ⟨S16384x8x64, .f32⟩
  | 36 => ⟨S16384x8x64, .f32⟩
  | 37 => ⟨S16384x512, .f32⟩
  | 38 => ⟨S16384x512, .bf16⟩
  | 39 => ⟨S16384x64, .bf16⟩
  | 40 => ⟨S_, .f32⟩
  | 41 => ⟨S16384x8, .f32⟩
  | 42 => ⟨S16384x8, .f32⟩
  | 43 => ⟨S_, .i32⟩
  | 44 => ⟨S_, .f32⟩
  | 45 => ⟨S16384x896, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst_2 : Ref sig .tc := ⟨.hbm, 64, rfl⟩
abbrev main_v58 : Ref sig .tc := ⟨.hbm, 65, rfl⟩
abbrev main_v59 : Ref sig .tc := ⟨.hbm, 66, rfl⟩
abbrev main_cst_3 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_cst_4 : Ref sig .tc := ⟨.hbm, 96, rfl⟩
abbrev main_v88 : Ref sig .tc := ⟨.hbm, 97, rfl⟩
abbrev main_v89 : Ref sig .tc := ⟨.hbm, 98, rfl⟩
abbrev main_cst_5 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_cst_6 : Ref sig .tc := ⟨.hbm, 128, rfl⟩
abbrev main_v118 : Ref sig .tc := ⟨.hbm, 129, rfl⟩
abbrev main_v119 : Ref sig .tc := ⟨.hbm, 130, rfl⟩
abbrev main_cst_7 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_cst_8 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_cst_9 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_cst_10 : Ref sig .tc := ⟨.hbm, 168, rfl⟩
abbrev main_v154 : Ref sig .tc := ⟨.hbm, 169, rfl⟩
abbrev main_v155 : Ref sig .tc := ⟨.hbm, 170, rfl⟩
abbrev main_c : Ref sig .tc := ⟨.hbm, 171, rfl⟩
abbrev main_call0_v0 : Ref sig .tc := ⟨.hbm, 172, rfl⟩
abbrev main_v156 : Ref sig .tc := ⟨.hbm, 173, rfl⟩

abbrev nD : Nat := 1
abbrev τ : Topo := Topo.v7x

variable {F : FTy → Type} [FloatOps F]
-- ==== Kernel5.lean ====
abbrev S256x1024 : Shape := ⟨2, ![256, 1024]⟩
abbrev S32x9216 : Shape := ⟨2, ![32, 9216]⟩
abbrev S1024x7768 : Shape := ⟨2, ![1024, 7768]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S1024x2888 : Shape := ⟨2, ![1024, 2888]⟩
abbrev S1024x56 : Shape := ⟨2, ![1024, 56]⟩
abbrev S1024x784 : Shape := ⟨2, ![1024, 784]⟩
abbrev S1024x112 : Shape := ⟨2, ![1024, 112]⟩
abbrev S1024x3840 : Shape := ⟨2, ![1024, 3840]⟩
abbrev S32x8x9216 : Shape := ⟨3, ![32, 8, 9216]⟩
abbrev S256x9216 : Shape := ⟨2, ![256, 9216]⟩
abbrev S256x512 : Shape := ⟨2, ![256, 512]⟩
abbrev S256x256 : Shape := ⟨2, ![256, 256]⟩
abbrev S256x64 : Shape := ⟨2, ![256, 64]⟩
abbrev S256x8 : Shape := ⟨2, ![256, 8]⟩
abbrev S256x896 : Shape := ⟨2, ![256, 896]⟩
abbrev S1024x512 : Shape := ⟨2, ![1024, 512]⟩
abbrev S1024x1024 : Shape := ⟨2, ![1024, 1024]⟩
abbrev S1024x896 : Shape := ⟨2, ![1024, 896]⟩
abbrev S1024x768 : Shape := ⟨2, ![1024, 768]⟩
abbrev S256x768 : Shape := ⟨2, ![256, 768]⟩
abbrev S1024x640 : Shape := ⟨2, ![1024, 640]⟩
abbrev S256x640 : Shape := ⟨2, ![256, 640]⟩

abbrev nBuf : Space → Nat
  | .hbm => 54
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S32x9216, .f32⟩
  | .hbm, ⟨2, _⟩ => ⟨S1024x7768, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8, .f32⟩
  | .hbm, ⟨16, _⟩ => ⟨S8x1, .f32⟩
  | .hbm, ⟨17, _⟩ => ⟨S1x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x128, .f32⟩
  | .hbm, ⟨24, _⟩ => ⟨S8x32, .f32⟩
  | .hbm, ⟨25, _⟩ => ⟨S8x128, .f32⟩
  | .hbm, ⟨26, _⟩ => ⟨S1x8x1x128, .f32⟩
  | .hbm, ⟨27, _⟩ => ⟨S32x8x1x128, .f32⟩
  | .hbm, ⟨28, _⟩ => ⟨S256x128, .f32⟩
  | .hbm, ⟨29, _⟩ => ⟨S1x8x1x128, .f32⟩
  | .hbm, ⟨30, _⟩ => ⟨S32x8x1x128, .f32⟩
  | .hbm, ⟨31, _⟩ => ⟨S256x128, .f32⟩
  | .hbm, ⟨32, _⟩ => ⟨S1024x2888, .f32⟩
  | .hbm, ⟨33, _⟩ => ⟨S_, .f32⟩
  | .hbm, ⟨34, _⟩ => ⟨S1024x56, .f32⟩
  | .hbm, ⟨35, _⟩ => ⟨S1024x784, .f32⟩
  | .hbm, ⟨36, _⟩ => ⟨S_, .f32⟩
  | .hbm, ⟨37, _⟩ => ⟨S1024x112, .f32⟩
  | .hbm, ⟨38, _⟩ => ⟨S1024x3840, .f32⟩
  | .hbm, ⟨39, _⟩ => ⟨S1024x3840, .bf16⟩
  | .hbm, ⟨40, _⟩ => ⟨S32x8x9216, .f32⟩
  | .hbm, ⟨41, _⟩ => ⟨S256x9216, .f32⟩
  | .hbm, ⟨42, _⟩ => ⟨S256x512, .f32⟩
  | .hbm, ⟨43, _⟩ => ⟨S256x1024, .f32⟩
  | .hbm, ⟨44, _⟩ => ⟨S256x256, .bf16⟩
  | .hbm, ⟨45, _⟩ => ⟨S256x256, .f32⟩
  | .hbm, ⟨46, _⟩ => ⟨S256x256, .f32⟩
  | .hbm, ⟨47, _⟩ => ⟨S256x256, .bf16⟩
  | .hbm, ⟨48, _⟩ => ⟨S256x256, .bf16⟩
  | .hbm, ⟨49, _⟩ => ⟨S256x512, .bf16⟩
  | .hbm, ⟨50, _⟩ => ⟨S256x64, .f32⟩
  | .hbm, ⟨51, _⟩ => ⟨S256x64, .bf16⟩
  | .hbm, ⟨52, _⟩ => ⟨S256x8, .f32⟩
  | .hbm, ⟨53, _⟩ => ⟨S256x896, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1024x3840, .bf16⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x1024, .f32⟩
  | .local _ .vmem, ⟨8, _⟩ => ⟨S256x256, .bf16⟩
  | .local _ .vmem, ⟨9, _⟩ => ⟨S256x256, .f32⟩
  | .local _ .vmem, ⟨10, _⟩ => ⟨S256x256, .f32⟩
  | .local _ .vmem, ⟨11, _⟩ => ⟨S256x256, .bf16⟩
  | .local _ .vmem, ⟨12, _⟩ => ⟨S256x256, .bf16⟩
  | .local _ .vmem, ⟨13, _⟩ => ⟨S256x512, .bf16⟩
  | .local _ .vmem, ⟨14, _⟩ => ⟨S256x64, .f32⟩
  | .local _ .vmem, ⟨15, _⟩ => ⟨S256x64, .bf16⟩
  | .local _ .vmem, ⟨16, _⟩ => ⟨S256x8, .f32⟩
  | .local _ .vmem, ⟨17, _⟩ => ⟨S256x896, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev main_v34_2 : Ref sig .tc := ⟨.hbm, 44, rfl⟩
abbrev main_v34_3 : Ref sig .tc := ⟨.hbm, 45, rfl⟩
abbrev main_v34_4 : Ref sig .tc := ⟨.hbm, 46, rfl⟩
abbrev main_v34_5 : Ref sig .tc := ⟨.hbm, 47, rfl⟩
abbrev main_v34_6 : Ref sig .tc := ⟨.hbm, 48, rfl⟩
abbrev main_v34_7 : Ref sig .tc := ⟨.hbm, 49, rfl⟩
abbrev main_v34_8 : Ref sig .tc := ⟨.hbm, 50, rfl⟩
abbrev main_v34_9 : Ref sig .tc := ⟨.hbm, 51, rfl⟩
abbrev main_v34_10 : Ref sig .tc := ⟨.hbm, 52, rfl⟩
abbrev main_v34_11 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x896 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== Reference5Ideal.lean ====
abbrev S256x1024 : Shape := ⟨2, ![256, 1024]⟩
abbrev S32x9216 : Shape := ⟨2, ![32, 9216]⟩
abbrev S1024x7768 : Shape := ⟨2, ![1024, 7768]⟩
abbrev S32x9x1024 : Shape := ⟨3, ![32, 9, 1024]⟩
abbrev S32x8x1024 : Shape := ⟨3, ![32, 8, 1024]⟩
abbrev S32x1x1024 : Shape := ⟨3, ![32, 1, 1024]⟩
abbrev S32x1024 : Shape := ⟨2, ![32, 1024]⟩
abbrev S_ : Shape := ⟨0, ![]⟩
abbrev S256x7768 : Shape := ⟨2, ![256, 7768]⟩
abbrev S256x512 : Shape := ⟨2, ![256, 512]⟩
abbrev S256x256 : Shape := ⟨2, ![256, 256]⟩
abbrev S256x64 : Shape := ⟨2, ![256, 64]⟩
abbrev S256x8 : Shape := ⟨2, ![256, 8]⟩
abbrev S256x784 : Shape := ⟨2, ![256, 784]⟩
abbrev S256x4096 : Shape := ⟨2, ![256, 4096]⟩
abbrev S8 : Shape := ⟨1, ![8]⟩
abbrev S1x8 : Shape := ⟨2, ![1, 8]⟩
abbrev S32x8 : Shape := ⟨2, ![32, 8]⟩
abbrev S256 : Shape := ⟨1, ![256]⟩
abbrev S256x4x64 : Shape := ⟨3, ![256, 4, 64]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S256x1x32 : Shape := ⟨3, ![256, 1, 32]⟩
abbrev S256x4x32 : Shape := ⟨3, ![256, 4, 32]⟩
abbrev S256x8x64 : Shape := ⟨3, ![256, 8, 64]⟩
abbrev S256x8x32 : Shape := ⟨3, ![256, 8, 32]⟩
abbrev S256x1x64 : Shape := ⟨3, ![256, 1, 64]⟩
abbrev S256x896 : Shape := ⟨2, ![256, 896]⟩

abbrev nBuf : Space → Nat
  | .hbm => 182
  | .vmem => 0
  | .smem => 0
  | _ => 0

abbrev hbmTy0_0 (i : Nat) : BufTy := match i % 128 with
  | 0 => ⟨S256x1024, .f32⟩
  | 1 => ⟨S32x9216, .f32⟩
  | 2 => ⟨S1024x7768, .f32⟩
  | 3 => ⟨S32x9x1024, .f32⟩
  | 4 => ⟨S32x8x1024, .f32⟩
  | 5 => ⟨S32x1x1024, .f32⟩
  | 6 => ⟨S32x1024, .f32⟩
  | 7 => ⟨S32x1x1024, .f32⟩
  | 8 => ⟨S_, .f32⟩
  | 9 => ⟨S32x1x1024, .f32⟩
  | 10 => ⟨S32x1x1024, .f32⟩
  | 11 => ⟨S32x8x1024, .f32⟩
  | 12 => ⟨S32x8x1024, .f32⟩
  | 13 => ⟨S32x1x1024, .f32⟩
  | 14 => ⟨S32x1024, .f32⟩
  | 15 => ⟨S32x1x1024, .f32⟩
  | 16 => ⟨S32x8x1024, .f32⟩
  | 17 => ⟨S32x8x1024, .f32⟩
  | 18 => ⟨S256x1024, .f32⟩
  | 19 => ⟨S256x7768, .f32⟩
  | 20 => ⟨S256x512, .f32⟩
  | 21 => ⟨S256x1024, .f32⟩
  | 22 => ⟨S256x256, .f32⟩
  | 23 => ⟨S256x256, .f32⟩
  | 24 => ⟨S256x256, .f32⟩
  | 25 => ⟨S256x512, .f32⟩
  | 26 => ⟨S256x64, .f32⟩
  | 27 => ⟨S256x8, .f32⟩
  | 28 => ⟨S256x784, .f32⟩
  | 29 => ⟨S256x4096, .f32⟩
  | 30 => ⟨S8, .i32⟩
  | 31 => ⟨S_, .i32⟩
  | 32 => ⟨S8, .i32⟩
  | 33 => ⟨S8, .i32⟩
  | 34 => ⟨S1x8, .i32⟩
  | 35 => ⟨S32x8, .i32⟩
  | 36 => ⟨S256, .i32⟩
  | 37 => ⟨S256x4x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S256, .f32⟩
  | 47 => ⟨S256x1, .f32⟩
  | 48 => ⟨S1x32, .f32⟩
  | 49 => ⟨S256x32, .f32⟩
  | 50 => ⟨S256x32, .f32⟩
  | 51 => ⟨S256x32, .f32⟩
  | 52 => ⟨S256x32, .f32⟩
  | 53 => ⟨S256x1x32, .f32⟩
  | 54 => ⟨S256x32, .f32⟩
  | 55 => ⟨S256x1x32, .f32⟩
  | 56 => ⟨S256x4x32, .f32⟩
  | 57 => ⟨S256x4x32, .f32⟩
  | 58 => ⟨S256x4x32, .f32⟩
  | 59 => ⟨S256x4x32, .f32⟩
  | 60 => ⟨S256x4x32, .f32⟩
  | 61 => ⟨S256x4x32, .f32⟩
  | 62 => ⟨S256x4x32, .f32⟩
  | 63 => ⟨S256x4x32, .f32⟩
  | 64 => ⟨S256x4x32, .f32⟩
  | 65 => ⟨S256x4x32, .f32⟩
  | 66 => ⟨S256x4x32, .f32⟩
  | 67 => ⟨S256x4x32, .f32⟩
  | 68 => ⟨S256x4x64, .f32⟩
  | 69 => ⟨S256x4x64, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S256, .f32⟩
  | 79 => ⟨S256x1, .f32⟩
  | 80 => ⟨S1x32, .f32⟩
  | 81 => ⟨S256x32, .f32⟩
  | 82 => ⟨S256x32, .f32⟩
  | 83 => ⟨S256x32, .f32⟩
  | 84 => ⟨S256x32, .f32⟩
  | 85 => ⟨S256x1x32, .f32⟩
  | 86 => ⟨S256x32, .f32⟩
  | 87 => ⟨S256x1x32, .f32⟩
  | 88 => ⟨S256x4x32, .f32⟩
  | 89 => ⟨S256x4x32, .f32⟩
  | 90 => ⟨S256x4x32, .f32⟩
  | 91 => ⟨S256x4x32, .f32⟩
  | 92 => ⟨S256x4x32, .f32⟩
  | 93 => ⟨S256x4x32, .f32⟩
  | 94 => ⟨S256x4x32, .f32⟩
  | 95 => ⟨S256x4x32, .f32⟩
  | 96 => ⟨S256x4x32, .f32⟩
  | 97 => ⟨S256x4x32, .f32⟩
  | 98 => ⟨S256x4x32, .f32⟩
  | 99 => ⟨S256x4x32, .f32⟩
  | 100 => ⟨S256x4x64, .f32⟩
  | 101 => ⟨S256x8x64, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S256, .f32⟩
  | 111 => ⟨S256x1, .f32⟩
  | 112 => ⟨S1x32, .f32⟩
  | 113 => ⟨S256x32, .f32⟩
  | 114 => ⟨S256x32, .f32⟩
  | 115 => ⟨S256x32, .f32⟩
  | 116 => ⟨S256x32, .f32⟩
  | 117 => ⟨S256x1x32, .f32⟩
  | 118 => ⟨S256x32, .f32⟩
  | 119 => ⟨S256x1x32, .f32⟩
  | 120 => ⟨S256x8x32, .f32⟩
  | 121 => ⟨S256x8x32, .f32⟩
  | 122 => ⟨S256x8x32, .f32⟩
  | 123 => ⟨S256x8x32, .f32⟩
  | 124 => ⟨S256x8x32, .f32⟩
  | 125 => ⟨S256x8x32, .f32⟩
  | 126 => ⟨S256x8x32, .f32⟩
  | 127 => ⟨S256x8x32, .f32⟩
  | _ => ⟨S256x1024, .f32⟩

abbrev hbmTy0_1 (i : Nat) : BufTy := match i % 128 with
  | 0 => ⟨S256x8x32, .f32⟩
  | 1 => ⟨S256x8x32, .f32⟩
  | 2 => ⟨S256x8x32, .f32⟩
  | 3 => ⟨S256x8x32, .f32⟩
  | 4 => ⟨S256x8x64, .f32⟩
  | 5 => ⟨S256x1x64, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S256, .f32⟩
  | 15 => ⟨S256x1, .f32⟩
  | 16 => ⟨S1x32, .f32⟩
  | 17 => ⟨S256x32, .f32⟩
  | 18 => ⟨S256x32, .f32⟩
  | 19 => ⟨S256x32, .f32⟩
  | 20 => ⟨S256x32, .f32⟩
  | 21 => ⟨S256x1x32, .f32⟩
  | 22 => ⟨S256x32, .f32⟩
  | 23 => ⟨S256x1x32, .f32⟩
  | 24 => ⟨S256x1x32, .f32⟩
  | 25 => ⟨S256x1x32, .f32⟩
  | 26 => ⟨S256x1x32, .f32⟩
  | 27 => ⟨S256x1x32, .f32⟩
  | 28 => ⟨S256x1x32, .f32⟩
  | 29 => ⟨S256x1x32, .f32⟩
  | 30 => ⟨S256x1x32, .f32⟩
  | 31 => ⟨S256x1x32, .f32⟩
  | 32 => ⟨S256x1x64, .f32⟩
  | 33 => ⟨S256x64, .f32⟩
  | 34 => ⟨S256x256, .f32⟩
  | 35 => ⟨S_, .f32⟩
  | 36 => ⟨S256x4x64, .f32⟩
  | 37 => ⟨S256x4x64, .f32⟩
  | 38 => ⟨S256x256, .f32⟩
  | 39 => ⟨S256x256, .bf16⟩
  | 40 => ⟨S256x256, .bf16⟩
  | 41 => ⟨S256x256, .bf16⟩
  | 42 => ⟨S_, .f32⟩
  | 43 => ⟨S256x8x64, .f32⟩
  | 44 => ⟨S256x8x64, .f32⟩
  | 45 => ⟨S256x512, .f32⟩
  | 46 => ⟨S256x512, .bf16⟩
  | 47 => ⟨S256x64, .bf16⟩
  | 48 => ⟨S_, .f32⟩
  | 49 => ⟨S256x8, .f32⟩
  | 50 => ⟨S256x8, .f32⟩
  | 51 => ⟨S_, .i32⟩
  | 52 => ⟨S_, .f32⟩
  | 53 => ⟨S256x896, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_0 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_cst_2 : Ref sig .tc := ⟨.hbm, 72, rfl⟩
abbrev main_v65 : Ref sig .tc := ⟨.hbm, 73, rfl⟩
abbrev main_v66 : Ref sig .tc := ⟨.hbm, 74, rfl⟩
abbrev main_cst_3 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_cst_4 : Ref sig .tc := ⟨.hbm, 104, rfl⟩
abbrev main_v95 : Ref sig .tc := ⟨.hbm, 105, rfl⟩
abbrev main_v96 : Ref sig .tc := ⟨.hbm, 106, rfl⟩
abbrev main_cst_5 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_cst_6 : Ref sig .tc := ⟨.hbm, 136, rfl⟩
abbrev main_v125 : Ref sig .tc := ⟨.hbm, 137, rfl⟩
abbrev main_v126 : Ref sig .tc := ⟨.hbm, 138, rfl⟩
abbrev main_cst_7 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_cst_8 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_cst_9 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_cst_10 : Ref sig .tc := ⟨.hbm, 176, rfl⟩
abbrev main_v161 : Ref sig .tc := ⟨.hbm, 177, rfl⟩
abbrev main_v162 : Ref sig .tc := ⟨.hbm, 178, rfl⟩
abbrev main_c_11 : Ref sig .tc := ⟨.hbm, 179, rfl⟩
abbrev main_call0_v0 : Ref sig .tc := ⟨.hbm, 180, rfl⟩
abbrev main_v163 : Ref sig .tc := ⟨.hbm, 181, rfl⟩

abbrev nD : Nat := 1
abbrev τ : Topo := Topo.v7x

variable {F : FTy → Type} [FloatOps F]
-- ==== Kernel6.lean ====
abbrev S256x1024 : Shape := ⟨2, ![256, 1024]⟩
abbrev S32x9216 : Shape := ⟨2, ![32, 9216]⟩
abbrev S1024x2816 : Shape := ⟨2, ![1024, 2816]⟩
abbrev S2816x1024 : Shape := ⟨2, ![2816, 1024]⟩
abbrev S1024 : Shape := ⟨1, ![1024]⟩
abbrev S32x8x9216 : Shape := ⟨3, ![32, 8, 9216]⟩
abbrev S256x9216 : Shape := ⟨2, ![256, 9216]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩
abbrev S256 : Shape := ⟨1, ![256]⟩
abbrev S256x1 : Shape := ⟨2, ![256, 1]⟩

abbrev nBuf : Space → Nat
  | .hbm => 20
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S32x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32x8x9216, .f32⟩
  | .hbm, ⟨8, _⟩ => ⟨S256x9216, .f32⟩
  | .hbm, ⟨9, _⟩ => ⟨S1024x11x256, .f32⟩
  | .hbm, ⟨10, _⟩ => ⟨S11x1024x256, .f32⟩
  | .hbm, ⟨11, _⟩ => ⟨S11x1024x256, .bf16⟩
  | .hbm, ⟨12, _⟩ => ⟨S1024x11x256, .f32⟩
  | .hbm, ⟨13, _⟩ => ⟨S11x1024x256, .f32⟩
  | .hbm, ⟨14, _⟩ => ⟨S11x1024x256, .bf16⟩
  | .hbm, ⟨15, _⟩ => ⟨S11x256x1024, .f32⟩
  | .hbm, ⟨16, _⟩ => ⟨S11x256x1024, .bf16⟩
  | .hbm, ⟨17, _⟩ => ⟨S1x1024, .f32⟩
  | .hbm, ⟨18, _⟩ => ⟨S1x1024, .f32⟩
  | .hbm, ⟨19, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S11x1024x256, .bf16⟩
  | .local _ .vmem, ⟨5, _⟩ => ⟨S11x1024x256, .bf16⟩
  | .local _ .vmem, ⟨6, _⟩ => ⟨S11x256x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c11_i32 : BitVec 32 := 11#32
  let v14 : BitVec 32 := Scalar.addi c0_i32 c11_i32
  let c1_i32 : BitVec 32 := 1#32
  ⟨c0_i32, v14, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v49 : Index := Scalar.indexCast arg12
  let c0_26 : Index := 0#32
  let c0_27 : Index := 0#32
  ![v49.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v68 : Index := Scalar.indexCast arg12
  let c0_37 : Index := 0#32
  let c0_38 : Index := 0#32
  ![v68.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference6Ideal.lean ====
abbrev S256x1024 : Shape := ⟨2, ![256, 1024]⟩
abbrev S32x9216 : Shape := ⟨2, ![32, 9216]⟩
abbrev S1024x2816 : Shape := ⟨2, ![1024, 2816]⟩
abbrev S2816x1024 : Shape := ⟨2, ![2816, 1024]⟩
abbrev S1024 : Shape := ⟨1, ![1024]⟩
abbrev S32x9x1024 : Shape := ⟨3, ![32, 9, 1024]⟩
abbrev S32x8x1024 : Shape := ⟨3, ![32, 8, 1024]⟩
abbrev S32x1x1024 : Shape := ⟨3, ![32, 1, 1024]⟩
abbrev S32x1024 : Shape := ⟨2, ![32, 1024]⟩
abbrev S_ : Shape := ⟨0, ![]⟩
abbrev S256x2816 : Shape := ⟨2, ![256, 2816]⟩
abbrev S256 : Shape := ⟨1, ![256]⟩
abbrev S256x1 : Shape := ⟨2, ![256, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S32x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32x9x1024, .f32⟩
  | .hbm, ⟨8, _⟩ => ⟨S32x8x1024, .f32⟩
  | .hbm, ⟨9, _⟩ => ⟨S32x1x1024, .f32⟩
  | .hbm, ⟨10, _⟩ => ⟨S32x1024, .f32⟩
  | .hbm, ⟨11, _⟩ => ⟨S32x1x1024, .f32⟩
  | .hbm, ⟨12, _⟩ => ⟨S_, .f32⟩
  | .hbm, ⟨13, _⟩ => ⟨S32x1x1024, .f32⟩
  | .hbm, ⟨14, _⟩ => ⟨S32x1x1024, .f32⟩
  | .hbm, ⟨15, _⟩ => ⟨S32x8x1024, .f32⟩
  | .hbm, ⟨16, _⟩ => ⟨S32x8x1024, .f32⟩
  | .hbm, ⟨17, _⟩ => ⟨S32x1x1024, .f32⟩
  | .hbm, ⟨18, _⟩ => ⟨S32x1024, .f32⟩
  | .hbm, ⟨19, _⟩ => ⟨S32x1x1024, .f32⟩
  | .hbm, ⟨20, _⟩ => ⟨S32x8x1024, .f32⟩
  | .hbm, ⟨21, _⟩ => ⟨S32x8x1024, .f32⟩
  | .hbm, ⟨22, _⟩ => ⟨S256x1024, .f32⟩
  | .hbm, ⟨23, _⟩ => ⟨S256x2816, .f32⟩
  | .hbm, ⟨24, _⟩ => ⟨S256x2816, .f32⟩
  | .hbm, ⟨25, _⟩ => ⟨S256x2816, .f32⟩
  | .hbm, ⟨26, _⟩ => ⟨S_, .f32⟩
  | .hbm, ⟨27, _⟩ => ⟨S256x2816, .f32⟩
  | .hbm, ⟨28, _⟩ => ⟨S256x2816, .f32⟩
  | .hbm, ⟨29, _⟩ => ⟨S_, .f32⟩
  | .hbm, ⟨30, _⟩ => ⟨S256x2816, .f32⟩
  | .hbm, ⟨31, _⟩ => ⟨S256x2816, .f32⟩
  | .hbm, ⟨32, _⟩ => ⟨S256x2816, .f32⟩
  | .hbm, ⟨33, _⟩ => ⟨S256x2816, .f32⟩
  | .hbm, ⟨34, _⟩ => ⟨S256x2816, .f32⟩
  | .hbm, ⟨35, _⟩ => ⟨S256x1024, .f32⟩
  | .hbm, ⟨36, _⟩ => ⟨S32x9x1024, .f32⟩
  | .hbm, ⟨37, _⟩ => ⟨S32x1x1024, .f32⟩
  | .hbm, ⟨38, _⟩ => ⟨S32x1024, .f32⟩
  | .hbm, ⟨39, _⟩ => ⟨S32x1x1024, .f32⟩
  | .hbm, ⟨40, _⟩ => ⟨S_, .f32⟩
  | .hbm, ⟨41, _⟩ => ⟨S32x1x1024, .f32⟩
  | .hbm, ⟨42, _⟩ => ⟨S32x1x1024, .f32⟩
  | .hbm, ⟨43, _⟩ => ⟨S32x8x1024, .f32⟩
  | .hbm, ⟨44, _⟩ => ⟨S32x8x1024, .f32⟩
  | .hbm, ⟨45, _⟩ => ⟨S32x8x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S_, .f32⟩
  | .hbm, ⟨52, _⟩ => ⟨S256, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S_, .f32⟩
  | .hbm, ⟨61, _⟩ => ⟨S256, .f32⟩
  | .hbm, ⟨62, _⟩ => ⟨S256x1, .f32⟩
  | .hbm, ⟨63, _⟩ => ⟨S_, .f32⟩
  | .hbm, ⟨64, _⟩ => ⟨S256x1, .f32⟩
  | .hbm, ⟨65, _⟩ => ⟨S256x1, .f32⟩
  | .hbm, ⟨66, _⟩ => ⟨S256x1024, .f32⟩
  | .hbm, ⟨67, _⟩ => ⟨S256x1024, .f32⟩
  | .hbm, ⟨68, _⟩ => ⟨S_, .f32⟩
  | .hbm, ⟨69, _⟩ => ⟨S256x1, .f32⟩
  | .hbm, ⟨70, _⟩ => ⟨S256x1, .f32⟩
  | .hbm, ⟨71, _⟩ => ⟨S256x1, .f32⟩
  | .hbm, ⟨72, _⟩ => ⟨S256x1024, .f32⟩
  | .hbm, ⟨73, _⟩ => ⟨S256x1024, .f32⟩
  | .hbm, ⟨74, _⟩ => ⟨S1x1024, .f32⟩
  | .hbm, ⟨75, _⟩ => ⟨S256x1024, .f32⟩
  | .hbm, ⟨76, _⟩ => ⟨S256x1024, .f32⟩
  | .hbm, ⟨77, _⟩ => ⟨S1x1024, .f32⟩
  | .hbm, ⟨78, _⟩ => ⟨S256x1024, .f32⟩
  | .hbm, ⟨79, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Kernel7.lean ====
abbrev S256x1024 : Shape := ⟨2, ![256, 1024]⟩
abbrev S32x9216 : Shape := ⟨2, ![32, 9216]⟩
abbrev S256x256 : Shape := ⟨2, ![256, 256]⟩
abbrev S1024x7768 : Shape := ⟨2, ![1024, 7768]⟩
abbrev S4x256x1024 : Shape := ⟨3, ![4, 256, 1024]⟩
abbrev S1024x1024 : Shape := ⟨2, ![1024, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S32x8x9216 : Shape := ⟨3, ![32, 8, 9216]⟩
abbrev S256x9216 : Shape := ⟨2, ![256, 9216]⟩
abbrev S1x1024 : Shape := ⟨2, ![1, 1024]⟩
abbrev S1x1024x1024 : Shape := ⟨3, ![1, 1024, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 22
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S32x9216, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S1024x7768, .f32⟩
  | .hbm, ⟨7, _⟩ => ⟨S4x256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x4096, .f32⟩
  | .hbm, ⟨12, _⟩ => ⟨S1024x4x1024, .f32⟩
  | .hbm, ⟨13, _⟩ => ⟨S4x1024x1024, .f32⟩
  | .hbm, ⟨14, _⟩ => ⟨S4x1024x1024, .bf16⟩
  | .hbm, ⟨15, _⟩ => ⟨S32x8x9216, .f32⟩
  | .hbm, ⟨16, _⟩ => ⟨S256x9216, .f32⟩
  | .hbm, ⟨17, _⟩ => ⟨S4x256x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S4x1024x1024, .bf16⟩
  | .local _ .vmem, ⟨9, _⟩ => ⟨S4x256x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference7Ideal.lean ====
abbrev S256x1024 : Shape := ⟨2, ![256, 1024]⟩
abbrev S32x9216 : Shape := ⟨2, ![32, 9216]⟩
abbrev S256x256 : Shape := ⟨2, ![256, 256]⟩
abbrev S1024x7768 : Shape := ⟨2, ![1024, 7768]⟩
abbrev S4x256x1024 : Shape := ⟨3, ![4, 256, 1024]⟩
abbrev S1024x1024 : Shape := ⟨2, ![1024, 1024]⟩
abbrev S1024 : Shape := ⟨1, ![1024]⟩
abbrev S32x9x1024 : Shape := ⟨3, ![32, 9, 1024]⟩
abbrev S32x8x1024 : Shape := ⟨3, ![32, 8, 1024]⟩
abbrev S32x1x1024 : Shape := ⟨3, ![32, 1, 1024]⟩
abbrev S32x1024 : Shape := ⟨2, ![32, 1024]⟩
abbrev S_ : Shape := ⟨0, ![]⟩
abbrev S1024x4096 : Shape := ⟨2, ![1024, 4096]⟩
abbrev S256x4096 : Shape := ⟨2, ![256, 4096]⟩
abbrev S256x1x256 : Shape := ⟨3, ![256, 1, 256]⟩
abbrev S256x4x256 : Shape := ⟨3, ![256, 4, 256]⟩
abbrev S4x1024x256 : Shape := ⟨3, ![4, 1024, 256]⟩
abbrev S256x4x1024 : Shape := ⟨3, ![256, 4, 1024]⟩
abbrev S256 : Shape := ⟨1, ![256]⟩
abbrev S256x1 : Shape := ⟨2, ![256, 1]⟩
abbrev S1x1024 : Shape := ⟨2, ![1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S32x9216, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S1024x7768, .f32⟩
  | .hbm, ⟨7, _⟩ => ⟨S4x256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S32x9x1024, .f32⟩
  | .hbm, ⟨12, _⟩ => ⟨S32x8x1024, .f32⟩
  | .hbm, ⟨13, _⟩ => ⟨S32x1x1024, .f32⟩
  | .hbm, ⟨14, _⟩ => ⟨S32x1024, .f32⟩
  | .hbm, ⟨15, _⟩ => ⟨S32x1x1024, .f32⟩
  | .hbm, ⟨16, _⟩ => ⟨S_, .f32⟩
  | .hbm, ⟨17, _⟩ => ⟨S32x1x1024, .f32⟩
  | .hbm, ⟨18, _⟩ => ⟨S32x1x1024, .f32⟩
  | .hbm, ⟨19, _⟩ => ⟨S32x8x1024, .f32⟩
  | .hbm, ⟨20, _⟩ => ⟨S32x8x1024, .f32⟩
  | .hbm, ⟨21, _⟩ => ⟨S32x1x1024, .f32⟩
  | .hbm, ⟨22, _⟩ => ⟨S32x1024, .f32⟩
  | .hbm, ⟨23, _⟩ => ⟨S32x1x1024, .f32⟩
  | .hbm, ⟨24, _⟩ => ⟨S32x8x1024, .f32⟩
  | .hbm, ⟨25, _⟩ => ⟨S32x8x1024, .f32⟩
  | .hbm, ⟨26, _⟩ => ⟨S256x1024, .f32⟩
  | .hbm, ⟨27, _⟩ => ⟨S1024x4096, .f32⟩
  | .hbm, ⟨28, _⟩ => ⟨S256x4096, .f32⟩
  | .hbm, ⟨29, _⟩ => ⟨S256x1x256, .f32⟩
  | .hbm, ⟨30, _⟩ => ⟨S256x1x256, .f32⟩
  | .hbm, ⟨31, _⟩ => ⟨S256x1x256, .f32⟩
  | .hbm, ⟨32, _⟩ => ⟨S256x1x256, .f32⟩
  | .hbm, ⟨33, _⟩ => ⟨S256x4x256, .f32⟩
  | .hbm, ⟨34, _⟩ => ⟨S4x1024x256, .f32⟩
  | .hbm, ⟨35, _⟩ => ⟨S256x4x1024, .f32⟩
  | .hbm, ⟨36, _⟩ => ⟨S256x4x1024, .f32⟩
  | .hbm, ⟨37, _⟩ => ⟨S256x4x1024, .f32⟩
  | .hbm, ⟨38, _⟩ => ⟨S256x4x1024, .f32⟩
  | .hbm, ⟨39, _⟩ => ⟨S_, .f32⟩
  | .hbm, ⟨40, _⟩ => ⟨S256x4x1024, .f32⟩
  | .hbm, ⟨41, _⟩ => ⟨S256x4x1024, .f32⟩
  | .hbm, ⟨42, _⟩ => ⟨S_, .f32⟩
  | .hbm, ⟨43, _⟩ => ⟨S256x4x1024, .f32⟩
  | .hbm, ⟨44, _⟩ => ⟨S256x4x1024, .f32⟩
  | .hbm, ⟨45, _⟩ => ⟨S256x4x1024, .f32⟩
  | .hbm, ⟨46, _⟩ => ⟨S_, .f32⟩
  | .hbm, ⟨47, _⟩ => ⟨S256x1024, .f32⟩
  | .hbm, ⟨48, _⟩ => ⟨S256x1024, .f32⟩
  | .hbm, ⟨49, _⟩ => ⟨S32x9x1024, .f32⟩
  | .hbm, ⟨50, _⟩ => ⟨S32x1x1024, .f32⟩
  | .hbm, ⟨51, _⟩ => ⟨S32x1024, .f32⟩
  | .hbm, ⟨52, _⟩ => ⟨S32x1x1024, .f32⟩
  | .hbm, ⟨53, _⟩ => ⟨S32x8x1024, .f32⟩
  | .hbm, ⟨54, _⟩ => ⟨S32x8x1024, .f32⟩
  | .hbm, ⟨55, _⟩ => ⟨S32x8x1024, .f32⟩
  | .hbm, ⟨56, _⟩ => ⟨S256x1024, .f32⟩
  | .hbm, ⟨57, _⟩ => ⟨S_, .f32⟩
  | .hbm, ⟨58, _⟩ => ⟨S256x1024, .f32⟩
  | .hbm, ⟨59, _⟩ => ⟨S256x1024, .f32⟩
  | .hbm, ⟨60, _⟩ => ⟨S256x1024, .f32⟩
  | .hbm, ⟨61, _⟩ => ⟨S_, .f32⟩
  | .hbm, ⟨62, _⟩ => ⟨S256, .f32⟩
  | .hbm, ⟨63, _⟩ => ⟨S256x1, .f32⟩
  | .hbm, ⟨64, _⟩ => ⟨S_, .f32⟩
  | .hbm, ⟨65, _⟩ => ⟨S256x1, .f32⟩
  | .hbm, ⟨66, _⟩ => ⟨S256x1, .f32⟩
  | .hbm, ⟨67, _⟩ => ⟨S256x1024, .f32⟩
  | .hbm, ⟨68, _⟩ => ⟨S256x1024, .f32⟩
  | .hbm, ⟨69, _⟩ => ⟨S256x1024, .f32⟩
  | .hbm, ⟨70, _⟩ => ⟨S_, .f32⟩
  | .hbm, ⟨71, _⟩ => ⟨S256, .f32⟩
  | .hbm, ⟨72, _⟩ => ⟨S256x1, .f32⟩
  | .hbm, ⟨73, _⟩ => ⟨S_, .f32⟩
  | .hbm, ⟨74, _⟩ => ⟨S256x1, .f32⟩
  | .hbm, ⟨75, _⟩ => ⟨S256x1, .f32⟩
  | .hbm, ⟨76, _⟩ => ⟨S256x1024, .f32⟩
  | .hbm, ⟨77, _⟩ => ⟨S256x1024, .f32⟩
  | .hbm, ⟨78, _⟩ => ⟨S_, .f32⟩
  | .hbm, ⟨79, _⟩ => ⟨S256x1, .f32⟩
  | .hbm, ⟨80, _⟩ => ⟨S256x1, .f32⟩
  | .hbm, ⟨81, _⟩ => ⟨S256x1, .f32⟩
  | .hbm, ⟨82, _⟩ => ⟨S256x1024, .f32⟩
  | .hbm, ⟨83, _⟩ => ⟨S256x1024, .f32⟩
  | .hbm, ⟨84, _⟩ => ⟨S1x1024, .f32⟩
  | .hbm, ⟨85, _⟩ => ⟨S256x1024, .f32⟩
  | .hbm, ⟨86, _⟩ => ⟨S256x1024, .f32⟩
  | .hbm, ⟨87, _⟩ => ⟨S1x1024, .f32⟩
  | .hbm, ⟨88, _⟩ => ⟨S256x1024, .f32⟩
  | .hbm, ⟨89, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Kernel8.lean ====
abbrev S16384x512 : Shape := ⟨2, ![16384, 512]⟩
abbrev S4x256 : Shape := ⟨2, ![4, 256]⟩
abbrev S256 : Shape := ⟨1, ![256]⟩
abbrev S4x64x64 : Shape := ⟨3, ![4, 64, 64]⟩
abbrev S_ : Shape := ⟨0, ![]⟩
abbrev S1x8x256 : Shape := ⟨3, ![1, 8, 256]⟩
abbrev S1x1x256 : Shape := ⟨3, ![1, 1, 256]⟩
abbrev S1x256 : Shape := ⟨2, ![1, 256]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S16384x256 : Shape := ⟨2, ![16384, 256]⟩
abbrev S256x512 : Shape := ⟨2, ![256, 512]⟩
abbrev S264x256 : Shape := ⟨2, ![264, 256]⟩
abbrev S8x256 : Shape := ⟨2, ![8, 256]⟩

abbrev nBuf : Space → Nat
  | .hbm => 89
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S4x256, .f32⟩
  | .hbm, ⟨2, _⟩ => ⟨S256, .f32⟩
  | .hbm, ⟨3, _⟩ => ⟨S4x64x64, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S1x8x256, .f32⟩
  | .hbm, ⟨10, _⟩ => ⟨S_, .f32⟩
  | .hbm, ⟨11, _⟩ => ⟨S1x1x256, .f32⟩
  | .hbm, ⟨12, _⟩ => ⟨S1x256, .f32⟩
  | .hbm, ⟨13, _⟩ => ⟨S_, .f32⟩
  | .hbm, ⟨14, _⟩ => ⟨S256x256, .f32⟩
  | .hbm, ⟨15, _⟩ => ⟨S1x64x64, .f32⟩
  | .hbm, ⟨16, _⟩ => ⟨S64x64, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S256x256, .f32⟩
  | .hbm, ⟨23, _⟩ => ⟨S1x64x64, .f32⟩
  | .hbm, ⟨24, _⟩ => ⟨S64x64, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S256x256, .f32⟩
  | .hbm, ⟨31, _⟩ => ⟨S1x64x64, .f32⟩
  | .hbm, ⟨32, _⟩ => ⟨S64x64, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S256x256, .f32⟩
  | .hbm, ⟨39, _⟩ => ⟨S1x64x64, .f32⟩
  | .hbm, ⟨40, _⟩ => ⟨S64x64, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S256x256, .f32⟩
  | .hbm, ⟨47, _⟩ => ⟨S256x256, .bf16⟩
  | .hbm, ⟨48, _⟩ => ⟨S1x256, .f32⟩
  | .hbm, ⟨49, _⟩ => ⟨S_, .f32⟩
  | .hbm, ⟨50, _⟩ => ⟨S256x256, .f32⟩
  | .hbm, ⟨51, _⟩ => ⟨S1x64x64, .f32⟩
  | .hbm, ⟨52, _⟩ => ⟨S64x64, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S256x256, .f32⟩
  | .hbm, ⟨59, _⟩ => ⟨S1x64x64, .f32⟩
  | .hbm, ⟨60, _⟩ => ⟨S64x64, .f32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S2, .i32⟩
  | .hbm, ⟨66, _⟩ => ⟨S256x256, .f32⟩
  | .hbm, ⟨67, _⟩ => ⟨S1x64x64, .f32⟩
  | .hbm, ⟨68, _⟩ => ⟨S64x64, .f32⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S256x256, .f32⟩
  | .hbm, ⟨75, _⟩ => ⟨S1x64x64, .f32⟩
  | .hbm, ⟨76, _⟩ => ⟨S64x64, .f32⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S256x256, .f32⟩
  | .hbm, ⟨83, _⟩ => ⟨S256x256, .bf16⟩
  | .hbm, ⟨84, _⟩ => ⟨S1x256, .f32⟩
  | .hbm, ⟨85, _⟩ => ⟨S1x256, .f32⟩
  | .hbm, ⟨86, _⟩ => ⟨S16384x256, .f32⟩
  | .hbm, ⟨87, _⟩ => ⟨S1x8x256, .f32⟩
  | .hbm, ⟨88, _⟩ => ⟨S1x1x256, .f32⟩
  | .local _ .vmem, ⟨0, _⟩ => ⟨S256x512, .f32⟩
  | .local _ .vmem, ⟨1, _⟩ => ⟨S256x512, .f32⟩
  | .local _ .vmem, ⟨2, _⟩ => ⟨S1x8x256, .f32⟩
  | .local _ .vmem, ⟨3, _⟩ => ⟨S1x1x256, .f32⟩
  | .local _ .vmem, ⟨4, _⟩ => ⟨S4x256, .f32⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S256x256, .f32⟩
  | .local _ .vmem, ⟨12, _⟩ => ⟨S256x256, .f32⟩
  | .local _ .vmem, ⟨13, _⟩ => ⟨S1x8x256, .f32⟩
  | .local _ .vmem, ⟨14, _⟩ => ⟨S1x1x256, .f32⟩
  | .local _ .vmem, ⟨15, _⟩ => ⟨S264x256, .f32⟩
  | .local _ .vmem, ⟨16, _⟩ => ⟨S1x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_c_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_10 : Ref sig .tc := ⟨.hbm, 53, rfl⟩
abbrev main_v33 : Ref sig .tc := ⟨.hbm, 54, rfl⟩
abbrev main_c_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_12 : Ref sig .tc := ⟨.hbm, 61, rfl⟩
abbrev main_v39 : Ref sig .tc := ⟨.hbm, 62, rfl⟩
abbrev main_c_13 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_14 : Ref sig .tc := ⟨.hbm, 69, rfl⟩
abbrev main_v45 : Ref sig .tc := ⟨.hbm, 70, rfl⟩
abbrev main_c_15 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_16 : Ref sig .tc := ⟨.hbm, 77, rfl⟩
abbrev main_v51 : Ref sig .tc := ⟨.hbm, 78, rfl⟩
abbrev main_c_17 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58_0 : Ref sig .tc := ⟨.hbm, 86, rfl⟩
abbrev main_v58_1 : Ref sig .tc := ⟨.hbm, 87, rfl⟩
abbrev main_v58_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== Reference8Ideal.lean ====
abbrev S16384x512 : Shape := ⟨2, ![16384, 512]⟩
abbrev S4x256 : Shape := ⟨2, ![4, 256]⟩
abbrev S256 : Shape := ⟨1, ![256]⟩
abbrev S4x64x64 : Shape := ⟨3, ![4, 64, 64]⟩
abbrev S16384x256 : Shape := ⟨2, ![16384, 256]⟩
abbrev S1x16384x256 : Shape := ⟨3, ![1, 16384, 256]⟩
abbrev S_ : Shape := ⟨0, ![]⟩
abbrev S1x3x256 : Shape := ⟨3, ![1, 3, 256]⟩
abbrev S1x16387x256 : Shape := ⟨3, ![1, 16387, 256]⟩
abbrev S1x8x256 : Shape := ⟨3, ![1, 8, 256]⟩

abbrev nBuf : Space → Nat
  | .hbm => 14
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x256, .f32⟩
  | .hbm, ⟨2, _⟩ => ⟨S256, .f32⟩
  | .hbm, ⟨3, _⟩ => ⟨S4x64x64, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S256, .f32⟩
  | .hbm, ⟨8, _⟩ => ⟨S16384x256, .f32⟩
  | .hbm, ⟨9, _⟩ => ⟨S1x16384x256, .f32⟩
  | .hbm, ⟨10, _⟩ => ⟨S_, .f32⟩
  | .hbm, ⟨11, _⟩ => ⟨S1x3x256, .f32⟩
  | .hbm, ⟨12, _⟩ => ⟨S1x16387x256, .f32⟩
  | .hbm, ⟨13, _⟩ => ⟨S1x8x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Proof.RgLru.Spec.lean ====
module

public import Idealize.ShloMosaic.Lib.Pipeline.ValueKit
public import Idealize.ShloMosaic.Lib.IdealHost

@[expose] public section

/-!
The gated linear recurrence, one entry at a time: the padded row, the short convolution, the two gates, the decay and
the state after any number of steps. Both programs are compared with it.
-/

noncomputable section

namespace Cert.RgLru

open Idealize.ShloMosaic

/-- The arrays the recurrence reads: the projected rows, the carried rows of the convolution, the state, the
convolution's taps and bias, each gate's blocks and bias, and the decay's parameter. -/
structure Args where
  pa : FVec Ideal ⟨2, ![256, 512]⟩ .f32
  cv : FVec Ideal ⟨3, ![32, 3, 256]⟩ .f32
  h0 : FVec Ideal ⟨2, ![32, 256]⟩ .f32
  cw : FVec Ideal ⟨2, ![4, 256]⟩ .f32
  cb : FVec Ideal ⟨1, ![256]⟩ .f32
  wa : FVec Ideal ⟨3, ![4, 64, 64]⟩ .f32
  ba : FVec Ideal ⟨1, ![256]⟩ .f32
  wi : FVec Ideal ⟨3, ![4, 64, 64]⟩ .f32
  bi : FVec Ideal ⟨1, ![256]⟩ .f32
  lam : FVec Ideal ⟨1, ![256]⟩ .f32

/-- Row `s` of sequence `g`: the three carried rows, then the eight new ones. -/
def Args.row (A : Args) (g : Fin 32) (s : ℕ) (ch : Fin 256) : EReal :=
  if h : s < 3 then A.cv (ix3 g ⟨s, h⟩ ch)
  else if h' : s < 11 then A.pa (ix2 ⟨g.val * 8 + (s - 3), by omega⟩ ⟨ch.val, by omega⟩) else 0

/-- The convolution of four taps at step `t`. -/
def Args.conv (A : Args) (g : Fin 32) (t : ℕ) (ch : Fin 256) : EReal :=
  A.row g t ch * A.cw (ix2 0 ch) + A.row g (t + 1) ch * A.cw (ix2 1 ch) + A.row g (t + 2) ch * A.cw (ix2 2 ch)
    + A.row g (t + 3) ch * A.cw (ix2 3 ch) + A.cb (ix1 ch)

/-- What a gate reads: its block's product with the channel's own 64 channels, and the bias. -/
def mixed (w : FVec Ideal ⟨3, ![4, 64, 64]⟩ .f32) (b : FVec Ideal ⟨1, ![256]⟩ .f32) (x : Fin 256 → EReal)
    (ch : Fin 256) : EReal :=
  (∑ k : Fin 64, w (ix3 (⟨ch.val / 64, by omega⟩ : Fin 4) k ⟨ch.val % 64, Nat.mod_lt _ (by decide)⟩)
    * x ⟨ch.val / 64 * 64 + k.val, by omega⟩) + b (ix1 ch)

/-- The logistic function as both programs write it. -/
def squash (x : EReal) : EReal := Ideal.div 1 (1 + Ideal.exp (0 - x))

/-- The logarithm of one plus the exponential as both programs write it. -/
def softplus (y : EReal) : EReal := max y 0 + Ideal.log1p (Ideal.exp (0 - max y (-y)))

/-- The logarithm of a step's decay. -/
def Args.logDecay (A : Args) (g : Fin 32) (t : ℕ) (ch : Fin 256) : EReal :=
  Ideal.ofBits .f32 0xC1000000#32 * squash (mixed A.wa A.ba (A.conv g t) ch) * softplus (0 - A.lam (ix1 ch))

/-- What a step adds to the state. -/
def Args.drive (A : Args) (g : Fin 32) (t : ℕ) (ch : Fin 256) : EReal :=
  Ideal.sqrt (max (-(Ideal.expm1 (Ideal.ofBits .f32 0x40000000#32 * A.logDecay g t ch))) 0)
    * (squash (mixed A.wi A.bi (A.conv g t) ch) * A.conv g t ch)

/-- The state after `n` steps. -/
def Args.state (A : Args) (g : Fin 32) : ℕ → Fin 256 → EReal
  | 0 => fun ch => A.h0 (ix2 g ch)
  | n + 1 => fun ch => Ideal.exp (A.logDecay g n ch) * A.state g n ch + A.drive g n ch

/-- The gate's curve as the reference writes it: `v` times half of one plus a hyperbolic tangent. -/
def curve (v : EReal) : EReal :=
  v * (Ideal.ofBits .f32 0x3F000000#32 * (1 + Ideal.tanh (Ideal.ofBits .f32 0x3F4C422A#32
    * (v + Ideal.ofBits .f32 0x3D372713#32 * (v * v * v)))))

/-- Row `i` of the layer's output: the state after step `i % 8` of sequence `i / 8`, times the curve of the gate's channel. -/
def Args.out (A : Args) (i ch : Fin 256) : EReal :=
  A.state ⟨i.val / 8, by omega⟩ (i.val % 8 + 1) ch * curve (A.pa (ix2 i ⟨256 + ch.val, by omega⟩))

end Cert.RgLru
-- ==== Proof.RgLru.Gates.lean ====
module

public import Idealize.ShloMosaic.Lib.Pipeline.ValueKit
public import Idealize.ShloMosaic.Lib.IdealHost

@[expose] public section

/-!
The product with a block-diagonal matrix: each of its sums over 256 rows is the sum over the 64 rows of the column's
own block.
-/

noncomputable section

namespace Cert.RgLru

open Idealize.ShloMosaic

/-- A product with the block-diagonal matrix: only the column's own 64 rows contribute. -/
theorem block_sum (x : Fin 256 → EReal) (w : FVec Ideal ⟨3, ![4, 64, 64]⟩ .f32) (c : Fin 256) :
    ∑ k : Fin 256, x k * (if k.val / 64 = c.val / 64
        then w (ix3 (⟨c.val / 64, by omega⟩ : Fin 4) ⟨k.val % 64, Nat.mod_lt _ (by decide)⟩ ⟨c.val % 64, Nat.mod_lt _ (by decide)⟩)
        else 0)
      = ∑ k : Fin 64, w (ix3 (⟨c.val / 64, by omega⟩ : Fin 4) k ⟨c.val % 64, Nat.mod_lt _ (by decide)⟩)
          * x ⟨c.val / 64 * 64 + k.val, by omega⟩ := by
  rw [Fin.sum_univ_tiles 4 64 rfl, Finset.sum_eq_single (⟨c.val / 64, by omega⟩ : Fin 4)]
  · refine Finset.sum_congr rfl fun k _ => ?_
    have hk := k.isLt
    rw [if_pos (by show (c.val / 64 * 64 + k.val) / 64 = _; omega), mul_comm]
    refine congrArg₂ (· * ·) (congrArg (fun e => w (ix3 _ e _)) (Fin.ext ?_)) rfl
    show (c.val / 64 * 64 + k.val) % 64 = k.val
    omega
  · intro j _ hj
    refine Finset.sum_eq_zero fun k _ => ?_
    have hk := k.isLt
    rw [if_neg, mul_zero]
    intro e
    apply hj
    apply Fin.ext
    have e' : (j.val * 64 + k.val) / 64 = c.val / 64 := e
    show j.val = c.val / 64
    omega
  · intro h; exact absurd (Finset.mem_univ _) h

end Cert.RgLru
-- ==== Proof.RgLru.Blocks.lean ====
module

public import Idealize.ShloMosaic.Lib.Routing.OpsSet
public import Idealize.ShloMosaic.Lib.Routing.OpsPair
public import Idealize.ShloMosaic.Lib.Routing.OpsOne

@[expose] public section

/-!
The four diagonal blocks of a gate's weight, written one after the other into a 256 × 256 matrix of zeros.
-/

noncomputable section

namespace Cert.RgLru

open Idealize.ShloMosaic Idealize.ShloMosaic.ValueIdx Idealize.ShloMosaic.Routing

variable {α : Type}

/-- Update `(k, l)` of a 64 × 64 window lands at `(r, c)` exactly when the two index words, read signed, plus `k` and
`l` are `r` and `c`. -/
theorem lands_window (d : ScatterDims (shape2 256 256) (shape1 2) (shape2 64 64)) (hiw : d.insertedWindowDims = [])
    (hsd : d.scatterDimsToOperandDims = [0, 1]) (hivd : d.indexVectorDim = 0) (huw : d.updateWindowDims = [0, 1])
    (idx : IVec (shape1 2) 32) (k l : Fin 64) (r c : Fin 256) :
    d.resultIdx? (ix2 k l) idx = some (ix2 r c)
      ↔ (idx (ix1 (0 : Fin 2))).toInt + (k.val : Int) = r.val ∧ (idx (ix1 (1 : Fin 2))).toInt + (l.val : Int) = c.val := by
  have hk : d.sKept = [0, 1] := by
    show (shape2 256 256).kept d.insertedWindowDims = _
    rw [hiw]; rfl
  have at0 : ∀ (i : Nat) (hi : i < ([0, 1] : List (Fin 2)).length), i = 0 → ([0, 1] : List (Fin 2))[i]'hi = 0 := by
    rintro _ _ rfl; rfl
  have at1 : ∀ (i : Nat) (hi : i < ([0, 1] : List (Fin 2)).length), i = 1 → ([0, 1] : List (Fin 2))[i]'hi = 1 := by
    rintro _ _ rfl; rfl
  have h0 : d.window (ix2 k l) 0 = k.val := by
    unfold ScatterDims.window
    rw [dif_pos (by rw [hk]; simp)]
    refine congrArg (fun t => ((ix2 k l : (shape2 64 64).Idx) t).val) (a₂ := 0) ?_
    refine (List.getElem_of_eq huw _).trans (at0 _ _ (by rw [hk]; rfl))
  have h1 : d.window (ix2 k l) 1 = l.val := by
    unfold ScatterDims.window
    rw [dif_pos (by rw [hk]; simp)]
    refine congrArg (fun t => ((ix2 k l : (shape2 64 64).Idx) t).val) (a₂ := 1) ?_
    refine (List.getElem_of_eq huw _).trans (at1 _ _ (by rw [hk]; rfl))
  rw [resultIdx?_ix2, start_pair d hsd hivd, start_pair d hsd hivd, h0, h1]

/-- Writing a 64 × 64 window at block `(q, q)`: the window's entry inside the block, the matrix's outside. -/
theorem scatter_block (d : ScatterDims (shape2 256 256) (shape1 2) (shape2 64 64)) (hiw : d.insertedWindowDims = [])
    (hsd : d.scatterDimsToOperandDims = [0, 1]) (hivd : d.indexVectorDim = 0) (huw : d.updateWindowDims = [0, 1])
    (x0 : (shape2 256 256).Idx → α) (idx : IVec (shape1 2) 32) (upd : (shape2 64 64).Idx → α) (q : Fin 4)
    (h0 : (idx (ix1 (0 : Fin 2))).toInt = 64 * q.val) (h1 : (idx (ix1 (1 : Fin 2))).toInt = 64 * q.val) (r c : Fin 256) :
    Host.scatter d (fun _ b => b) x0 idx upd (ix2 r c)
      = if r.val / 64 = q.val ∧ c.val / 64 = q.val
        then upd (ix2 ⟨r.val % 64, Nat.mod_lt _ (by decide)⟩ ⟨c.val % 64, Nat.mod_lt _ (by decide)⟩) else x0 (ix2 r c) := by
  have lands : ∀ k' : (shape2 64 64).Idx, d.resultIdx? k' idx = some (ix2 r c) →
      64 * q.val + (k' 0).val = r.val ∧ 64 * q.val + (k' 1).val = c.val := fun k' hk' => by
    have e := (lands_window d hiw hsd hivd huw idx (k' 0) (k' 1) r c).1
      ((congrArg (fun t => d.resultIdx? t idx) (eq_ix2 k').symm).trans hk')
    rw [h0, h1] at e
    omega
  by_cases h : r.val / 64 = q.val ∧ c.val / 64 = q.val
  · rw [if_pos h]
    refine scatter_set_hit d x0 idx upd _ _ (fun k' hk' => ?_)
      (ix2 ⟨r.val % 64, Nat.mod_lt _ (by decide)⟩ ⟨c.val % 64, Nat.mod_lt _ (by decide)⟩)
      ((lands_window d hiw hsd hivd huw idx _ _ r c).2 ⟨?_, ?_⟩)
    · obtain ⟨q0, q1⟩ := lands k' hk'
      have a0 : (k' 0).val < 64 := (k' 0).isLt
      have a1 : (k' 1).val < 64 := (k' 1).isLt
      rw [eq_ix2 k']
      exact congrArg₂ (fun e f => upd (ix2 e f)) (Fin.ext (by show (k' 0).val = r.val % 64; omega))
        (Fin.ext (by show (k' 1).val = c.val % 64; omega))
    · show _ + ((r.val % 64 : Nat) : Int) = r.val
      rw [h0]; omega
    · show _ + ((c.val % 64 : Nat) : Int) = c.val
      rw [h1]; omega
  · rw [if_neg h]
    refine scatter_set_miss d x0 idx upd _ fun k' hk' => h ?_
    obtain ⟨q0, q1⟩ := lands k' hk'
    have a0 : (k' 0).val < 64 := (k' 0).isLt
    have a1 : (k' 1).val < 64 := (k' 1).isLt
    omega

/-- The four blocks written one after the other: an entry of a diagonal block is its block's weight, any other is the
matrix's the blocks are written into. -/
theorem block_diagonal (d : ScatterDims (shape2 256 256) (shape1 2) (shape2 64 64)) (hiw : d.insertedWindowDims = [])
    (hsd : d.scatterDimsToOperandDims = [0, 1]) (hivd : d.indexVectorDim = 0) (huw : d.updateWindowDims = [0, 1])
    (z : (shape2 256 256).Idx → α) (w : (shape3 4 64 64).Idx → α) (i0 i1 i2 i3 : IVec (shape1 2) 32)
    (u0 u1 u2 u3 : (shape2 64 64).Idx → α)
    (a0 : ∀ s, (i0 (ix1 s)).toInt = 0) (a1 : ∀ s, (i1 (ix1 s)).toInt = 64) (a2 : ∀ s, (i2 (ix1 s)).toInt = 128)
    (a3 : ∀ s, (i3 (ix1 s)).toInt = 192)
    (e0 : ∀ a b, u0 (ix2 a b) = w (ix3 0 a b)) (e1 : ∀ a b, u1 (ix2 a b) = w (ix3 1 a b))
    (e2 : ∀ a b, u2 (ix2 a b) = w (ix3 2 a b)) (e3 : ∀ a b, u3 (ix2 a b) = w (ix3 3 a b)) (r c : Fin 256) :
    Host.scatter d (fun _ b => b) (Host.scatter d (fun _ b => b) (Host.scatter d (fun _ b => b)
      (Host.scatter d (fun _ b => b) z i0 u0) i1 u1) i2 u2) i3 u3 (ix2 r c)
      = if r.val / 64 = c.val / 64
        then w (ix3 ⟨c.val / 64, by omega⟩ ⟨r.val % 64, Nat.mod_lt _ (by decide)⟩ ⟨c.val % 64, Nat.mod_lt _ (by decide)⟩)
        else z (ix2 r c) := by
  rw [scatter_block d hiw hsd hivd huw _ i3 u3 3 (a3 0) (a3 1), scatter_block d hiw hsd hivd huw _ i2 u2 2 (a2 0) (a2 1),
    scatter_block d hiw hsd hivd huw _ i1 u1 1 (a1 0) (a1 1), scatter_block d hiw hsd hivd huw _ i0 u0 0 (a0 0) (a0 1), e0, e1, e2, e3]
  have hc : c.val / 64 < 4 := by omega
  simp only [Fin.val_zero, Fin.val_one, Fin.val_two, show ((3 : Fin 4).val) = 3 from rfl]
  by_cases h : r.val / 64 = c.val / 64
  · rw [if_pos h, h]
    obtain h' | h' | h' | h' : c.val / 64 = 0 ∨ c.val / 64 = 1 ∨ c.val / 64 = 2 ∨ c.val / 64 = 3 := by omega
    all_goals simp only [h']; rfl
  · rw [if_neg h, if_neg (by omega), if_neg (by omega), if_neg (by omega), if_neg (by omega)]

end Cert.RgLru
-- ==== Proof.RgLru.Host.lean ====
module

public import proofs.«01_k».proof.Proof.Gen.KernelIdeal.Frame
public import Idealize.ShloMosaic.Lib.Pipeline.ValueKit
public import proofs.«01_k».proof.Proof.RgLru.Spec
public import proofs.«01_k».proof.Proof.RgLru.Gates
public import proofs.«01_k».proof.Proof.RgLru.Blocks

@[expose] public section

/-!
The arrays the kernel's windows stage, entry by entry, over the kernel's arguments: the carried rows behind padding, the
biases as rows, each gate's blocks on the diagonal of a matrix of zeros.
-/

set_option maxRecDepth 16384

noncomputable section

namespace Cert.RgLru

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The kernel's arguments as the recurrence's. -/
def kArgs (c : Dev nD) : Args where
  pa := m ((c : Thread nD τ).loc main_arg0)
  cv := m ((c : Thread nD τ).loc main_arg1)
  h0 := m ((c : Thread nD τ).loc main_arg2)
  cw := m ((c : Thread nD τ).loc main_arg3)
  cb := m ((c : Thread nD τ).loc main_arg4)
  wa := m ((c : Thread nD τ).loc main_arg5)
  ba := m ((c : Thread nD τ).loc main_arg6)
  wi := m ((c : Thread nD τ).loc main_arg7)
  bi := m ((c : Thread nD τ).loc main_arg8)
  lam := m ((c : Thread nD τ).loc main_arg9)

set_option maxHeartbeats 1000000 in
/-- The convolution's carried rows behind five rows of padding. -/
theorem host_v0 (c : Dev nD) : V m c main_v0 = pad S32x8x256 ![0, 5, 0] ![0, 0, 0] ![0, 0, 0] (kArgs m c).cv (sitofp (F := Ideal) .f32 (constantI S_ 32 0#32)) pads_S32x3x256_S32x8x256_000_500_000 h_S_ := by
  unfold V
  simp only [hostOps0, hostOps0_1, hostOps0_2, List.flatten_cons, List.flatten_nil, List.cons_append, List.nil_append, List.append_nil]
  simp only [Idealize.ShloMosaic.StableHlo.after_cons, Idealize.ShloMosaic.StableHlo.after_nil]
  after_results_simp
  after_results_loop
  rfl

set_option maxHeartbeats 1000000 in
/-- The incoming state, one row per sequence. -/
theorem host_v1 (c : Dev nD) : V m c main_v1 = broadcastInDim S32x1x256 ![0, 2] bcast_S32x256_S32x1x256_0_2 (kArgs m c).h0 := by
  unfold V
  simp only [hostOps0, hostOps0_1, hostOps0_2, List.flatten_cons, List.flatten_nil, List.cons_append, List.nil_append, List.append_nil]
  simp only [Idealize.ShloMosaic.StableHlo.after_cons, Idealize.ShloMosaic.StableHlo.after_nil]
  after_results_simp
  after_results_loop
  rfl

set_option maxHeartbeats 1000000 in
/-- The convolution's bias as a row. -/
theorem host_v2 (c : Dev nD) : V m c main_v2 = broadcastInDim S1x256 ![1] bcast_S256_S1x256_1 (kArgs m c).cb := by
  unfold V
  simp only [hostOps0, hostOps0_1, hostOps0_2, List.flatten_cons, List.flatten_nil, List.cons_append, List.nil_append, List.append_nil]
  simp only [Idealize.ShloMosaic.StableHlo.after_cons, Idealize.ShloMosaic.StableHlo.after_nil]
  after_results_simp
  after_results_loop
  rfl

set_option maxHeartbeats 1000000 in
/-- The first gate's bias as a row. -/
theorem host_v29 (c : Dev nD) : V m c main_v29 = broadcastInDim S1x256 ![1] bcast_S256_S1x256_1 (kArgs m c).ba := by
  unfold V
  simp only [hostOps0, hostOps0_1, hostOps0_2, List.flatten_cons, List.flatten_nil, List.cons_append, List.nil_append, List.append_nil]
  simp only [Idealize.ShloMosaic.StableHlo.after_cons, Idealize.ShloMosaic.StableHlo.after_nil]
  after_results_simp
  after_results_loop
  rfl

set_option maxHeartbeats 1000000 in
/-- The second gate's bias as a row. -/
theorem host_v56 (c : Dev nD) : V m c main_v56 = broadcastInDim S1x256 ![1] bcast_S256_S1x256_1 (kArgs m c).bi := by
  unfold V
  simp only [hostOps0, hostOps0_1, hostOps0_2, List.flatten_cons, List.flatten_nil, List.cons_append, List.nil_append, List.append_nil]
  simp only [Idealize.ShloMosaic.StableHlo.after_cons, Idealize.ShloMosaic.StableHlo.after_nil]
  after_results_simp
  after_results_loop
  rfl

set_option maxHeartbeats 1000000 in
/-- The decay's parameter as a row. -/
theorem host_v57 (c : Dev nD) : V m c main_v57 = broadcastInDim S1x256 ![1] bcast_S256_S1x256_1 (kArgs m c).lam := by
  unfold V
  simp only [hostOps0, hostOps0_1, hostOps0_2, List.flatten_cons, List.flatten_nil, List.cons_append, List.nil_append, List.append_nil]
  simp only [Idealize.ShloMosaic.StableHlo.after_cons, Idealize.ShloMosaic.StableHlo.after_nil]
  after_results_simp
  after_results_loop
  rfl

end Cert.RgLru
-- ==== Proof.RgLru.HostDiag.lean ====
module

public import proofs.«01_k».proof.Proof.Gen.KernelIdeal.Frame
public import Idealize.ShloMosaic.Lib.Pipeline.ValueKit
public import proofs.«01_k».proof.Proof.RgLru.Spec
public import proofs.«01_k».proof.Proof.RgLru.Gates
public import proofs.«01_k».proof.Proof.RgLru.Blocks

@[expose] public section

/-!
The arrays the kernel's windows stage, entry by entry, over the kernel's arguments: the carried rows behind padding, the
biases as rows, each gate's blocks on the diagonal of a matrix of zeros.
-/

set_option maxRecDepth 16384

noncomputable section

namespace Cert.RgLru

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- A gate's four blocks written into a matrix of zeros, as the host does it. -/
def diag (w : FVec Ideal S4x64x64 .f32) : FVec Ideal S256x256 .f32 :=
  Host.scatter scatter_S256x256_S2_S64x64_01_n_01_0 (fun _ b => b) (Host.scatter scatter_S256x256_S2_S64x64_01_n_01_0 (fun _ b => b) (Host.scatter scatter_S256x256_S2_S64x64_01_n_01_0 (fun _ b => b) (Host.scatter scatter_S256x256_S2_S64x64_01_n_01_0 (fun _ b => b) (broadcastInDim S256x256 ![] bcast_S_S256x256 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (shapeCast S64x64 (extractStridedSlice S1x64x64 ![0, 0, 0] w slices_S4x64x64_S1x64x64_0_0_0) shapeCasts_S1x64x64_S64x64))
    (concatenate S2 0 [⟨S1, broadcastInDim S1 ![] bcast_S_S1 (constantI S_ 32 64#32)⟩, ⟨S1, broadcastInDim S1 ![] bcast_S_S1 (constantI S_ 32 64#32)⟩] concatenates_S1_S1_S2_d0)
    (shapeCast S64x64 (extractStridedSlice S1x64x64 ![1, 0, 0] w slices_S4x64x64_S1x64x64_1_0_0) shapeCasts_S1x64x64_S64x64))
    (concatenate S2 0 [⟨S1, broadcastInDim S1 ![] bcast_S_S1 (constantI S_ 32 128#32)⟩, ⟨S1, broadcastInDim S1 ![] bcast_S_S1 (constantI S_ 32 128#32)⟩] concatenates_S1_S1_S2_d0)
    (shapeCast S64x64 (extractStridedSlice S1x64x64 ![2, 0, 0] w slices_S4x64x64_S1x64x64_2_0_0) shapeCasts_S1x64x64_S64x64))
    (concatenate S2 0 [⟨S1, broadcastInDim S1 ![] bcast_S_S1 (constantI S_ 32 192#32)⟩, ⟨S1, broadcastInDim S1 ![] bcast_S_S1 (constantI S_ 32 192#32)⟩] concatenates_S1_S1_S2_d0)
    (shapeCast S64x64 (extractStridedSlice S1x64x64 ![3, 0, 0] w slices_S4x64x64_S1x64x64_3_0_0) shapeCasts_S1x64x64_S64x64)

/-- Block `q` of a gate's weight, as the host slices it. -/
theorem diag_slice (w : FVec Ideal S4x64x64 .f32) (q : Fin 4) (hs : S4x64x64.Slices ![q.val, 0, 0] S1x64x64) (hc : S1x64x64.ShapeCasts S64x64) (a b : Fin 64) :
    shapeCast S64x64 (extractStridedSlice S1x64x64 ![q.val, 0, 0] w hs) hc (ix2 a b) = w (ix3 q a b) := by
  pointwise

/-- An entry of the matrix: its block's weight on the diagonal, zero elsewhere. -/
theorem diag_at (w : FVec Ideal S4x64x64 .f32) (r l : Fin 256) :
    diag w (ix2 r l) = if r.val / 64 = l.val / 64
        then w (ix3 (⟨l.val / 64, by omega⟩ : Fin 4) ⟨r.val % 64, Nat.mod_lt _ (by decide)⟩ ⟨l.val % 64, Nat.mod_lt _ (by decide)⟩)
        else 0 := by
  refine (block_diagonal scatter_S256x256_S2_S64x64_01_n_01_0 rfl rfl rfl rfl _ w _ _ _ _ _ _ _ _ ?_ ?_ ?_ ?_ ?_ ?_ ?_ ?_ r l).trans ?_
  · intro s; fin_cases s <;> rfl
  · intro s; fin_cases s <;> rfl
  · intro s; fin_cases s <;> rfl
  · intro s; fin_cases s <;> rfl
  · intro a b; exact diag_slice w 0 _ _ a b
  · intro a b; exact diag_slice w 1 _ _ a b
  · intro a b; exact diag_slice w 2 _ _ a b
  · intro a b; exact diag_slice w 3 _ _ a b
  · refine if_congr Iff.rfl rfl ?_
    exact Ideal.ofBits_zero .f32
end Cert.RgLru
-- ==== Proof.RgLru.HostGates.lean ====
module

public import proofs.«01_k».proof.Proof.Gen.KernelIdeal.Frame
public import Idealize.ShloMosaic.Lib.Pipeline.ValueKit
public import proofs.«01_k».proof.Proof.RgLru.Host
public import proofs.«01_k».proof.Proof.RgLru.HostDiag
public  import proofs.«01_k».proof.Proof.RgLru.Blocks

@[expose] public section

/-!
The arrays the kernel's windows stage, entry by entry, over the kernel's arguments: the carried rows behind padding, the
biases as rows, each gate's blocks on the diagonal of a matrix of zeros.
-/

set_option maxRecDepth 16384

noncomputable section

namespace Cert.RgLru

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 1000000 in
/-- The first gate's blocks on the diagonal. -/
theorem host_v28 (c : Dev nD) : V m c main_v28 = truncf .bf16 (diag (kArgs m c).wa) bitsLt_bf16_f32 := by
  unfold V
  simp only [hostOps0, hostOps0_1, hostOps0_2, List.flatten_cons, List.flatten_nil, List.cons_append, List.nil_append, List.append_nil]
  simp only [Idealize.ShloMosaic.StableHlo.after_cons, Idealize.ShloMosaic.StableHlo.after_nil]
  after_results_simp
  after_results_loop
  unfold diag kArgs
  rfl

set_option maxHeartbeats 1000000 in
/-- The second gate's blocks on the diagonal. -/
theorem host_v55 (c : Dev nD) : V m c main_v55 = truncf .bf16 (diag (kArgs m c).wi) bitsLt_bf16_f32 := by
  unfold V
  simp only [hostOps0, hostOps0_1, hostOps0_2, List.flatten_cons, List.flatten_nil, List.cons_append, List.nil_append, List.append_nil]
  simp only [Idealize.ShloMosaic.StableHlo.after_cons, Idealize.ShloMosaic.StableHlo.after_nil]
  after_results_simp
  after_results_loop
  unfold diag kArgs
  rfl

end Cert.RgLru
-- ==== Proof.RgLru.Operands.lean ====
module

public import proofs.«01_k».proof.Proof.Gen.KernelIdeal.Frame
public import Idealize.ShloMosaic.Lib.Pipeline.ValueKit
public import proofs.«01_k».proof.Proof.RgLru.HostGates

@[expose] public section

/-!
What the kernel's windows hold at a grid point, entry by entry, over the kernel's arguments.
-/

set_option maxRecDepth 16384

noncomputable section

namespace Cert.RgLru

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' block indices at every grid point. -/
theorem idx : ∀ t : Fin cfg0.N, win0_0.index t = ![t.val, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![t.val, 0] ∧ win0_11.index t = ![t.val, 0, 0] ∧ win0_12.index t = ![t.val, 0, 0] :=
  (by decide +kernel : ∀ t : Fin grid0.N, _)

/-- A grid point as a sequence. -/
def seqOf (t : Fin cfg0.N) : Fin 32 := ⟨t.val, t.isLt⟩

/-- The projected rows of the point's sequence. -/
theorem b0 (c : Dev nD) (t : Fin cfg0.N) (r : Fin 8) (l : Fin 512) :
    iblk m c 0 t (ix2 r l) = (kArgs m c).pa (ix2 ⟨(seqOf t).val * 8 + r.val, by have := (seqOf t).isLt; omega⟩ l) := by
  unfold kArgs seqOf
  blk_point [iblk, V, idx t]

/-- The point's carried rows: rows five to seven of its block. -/
theorem b1 (c : Dev nD) (t : Fin cfg0.N) (s : Fin 8) (hs : 5 ≤ s.val) (ch : Fin 256) :
    iblk m c 1 t (ix3 0 s ch) = (kArgs m c).cv (ix3 (seqOf t) ⟨s.val - 5, by omega⟩ ch) := by
  have e : iblk m c 1 t (ix3 0 s ch) = (V m c main_v0 : FVec Ideal S32x8x256 .f32) (ix3 (seqOf t) s ch) := by
    unfold seqOf
    blk_ext [iblk, idx t]
  rw [e, host_v0]
  pointwise
  rw [dif_pos ⟨hs, by omega⟩]

/-- The point's incoming state. -/
theorem b2 (c : Dev nD) (t : Fin cfg0.N) (ch : Fin 256) :
    iblk m c 2 t (ix3 0 0 ch) = (kArgs m c).h0 (ix2 (seqOf t) ch) := by
  have e : iblk m c 2 t (ix3 0 0 ch) = (V m c main_v1 : FVec Ideal S32x1x256 .f32) (ix3 (seqOf t) 0 ch) := by
    unfold seqOf
    blk_ext [iblk, idx t]
  rw [e, host_v1]
  pointwise

/-- The taps. -/
theorem b3 (c : Dev nD) (t : Fin cfg0.N) (k : Fin 4) (ch : Fin 256) :
    iblk m c 3 t (ix2 k ch) = (kArgs m c).cw (ix2 k ch) := by
  unfold kArgs
  blk_point [iblk, V, idx t]

/-- The convolution's bias. -/
theorem b4 (c : Dev nD) (t : Fin cfg0.N) (ch : Fin 256) :
    iblk m c 4 t (ix2 0 ch) = (kArgs m c).cb (ix1 ch) := by
  have e : iblk m c 4 t (ix2 0 ch) = (V m c main_v2 : FVec Ideal S1x256 .f32) (ix2 0 ch) := by
    blk_ext [iblk, idx t]
  rw [e, host_v2]
  pointwise

/-- The first gate's bias. -/
theorem b6 (c : Dev nD) (t : Fin cfg0.N) (ch : Fin 256) :
    iblk m c 6 t (ix2 0 ch) = (kArgs m c).ba (ix1 ch) := by
  have e : iblk m c 6 t (ix2 0 ch) = (V m c main_v29 : FVec Ideal S1x256 .f32) (ix2 0 ch) := by
    blk_ext [iblk, idx t]
  rw [e, host_v29]
  pointwise

/-- The second gate's bias. -/
theorem b8 (c : Dev nD) (t : Fin cfg0.N) (ch : Fin 256) :
    iblk m c 8 t (ix2 0 ch) = (kArgs m c).bi (ix1 ch) := by
  have e : iblk m c 8 t (ix2 0 ch) = (V m c main_v56 : FVec Ideal S1x256 .f32) (ix2 0 ch) := by
    blk_ext [iblk, idx t]
  rw [e, host_v56]
  pointwise

/-- The decay's parameter. -/
theorem b9 (c : Dev nD) (t : Fin cfg0.N) (ch : Fin 256) :
    iblk m c 9 t (ix2 0 ch) = (kArgs m c).lam (ix1 ch) := by
  have e : iblk m c 9 t (ix2 0 ch) = (V m c main_v57 : FVec Ideal S1x256 .f32) (ix2 0 ch) := by
    blk_ext [iblk, idx t]
  rw [e, host_v57]
  pointwise

/-- Narrowing an array leaves its entries. -/
theorem narrow_at (x : FVec Ideal S256x256 .f32) (h : FTy.bf16.bits < FTy.f32.bits) (i : S256x256.Idx) :
    (truncf .bf16 x h : FVec Ideal S256x256 .bf16) i = x i := rfl

/-- The first gate's matrix. -/
theorem b5 (c : Dev nD) (t : Fin cfg0.N) (r l : Fin 256) :
    iblk m c 5 t (ix2 r l) = if r.val / 64 = l.val / 64
        then (kArgs m c).wa (ix3 (⟨l.val / 64, by omega⟩ : Fin 4) ⟨r.val % 64, Nat.mod_lt _ (by decide)⟩ ⟨l.val % 64, Nat.mod_lt _ (by decide)⟩)
        else 0 := by
  have e : iblk m c 5 t (ix2 r l) = (V m c main_v28 : FVec Ideal S256x256 .bf16) (ix2 r l) := by
    blk_ext [iblk, idx t]
  exact e.trans ((congrFun (host_v28 m c) (ix2 r l)).trans ((narrow_at _ _ _).trans (diag_at (kArgs m c).wa r l)))

/-- The second gate's matrix. -/
theorem b7 (c : Dev nD) (t : Fin cfg0.N) (r l : Fin 256) :
    iblk m c 7 t (ix2 r l) = if r.val / 64 = l.val / 64
        then (kArgs m c).wi (ix3 (⟨l.val / 64, by omega⟩ : Fin 4) ⟨r.val % 64, Nat.mod_lt _ (by decide)⟩ ⟨l.val % 64, Nat.mod_lt _ (by decide)⟩)
        else 0 := by
  have e : iblk m c 7 t (ix2 r l) = (V m c main_v55 : FVec Ideal S256x256 .bf16) (ix2 r l) := by
    blk_ext [iblk, idx t]
  exact e.trans ((congrFun (host_v55 m c) (ix2 r l)).trans ((narrow_at _ _ _).trans (diag_at (kArgs m c).wi r l)))

end Cert.RgLru
-- ==== Proof.RgLru.Scalars.lean ====
module

public import Idealize.ShloMosaic.Lib.Pipeline.ValueKit
public import Idealize.ShloMosaic.Lib.IdealHost

@[expose] public section

/-!
The scalar facts of the gated linear recurrence, over the extended reals: the decay of a step lies in [0, 1], so a
product with it distributes over every sum, infinite terms included, and one minus the squared decay has the two forms
that the two programs write.
-/

noncomputable section

namespace Cert.RgLru

open Idealize.ShloMosaic

/-- The f32 word of minus eight. -/
theorem word_neg_eight : Ideal.ofBits .f32 0xC1000000#32 = ((-8 : ℝ) : EReal) := by
  simp [Ideal.ofBits, Ideal.ieee, -EReal.coe_mul, -EReal.coe_neg]; norm_num

/-- The f32 word of two. -/
theorem word_two : Ideal.ofBits .f32 0x40000000#32 = ((2 : ℝ) : EReal) := by
  simp [Ideal.ofBits, Ideal.ieee, -EReal.coe_mul, -EReal.coe_neg]; norm_num

/-- An exponential is never negative. -/
theorem exp_nonneg (x : EReal) : 0 ≤ Ideal.exp x := by
  induction x using EReal.rec with
  | bot => simp
  | top => simp
  | coe r => rw [Ideal.exp_coe]; exact_mod_cast (Real.exp_pos r).le

/-- The exponential of a value that is not positive is at most one. -/
theorem exp_le_one {x : EReal} (h : x ≤ 0) : Ideal.exp x ≤ 1 := by
  induction x using EReal.rec with
  | bot => simp
  | top => simp at h
  | coe r =>
    rw [Ideal.exp_coe]
    have h' : r ≤ 0 := by exact_mod_cast h
    exact_mod_cast Real.exp_le_one_iff.2 h'

/-- The logarithm of a value of at least one is not negative. -/
theorem log_nonneg {x : EReal} (h : 1 ≤ x) : 0 ≤ Ideal.log x := by
  induction x using EReal.rec with
  | bot => exact absurd h (by rw [not_le]; exact EReal.bot_lt_coe 1)
  | top => exact le_top
  | coe r =>
    have h' : 1 ≤ r := by exact_mod_cast h
    show 0 ≤ (if r ≤ 0 then (⊥ : EReal) else (Real.log r : EReal))
    rw [if_neg (by linarith)]
    exact_mod_cast Real.log_nonneg h'

/-- The logistic function is never negative. -/
theorem sigmoid_nonneg (x : EReal) : 0 ≤ Ideal.div 1 (1 + Ideal.exp x) := by
  have h0 : (0 : EReal) < 1 + Ideal.exp x :=
    lt_of_lt_of_le zero_lt_one (by simpa using add_le_add_right (exp_nonneg x) 1)
  unfold Ideal.div
  rw [if_neg h0.ne', one_mul]
  exact EReal.inv_nonneg_of_nonneg h0.le

/-- The softplus of a value, in the form that does not overflow, is never negative. -/
theorem softplus_nonneg (y : EReal) : 0 ≤ max y 0 + Ideal.log1p (Ideal.exp (0 - max y (-y))) := by
  refine add_nonneg (le_max_right _ _) (log_nonneg ?_)
  simpa using add_le_add_right (exp_nonneg (0 - max y (-y))) 1

/-- The logarithm of a step's decay is not positive. -/
theorem log_decay_nonpos {r s : EReal} (hr : 0 ≤ r) (hs : 0 ≤ s) :
    Ideal.ofBits .f32 0xC1000000#32 * r * s ≤ 0 := by
  have h8 : Ideal.ofBits .f32 0xC1000000#32 ≤ 0 := by
    rw [word_neg_eight]; exact_mod_cast (by norm_num : (-8 : ℝ) ≤ 0)
  have h1 : Ideal.ofBits .f32 0xC1000000#32 * r ≤ 0 := by
    rw [mul_comm]; exact EReal.mul_nonpos_iff.2 (Or.inl ⟨hr, h8⟩)
  rw [mul_comm]; exact EReal.mul_nonpos_iff.2 (Or.inl ⟨hs, h1⟩)

/-- One minus the squared decay, from the hyperbolic tangent of the decay's logarithm: for a logarithm that is not
    positive, minus infinity included. -/
theorem one_sub_sq {l : EReal} (h : l ≤ 0) :
    (0 - Ideal.tanh l) * (Ideal.exp (Ideal.ofBits .f32 0x40000000#32 * l) + 1)
      = -(Ideal.expm1 (Ideal.ofBits .f32 0x40000000#32 * l)) := by
  rw [word_two]
  induction l using EReal.rec with
  | bot =>
    rw [EReal.coe_mul_bot_of_pos (by norm_num)]
    simp [Ideal.expm1]
  | top => simp at h
  | coe r =>
    rw [← EReal.coe_mul]
    unfold Ideal.expm1
    rw [Ideal.exp_coe, Ideal.tanh_coe, ← EReal.coe_zero, ← EReal.coe_one, ← EReal.coe_sub, ← EReal.coe_sub, ← EReal.coe_add,
      ← EReal.coe_mul, ← EReal.coe_neg]
    congr 1
    rw [Real.tanh_eq_sinh_div_cosh, Real.sinh_eq, Real.cosh_eq]
    have hp : Real.exp (2 * r) = Real.exp r * Real.exp r := by rw [← Real.exp_add]; congr 1; ring
    have hn : Real.exp (-r) = (Real.exp r)⁻¹ := Real.exp_neg r
    have h0 : Real.exp r ≠ 0 := (Real.exp_pos r).ne'
    have h1 : Real.exp r * Real.exp r + 1 ≠ 0 := by positivity
    rw [hp, hn]
    field_simp
    ring

/-- A factor in [0, 1] distributes over a sum of any two extended reals. -/
theorem unit_mul_add {a : EReal} (h0 : 0 ≤ a) (h1 : a ≤ 1) (x y : EReal) : a * (x + y) = a * x + a * y :=
  EReal.left_distrib_of_nonneg_of_ne_top h0 (ne_top_of_le_ne_top (EReal.coe_ne_top 1) h1) x y

end Cert.RgLru
-- ==== Proof.RgLru.Scan.lean ====
module

public import proofs.«01_k».proof.Proof.Gen.KernelIdeal.Skeleton
public import proofs.«01_k».proof.Proof.RgLru.Scalars

@[expose] public section

/-!
The scan over a chunk of eight steps: the prefix combination in three doublings of the shift equals the recurrence
taken one step after the other.
-/

set_option maxRecDepth 16384

noncomputable section

namespace Cert.RgLru

open Idealize.ShloMosaic
open Cert.KernelIdeal Cert.KernelIdeal.Gen

/-- The second factor of a step's update, as the kernel's body writes it. -/
def pushed (v30 v52 v64 : FVec Ideal S8x256 .f32) (v69 : Vec Ideal S1x256 .f32) (r : Fin 8) (l : Fin 256) : EReal :=
  Ideal.sqrt (max ((0 - Ideal.tanh (k0_pay12 v52 v69 (ix2 r l)))
      * (Ideal.exp (Ideal.ofBits .f32 0x40000000#32 * k0_pay12 v52 v69 (ix2 r l)) + 1)) 0)
    * (Ideal.div 1 (v64 (ix2 r l)) * v30 (ix2 r l))

/-- Doubling by one, the multipliers. -/
theorem one_mul (v52 : FVec Ideal S8x256 .f32) (v69 : Vec Ideal S1x256 .f32) (r : Fin 8) (l : Fin 256) :
    k0_pay16 v52 v69 (ix2 r l) = if 1 ≤ r.val
      then k0_pay13 v52 v69 (ix2 r l) * k0_pay13 v52 v69 (ix2 ⟨(r.val + 8 - 1) % 8, Nat.mod_lt _ (by decide)⟩ l)
      else k0_pay13 v52 v69 (ix2 r l) := by
  pointwise [k0_pay16, k0_pay14]
  fin_cases r <;> rfl

/-- Doubling by one, the summands. -/
theorem one_add (v30 v52 v64 : FVec Ideal S8x256 .f32) (v69 : Vec Ideal S1x256 .f32) (r : Fin 8) (l : Fin 256) :
    k0_pay15 v30 v52 v64 (FloatOps.ofBits FTy.f32 1065353216#32) v69 (ix2 r l) = if 1 ≤ r.val
      then k0_pay13 v52 v69 (ix2 r l) * pushed v30 v52 v64 v69 ⟨(r.val + 8 - 1) % 8, Nat.mod_lt _ (by decide)⟩ l
        + pushed v30 v52 v64 v69 r l
      else pushed v30 v52 v64 v69 r l := by
  unfold pushed
  pointwise [k0_pay15, k0_pay14]
  fin_cases r <;> rfl

/-- A select on "the row is at least two" is the choice by the row. -/
theorem pick_two {α : Type} (r : ℕ) (hr : r < 8) (x y : α) :
    Scalar.select (IntOp.cmpi .sge (BitVec.ofNat 32 r) 2#32) x y = if 2 ≤ r then x else y := by
  interval_cases r <;> rfl

/-- A select on "the row is at least four" is the choice by the row. -/
theorem pick_four {α : Type} (r : ℕ) (hr : r < 8) (x y : α) :
    Scalar.select (IntOp.cmpi .sge (BitVec.ofNat 32 r) 4#32) x y = if 4 ≤ r then x else y := by
  interval_cases r <;> rfl

/-- One chunk, at any step: the three doublings and the incoming state give the recurrence. -/
theorem chunk (A B : FVec Ideal S8x256 .f32) (h0 : Vec Ideal S1x256 .f32) (a b : Fin 8 → EReal) (l : Fin 256)
    (ha : ∀ i, 0 ≤ a i) (ha1 : ∀ i, a i ≤ 1)
    (hA : ∀ r : Fin 8, A (ix2 r l) = if 1 ≤ r.val then a r * a ⟨(r.val + 8 - 1) % 8, Nat.mod_lt _ (by decide)⟩ else a r)
    (hB : ∀ r : Fin 8, B (ix2 r l) = if 1 ≤ r.val then a r * b ⟨(r.val + 8 - 1) % 8, Nat.mod_lt _ (by decide)⟩ + b r else b r)
    (h : ℕ → EReal) (hz : h 0 = h0 (ix2 0 l)) (hs : ∀ r : Fin 8, h (r.val + 1) = a r * h r.val + b r) (r : Fin 8) :
    k0_pay19 (iota .tc S8x256 32 [0] iota_S8x256_d0_w32) B A (dynamicRotate 0 2#32 none A rotates_S8x256_d0)
      (dynamicRotate 0 2#32 none B rotates_S8x256_d0) h0 (ix2 r l) = h (r.val + 1) := by
  have D : ∀ i x y, a i * (x + y) = a i * x + a i * y := fun i => unit_mul_add (ha i) (ha1 i)
  have h1 : h 1 = a 0 * h 0 + b 0 := hs 0
  have h2 : h 2 = a 1 * h 1 + b 1 := hs 1
  have h3 : h 3 = a 2 * h 2 + b 2 := hs 2
  have h4 : h 4 = a 3 * h 3 + b 3 := hs 3
  have h5 : h 5 = a 4 * h 4 + b 4 := hs 4
  have h6 : h 6 = a 5 * h 5 + b 5 := hs 5
  have h7 : h 7 = a 6 * h 6 + b 6 := hs 6
  have h8 : h 8 = a 7 * h 7 + b 7 := hs 7
  pointwise [k0_pay19]
  simp (disch := omega) only [pick_two, pick_four, hA, hB]
  fin_cases r
  all_goals
    simp only [Nat.reduceAdd, Nat.reduceSub, Nat.reduceMod, Nat.reduceLeDiff, if_true, if_false, Fin.reduceFinMk, Fin.zero_eta, Fin.mk_one,
      h1, h2, h3, h4, h5, h6, h7, h8, hz, D, mul_assoc, add_assoc]
end Cert.RgLru
-- ==== Proof.RgLru.Body.lean ====
module

public import proofs.«01_k».proof.Proof.RgLru.Scan
public import proofs.«01_k».proof.Proof.RgLru.Spec
public import proofs.«01_k».proof.Proof.RgLru.Gates

@[expose] public section

/-!
The body's values at a row and a channel, from what it loads: the convolution, the gates, the decay, the drive, and the
states of the chunk.
-/

set_option maxRecDepth 16384

noncomputable section

namespace Cert.RgLru

open Idealize.ShloMosaic
open Cert.KernelIdeal Cert.KernelIdeal.Gen

/-- The convolution, from the four shifted loads, the taps and the bias. -/
theorem body_conv (A : Args) (g : Fin 32) (v8 v12 v17 v22 : Vec Ideal S8x256 .f32) (v9 v13 v18 v23 v27 : Vec Ideal S1x256 .f32)
    (h8 : ∀ (r : Fin 8) ch, v8 (ix2 r ch) = A.row g r.val ch) (h12 : ∀ (r : Fin 8) ch, v12 (ix2 r ch) = A.row g (r.val + 1) ch)
    (h17 : ∀ (r : Fin 8) ch, v17 (ix2 r ch) = A.row g (r.val + 2) ch) (h22 : ∀ (r : Fin 8) ch, v22 (ix2 r ch) = A.row g (r.val + 3) ch)
    (h9 : ∀ ch, v9 (ix2 0 ch) = A.cw (ix2 0 ch)) (h13 : ∀ ch, v13 (ix2 0 ch) = A.cw (ix2 1 ch))
    (h18 : ∀ ch, v18 (ix2 0 ch) = A.cw (ix2 2 ch)) (h23 : ∀ ch, v23 (ix2 0 ch) = A.cw (ix2 3 ch))
    (h27 : ∀ ch, v27 (ix2 0 ch) = A.cb (ix1 ch)) (r : Fin 8) (ch : Fin 256) :
    k0_pay6 (k0_pay4 v8 v9 v12 v13 v17 v18 v22 v23) (k0_pay5 v27) (ix2 r ch) = A.conv g r.val ch := by
  unfold Args.conv
  pointwise [k0_pay6, k0_pay4, k0_pay5]
  simp only [h8, h12, h17, h22, h9, h13, h18, h23, h27]

/-- A gate's product with the block-diagonal matrix, and the bias. -/
theorem gate_sum (x : Fin 256 → EReal) (w : FVec Ideal ⟨3, ![4, 64, 64]⟩ .f32) (b : FVec Ideal ⟨1, ![256]⟩ .f32)
    (W : Fin 256 → Fin 256 → EReal) (hW : ∀ r l : Fin 256, W r l = if r.val / 64 = l.val / 64
        then w (ix3 (⟨l.val / 64, by omega⟩ : Fin 4) ⟨r.val % 64, Nat.mod_lt _ (by decide)⟩ ⟨l.val % 64, Nat.mod_lt _ (by decide)⟩)
        else 0) (ch : Fin 256) : (∑ k : Fin 256, x k * W k ch) + b (ix1 ch) = mixed w b x ch := by
  unfold mixed
  rw [← block_sum x w ch]
  exact congrArg (· + b (ix1 ch)) (Finset.sum_congr rfl fun k _ => by rw [hW])

/-- The first gate. -/
theorem body_gate (A : Args) (g : Fin 32) (v26 v29 : FVec Ideal S8x256 .f32) (v39 : Vec Ideal S256x256 .bf16) (v42 : Vec Ideal S1x256 .f32)
    (hx : ∀ (r : Fin 8) ch, k0_pay6 v26 v29 (ix2 r ch) = A.conv g r.val ch)
    (hW : ∀ r l : Fin 256, v39 (ix2 r l) = if r.val / 64 = l.val / 64
        then A.wa (ix3 (⟨l.val / 64, by omega⟩ : Fin 4) ⟨r.val % 64, Nat.mod_lt _ (by decide)⟩ ⟨l.val % 64, Nat.mod_lt _ (by decide)⟩)
        else 0) (hb : ∀ ch, v42 (ix2 0 ch) = A.ba (ix1 ch)) (r : Fin 8) (ch : Fin 256) :
    k0_pay10 v26 v29 v39 v42 (ix2 r ch) = squash (mixed A.wa A.ba (A.conv g r.val) ch) := by
  rw [← gate_sum (A.conv g r.val) A.wa A.ba (fun r l => v39 (ix2 r l)) hW ch]
  unfold squash
  pointwise [k0_pay10, k0_pay9]
  simp only [hx, hb]

/-- The second gate's denominator. -/
theorem body_gate' (A : Args) (g : Fin 32) (v26 v29 : FVec Ideal S8x256 .f32) (v53 : Vec Ideal S256x256 .bf16) (v56 : Vec Ideal S1x256 .f32)
    (hx : ∀ (r : Fin 8) ch, k0_pay6 v26 v29 (ix2 r ch) = A.conv g r.val ch)
    (hW : ∀ r l : Fin 256, v53 (ix2 r l) = if r.val / 64 = l.val / 64
        then A.wi (ix3 (⟨l.val / 64, by omega⟩ : Fin 4) ⟨r.val % 64, Nat.mod_lt _ (by decide)⟩ ⟨l.val % 64, Nat.mod_lt _ (by decide)⟩)
        else 0) (hb : ∀ ch, v56 (ix2 0 ch) = A.bi (ix1 ch)) (r : Fin 8) (ch : Fin 256) :
    Ideal.div 1 (k0_pay11 v26 v29 v53 v56 (ix2 r ch)) = squash (mixed A.wi A.bi (A.conv g r.val) ch) := by
  rw [← gate_sum (A.conv g r.val) A.wi A.bi (fun r l => v53 (ix2 r l)) hW ch]
  unfold squash
  pointwise [k0_pay11, k0_pay9]
  simp only [hx, hb]

/-- The logarithm of the decay. -/
theorem body_log (A : Args) (g : Fin 32) (v52 : FVec Ideal S8x256 .f32) (v69 : Vec Ideal S1x256 .f32)
    (h52 : ∀ (r : Fin 8) ch, v52 (ix2 r ch) = squash (mixed A.wa A.ba (A.conv g r.val) ch))
    (h69 : ∀ ch, v69 (ix2 0 ch) = A.lam (ix1 ch)) (r : Fin 8) (ch : Fin 256) :
    k0_pay12 v52 v69 (ix2 r ch) = A.logDecay g r.val ch := by
  unfold Args.logDecay softplus
  pointwise [k0_pay12]
  simp only [h52, h69]
  rfl

/-- The decay's logarithm is at most zero. -/
theorem logDecay_le (A : Args) (g : Fin 32) (t : ℕ) (ch : Fin 256) : A.logDecay g t ch ≤ 0 :=
  log_decay_nonpos (by unfold squash; rw [zero_sub]; exact sigmoid_nonneg _) (softplus_nonneg _)

/-- What a step adds. -/
theorem body_drive (A : Args) (g : Fin 32) (v30 v52 v64 : FVec Ideal S8x256 .f32) (v69 : Vec Ideal S1x256 .f32)
    (h30 : ∀ (r : Fin 8) ch, v30 (ix2 r ch) = A.conv g r.val ch)
    (h64 : ∀ (r : Fin 8) ch, Ideal.div 1 (v64 (ix2 r ch)) = squash (mixed A.wi A.bi (A.conv g r.val) ch))
    (hl : ∀ (r : Fin 8) ch, k0_pay12 v52 v69 (ix2 r ch) = A.logDecay g r.val ch) (r : Fin 8) (ch : Fin 256) :
    pushed v30 v52 v64 v69 r ch = A.drive g r.val ch := by
  unfold pushed Args.drive
  rw [hl, h30, h64, one_sub_sq (logDecay_le A g r.val ch)]

/-- The states of the chunk. -/
theorem body_state (A : Args) (g : Fin 32) (v30 v52 v64 : FVec Ideal S8x256 .f32) (v69 h0 : Vec Ideal S1x256 .f32)
    (h30 : ∀ (r : Fin 8) ch, v30 (ix2 r ch) = A.conv g r.val ch)
    (h64 : ∀ (r : Fin 8) ch, Ideal.div 1 (v64 (ix2 r ch)) = squash (mixed A.wi A.bi (A.conv g r.val) ch))
    (h52 : ∀ (r : Fin 8) ch, v52 (ix2 r ch) = squash (mixed A.wa A.ba (A.conv g r.val) ch))
    (h69 : ∀ ch, v69 (ix2 0 ch) = A.lam (ix1 ch)) (hh : ∀ ch, h0 (ix2 0 ch) = A.h0 (ix2 g ch)) (r : Fin 8) (ch : Fin 256) :
    k0_pay19 (iota .tc S8x256 32 [0] iota_S8x256_d0_w32) (k0_pay15 v30 v52 v64 (FloatOps.ofBits FTy.f32 1065353216#32) v69)
      (k0_pay16 v52 v69) (k0_pay17 v52 v69) (k0_pay18 v30 v52 v64 (FloatOps.ofBits FTy.f32 1065353216#32) v69) h0 (ix2 r ch)
      = A.state g (r.val + 1) ch := by
  have hl := body_log A g v52 v69 h52 h69
  have ea : ∀ r : Fin 8, k0_pay13 v52 v69 (ix2 r ch) = Ideal.exp (A.logDecay g r.val ch) := fun r => by
    rw [← hl]; rfl
  have eb : ∀ r : Fin 8, pushed v30 v52 v64 v69 r ch = A.drive g r.val ch := fun r =>
    body_drive A g v30 v52 v64 v69 h30 h64 hl r ch
  exact chunk (k0_pay16 v52 v69) (k0_pay15 v30 v52 v64 (FloatOps.ofBits FTy.f32 1065353216#32) v69) h0
    (fun r => Ideal.exp (A.logDecay g r.val ch)) (fun r => A.drive g r.val ch) ch
    (fun r => exp_nonneg _) (fun r => exp_le_one (logDecay_le A g r.val ch))
    (fun r => by rw [one_mul]; simp only [ea])
    (fun r => by rw [one_add]; simp only [ea, eb])
    (fun n => A.state g n ch) (hh ch).symm (fun r => rfl) r

end Cert.RgLru
-- ==== Proof.RgLru.Value.lean ====
module

public import proofs.«01_k».proof.Proof.RgLru.Operands
public import proofs.«01_k».proof.Proof.RgLru.Body

@[expose] public section

/-!
What a grid point's rows, convolution, gates and states hold, entry by entry, over the kernel's arguments.
-/

set_option maxRecDepth 16384

noncomputable section

namespace Cert.RgLru

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Eight rows of the extended rows from row `5 + k` on: the carried rows below row eight, the new ones from it. -/
theorem ext_row (A : Args) (g : Fin 32) (p8 p0 : FVec Ideal S8x256 .f32) (o k : ℕ) (ho : o = 5 + k) (hk : k ≤ 3) (inb : _)
    (h8 : ∀ (r : Fin 8) (ch : Fin 256), p8 (ix2 r ch) = A.pa (ix2 ⟨g.val * 8 + r.val, by omega⟩ ⟨ch.val, by omega⟩))
    (hr : ∀ (s : Fin 8) (hs : 5 ≤ s.val) (ch : Fin 256), p0 (ix2 s ch) = A.cv (ix3 g ⟨s.val - 5, by omega⟩ ch)) (r : Fin 8) (ch : Fin 256) :
    (View.whole cc0_scratch0).readCov (Val := Elt Ideal) [⟨Rect.unit ![8, 0] ![8, 256] inb_S16x256_S8x256_8_0, p8⟩, ⟨Rect.unit ![0, 0] ![8, 256] inb_S16x256_S8x256_0_0, p0⟩]
      (Rect.unit (s := S16x256) ![o, 0] ![8, 256] inb).toLoadRect (ix2 r ch) = A.row g (r.val + k) ch := by
  rw [View.readCov_eq_canon']
  have e0 : ((Rect.unit (s := S16x256) ![o, 0] ![8, 256] inb).toLoadRect.idx (ix2 r ch) 0).val = o + r.val := by
    exact Rect.idx_unit_val ..
  have e1 : ((Rect.unit (s := S16x256) ![o, 0] ![8, 256] inb).toLoadRect.idx (ix2 r ch) 1).val = ch.val := by
    exact (Rect.idx_unit_val ..).trans (Nat.zero_add _)
  show View.canon _ ((Rect.unit (s := S16x256) ![o, 0] ![8, 256] inb).toLoadRect.idx (ix2 r ch)) = _
  generalize (Rect.unit (s := S16x256) ![o, 0] ![8, 256] inb).toLoadRect.idx (ix2 r ch) = y at e0 e1 ⊢
  canon_tiles x h
  · obtain ⟨r', ch', rfl⟩ : ∃ (r' : Fin 8) (ch' : Fin 256), x = ix2 r' ch' := ⟨x 0, x 1, eq_ix2 x⟩
    have er : (y 0).val = 8 + r'.val := h0
    have ec : (y 1).val = ch'.val := h1
    unfold Args.row
    rw [dif_neg (by omega), dif_pos (by omega), h8 r' ch']
    exact congrArg A.pa (congrArg₂ ix2 (Fin.ext (by first | omega | (dsimp only; omega))) (Fin.ext (by first | omega | (dsimp only; omega))))
  · obtain ⟨r', ch', rfl⟩ : ∃ (r' : Fin 8) (ch' : Fin 256), x = ix2 r' ch' := ⟨x 0, x 1, eq_ix2 x⟩
    have er : (y 0).val = r'.val := h0
    have ec : (y 1).val = ch'.val := h1
    unfold Args.row
    rw [dif_pos (by omega), hr r' (by omega) ch']
    exact congrArg A.cv (congrArg₂ (ix3 g) (Fin.ext (by first | omega | (dsimp only; omega))) (Fin.ext (by first | omega | (dsimp only; omega))))

/-- Storing the rows changes no entry. -/
theorem pay3_at (v : Vec Ideal S8x256 .f32) (r : Fin 8) (ch : Fin 256) : k0_pay3 v (ix2 r ch) = v (ix2 r ch) := by
  pointwise [k0_pay3]

/-- The same entry of the states, from equal coordinates. -/
theorem state_congr (A : Args) {g g' : Fin 32} {n n' : ℕ} {ch ch' : Fin 256} (hg : g.val = g'.val) (hn : n = n') (hc : ch.val = ch'.val) :
    A.state g n ch = A.state g' n' ch' := by
  obtain rfl := Fin.ext hg
  obtain rfl := Fin.ext hc
  rw [hn]

/-- The same entry of the rows, from equal coordinates. -/
theorem row_congr (A : Args) {g g' : Fin 32} {n n' : ℕ} {ch ch' : Fin 256} (hg : g.val = g'.val) (hn : n = n') (hc : ch.val = ch'.val) :
    A.row g n ch = A.row g' n' ch' := by
  obtain rfl := Fin.ext hg
  obtain rfl := Fin.ext hc
  rw [hn]

/-- Rows `5 + k` to `12 + k` of the extended rows at a grid point. -/
def ext (c : Dev nD) (t : Fin cfg0.N) (o : ℕ) (inb : ∀ a : Fin S16x256.rank, ![o, 0] a + ![8, 256] a ≤ S16x256.size a) : Vec Ideal S8x256 .f32 :=
  (View.whole cc0_scratch0).readCov (Val := Elt Ideal) [⟨Rect.unit ![8, 0] ![8, 256] inb_S16x256_S8x256_8_0, k0_pay3 (View.ld (iblk m c 0 t) (Rect.unit ![0, 0] ![8, 256] inb_S8x512_S8x256_0_0))⟩,
    ⟨Rect.unit ![0, 0] ![8, 256] inb_S16x256_S8x256_0_0, k0_pay1 (iblk m c 1 t)⟩] (Rect.unit (s := S16x256) ![o, 0] ![8, 256] inb).toLoadRect

/-- The extended rows at a grid point are the sequence's rows. -/
theorem ext_at (c : Dev nD) (t : Fin cfg0.N) (o k : ℕ) (ho : o = 5 + k) (hk : k ≤ 3) (inb : _) (r : Fin 8) (ch : Fin 256) :
    ext m c t o inb (ix2 r ch) = (kArgs m c).row (seqOf t) (r.val + k) ch := by
  refine ext_row (kArgs m c) (seqOf t) _ _ o k ho hk inb (fun r ch => ?_) (fun s hs ch => ?_) r ch
  · rw [← b0 m c t r ⟨ch.val, by omega⟩]
    rw [pay3_at]
    exact View.ld_unit_apply_of _ _ _ _ _ _ (fun a => by fin_cases a <;> simp [ix2])
  · rw [← b1 m c t s hs ch]
    pointwise [k0_pay1]

/-- The convolution's sum at a grid point. -/
def convV (c : Dev nD) (t : Fin cfg0.N) : FVec Ideal S8x256 .f32 :=
  k0_pay4 (ext m c t 5 inb_S16x256_S8x256_5_0) (View.ld (iblk m c 3 t) (Rect.unit ![0, 0] ![1, 256] inb_S4x256_S1x256_0_0))
    (ext m c t 6 inb_S16x256_S8x256_6_0) (View.ld (iblk m c 3 t) (Rect.unit ![1, 0] ![1, 256] inb_S4x256_S1x256_1_0))
    (ext m c t 7 inb_S16x256_S8x256_7_0) (View.ld (iblk m c 3 t) (Rect.unit ![2, 0] ![1, 256] inb_S4x256_S1x256_2_0))
    (ext m c t 8 inb_S16x256_S8x256_8_0) (View.ld (iblk m c 3 t) (Rect.unit ![3, 0] ![1, 256] inb_S4x256_S1x256_3_0))

/-- A row of the taps' block, loaded. -/
theorem tap_at (c : Dev nD) (t : Fin cfg0.N) (k : Fin 4) (inb : _) (ch : Fin 256) :
    View.ld (iblk m c 3 t) (Rect.unit (s := S4x256) ![k.val, 0] ![1, 256] inb) (ix2 0 ch) = (kArgs m c).cw (ix2 k ch) := by
  rw [← b3 m c t k ch]
  exact View.ld_unit_apply_of _ _ _ _ _ _ (fun a => by fin_cases a <;> simp [ix2])

/-- The convolution at a grid point. -/
theorem conv_at (c : Dev nD) (t : Fin cfg0.N) (r : Fin 8) (ch : Fin 256) :
    k0_pay6 (convV m c t) (k0_pay5 (iblk m c 4 t)) (ix2 r ch) = (kArgs m c).conv (seqOf t) r.val ch :=
  body_conv (kArgs m c) (seqOf t) _ _ _ _ _ _ _ _ _
    (fun r ch => ext_at m c t 5 0 rfl (by decide) _ r ch) (fun r ch => ext_at m c t 6 1 rfl (by decide) _ r ch)
    (fun r ch => ext_at m c t 7 2 rfl (by decide) _ r ch) (fun r ch => ext_at m c t 8 3 rfl (by decide) _ r ch)
    (fun ch => tap_at m c t 0 _ ch) (fun ch => tap_at m c t 1 _ ch) (fun ch => tap_at m c t 2 _ ch) (fun ch => tap_at m c t 3 _ ch)
    (fun ch => b4 m c t ch) r ch

/-- The states of a grid point. -/
def stateV (c : Dev nD) (t : Fin cfg0.N) : FVec Ideal S8x256 .f32 :=
  k0_pay19 (iota .tc S8x256 32 [0] iota_S8x256_d0_w32)
    (k0_pay15 (k0_pay6 (convV m c t) (k0_pay5 (iblk m c 4 t))) (k0_pay10 (convV m c t) (k0_pay5 (iblk m c 4 t)) (iblk m c 5 t) (iblk m c 6 t))
      (k0_pay11 (convV m c t) (k0_pay5 (iblk m c 4 t)) (iblk m c 7 t) (iblk m c 8 t)) (FloatOps.ofBits FTy.f32 1065353216#32) (iblk m c 9 t))
    (k0_pay16 (k0_pay10 (convV m c t) (k0_pay5 (iblk m c 4 t)) (iblk m c 5 t) (iblk m c 6 t)) (iblk m c 9 t))
    (k0_pay17 (k0_pay10 (convV m c t) (k0_pay5 (iblk m c 4 t)) (iblk m c 5 t) (iblk m c 6 t)) (iblk m c 9 t))
    (k0_pay18 (k0_pay6 (convV m c t) (k0_pay5 (iblk m c 4 t))) (k0_pay10 (convV m c t) (k0_pay5 (iblk m c 4 t)) (iblk m c 5 t) (iblk m c 6 t))
      (k0_pay11 (convV m c t) (k0_pay5 (iblk m c 4 t)) (iblk m c 7 t) (iblk m c 8 t)) (FloatOps.ofBits FTy.f32 1065353216#32) (iblk m c 9 t))
    (k0_pay2 (iblk m c 2 t))

/-- The states of a grid point are the recurrence's. -/
theorem state_at (c : Dev nD) (t : Fin cfg0.N) (r : Fin 8) (ch : Fin 256) :
    stateV m c t (ix2 r ch) = (kArgs m c).state (seqOf t) (r.val + 1) ch :=
  body_state (kArgs m c) (seqOf t) _ _ _ _ _ (conv_at m c t)
    (body_gate' (kArgs m c) (seqOf t) _ _ _ _ (conv_at m c t) (b7 m c t) (b8 m c t))
    (body_gate (kArgs m c) (seqOf t) _ _ _ _ (conv_at m c t) (b5 m c t) (b6 m c t))
    (b9 m c t) (fun ch => by rw [← b2 m c t ch]; pointwise [k0_pay2]) r ch

end Cert.RgLru
-- ==== Proof.RgLru.Finals.lean ====
module

public import proofs.«01_k».proof.Proof.RgLru.Value

@[expose] public section

/-!
The kernel's three results after the run, entry by entry, over its arguments.
-/

set_option maxRecDepth 16384

noncomputable section

namespace Cert.RgLru

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The last state as the kernel stores it. -/
theorem last_at (v96 : IVec S8x256 32) (v105 v107 v108 v109 : FVec Ideal S8x256 .f32) (v126 : Vec Ideal S1x256 .f32) (ch : Fin 256) :
    k0_pay22 v96 v105 v107 v108 v109 v126 (ix3 0 0 ch) = k0_pay19 v96 v105 v107 v108 v109 v126 (ix2 7 ch) := by
  unfold k0_pay22 k0_pay20
  generalize k0_pay19 v96 v105 v107 v108 v109 v126 = x
  pointwise

/-- The state after the chunk, at every grid point. -/
theorem final_h (c : Dev nD) : (dats m 0 c).arrAt 12 (cfgs 0).N
    = fun i => (kArgs m c).state ⟨(i 0).val, (i 0).isLt⟩ 8 ⟨(i 2).val, (i 2).isLt⟩ := by
  refine (dats m 0 c).arrAt_eq_of_covers 12 _ (by decide +kernel) fun t _ y => ?_
  blk_simp
  rw [after0_12]
  unfold outsAt0
  frame_out
  obtain ⟨ch, rfl⟩ : ∃ ch : Fin 256, y = ix3 0 0 ch := ⟨y 2, by
    funext a; fin_cases a
    · exact Subsingleton.elim (α := Fin 1) _ _
    · exact Subsingleton.elim (α := Fin 1) _ _
    · rfl⟩
  refine (last_at _ _ _ _ _ _ ch).trans ((state_at m c t 7 ch).trans ?_)
  obtain ⟨-, -, -, -, -, -, -, -, -, -, -, -, e⟩ := idx t
  refine state_congr _ ?_ rfl ?_
  · exact (congrFun e 0).symm
  · show ch.val = win0_12.index t 2 * 256 + ch.val
    have e2 : win0_12.index t 2 = 0 := congrFun e 2
    rw [e2, Nat.zero_mul, Nat.zero_add]

/-- A row's coordinate in the block of eight rows at the origin. -/
theorem mid (r a b : ℕ) (ha : a = 0) (hb : b = r) : r + 3 = a * 8 + b + 3 := by omega

/-- A channel's coordinate in the block of all channels. -/
theorem tail (r a b : ℕ) (ha : a = 0) (hb : b = r) : r = a * 256 + b := by omega

/-- The rows a point stores, with a leading axis of one. -/
theorem pay8_at (v : Vec Ideal S8x256 .f32) (r : Fin 8) (ch : Fin 256) : k0_pay8 v (ix3 0 r ch) = v (ix2 r ch) := by
  pointwise [k0_pay8]

set_option maxHeartbeats 1600000 in
/-- The rows after the chunk, at every grid point. -/
theorem final_conv (c : Dev nD) : (dats m 0 c).arrAt 11 (cfgs 0).N
    = fun i => (kArgs m c).row ⟨(i 0).val, (i 0).isLt⟩ ((i 1).val + 3) ⟨(i 2).val, (i 2).isLt⟩ := by
  refine (dats m 0 c).arrAt_eq_of_covers 11 _ (by decide +kernel) fun t _ y => ?_
  blk_simp
  rw [after0_11]
  unfold outsAt0
  frame_out
  obtain ⟨r, ch, rfl⟩ : ∃ (r : Fin 8) (ch : Fin 256), y = ix3 0 r ch := ⟨y 1, y 2, by
    funext a; fin_cases a
    · exact Subsingleton.elim (α := Fin 1) _ _
    · rfl
    · rfl⟩
  refine (pay8_at _ r ch).trans ((ext_at m c t 8 3 rfl (by decide) _ r ch).trans ?_)
  obtain ⟨-, -, -, -, -, -, -, -, -, -, -, e, -⟩ := idx t
  refine row_congr _ ?_ ?_ ?_
  · exact (congrFun e 0).symm
  · exact mid _ _ _ (congrFun e 1) rfl
  · exact tail _ _ _ (congrFun e 2) rfl

/-- The gated output of the point's rows. -/
theorem gated_at (v4 : Vec Ideal S8x256 .f32) (v96 : IVec S8x256 32) (v105 v107 v108 v109 : FVec Ideal S8x256 .f32) (v126 : Vec Ideal S1x256 .f32)
    (r : Fin 8) (ch : Fin 256) :
    k0_pay23 v4 v96 v105 v107 v108 v109 v126 (ix2 r ch) = k0_pay19 v96 v105 v107 v108 v109 v126 (ix2 r ch) * curve (v4 (ix2 r ch)) := by
  unfold k0_pay23 curve
  generalize k0_pay19 v96 v105 v107 v108 v109 v126 = x
  pointwise
  rw [mul_comm (Ideal.ofBits .f32 0x3F000000#32) (v4 (ix2 r ch)), mul_assoc (v4 (ix2 r ch))]

/-- The output's entry at row `r` of sequence `g`. -/
theorem out_at (A : Args) (g : Fin 32) (r : Fin 8) (ch : Fin 256) (i ch' : Fin 256) (hb : g.val * 8 + r.val < 256) (hi : i.val = g.val * 8 + r.val) (hc : ch.val = ch'.val) :
    A.state g (r.val + 1) ch * curve (A.pa (ix2 ⟨g.val * 8 + r.val, hb⟩ ⟨256 + ch.val, by omega⟩)) = A.out i ch' := by
  obtain rfl := Fin.ext hc
  obtain rfl : i = (⟨g.val * 8 + r.val, hb⟩ : Fin 256) := Fin.ext hi
  unfold Args.out
  rw [state_congr A (g := g) (g' := ⟨(g.val * 8 + r.val) / 8, by omega⟩) (n' := (g.val * 8 + r.val) % 8 + 1) (ch' := ch) (by dsimp only; omega) (by omega) rfl]

/-- The layer's output, at every grid point. -/
theorem final_y (c : Dev nD) : (dats m 0 c).arrAt 10 (cfgs 0).N
    = fun i => (kArgs m c).out ⟨(i 0).val, (i 0).isLt⟩ ⟨(i 1).val, (i 1).isLt⟩ := by
  refine (dats m 0 c).arrAt_eq_of_covers 10 _ (by decide +kernel) fun t _ y => ?_
  blk_simp
  rw [after0_10]
  unfold outsAt0
  frame_out
  obtain ⟨r, ch, rfl⟩ : ∃ (r : Fin 8) (ch : Fin 256), y = ix2 r ch := ⟨y 0, y 1, eq_ix2 y⟩
  refine (gated_at _ _ _ _ _ _ _ r ch).trans ?_
  refine (congrArg₂ (· * curve ·) (state_at m c t r ch) ((View.ld_unit_apply_of (iblk m c 0 t) ![0, 256] ![8, 256] inb_S8x512_S8x256_0_256 (ix2 r ch)
    (ix2 r ⟨256 + ch.val, by omega⟩) (fun a => by fin_cases a <;> simp [ix2])).trans (b0 m c t r _))).trans ?_
  obtain ⟨-, -, -, -, -, -, -, -, -, -, e, -, -⟩ := idx t
  have e0 : win0_10.index t 0 = t.val := congrFun e 0
  have e1 : win0_10.index t 1 = 0 := congrFun e 1
  exact out_at (kArgs m c) (seqOf t) r ch _ _ _
    (show win0_10.index t 0 * 8 + r.val = t.val * 8 + r.val by rw [e0])
    (show ch.val = win0_10.index t 1 * 256 + ch.val by rw [e1, Nat.zero_mul, Nat.zero_add])

end Cert.RgLru
-- ==== Proof.RgLru.RefValue.lean ====
module

public import proofs.«01_k».proof.Proof.Gen.ReferenceIdeal.Run
public import proofs.«01_k».proof.Proof.RgLru.Spec

@[expose] public section

/-!
The reference's intermediate arrays, entry by entry: they are the recurrence of the specification.
-/

set_option maxRecDepth 16384

noncomputable section

namespace Cert.RgLru

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-- The reference's arguments as the recurrence's. -/
def refArgs : Args where
  pa := V0 (Proc.devRef .tc main_arg0)
  cv := V0 (Proc.devRef .tc main_arg1)
  h0 := V0 (Proc.devRef .tc main_arg2)
  cw := V0 (Proc.devRef .tc main_arg3)
  cb := V0 (Proc.devRef .tc main_arg4)
  wa := V0 (Proc.devRef .tc main_arg5)
  ba := V0 (Proc.devRef .tc main_arg6)
  wi := V0 (Proc.devRef .tc main_arg7)
  bi := V0 (Proc.devRef .tc main_arg8)
  lam := V0 (Proc.devRef .tc main_arg9)

/-- The padded rows. -/
theorem ref_row (g : Fin 32) (s : Fin 11) (ch : Fin 256) : res_main_v3 V0 (ix3 g s ch) = (refArgs V0).row g s.val ch := by
  unfold Args.row refArgs
  pointwise [res_main_v3, res_main_v0]

/-- The convolution. -/
theorem ref_conv (g : Fin 32) (t : Fin 8) (ch : Fin 256) : res_main_v35 V0 (ix3 g t ch) = (refArgs V0).conv g t.val ch := by
  unfold Args.conv
  pointwise [res_main_v35]
  simp only [ref_row, Nat.add_comm _ t.val]
  rfl

/-- The logarithm of the decay. -/
theorem ref_logDecay (g : Fin 32) (t : Fin 8) (ch : Fin 256) : res_main_v67 V0 (ix3 g t ch) = (refArgs V0).logDecay g t.val ch := by
  unfold Args.logDecay mixed squash softplus
  pointwise [res_main_v67, res_main_v36, res_main_v63, res_main_call0_v3, res_main_call0_cst]
  simp only [ref_conv, ne_eq, not_true_eq_false, if_false, zero_sub]
  rfl

/-- What a step adds. -/
theorem ref_drive (g : Fin 32) (t : Fin 8) (ch : Fin 256) : res_main_v77 V0 (ix3 g t ch) = (refArgs V0).drive g t.val ch := by
  unfold Args.drive mixed squash
  pointwise [res_main_v77, res_main_v36]
  simp only [ref_conv, ref_logDecay, zero_sub]
  rfl

/-- The state after step 1. -/
theorem ref_state1 (g : Fin 32) (ch : Fin 256) : res_main_v83 V0 (ix2 g ch) = (refArgs V0).state g 1 ch := by
  unfold Args.state
  pointwise [res_main_v83, res_main_v68]
  simp only [ref_logDecay, ref_drive]
  rfl

/-- The state after step 2. -/
theorem ref_state2 (g : Fin 32) (ch : Fin 256) : res_main_v89 V0 (ix2 g ch) = (refArgs V0).state g 2 ch := by
  unfold Args.state
  pointwise [res_main_v89, res_main_v68]
  simp only [ref_logDecay, ref_drive, ref_state1]
  rfl

/-- The state after step 3. -/
theorem ref_state3 (g : Fin 32) (ch : Fin 256) : res_main_v95 V0 (ix2 g ch) = (refArgs V0).state g 3 ch := by
  unfold Args.state
  pointwise [res_main_v95, res_main_v68]
  simp only [ref_logDecay, ref_drive, ref_state2]
  rfl

/-- The state after step 4. -/
theorem ref_state4 (g : Fin 32) (ch : Fin 256) : res_main_v101 V0 (ix2 g ch) = (refArgs V0).state g 4 ch := by
  unfold Args.state
  pointwise [res_main_v101, res_main_v68]
  simp only [ref_logDecay, ref_drive, ref_state3]
  rfl

/-- The state after step 5. -/
theorem ref_state5 (g : Fin 32) (ch : Fin 256) : res_main_v107 V0 (ix2 g ch) = (refArgs V0).state g 5 ch := by
  unfold Args.state
  pointwise [res_main_v107, res_main_v68]
  simp only [ref_logDecay, ref_drive, ref_state4]
  rfl

/-- The state after step 6. -/
theorem ref_state6 (g : Fin 32) (ch : Fin 256) : res_main_v113 V0 (ix2 g ch) = (refArgs V0).state g 6 ch := by
  unfold Args.state
  pointwise [res_main_v113, res_main_v68]
  simp only [ref_logDecay, ref_drive, ref_state5]
  rfl

/-- The state after step 7. -/
theorem ref_state7 (g : Fin 32) (ch : Fin 256) : res_main_v119 V0 (ix2 g ch) = (refArgs V0).state g 7 ch := by
  unfold Args.state
  pointwise [res_main_v119, res_main_v68]
  simp only [ref_logDecay, ref_drive, ref_state6]
  rfl

/-- The state after step 8. -/
theorem ref_state8 (g : Fin 32) (ch : Fin 256) : res_main_v125 V0 (ix2 g ch) = (refArgs V0).state g 8 ch := by
  unfold Args.state
  pointwise [res_main_v125, res_main_v68]
  simp only [ref_logDecay, ref_drive, ref_state7]
  rfl

/-- The reference's three results. -/
theorem ref_h (g : Fin 32) (ch : Fin 256) : (broadcastInDim S32x1x256 ![0, 2] bcast_S32x256_S32x1x256_0_2 (res_main_v125 V0)) (ix3 g 0 ch) = (refArgs V0).state g 8 ch := by
  pointwise []
  exact ref_state8 V0 g ch

end Cert.RgLru
-- ==== Proof.RgLru.RefResults.lean ====
module

public import proofs.«01_k».proof.Proof.RgLru.RefValue

@[expose] public section

/-!
The reference's three results, entry by entry.
-/

set_option maxRecDepth 16384

noncomputable section

namespace Cert.RgLru

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-- The gate's channel. -/
theorem ref_gate (g : Fin 32) (r : Fin 8) (ch : Fin 256) :
    res_main_v2 V0 (ix3 g r ch) = (refArgs V0).pa (ix2 ⟨g.val * 8 + r.val, by omega⟩ ⟨256 + ch.val, by omega⟩) := by
  unfold refArgs
  pointwise [res_main_v2, res_main_v0]

/-- A ladder over the eight steps picks the step's own value. -/
theorem ladder (f : ℕ → EReal) (n : ℕ) (hn : n < 8) (x : EReal)
    (h : x = if h : n < 1 then f 1 else if h : n - 1 < 1 then f 2 else if h : n - 1 - 1 < 1 then f 3 else if h : n - 1 - 1 - 1 < 1 then f 4
      else if h : n - 1 - 1 - 1 - 1 < 1 then f 5 else if h : n - 1 - 1 - 1 - 1 - 1 < 1 then f 6
      else if h : n - 1 - 1 - 1 - 1 - 1 - 1 < 1 then f 7 else f 8) : x = f (n + 1) := by
  subst h
  interval_cases n <;> rfl

/-- The reference's output. -/
theorem ref_y (i ch : Fin 256) : (shapeCast S256x256 (mulf ((concatenate S32x8x256 1 [⟨S32x1x256, ((broadcastInDim S32x1x256 ![0, 2] bcast_S32x256_S32x1x256_0_2 (res_main_v83 V0)) : (⟨S32x1x256, .f32⟩ : BufTy).Contents (Elt Ideal))⟩, ⟨S32x1x256, ((broadcastInDim S32x1x256 ![0, 2] bcast_S32x256_S32x1x256_0_2 (res_main_v89 V0)) : (⟨S32x1x256, .f32⟩ : BufTy).Contents (Elt Ideal))⟩, ⟨S32x1x256, ((broadcastInDim S32x1x256 ![0, 2] bcast_S32x256_S32x1x256_0_2 (res_main_v95 V0)) : (⟨S32x1x256, .f32⟩ : BufTy).Contents (Elt Ideal))⟩, ⟨S32x1x256, ((broadcastInDim S32x1x256 ![0, 2] bcast_S32x256_S32x1x256_0_2 (res_main_v101 V0)) : (⟨S32x1x256, .f32⟩ : BufTy).Contents (Elt Ideal))⟩, ⟨S32x1x256, ((broadcastInDim S32x1x256 ![0, 2] bcast_S32x256_S32x1x256_0_2 (res_main_v107 V0)) : (⟨S32x1x256, .f32⟩ : BufTy).Contents (Elt Ideal))⟩, ⟨S32x1x256, ((broadcastInDim S32x1x256 ![0, 2] bcast_S32x256_S32x1x256_0_2 (res_main_v113 V0)) : (⟨S32x1x256, .f32⟩ : BufTy).Contents (Elt Ideal))⟩, ⟨S32x1x256, ((broadcastInDim S32x1x256 ![0, 2] bcast_S32x256_S32x1x256_0_2 (res_main_v119 V0)) : (⟨S32x1x256, .f32⟩ : BufTy).Contents (Elt Ideal))⟩, ⟨S32x1x256, ((broadcastInDim S32x1x256 ![0, 2] bcast_S32x256_S32x1x256_0_2 (res_main_v125 V0)) : (⟨S32x1x256, .f32⟩ : BufTy).Contents (Elt Ideal))⟩] concatenates_S32x1x256_S32x1x256_S32x1x256_S32x1x256_S32x1x256_S32x1x256_S32x1x256_S32x1x256_S32x8x256_d1 : (⟨S32x8x256, .f32⟩ : BufTy).Contents (Elt Ideal))) (mulf (res_main_v2 V0) (mulf (broadcastInDim S32x8x256 ![] bcast_S_S32x8x256 (constant S_ .f32 0x3F000000#32)) (addf (broadcastInDim S32x8x256 ![] bcast_S_S32x8x256 (constant S_ .f32 0x3F800000#32)) (Host.tanh (mulf (broadcastInDim S32x8x256 ![] bcast_S_S32x8x256 (constant S_ .f32 0x3F4C422A#32)) (addf (res_main_v2 V0) (mulf (broadcastInDim S32x8x256 ![] bcast_S_S32x8x256 (constant S_ .f32 0x3D372713#32)) (mulf (mulf (res_main_v2 V0) (res_main_v2 V0)) (res_main_v2 V0)))))))))) shapeCasts_S32x8x256_S256x256  : FVec Ideal S256x256 .f32) (ix2 i ch)
    = (refArgs V0).out i ch := by
  have hl : ∀ x : EReal, (x = (if h : i.val % 8 < 1 then res_main_v83 V0 (ix2 ⟨i.val / 8, by omega⟩ ch)
      else if h : i.val % 8 - 1 < 1 then res_main_v89 V0 (ix2 ⟨i.val / 8, by omega⟩ ch)
      else if h : i.val % 8 - 1 - 1 < 1 then res_main_v95 V0 (ix2 ⟨i.val / 8, by omega⟩ ch)
      else if h : i.val % 8 - 1 - 1 - 1 < 1 then res_main_v101 V0 (ix2 ⟨i.val / 8, by omega⟩ ch)
      else if h : i.val % 8 - 1 - 1 - 1 - 1 < 1 then res_main_v107 V0 (ix2 ⟨i.val / 8, by omega⟩ ch)
      else if h : i.val % 8 - 1 - 1 - 1 - 1 - 1 < 1 then res_main_v113 V0 (ix2 ⟨i.val / 8, by omega⟩ ch)
      else if h : i.val % 8 - 1 - 1 - 1 - 1 - 1 - 1 < 1 then res_main_v119 V0 (ix2 ⟨i.val / 8, by omega⟩ ch)
      else res_main_v125 V0 (ix2 ⟨i.val / 8, by omega⟩ ch))) → x = (refArgs V0).state ⟨i.val / 8, by omega⟩ (i.val % 8 + 1) ch := by
    intro x hx
    simp only [ref_state1, ref_state2, ref_state3, ref_state4, ref_state5, ref_state6, ref_state7, ref_state8] at hx
    exact ladder (fun n => (refArgs V0).state ⟨i.val / 8, by omega⟩ n ch) (i.val % 8) (Nat.mod_lt _ (by decide)) x hx
  have hg : curve (res_main_v2 V0 (ix3 ⟨i.val / 8, by omega⟩ ⟨i.val % 8, Nat.mod_lt _ (by decide)⟩ ch)) = curve ((refArgs V0).pa (ix2 i ⟨256 + ch.val, by omega⟩)) := by
    rw [ref_gate]
    exact congrArg curve (congrArg (fun q => (refArgs V0).pa (ix2 q ⟨256 + ch.val, by omega⟩)) (Fin.ext (by show i.val / 8 * 8 + i.val % 8 = i.val; omega)))
  unfold Args.out
  rw [← hg, ← hl _ rfl]
  unfold curve
  pointwise

/-- The reference's last eight rows. -/
theorem ref_conv_out (g : Fin 32) (r : Fin 8) (ch : Fin 256) :
    (extractStridedSlice S32x8x256 ![0, 3, 0] (res_main_v3 V0) slices_S32x11x256_S32x8x256_0_3_0) (ix3 g r ch)
      = (refArgs V0).row g (r.val + 3) ch := by
  refine Eq.trans ?_ (ref_row V0 g ⟨r.val + 3, by omega⟩ ch)
  generalize res_main_v3 V0 = x
  pointwise
  exact congrArg (fun q => x (ix3 g q ch)) (Fin.ext (Nat.add_comm _ _))

end Cert.RgLru
-- ==== Proof.RgLru.Agreement.lean ====
module

public import proofs.«01_k».proof.Defs
public import proofs.«01_k».proof.Proof.Gen.KernelIdeal.Value
public import proofs.«01_k».proof.Proof.RgLru.Finals
public import proofs.«01_k».proof.Proof.RgLru.RefResults

@[expose] public section

/-!
The recurrent mixer's call and its reference end with equal results.
-/

noncomputable section

namespace Cert.RgLru

open Idealize.ShloMosaic Idealize.ShloMosaic.TcCoe Idealize.SL.Sem

/-- Memories that agree on the arguments give both programs the same recurrence. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    refArgs (StableHlo.launchContents m' c) = kArgs m c := by
  obtain ⟨h0, h1, h2, h3, h4, h5, h6, h7, h8, h9⟩ := h
  unfold refArgs kArgs
  rw [Args.mk.injEq]
  exact ⟨h0, h1, h2, h3, h4, h5, h6, h7, h8, h9⟩

/-- The output as an array. -/
def Args.outs (A : Args) : FVec Ideal ⟨2, ![256, 256]⟩ .f32 := fun i => A.out ⟨(i 0).val, (i 0).isLt⟩ ⟨(i 1).val, (i 1).isLt⟩

/-- The rows from the third on as an array. -/
def Args.rows (A : Args) : FVec Ideal ⟨3, ![32, 8, 256]⟩ .f32 :=
  fun i => A.row ⟨(i 0).val, (i 0).isLt⟩ ((i 1).val + 3) ⟨(i 2).val, (i 2).isLt⟩

/-- The last states as an array. -/
def Args.lasts (A : Args) : FVec Ideal ⟨3, ![32, 1, 256]⟩ .f32 := fun i => A.state ⟨(i 0).val, (i 0).isLt⟩ 8 ⟨(i 2).val, (i 2).isLt⟩

/-- An array of rows that agrees at each pair of coordinates. -/
theorem outs_of (A : Args) (x : FVec Ideal ⟨2, ![256, 256]⟩ .f32) (h : ∀ i ch : Fin 256, x (ix2 i ch) = A.out i ch) : x = A.outs := by
  funext i
  obtain ⟨a, ch, rfl⟩ : ∃ (a : Fin 256) (ch : Fin 256), i = ix2 a ch := ⟨i 0, i 1, eq_ix2 i⟩
  exact h a ch

/-- An array of carried rows that agrees at each triple of coordinates. -/
theorem rows_of (A : Args) (x : FVec Ideal ⟨3, ![32, 8, 256]⟩ .f32) (h : ∀ (g : Fin 32) (r : Fin 8) (ch : Fin 256), x (ix3 g r ch) = A.row g (r.val + 3) ch) :
    x = A.rows := by
  funext i
  obtain ⟨a, r, ch, rfl⟩ : ∃ (a : Fin 32) (r : Fin 8) (ch : Fin 256), i = ix3 a r ch := ⟨i 0, i 1, i 2, eq_ix3 i⟩
  exact h a r ch

/-- An array of states that agrees at each sequence and channel. -/
theorem lasts_of (A : Args) (x : FVec Ideal ⟨3, ![32, 1, 256]⟩ .f32) (h : ∀ (g : Fin 32) (ch : Fin 256), x (ix3 g 0 ch) = A.state g 8 ch) :
    x = A.lasts := by
  funext i
  obtain ⟨a, r, ch, rfl⟩ : ∃ (a : Fin 32) (r : Fin 1) (ch : Fin 256), i = ix3 a r ch := ⟨i 0, i 1, i 2, eq_ix3 i⟩
  obtain rfl : r = 0 := Subsingleton.elim _ _
  exact h a ch

/-- Equal results, as the claim states them. -/
theorem equal : algebraic_KernelIdeal_ReferenceIdeal (hKernelIdeal := Cert.KernelIdeal.Gen.facts) (hReferenceIdeal := Cert.ReferenceIdeal.Gen.facts) := by
  intro m g m' g' hpre hagree
  refine ⟨fun c => (kArgs m c).outs, fun c => (kArgs m c).rows, fun c => (kArgs m c).lasts,
    (θ_run _ _ _).mono (fun r h c => ⟨(h c).1.trans (final_y m c), (h c).2.1.trans (final_conv m c), (h c).2.2.1.trans (final_h m c), (h c).2.2.2⟩)
      (Cert.KernelIdeal.Value.run_blocks m g),
    (θ_run _ _ _).mono (fun r h c => ⟨(h c).1.trans ?_, (h c).2.1.trans ?_, (h c).2.2.1.trans ?_, (h c).2.2.2⟩) (Cert.ReferenceIdeal.Value.run m' g')⟩
  · show _ = (kArgs m c).outs
    rw [← args_agree m m' c (hagree c)]
    exact outs_of _ _ (ref_y (StableHlo.launchContents m' c))
  · show _ = (kArgs m c).rows
    rw [← args_agree m m' c (hagree c)]
    exact rows_of _ _ (ref_conv_out (StableHlo.launchContents m' c))
  · show _ = (kArgs m c).lasts
    rw [← args_agree m m' c (hagree c)]
    exact lasts_of _ _ (ref_h (StableHlo.launchContents m' c))

end Cert.RgLru
-- ==== Proof.Ffn.Spec.lean ====
module

public import Idealize.ShloMosaic.Lib.Pipeline.ValueKit
public import Idealize.ShloMosaic.Lib.IdealHost

@[expose] public section

/-!
The feed-forward sub-layer, one entry at a time: the modulated row, the gated hidden channel, the residual sum and the
layer norm. Both programs are compared with it.
-/

noncomputable section

namespace Cert.Ffn

open Idealize.ShloMosaic

/-- The arrays the sub-layer reads: the rows, the layer's modulation, the gate, up and down weights, and the layer norm's
scale and shift. -/
structure Args where
  x : FVec Ideal ⟨2, ![16384, 1024]⟩ .f32
  md : FVec Ideal ⟨2, ![1, 9216]⟩ .f32
  wg : FVec Ideal ⟨2, ![1024, 2816]⟩ .f32
  wu : FVec Ideal ⟨2, ![1024, 2816]⟩ .f32
  wd : FVec Ideal ⟨2, ![2816, 1024]⟩ .f32
  g : FVec Ideal ⟨1, ![1024]⟩ .f32
  b : FVec Ideal ⟨1, ![1024]⟩ .f32

/-- Entry `d` of row `q` of the nine modulation rows. -/
def Args.mrow (A : Args) (q : Fin 9) (d : Fin 1024) : EReal := A.md (ix2 0 ⟨q.val * 1024 + d.val, by omega⟩)

/-- The modulated row. -/
def Args.u (A : Args) (r : Fin 16384) (d : Fin 1024) : EReal :=
  A.x (ix2 r d) * (1 + A.mrow 7 d) + A.mrow 6 d

/-- A gated hidden channel: `s * sigmoid(s) * v`. -/
def act (s v : EReal) : EReal :=
  s * Ideal.div 1 (1 + Ideal.exp (0 - s)) * v

/-- Hidden channel `n` of row `r`. -/
def Args.hid (A : Args) (r : Fin 16384) (n : Fin 2816) : EReal :=
  act (∑ d : Fin 1024, A.u r d * A.wg (ix2 d n)) (∑ d : Fin 1024, A.u r d * A.wu (ix2 d n))

/-- The down projection of row `r` at channel `l`. -/
def Args.down (A : Args) (r : Fin 16384) (l : Fin 1024) : EReal := ∑ n : Fin 2816, A.hid r n * A.wd (ix2 n l)

/-- The residual sum before the layer norm, over a down projection `f`. -/
def Args.pre (A : Args) (r : Fin 16384) (f : Fin 1024 → EReal) (l : Fin 1024) : EReal :=
  Ideal.ofBits .f32 0x3FB504F3#32 * A.x (ix2 r l) + Ideal.ofBits .f32 0x3F000000#32 * A.mrow 8 l * f l

/-- The mean of a row of 1024 entries. -/
def mean (y : Fin 1024 → EReal) : EReal := Ideal.div (∑ l : Fin 1024, y l) (Ideal.ofBits .f32 0x44800000#32)

/-- The layer norm of a row `y` at channel `l`, with scale `g` and shift `b`. -/
def norm (y : Fin 1024 → EReal) (l : Fin 1024) (g b : EReal) : EReal :=
  (y l - mean y) * Ideal.rsqrt (mean (fun k => (y k - mean y) * (y k - mean y)) + Ideal.ofBits .f32 0x3727C5AC#32) * g + b

/-- The sub-layer's output. -/
def Args.out (A : Args) (r : Fin 16384) (l : Fin 1024) : EReal :=
  norm (A.pre r (A.down r)) l (A.g (ix1 l)) (A.b (ix1 l))

/-- The output as an array. -/
def Args.outs (A : Args) : FVec Ideal ⟨2, ![16384, 1024]⟩ .f32 := fun i => A.out ⟨(i 0).val, (i 0).isLt⟩ ⟨(i 1).val, (i 1).isLt⟩

/-- An array of rows that agrees at each pair of coordinates. -/
theorem outs_of (A : Args) (x : FVec Ideal ⟨2, ![16384, 1024]⟩ .f32) (h : ∀ (r : Fin 16384) (l : Fin 1024), x (ix2 r l) = A.out r l) :
    x = A.outs := by
  funext i
  obtain ⟨a, l, rfl⟩ : ∃ (a : Fin 16384) (l : Fin 1024), i = ix2 a l := ⟨i 0, i 1, eq_ix2 i⟩
  exact h a l

end Cert.Ffn
-- ==== Proof.Ffn.Loop.lean ====
module

public import proofs.«01_k».proof.Proof.Gen.Kernel2Ideal.Value
public import Idealize.ShloMosaic.Lib.Pipeline.ValueKit
public import Idealize.ShloMosaic.Lib.VecWindow
public import proofs.«01_k».proof.Proof.Ffn.Spec

@[expose] public section

/-!
The kernel's accumulator after any number of chunks.
-/

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- A chunk of the gate or up weights as a trip loads it. -/
def wide (x : Vec Ideal S11x1024x256 .bf16) (k : Fin k0_t1_loop.trips) : Vec Ideal S1x1024x256 .bf16 :=
  View.ld x (Rect.unit (s := S11x1024x256) (k0_off1 k) S1x1024x256.size (k0_off1_inb k))

/-- A chunk of the down weights as a trip loads it. -/
def tall (x : Vec Ideal S11x256x1024 .bf16) (k : Fin k0_t1_loop.trips) : Vec Ideal S1x256x1024 .bf16 :=
  View.ld x (Rect.unit (s := S11x256x1024) (k0_off2 k) S1x256x1024.size (k0_off2_inb k))

/-- The accumulator after `n` chunks. -/
def accAt (c : Dev nD) (t : Fin cfg0.N) : ℕ → Vec Ideal S512x1024 .f32
  | 0 => (k0_pay2 : FVec Ideal S512x1024 .f32)
  | n + 1 => if h : n < k0_t1_loop.trips then
      k0_pay3 (iblk m c 0 t) (iblk m c 2 t) (iblk m c 1 t) (wide (iblk m c 4 t) ⟨n, h⟩) (wide (iblk m c 5 t) ⟨n, h⟩)
        (accAt c t n) (tall (iblk m c 6 t) ⟨n, h⟩)
    else accAt c t n

/-- The pieces stored by the first `n` chunks. -/
abbrev pieces (c : Dev nD) (t : Fin cfg0.N) (G : BufTy.Contents (Elt Ideal) scM0_0.view.ty) (n : ℕ) : List (View.Piece (Elt Ideal) S512x1024 .f32) :=
  pb_k0_t1 Variants.none c none (grid0.coords t) (ms0_0 t) (hs0_0 t) (ms0_1 t) (hs0_1 t) (ms0_2 t) (hs0_2 t) (ms0_3 t) (hs0_3 t) (ms0_4 t) (hs0_4 t)
              (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 2 t)
              (iblk m c 1 t) ((hs0_4 t).unread (iblk m c 4 t)) ((hs0_5 t).unread (iblk m c 5 t)) ((hs0_6 t).unread (iblk m c 6 t)) G n

/-- The accumulator's contents after `n` chunks' stores. -/
theorem acc_of_pieces (c : Dev nD) (t : Fin cfg0.N) (G : BufTy.Contents (Elt Ideal) scM0_0.view.ty)
    (hG : View.readAt (Elt Ideal) (View.whole cc0_scratch0) (Rect.unit ![0, 0] ![512, 1024] inb_S512x1024_S512x1024_0_0).toLoadRect G = (k0_pay2 : FVec Ideal S512x1024 .f32))
    (n : ℕ) (hn : n ≤ k0_t1_loop.trips) :
    View.readAt (Elt Ideal) (View.whole cc0_scratch0) (Rect.unit ![0, 0] ![512, 1024] inb_S512x1024_S512x1024_0_0).toLoadRect
      (View.writes (View.whole cc0_scratch0) (Elt Ideal) G (pieces m c t G n)) = accAt m c t n := by
  induction n with
  | zero => exact hG
  | succ n ih =>
    have e := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t)
              (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 2 t)
              (iblk m c 1 t) ((hs0_4 t).unread (iblk m c 4 t)) ((hs0_5 t).unread (iblk m c 5 t)) ((hs0_6 t).unread (iblk m c 6 t)) G ⟨n, hn⟩
    unfold pieces
    rw [e]
    unfold tripL_k0_t1
    unfold trip_k0_t1
    dsimp only
    rw [List.singleton_append]
    refine (View.readAt_writes_full (View.whole cc0_scratch0) G inb_S512x1024_S512x1024_0_0 inb_S512x1024_S512x1024_0_0 _ _).trans ?_
    have ih' := ih (Nat.le_of_succ_le hn)
    unfold pieces at ih'
    rw [accAt, dif_pos (Nat.lt_of_succ_le hn)]
    have hw (p : Memref sig .tc .vmem S11x1024x256 .bf16) (hp : p.IsWhole) (x : Vec Ideal S11x1024x256 .bf16) (k : Fin k0_t1_loop.trips) :
      View.readAt (Elt Ideal) p.view (Rect.unit (k0_off1 k) ![1, 1024, 256] (k0_off1_inb k)).toLoadRect (hp.unread x) = wide x k := by
      show View.ld (p.view.read (Elt Ideal) (hp.unread x)) _ = _
      rw [hp.read_unread]
      rfl
    have ht (p : Memref sig .tc .vmem S11x256x1024 .bf16) (hp : p.IsWhole) (x : Vec Ideal S11x256x1024 .bf16) (k : Fin k0_t1_loop.trips) :
      View.readAt (Elt Ideal) p.view (Rect.unit (k0_off2 k) ![1, 256, 1024] (k0_off2_inb k)).toLoadRect (hp.unread x) = tall x k := by
      show View.ld (p.view.read (Elt Ideal) (hp.unread x)) _ = _
      rw [hp.read_unread]
      rfl
    rw [hw, hw, ht]
    exact congrArg (fun a => k0_pay3 (iblk m c 0 t) (iblk m c 2 t) (iblk m c 1 t) (wide (iblk m c 4 t) ⟨n, hn⟩) (wide (iblk m c 5 t) ⟨n, hn⟩)
        a (tall (iblk m c 6 t) ⟨n, hn⟩)) ih'

end Cert.Ffn
-- ==== Proof.Ffn.Operands.lean ====
module

public import proofs.«01_k».proof.Proof.Gen.Kernel2Ideal.Value
public import Idealize.ShloMosaic.Lib.Pipeline.ValueKit
public import proofs.«01_k».proof.Proof.Ffn.Spec

@[expose] public section

/-!
What the kernel's windows hold at a grid point, entry by entry, over the kernel's arguments.
-/

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The kernel's arguments as the sub-layer's. -/
def kArgs (c : Dev nD) : Args where
  x := m ((c : Thread nD τ).loc main_arg0)
  md := m ((c : Thread nD τ).loc main_arg1)
  wg := m ((c : Thread nD τ).loc main_arg2)
  wu := m ((c : Thread nD τ).loc main_arg3)
  wd := m ((c : Thread nD τ).loc main_arg4)
  g := m ((c : Thread nD τ).loc main_arg5)
  b := m ((c : Thread nD τ).loc main_arg6)

/-- The gate weights, one chunk of 256 hidden channels after another. -/
theorem host_v2 (c : Dev nD) : V m c main_v2 = truncf .bf16 (transpose S11x1024x256 [1, 0, 2] (shapeCast S1024x11x256 (kArgs m c).wg shapeCasts_S1024x2816_S1024x11x256) transposes_S1024x11x256_S11x1024x256_1_0_2) bitsLt_bf16_f32 := by
  unfold V
  simp only [hostOps0]
  simp only [Idealize.ShloMosaic.StableHlo.after_cons, Idealize.ShloMosaic.StableHlo.after_nil]
  after_results_simp
  after_results_loop
  rfl

/-- The up weights, one chunk after another. -/
theorem host_v5 (c : Dev nD) : V m c main_v5 = truncf .bf16 (transpose S11x1024x256 [1, 0, 2] (shapeCast S1024x11x256 (kArgs m c).wu shapeCasts_S1024x2816_S1024x11x256) transposes_S1024x11x256_S11x1024x256_1_0_2) bitsLt_bf16_f32 := by
  unfold V
  simp only [hostOps0]
  simp only [Idealize.ShloMosaic.StableHlo.after_cons, Idealize.ShloMosaic.StableHlo.after_nil]
  after_results_simp
  after_results_loop
  rfl

/-- The down weights, one chunk after another. -/
theorem host_v7 (c : Dev nD) : V m c main_v7 = truncf .bf16 (shapeCast S11x256x1024 (kArgs m c).wd shapeCasts_S2816x1024_S11x256x1024) bitsLt_bf16_f32 := by
  unfold V
  simp only [hostOps0]
  simp only [Idealize.ShloMosaic.StableHlo.after_cons, Idealize.ShloMosaic.StableHlo.after_nil]
  after_results_simp
  after_results_loop
  rfl

/-- The layer norm's scale as a row. -/
theorem host_v8 (c : Dev nD) : V m c main_v8 = broadcastInDim S1x1024 ![1] bcast_S1024_S1x1024_1 (kArgs m c).g := by
  unfold V
  simp only [hostOps0]
  simp only [Idealize.ShloMosaic.StableHlo.after_cons, Idealize.ShloMosaic.StableHlo.after_nil]
  after_results_simp
  after_results_loop
  rfl

/-- The layer norm's shift as a row. -/
theorem host_v9 (c : Dev nD) : V m c main_v9 = broadcastInDim S1x1024 ![1] bcast_S1024_S1x1024_1 (kArgs m c).b := by
  unfold V
  simp only [hostOps0]
  simp only [Idealize.ShloMosaic.StableHlo.after_cons, Idealize.ShloMosaic.StableHlo.after_nil]
  after_results_simp
  after_results_loop
  rfl

/-- The windows' block indices at every grid point. -/
theorem idx : ∀ t : Fin cfg0.N, win0_0.index t = ![t.val, 0] ∧ win0_1.index t = ![0, 6] ∧ win0_2.index t = ![0, 7]
    ∧ win0_3.index t = ![0, 8] ∧ win0_4.index t = ![0, 0, 0] ∧ win0_5.index t = ![0, 0, 0] ∧ win0_6.index t = ![0, 0, 0]
    ∧ win0_7.index t = ![0, 0] ∧ win0_8.index t = ![0, 0] ∧ win0_9.index t = ![t.val, 0] :=
  (by decide +kernel : ∀ t : Fin grid0.N, _)

/-- Row `r` of the point's block of 512 rows. -/
def rowOf (t : Fin cfg0.N) (r : Fin 512) : Fin 16384 := ⟨t.val * 512 + r.val, by have : t.val < 32 := t.isLt; omega⟩

/-- Hidden channel `k` of chunk `j`. -/
def chanOf (j : Fin 11) (k : Fin 256) : Fin 2816 := ⟨j.val * 256 + k.val, by omega⟩

/-- The point's rows. -/
theorem b0 (c : Dev nD) (t : Fin cfg0.N) (r : Fin 512) (d : Fin 1024) : iblk m c 0 t (ix2 r d) = (kArgs m c).x (ix2 (rowOf t r) d) := by
  unfold kArgs rowOf
  blk_point [iblk, V, idx t]

/-- The modulation's shift. -/
theorem b1 (c : Dev nD) (t : Fin cfg0.N) (d : Fin 1024) : iblk m c 1 t (ix2 0 d) = (kArgs m c).mrow 6 d := by
  unfold kArgs Args.mrow
  blk_point [iblk, V, idx t]

/-- The modulation's scale. -/
theorem b2 (c : Dev nD) (t : Fin cfg0.N) (d : Fin 1024) : iblk m c 2 t (ix2 0 d) = (kArgs m c).mrow 7 d := by
  unfold kArgs Args.mrow
  blk_point [iblk, V, idx t]

/-- The modulation's gate. -/
theorem b3 (c : Dev nD) (t : Fin cfg0.N) (d : Fin 1024) : iblk m c 3 t (ix2 0 d) = (kArgs m c).mrow 8 d := by
  unfold kArgs Args.mrow
  blk_point [iblk, V, idx t]

/-- A chunk of the gate weights. -/
theorem b4 (c : Dev nD) (t : Fin cfg0.N) (j : Fin 11) (d : Fin 1024) (k : Fin 256) :
    iblk m c 4 t (ix3 j d k) = (kArgs m c).wg (ix2 d (chanOf j k)) := by
  have e : iblk m c 4 t (ix3 j d k) = (V m c main_v2 : FVec Ideal S11x1024x256 .bf16) (ix3 j d k) := by
    blk_ext [iblk, idx t]
  rw [e, host_v2]
  unfold chanOf
  pointwise

/-- A chunk of the up weights. -/
theorem b5 (c : Dev nD) (t : Fin cfg0.N) (j : Fin 11) (d : Fin 1024) (k : Fin 256) :
    iblk m c 5 t (ix3 j d k) = (kArgs m c).wu (ix2 d (chanOf j k)) := by
  have e : iblk m c 5 t (ix3 j d k) = (V m c main_v5 : FVec Ideal S11x1024x256 .bf16) (ix3 j d k) := by
    blk_ext [iblk, idx t]
  rw [e, host_v5]
  unfold chanOf
  pointwise

/-- A chunk of the down weights. -/
theorem b6 (c : Dev nD) (t : Fin cfg0.N) (j : Fin 11) (k : Fin 256) (l : Fin 1024) :
    iblk m c 6 t (ix3 j k l) = (kArgs m c).wd (ix2 (chanOf j k) l) := by
  have e : iblk m c 6 t (ix3 j k l) = (V m c main_v7 : FVec Ideal S11x256x1024 .bf16) (ix3 j k l) := by
    blk_ext [iblk, idx t]
  rw [e, host_v7]
  unfold chanOf
  pointwise

/-- The layer norm's scale. -/
theorem b7 (c : Dev nD) (t : Fin cfg0.N) (l : Fin 1024) : iblk m c 7 t (ix2 0 l) = (kArgs m c).g (ix1 l) := by
  have e : iblk m c 7 t (ix2 0 l) = (V m c main_v8 : FVec Ideal S1x1024 .f32) (ix2 0 l) := by
    blk_ext [iblk, idx t]
  rw [e, host_v8]
  pointwise

/-- The layer norm's shift. -/
theorem b8 (c : Dev nD) (t : Fin cfg0.N) (l : Fin 1024) : iblk m c 8 t (ix2 0 l) = (kArgs m c).b (ix1 l) := by
  have e : iblk m c 8 t (ix2 0 l) = (V m c main_v9 : FVec Ideal S1x1024 .f32) (ix2 0 l) := by
    blk_ext [iblk, idx t]
  rw [e, host_v9]
  pointwise

end Cert.Ffn
-- ==== Proof.Ffn.Value.lean ====
module

public import proofs.«01_k».proof.Proof.Ffn.Loop
public import proofs.«01_k».proof.Proof.Ffn.Operands

@[expose] public section

/-!
The kernel's result after the run, entry by entry, over its arguments.
-/

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The loop makes eleven trips. -/
theorem trips_eq : k0_t1_loop.trips = 11 := by decide +kernel

/-- A trip as a chunk. -/
def chunkOf (k : Fin k0_t1_loop.trips) : Fin 11 := ⟨k.val, lt_of_lt_of_eq k.isLt trips_eq⟩

/-- A loaded chunk of the gate or up weights at an entry. -/
theorem wide_at (x : Vec Ideal S11x1024x256 .bf16) (k : Fin k0_t1_loop.trips) (d : Fin 1024) (j : Fin 256) :
    wide x k (ix3 0 d j) = x (ix3 (chunkOf k) d j) := by
  unfold wide
  refine View.ld_unit_apply_of x (k0_off1 k) S1x1024x256.size (k0_off1_inb k) (ix3 0 d j) (ix3 (chunkOf k) d j) fun a => ?_
  have e := congrFun (k0_off1_eq k) a
  refine Eq.trans ?_ (congrArg (· + ((ix3 0 d j : S1x1024x256.Idx) a).val) e.symm)
  fin_cases a <;> simp [ix3, chunkOf]

/-- A loaded chunk of the down weights at an entry. -/
theorem tall_at (x : Vec Ideal S11x256x1024 .bf16) (k : Fin k0_t1_loop.trips) (j : Fin 256) (l : Fin 1024) :
    tall x k (ix3 0 j l) = x (ix3 (chunkOf k) j l) := by
  unfold tall
  refine View.ld_unit_apply_of x (k0_off2 k) S1x256x1024.size (k0_off2_inb k) (ix3 0 j l) (ix3 (chunkOf k) j l) fun a => ?_
  have e := congrFun (k0_off2_eq k) a
  refine Eq.trans ?_ (congrArg (· + ((ix3 0 j l : S1x256x1024.Idx) a).val) e.symm)
  fin_cases a <;> simp [ix3, chunkOf]

/-- A trip's new accumulator at an entry. -/
theorem pay3_at (v0 : Vec Ideal S512x1024 .f32) (v1 v6 : Vec Ideal S1x1024 .f32) (v50 v54 : Vec Ideal S1x1024x256 .bf16) (v67 : Vec Ideal S512x1024 .f32)
    (v69 : Vec Ideal S1x256x1024 .bf16) (r : Fin 512) (l : Fin 1024) :
    k0_pay3 v0 v1 v6 v50 v54 v67 v69 (ix2 r l) = v67 (ix2 r l)
      + ∑ j : Fin 256, act (∑ d : Fin 1024, (v0 (ix2 r d) * (1 + v1 (ix2 0 d)) + v6 (ix2 0 d)) * v50 (ix3 0 d j))
          (∑ d : Fin 1024, (v0 (ix2 r d) * (1 + v1 (ix2 0 d)) + v6 (ix2 0 d)) * v54 (ix3 0 d j)) * v69 (ix3 0 j l) := by
  unfold act
  pointwise [k0_pay3]

/-- The part of the down projection that chunk `j` contributes. -/
def Args.part (A : Args) (R : Fin 16384) (l : Fin 1024) (j : Fin 11) : EReal :=
  ∑ k : Fin 256, A.hid R (chanOf j k) * A.wd (ix2 (chanOf j k) l)

/-- What a trip adds at an entry. -/
theorem trip_at (c : Dev nD) (t : Fin cfg0.N) (k : Fin k0_t1_loop.trips) (a : Vec Ideal S512x1024 .f32) (r : Fin 512) (l : Fin 1024) :
    k0_pay3 (iblk m c 0 t) (iblk m c 2 t) (iblk m c 1 t) (wide (iblk m c 4 t) k) (wide (iblk m c 5 t) k) a (tall (iblk m c 6 t) k) (ix2 r l)
      = a (ix2 r l) + (kArgs m c).part (rowOf t r) l (chunkOf k) := by
  refine (pay3_at _ _ _ _ _ _ _ r l).trans ?_
  simp only [wide_at, tall_at, b0, b1, b2, b4, b5, b6]
  rfl

/-- The parts of the first chunks. -/
theorem acc_at (c : Dev nD) (t : Fin cfg0.N) (r : Fin 512) (l : Fin 1024) (n : ℕ) (hn : n ≤ k0_t1_loop.trips) :
    accAt m c t n (ix2 r l) = ∑ j ∈ Finset.range n, (if h : j < 11 then (kArgs m c).part (rowOf t r) l ⟨j, h⟩ else 0) := by
  induction n with
  | zero =>
    rw [Finset.range_zero, Finset.sum_empty]
    show (k0_pay2 : FVec Ideal S512x1024 .f32) (ix2 r l) = 0
    pointwise [k0_pay2]
  | succ n ih =>
    have h11 : n < 11 := lt_of_lt_of_eq hn trips_eq
    rw [Finset.sum_range_succ, ← ih (Nat.le_of_succ_le hn), dif_pos h11, accAt, dif_pos (Nat.lt_of_succ_le hn)]
    exact trip_at m c t ⟨n, hn⟩ _ r l

/-- All chunks together are the down projection. -/
theorem parts_eq (A : Args) (R : Fin 16384) (l : Fin 1024) :
    ∑ j ∈ Finset.range 11, (if h : j < 11 then A.part R l ⟨j, h⟩ else 0) = A.down R l := by
  rw [Finset.sum_range]
  unfold Args.down
  refine Eq.trans ?_ (Fin.sum_univ_tiles 11 256 rfl (fun n : Fin 2816 => A.hid R n * A.wd (ix2 n l))).symm
  refine Finset.sum_congr rfl fun j _ => ?_
  rw [dif_pos j.isLt]
  rfl

/-- The accumulator after the last chunk. -/
theorem acc_last (c : Dev nD) (t : Fin cfg0.N) (r : Fin 512) (l : Fin 1024) :
    accAt m c t k0_t1_loop.trips (ix2 r l) = (kArgs m c).down (rowOf t r) l := by
  rw [acc_at m c t r l _ le_rfl, trips_eq, parts_eq]

/-- The residual sum at an entry. -/
theorem pay4_at (c : Dev nD) (t : Fin cfg0.N) (a : Vec Ideal S512x1024 .f32) (r : Fin 512) (l : Fin 1024) :
    k0_pay4 (iblk m c 0 t) (iblk m c 3 t) a (ix2 r l) = (kArgs m c).pre (rowOf t r) (fun k => a (ix2 r k)) l := by
  have e (v0 : Vec Ideal S512x1024 .f32) (v17 : Vec Ideal S1x1024 .f32) : k0_pay4 v0 v17 a (ix2 r l)
      = Ideal.ofBits .f32 0x3FB504F3#32 * v0 (ix2 r l) + Ideal.ofBits .f32 0x3F000000#32 * v17 (ix2 0 l) * a (ix2 r l) := by
    pointwise [k0_pay4]
  rw [e, b0, b3]
  rfl

/-- The layer norm at an entry. -/
theorem norm_at (v0 : Vec Ideal S512x1024 .f32) (v17 : Vec Ideal S1x1024 .f32) (a : Vec Ideal S512x1024 .f32) (g b : Vec Ideal S1x1024 .f32)
    (r : Fin 512) (l : Fin 1024) :
    k0_pay1 (k0_pay4 v0 v17 a) (k0_pay5 g) (k0_pay6 b) (k0_pay7 v0 v17 a) k0_pay8 (ix2 r l)
      = norm (fun k => k0_pay4 v0 v17 a (ix2 r k)) l (g (ix2 0 l)) (b (ix2 0 l)) := by
  unfold k0_pay7 norm mean
  generalize k0_pay4 v0 v17 a = y
  pointwise [k0_pay1, k0_pay5, k0_pay6, k0_pay8]

/-- The point's block of the result. -/
theorem point_at (c : Dev nD) (t : Fin cfg0.N) (a : Vec Ideal S512x1024 .f32) (r : Fin 512) (l : Fin 1024)
    (ha : ∀ l, a (ix2 r l) = (kArgs m c).down (rowOf t r) l) :
    k0_pay1 (k0_pay4 (iblk m c 0 t) (iblk m c 3 t) a) (k0_pay5 (iblk m c 7 t)) (k0_pay6 (iblk m c 8 t)) (k0_pay7 (iblk m c 0 t) (iblk m c 3 t) a) k0_pay8 (ix2 r l)
      = (kArgs m c).out (rowOf t r) l := by
  refine (norm_at _ _ _ _ _ r l).trans ?_
  simp only [pay4_at, b7, b8, ha]
  rfl

end Cert.Ffn
-- ==== Proof.Ffn.Finals.lean ====
module

public import proofs.«01_k».proof.Proof.Ffn.Value

@[expose] public section

/-!
The kernel's result array after the run.
-/

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- What the body loads after the loop: the accumulator after the last chunk. -/
theorem loaded (c : Dev nD) (t : Fin cfg0.N) (G : BufTy.Contents (Elt Ideal) scM0_0.view.ty)
    (hG : G = (View.whole cc0_scratch0).writes (Elt Ideal) (View.whole cc0_scratch0).junk
      [⟨Rect.unit ![0, 0] ![512, 1024] inb_S512x1024_S512x1024_0_0, (k0_pay2 : FVec Ideal S512x1024 .f32)⟩]) :
    (View.whole cc0_scratch0).readCov (Val := Elt Ideal) (pieces m c t G k0_t1_loop.trips
        ++ [⟨Rect.unit ![0, 0] ![512, 1024] inb_S512x1024_S512x1024_0_0, (k0_pay2 : FVec Ideal S512x1024 .f32)⟩])
      (Rect.unit (s := S512x1024) ![0, 0] ![512, 1024] inb_S512x1024_S512x1024_0_0).toLoadRect = accAt m c t k0_t1_loop.trips := by
  refine Eq.trans ?_ (acc_of_pieces m c t G ?_ k0_t1_loop.trips le_rfl)
  · unfold View.readCov
    rw [View.writes_append, ← hG]
  · rw [hG]
    exact View.readAt_writes_full (View.whole cc0_scratch0) _ inb_S512x1024_S512x1024_0_0 inb_S512x1024_S512x1024_0_0 _ _

/-- A row and a channel in their block of 512 rows, given by their coordinates. -/
theorem out_at (A : Args) (t : Fin cfg0.N) (r : Fin 512) (l : Fin 1024) (a b : ℕ) (h : a < 16384) (h' : b < 1024) (ha : a = t.val * 512 + r.val) (hb : b = l.val) :
    A.out (rowOf t r) l = A.out ⟨a, h⟩ ⟨b, h'⟩ := by
  subst ha hb
  rfl

set_option maxHeartbeats 1600000 in
/-- The sub-layer's output, at every grid point. -/
theorem final (c : Dev nD) : (dats m 0 c).arrAt 9 (cfgs 0).N = (kArgs m c).outs := by
  refine (dats m 0 c).arrAt_eq_of_covers 9 _ (by decide +kernel) fun t _ y => ?_
  blk_simp
  rw [after0_9]
  unfold outsAt0
  frame_out
  obtain ⟨r, l, rfl⟩ : ∃ (r : Fin 512) (l : Fin 1024), y = ix2 r l := ⟨y 0, y 1, eq_ix2 y⟩
  refine (point_at m c t _ r l fun l => (congrFun (loaded m c t _ rfl) (ix2 r l)).trans (acc_last m c t r l)).trans ?_
  obtain ⟨-, -, -, -, -, -, -, -, -, e⟩ := idx t
  have e0 : win0_9.index t 0 = t.val := congrFun e 0
  have e1 : win0_9.index t 1 = 0 := congrFun e 1
  refine out_at (kArgs m c) t r l _ _ _ _ ?_ ?_
  · rw [View.emb_slice, Function.Embedding.trans_apply, View.emb_whole, Function.Embedding.refl_apply, Rect.emb_apply]
    show win0_9.index t 0 * 512 + 1 * r.val = t.val * 512 + r.val
    rw [e0, one_mul]
  · rw [View.emb_slice, Function.Embedding.trans_apply, View.emb_whole, Function.Embedding.refl_apply, Rect.emb_apply]
    show win0_9.index t 1 * 1024 + 1 * l.val = l.val
    rw [e1, Nat.zero_mul, Nat.zero_add, one_mul]

end Cert.Ffn
-- ==== Proof.Ffn.RefValue.lean ====
module

public import proofs.«01_k».proof.Proof.Gen.Reference2Ideal.Run
public import Idealize.ShloMosaic.Lib.Pipeline.ValueKit
public import proofs.«01_k».proof.Proof.Ffn.Spec

@[expose] public section

/-!
The reference's result, entry by entry: each array it computes on the way, named, and read at an entry.
-/

set_option maxRecDepth 16384

noncomputable section

namespace Cert.Ffn

open Idealize.ShloMosaic Idealize.ShloMosaic.TcCoe Idealize.SL.Sem Idealize.ShloMosaic.StableHlo
open Cert.Reference2Ideal Cert.Reference2Ideal.Gen Cert.Reference2Ideal.Value

/-- The reference's modulated rows. -/
def refU (x : FVec Ideal S16384x1024 .f32) (md : FVec Ideal S1x9216 .f32) : FVec Ideal S16384x1024 .f32 :=
  addf (mulf x (broadcastInDim S16384x1024 ![0, 1] bcast_S1x1024_S16384x1024_0_1 (broadcastInDim S1x1024 ![1] bcast_S1024_S1x1024_1 (addf (broadcastInDim S1024 ![] bcast_S_S1024 (constant S_ .f32 0x3F800000#32)) (shapeCast _ (extractStridedSlice S1x1024 ![7, 0] (shapeCast _ md shapeCasts_S1x9216_S9x1024) slices_S9x1024_S1x1024_7_0) shapeCasts_S1x1024_S1024))))) (broadcastInDim S16384x1024 ![0, 1] bcast_S1x1024_S16384x1024_0_1 (broadcastInDim S1x1024 ![1] bcast_S1024_S1x1024_1 (shapeCast _ (extractStridedSlice S1x1024 ![6, 0] (shapeCast _ md shapeCasts_S1x9216_S9x1024) slices_S9x1024_S1x1024_6_0) shapeCasts_S1x1024_S1024)))

/-- The reference's gated hidden channels. -/
def refHid (u : FVec Ideal S16384x1024 .f32) (wg wu : FVec Ideal S1024x2816 .f32) : FVec Ideal S16384x2816 .f32 :=
  mulf (mulf (Host.dotGeneral dot_S16384x1024_S1024x2816_S16384x2816_1_0_0_1_n_n none u wg) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral dot_S16384x1024_S1024x2816_S16384x2816_1_0_0_1_n_n none u wg)))))) (Host.dotGeneral dot_S16384x1024_S1024x2816_S16384x2816_1_0_0_1_n_n none u wu)

/-- The reference's residual sum. -/
def refPre (x : FVec Ideal S16384x1024 .f32) (md : FVec Ideal S1x9216 .f32) (a : FVec Ideal S16384x2816 .f32) (wd : FVec Ideal S2816x1024 .f32) :
    FVec Ideal S16384x1024 .f32 :=
  addf (mulf (broadcastInDim S16384x1024 ![] bcast_S_S16384x1024 (constant S_ .f32 0x3FB504F3#32)) x) (mulf (broadcastInDim S16384x1024 ![0, 1] bcast_S1x1024_S16384x1024_0_1 (broadcastInDim S1x1024 ![1] bcast_S1024_S1x1024_1 (mulf (broadcastInDim S1024 ![] bcast_S_S1024 (constant S_ .f32 0x3F000000#32)) (shapeCast _ (extractStridedSlice S1x1024 ![8, 0] (shapeCast _ md shapeCasts_S1x9216_S9x1024) slices_S9x1024_S1x1024_8_0) shapeCasts_S1x1024_S1024)))) (Host.dotGeneral dot_S16384x2816_S2816x1024_S16384x1024_1_0_0_1_n_n none a wd))

/-- The reference's row means. -/
def refMean (y : FVec Ideal S16384x1024 .f32) : FVec Ideal S16384x1 .f32 :=
  Host.divf (broadcastInDim S16384x1 ![0] bcast_S16384_S16384x1_0 (Host.reduceAdd y (constant S_ .f32 0x00000000#32) reducesTo_S16384x1024_S16384_d1 h_S_)) (broadcastInDim S16384x1 ![] bcast_S_S16384x1 (constant S_ .f32 0x44800000#32))

/-- The reference's rows less a column. -/
def refLess (y : FVec Ideal S16384x1024 .f32) (mu : FVec Ideal S16384x1 .f32) : FVec Ideal S16384x1024 .f32 :=
  subf y (broadcastInDim S16384x1024 ![0, 1] bcast_S16384x1_S16384x1024_0_1 mu)

/-- The reference's layer norm. -/
def refNorm (d : FVec Ideal S16384x1024 .f32) (va : FVec Ideal S16384x1 .f32) (g b : FVec Ideal S1024 .f32) : FVec Ideal S16384x1024 .f32 :=
  addf (mulf (mulf d (broadcastInDim S16384x1024 ![0, 1] bcast_S16384x1_S16384x1024_0_1 (Host.rsqrt (addf va (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The reference's result as the layer norm of its residual sum. -/
def refOut (A : Args) : FVec Ideal S16384x1024 .f32 :=
  refNorm (refLess (refPre A.x A.md (refHid (refU A.x A.md) A.wg A.wu) A.wd) (refMean (refPre A.x A.md (refHid (refU A.x A.md) A.wg A.wu) A.wd)))
    (refMean (mulf (refLess (refPre A.x A.md (refHid (refU A.x A.md) A.wg A.wu) A.wd) (refMean (refPre A.x A.md (refHid (refU A.x A.md) A.wg A.wu) A.wd))) (refLess (refPre A.x A.md (refHid (refU A.x A.md) A.wg A.wu) A.wd) (refMean (refPre A.x A.md (refHid (refU A.x A.md) A.wg A.wu) A.wd))))) A.g A.b

/-- The modulated rows at an entry. -/
theorem refU_at (A : Args) (r : Fin 16384) (d : Fin 1024) : refU A.x A.md (ix2 r d) = A.u r d := by
  unfold Args.u Args.mrow
  pointwise [refU]

/-- The gated hidden channels at an entry. -/
theorem refHid_at (u : FVec Ideal S16384x1024 .f32) (wg wu : FVec Ideal S1024x2816 .f32) (r : Fin 16384) (n : Fin 2816) :
    refHid u wg wu (ix2 r n) = act (∑ d : Fin 1024, u (ix2 r d) * wg (ix2 d n)) (∑ d : Fin 1024, u (ix2 r d) * wu (ix2 d n)) := by
  unfold act
  rw [zero_sub]
  pointwise [refHid]

/-- The residual sum at an entry. -/
theorem refPre_at (A : Args) (a : FVec Ideal S16384x2816 .f32) (r : Fin 16384) (l : Fin 1024) :
    refPre A.x A.md a A.wd (ix2 r l) = A.pre r (fun l => ∑ n : Fin 2816, a (ix2 r n) * A.wd (ix2 n l)) l := by
  unfold Args.pre Args.mrow
  pointwise [refPre]

/-- A row's mean. -/
theorem refMean_at (y : FVec Ideal S16384x1024 .f32) (r : Fin 16384) : refMean y (ix2 r 0) = mean (fun l => y (ix2 r l)) := by
  unfold mean
  pointwise [refMean]

/-- A row less its column's entry. -/
theorem refLess_at (y : FVec Ideal S16384x1024 .f32) (mu : FVec Ideal S16384x1 .f32) (r : Fin 16384) (l : Fin 1024) :
    refLess y mu (ix2 r l) = y (ix2 r l) - mu (ix2 r 0) := by
  pointwise [refLess]

/-- The layer norm at an entry. -/
theorem refNorm_at (d : FVec Ideal S16384x1024 .f32) (va : FVec Ideal S16384x1 .f32) (g b : FVec Ideal S1024 .f32) (r : Fin 16384) (l : Fin 1024) :
    refNorm d va g b (ix2 r l) = d (ix2 r l) * Ideal.rsqrt (va (ix2 r 0) + Ideal.ofBits .f32 0x3727C5AC#32) * g (ix1 l) + b (ix1 l) := by
  pointwise [refNorm]

/-- A product of arrays at an entry. -/
theorem square_at (d : FVec Ideal S16384x1024 .f32) (i : S16384x1024.Idx) : mulf d d i = d i * d i := rfl

/-- The reference's result at an entry. -/
theorem refOut_at (A : Args) (r : Fin 16384) (l : Fin 1024) : refOut A (ix2 r l) = A.out r l := by
  unfold refOut Args.out norm
  simp only [refNorm_at, refLess_at, refMean_at, square_at, refPre_at, refHid_at, refU_at]
  rfl

/-- The reference's arguments as the sub-layer's. -/
def refArgs (m : (ℓ : Loc nD τ sig) → Buf (Elt Ideal) ℓ) (c : Dev nD) : Args where
  x := m ((c.tc : Thread nD τ).loc main_arg0)
  md := m ((c.tc : Thread nD τ).loc main_arg1)
  wg := m ((c.tc : Thread nD τ).loc main_arg2)
  wu := m ((c.tc : Thread nD τ).loc main_arg3)
  wd := m ((c.tc : Thread nD τ).loc main_arg4)
  g := m ((c.tc : Thread nD τ).loc main_arg5)
  b := m ((c.tc : Thread nD τ).loc main_arg6)

/-- The reference's result is that of the sub-layer. -/
theorem ref_out (m : (ℓ : Loc nD τ sig) → Buf (Elt Ideal) ℓ) (c : Dev nD) : res_main_v51 m c = refOut (refArgs m c) := rfl

end Cert.Ffn
-- ==== Proof.Ffn.Agreement.lean ====
module

public import proofs.«01_k».proof.Defs
public import proofs.«01_k».proof.Proof.Gen.Kernel2Ideal.Value
public import proofs.«01_k».proof.Proof.Ffn.Finals
public import proofs.«01_k».proof.Proof.Ffn.RefValue

@[expose] public section

/-!
The feed-forward call and its reference end with equal results.
-/

noncomputable section

namespace Cert.Ffn

open Idealize.ShloMosaic Idealize.ShloMosaic.TcCoe Idealize.SL.Sem

/-- Memories that agree on the arguments give both programs the same sub-layer. -/
theorem args_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    refArgs m' c = kArgs m c := by
  obtain ⟨h0, h1, h2, h3, h4, h5, h6⟩ := h
  unfold refArgs kArgs
  rw [Args.mk.injEq]
  exact ⟨h0, h1, h2, h3, h4, h5, h6⟩

/-- Equal results, as the claim states them. -/
theorem equal : algebraic_Kernel2Ideal_Reference2Ideal (hKernel2Ideal := Cert.Kernel2Ideal.Gen.facts) (hReference2Ideal := Cert.Reference2Ideal.Gen.facts) := by
  intro m g m' g' hpre hagree
  refine ⟨fun c => (kArgs m c).outs,
    (θ_run _ _ _).mono (fun r h c => ⟨(h c).1.trans (final m c), (h c).2⟩) (Cert.Kernel2Ideal.Value.run_blocks m g),
    (θ_run _ _ _).mono (fun r h c => ⟨(h c).1.trans ?_, (h c).2⟩) (Cert.Reference2Ideal.Value.run m' g')⟩
  show _ = (kArgs m c).outs
  rw [← args_agree m m' c (hagree c)]
  exact outs_of _ _ (fun r l => (congrFun (ref_out m' c) (ix2 r l)).trans (refOut_at (refArgs m' c) r l))

end Cert.Ffn
-- ==== Proof.Merge.Spec.lean ====
module

public import Idealize.ShloMosaic.Lib.Pipeline.ValueKit
public import Idealize.ShloMosaic.Lib.IdealHost
public import proofs.«01_k».proof.Proof.Ffn.Spec

@[expose] public section

/-!
The merge of the four branches, one entry at a time: the modulated row, the four gates, the gated sum of the branches'
projections, the residual sum and the layer norm. Both programs are compared with it.
-/

noncomputable section

namespace Cert.Merge

open Idealize.ShloMosaic
open Cert.Ffn (mean)

/-- The arrays the sub-layer reads: the rows, the layer's modulation, the four branches, the input projection (its last
columns make the gates), the branches' projections, the output projection, and the layer norm's scale and shift. -/
structure Args where
  x : FVec Ideal ⟨2, ![16384, 1024]⟩ .f32
  md : FVec Ideal ⟨2, ![1, 9216]⟩ .f32
  ya : FVec Ideal ⟨2, ![16384, 256]⟩ .f32
  yb : FVec Ideal ⟨2, ![16384, 256]⟩ .f32
  yc : FVec Ideal ⟨2, ![16384, 256]⟩ .f32
  yd : FVec Ideal ⟨2, ![16384, 256]⟩ .f32
  wi : FVec Ideal ⟨2, ![1024, 7768]⟩ .f32
  wb : FVec Ideal ⟨3, ![4, 256, 1024]⟩ .f32
  wo : FVec Ideal ⟨2, ![1024, 1024]⟩ .f32
  g : FVec Ideal ⟨1, ![1024]⟩ .f32
  b : FVec Ideal ⟨1, ![1024]⟩ .f32

/-- Entry `d` of row `q` of the nine modulation rows. -/
def Args.mrow (A : Args) (q : Fin 9) (d : Fin 1024) : EReal := A.md (ix2 0 ⟨q.val * 1024 + d.val, by omega⟩)

/-- The modulated row. -/
def Args.u (A : Args) (r : Fin 16384) (d : Fin 1024) : EReal :=
  A.x (ix2 r d) * (1 + A.mrow 4 d) + A.mrow 3 d

/-- The column of the input projection that makes gate `j` at channel `l`. -/
def gateCol (j : Fin 4) (l : Fin 1024) : Fin 7768 := ⟨3672 + (j.val * 1024 + l.val), by omega⟩

/-- The sigmoid. -/
def sgm (s : EReal) : EReal := Ideal.div 1 (1 + Ideal.exp (0 - s))

/-- Gate `j` of row `r` at channel `l`. -/
def Args.gate (A : Args) (r : Fin 16384) (j : Fin 4) (l : Fin 1024) : EReal :=
  sgm (∑ d : Fin 1024, A.u r d * A.wi (ix2 d (gateCol j l)))

/-- Branch `j`. -/
def Args.branch (A : Args) (j : Fin 4) : FVec Ideal ⟨2, ![16384, 256]⟩ .f32 := ![A.ya, A.yb, A.yc, A.yd] j

/-- The projection of branch `j` of row `r` at channel `l`. -/
def Args.proj (A : Args) (r : Fin 16384) (j : Fin 4) (l : Fin 1024) : EReal :=
  ∑ w : Fin 256, A.branch j (ix2 r w) * A.wb (ix3 j w l)

/-- The gated sum of the four branches. -/
def Args.mix (A : Args) (r : Fin 16384) (l : Fin 1024) : EReal := ∑ j : Fin 4, A.gate r j l * A.proj r j l

/-- The residual sum before the layer norm, over a merged row `f`. -/
def Args.pre (A : Args) (r : Fin 16384) (f : Fin 1024 → EReal) (l : Fin 1024) : EReal :=
  Ideal.ofBits .f32 0x3FB504F3#32 * A.x (ix2 r l) + A.mrow 5 l * ∑ n : Fin 1024, f n * A.wo (ix2 n l)

/-- The sub-layer's output. -/
def Args.out (A : Args) (r : Fin 16384) (l : Fin 1024) : EReal :=
  Cert.Ffn.norm (A.pre r (A.mix r)) l (A.g (ix1 l)) (A.b (ix1 l))

/-- The output as an array. -/
def Args.outs (A : Args) : FVec Ideal ⟨2, ![16384, 1024]⟩ .f32 := fun i => A.out ⟨(i 0).val, (i 0).isLt⟩ ⟨(i 1).val, (i 1).isLt⟩

/-- An array of rows that agrees at each pair of coordinates. -/
theorem outs_of (A : Args) (x : FVec Ideal ⟨2, ![16384, 1024]⟩ .f32) (h : ∀ (r : Fin 16384) (l : Fin 1024), x (ix2 r l) = A.out r l) :
    x = A.outs := by
  funext i
  obtain ⟨a, l, rfl⟩ : ∃ (a : Fin 16384) (l : Fin 1024), i = ix2 a l := ⟨i 0, i 1, eq_ix2 i⟩
  exact h a l

end Cert.Merge
-- ==== Proof.Merge.Operands.lean ====
module

public import proofs.«01_k».proof.Proof.Gen.Kernel3Ideal.Value
public import Idealize.ShloMosaic.Lib.Pipeline.ValueKit
public import proofs.«01_k».proof.Proof.Merge.Spec

@[expose] public section

/-!
What the kernel's windows hold at a grid point, entry by entry, over the kernel's arguments.
-/

set_option maxRecDepth 16384

noncomputable section

namespace Cert.Merge

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The kernel's arguments as the sub-layer's. -/
def kArgs (c : Dev nD) : Args where
  x := m ((c : Thread nD τ).loc main_arg0)
  md := m ((c : Thread nD τ).loc main_arg1)
  ya := m ((c : Thread nD τ).loc main_arg2)
  yb := m ((c : Thread nD τ).loc main_arg3)
  yc := m ((c : Thread nD τ).loc main_arg4)
  yd := m ((c : Thread nD τ).loc main_arg5)
  wi := m ((c : Thread nD τ).loc main_arg6)
  wb := m ((c : Thread nD τ).loc main_arg7)
  wo := m ((c : Thread nD τ).loc main_arg8)
  g := m ((c : Thread nD τ).loc main_arg9)
  b := m ((c : Thread nD τ).loc main_arg10)

/-- The gates' columns of the input projection, one gate after another. -/
theorem host_v3 (c : Dev nD) : V m c main_v3 = truncf .bf16 (transpose S4x1024x1024 [1, 0, 2] (shapeCast S1024x4x1024 (extractStridedSlice S1024x4096 ![0, 3672] (kArgs m c).wi slices_S1024x7768_S1024x4096_0_3672) shapeCasts_S1024x4096_S1024x4x1024) transposes_S1024x4x1024_S4x1024x1024_1_0_2) bitsLt_bf16_f32 := by
  unfold V
  simp only [hostOps0]
  simp only [Idealize.ShloMosaic.StableHlo.after_cons, Idealize.ShloMosaic.StableHlo.after_nil]
  after_results_simp
  after_results_loop
  rfl

/-- The branches' projections. -/
theorem host_v4 (c : Dev nD) : V m c main_v4 = truncf .bf16 (kArgs m c).wb bitsLt_bf16_f32 := by
  unfold V
  simp only [hostOps0]
  simp only [Idealize.ShloMosaic.StableHlo.after_cons, Idealize.ShloMosaic.StableHlo.after_nil]
  after_results_simp
  after_results_loop
  rfl

/-- The output projection. -/
theorem host_v5 (c : Dev nD) : V m c main_v5 = truncf .bf16 (kArgs m c).wo bitsLt_bf16_f32 := by
  unfold V
  simp only [hostOps0]
  simp only [Idealize.ShloMosaic.StableHlo.after_cons, Idealize.ShloMosaic.StableHlo.after_nil]
  after_results_simp
  after_results_loop
  rfl

/-- The layer norm's scale as a row. -/
theorem host_v6 (c : Dev nD) : V m c main_v6 = broadcastInDim S1x1024 ![1] bcast_S1024_S1x1024_1 (kArgs m c).g := by
  unfold V
  simp only [hostOps0]
  simp only [Idealize.ShloMosaic.StableHlo.after_cons, Idealize.ShloMosaic.StableHlo.after_nil]
  after_results_simp
  after_results_loop
  rfl

/-- The layer norm's shift as a row. -/
theorem host_v7 (c : Dev nD) : V m c main_v7 = broadcastInDim S1x1024 ![1] bcast_S1024_S1x1024_1 (kArgs m c).b := by
  unfold V
  simp only [hostOps0]
  simp only [Idealize.ShloMosaic.StableHlo.after_cons, Idealize.ShloMosaic.StableHlo.after_nil]
  after_results_simp
  after_results_loop
  rfl

/-- The windows' block indices at every grid point. -/
theorem idx : ∀ t : Fin cfg0.N, win0_0.index t = ![t.val, 0] ∧ win0_1.index t = ![0, 3] ∧ win0_2.index t = ![0, 4] ∧ win0_3.index t = ![0, 5] ∧ win0_4.index t = ![t.val, 0] ∧ win0_5.index t = ![t.val, 0] ∧ win0_6.index t = ![t.val, 0] ∧ win0_7.index t = ![t.val, 0] ∧ win0_8.index t = ![0, 0, 0] ∧ win0_9.index t = ![0, 0, 0] ∧ win0_10.index t = ![0, 0] ∧ win0_11.index t = ![0, 0] ∧ win0_12.index t = ![0, 0] ∧ win0_13.index t = ![t.val, 0] :=
  (by decide +kernel : ∀ t : Fin grid0.N, _)

/-- Row `r` of the point's block of 256 rows. -/
def rowOf (t : Fin cfg0.N) (r : Fin 256) : Fin 16384 := ⟨t.val * 256 + r.val, by have : t.val < 64 := t.isLt; omega⟩

/-- The point's rows. -/
theorem b0 (c : Dev nD) (t : Fin cfg0.N) (r : Fin 256) (d : Fin 1024) : iblk m c 0 t (ix2 r d) = (kArgs m c).x (ix2 (rowOf t r) d) := by
  unfold kArgs rowOf
  blk_point [iblk, V, idx t]

/-- The modulation's shift. -/
theorem b1 (c : Dev nD) (t : Fin cfg0.N) (d : Fin 1024) : iblk m c 1 t (ix2 0 d) = (kArgs m c).mrow 3 d := by
  unfold kArgs Args.mrow
  blk_point [iblk, V, idx t]

/-- The modulation's scale. -/
theorem b2 (c : Dev nD) (t : Fin cfg0.N) (d : Fin 1024) : iblk m c 2 t (ix2 0 d) = (kArgs m c).mrow 4 d := by
  unfold kArgs Args.mrow
  blk_point [iblk, V, idx t]

/-- The modulation's gate. -/
theorem b3 (c : Dev nD) (t : Fin cfg0.N) (d : Fin 1024) : iblk m c 3 t (ix2 0 d) = (kArgs m c).mrow 5 d := by
  unfold kArgs Args.mrow
  blk_point [iblk, V, idx t]

/-- The point's rows of the first branch. -/
theorem b4 (c : Dev nD) (t : Fin cfg0.N) (r : Fin 256) (w : Fin 256) : iblk m c 4 t (ix2 r w) = (kArgs m c).ya (ix2 (rowOf t r) w) := by
  unfold kArgs rowOf
  blk_point [iblk, V, idx t]

/-- The point's rows of the second branch. -/
theorem b5 (c : Dev nD) (t : Fin cfg0.N) (r : Fin 256) (w : Fin 256) : iblk m c 5 t (ix2 r w) = (kArgs m c).yb (ix2 (rowOf t r) w) := by
  unfold kArgs rowOf
  blk_point [iblk, V, idx t]

/-- The point's rows of the third branch. -/
theorem b6 (c : Dev nD) (t : Fin cfg0.N) (r : Fin 256) (w : Fin 256) : iblk m c 6 t (ix2 r w) = (kArgs m c).yc (ix2 (rowOf t r) w) := by
  unfold kArgs rowOf
  blk_point [iblk, V, idx t]

/-- The point's rows of the fourth branch. -/
theorem b7 (c : Dev nD) (t : Fin cfg0.N) (r : Fin 256) (w : Fin 256) : iblk m c 7 t (ix2 r w) = (kArgs m c).yd (ix2 (rowOf t r) w) := by
  unfold kArgs rowOf
  blk_point [iblk, V, idx t]

/-- The gates' columns. -/
theorem b8 (c : Dev nD) (t : Fin cfg0.N) (j : Fin 4) (d l : Fin 1024) :
    iblk m c 8 t (ix3 j d l) = (kArgs m c).wi (ix2 d (gateCol j l)) := by
  have e : iblk m c 8 t (ix3 j d l) = (V m c main_v3 : FVec Ideal S4x1024x1024 .bf16) (ix3 j d l) := by
    blk_ext [iblk, idx t]
  rw [e, host_v3]
  unfold gateCol
  pointwise

/-- A branch's projection. -/
theorem b9 (c : Dev nD) (t : Fin cfg0.N) (j : Fin 4) (w : Fin 256) (l : Fin 1024) :
    iblk m c 9 t (ix3 j w l) = (kArgs m c).wb (ix3 j w l) := by
  have e : iblk m c 9 t (ix3 j w l) = (V m c main_v4 : FVec Ideal S4x256x1024 .bf16) (ix3 j w l) := by
    blk_ext [iblk, idx t]
  rw [e, host_v4]
  pointwise

/-- The output projection. -/
theorem b10 (c : Dev nD) (t : Fin cfg0.N) (n l : Fin 1024) : iblk m c 10 t (ix2 n l) = (kArgs m c).wo (ix2 n l) := by
  have e : iblk m c 10 t (ix2 n l) = (V m c main_v5 : FVec Ideal S1024x1024 .bf16) (ix2 n l) := by
    blk_ext [iblk, idx t]
  rw [e, host_v5]
  pointwise

/-- The layer norm's scale. -/
theorem b11 (c : Dev nD) (t : Fin cfg0.N) (l : Fin 1024) : iblk m c 11 t (ix2 0 l) = (kArgs m c).g (ix1 l) := by
  have e : iblk m c 11 t (ix2 0 l) = (V m c main_v6 : FVec Ideal S1x1024 .f32) (ix2 0 l) := by
    blk_ext [iblk, idx t]
  rw [e, host_v6]
  pointwise

/-- The layer norm's shift. -/
theorem b12 (c : Dev nD) (t : Fin cfg0.N) (l : Fin 1024) : iblk m c 12 t (ix2 0 l) = (kArgs m c).b (ix1 l) := by
  have e : iblk m c 12 t (ix2 0 l) = (V m c main_v7 : FVec Ideal S1x1024 .f32) (ix2 0 l) := by
    blk_ext [iblk, idx t]
  rw [e, host_v7]
  pointwise

end Cert.Merge
-- ==== Proof.Merge.Value.lean ====
module

public import proofs.«01_k».proof.Proof.Merge.Operands

@[expose] public section

/-!
The kernel's result after the run, entry by entry, over its arguments.
-/

set_option maxRecDepth 16384

noncomputable section

namespace Cert.Merge

open Idealize.ShloMosaic Idealize.ShloMosaic.TcCoe Idealize.SL.Sem
open Idealize.ShloMosaic.Pipeline (Dat)
open Cert.Kernel3Ideal Cert.Kernel3Ideal.Gen
open Cert.Ffn (mean)

variable (m : (ℓ : Loc nD τ sig) → Buf (Elt Ideal) ℓ)

/-- A loaded gate's columns at an entry. -/
theorem wide_at (x : Vec Ideal S4x1024x1024 .bf16) (j : Fin 4) (inb) (d l : Fin 1024) :
    View.ld x (Rect.unit (s := S4x1024x1024) ![j.val, 0, 0] S1x1024x1024.size inb) (ix3 0 d l) = x (ix3 j d l) :=
  View.ld_unit_apply_of x _ _ inb (ix3 0 d l) (ix3 j d l) fun a => by fin_cases a <;> simp [ix3]

/-- A loaded branch's projection at an entry. -/
theorem tall_at (x : Vec Ideal S4x256x1024 .bf16) (j : Fin 4) (inb) (w : Fin 256) (l : Fin 1024) :
    View.ld x (Rect.unit (s := S4x256x1024) ![j.val, 0, 0] S1x256x1024.size inb) (ix3 0 w l) = x (ix3 j w l) :=
  View.ld_unit_apply_of x _ _ inb (ix3 0 w l) (ix3 j w l) fun a => by fin_cases a <;> simp [ix3]

/-- The modulated rows at an entry. -/
theorem pay2_at (v0 : Vec Ideal S256x1024 .f32) (v1 v6 : Vec Ideal S1x1024 .f32) (r : Fin 256) (d : Fin 1024) :
    k0_pay2 v0 v1 v6 (ix2 r d) = v0 (ix2 r d) * (1 + v1 (ix2 0 d)) + v6 (ix2 0 d) := by
  pointwise [k0_pay2]

/-- The first branch's gated projection at an entry. -/
theorem pay3_at (v0 : Vec Ideal S256x1024 .f32) (v1 v6 : Vec Ideal S1x1024 .f32) (v11 : Vec Ideal S1x1024x1024 .bf16) (v21 : Vec Ideal S256x256 .f32)
    (v23 : Vec Ideal S1x256x1024 .bf16) (r : Fin 256) (l : Fin 1024) :
    k0_pay3 v0 v1 v6 v11 v21 v23 (ix2 r l) = sgm (∑ d : Fin 1024, k0_pay2 v0 v1 v6 (ix2 r d) * v11 (ix3 0 d l))
      * ∑ w : Fin 256, v21 (ix2 r w) * v23 (ix3 0 w l) := by
  unfold sgm k0_pay3
  generalize k0_pay2 v0 v1 v6 = u
  pointwise

/-- The second gate's exponent at an entry. -/
theorem pay4_at (v0 : Vec Ideal S256x1024 .f32) (v1 v6 : Vec Ideal S1x1024 .f32) (v28 : Vec Ideal S1x1024x1024 .bf16) (r : Fin 256) (l : Fin 1024) :
    k0_pay4 v0 v1 v6 v28 (ix2 r l) = 0 - ∑ d : Fin 1024, k0_pay2 v0 v1 v6 (ix2 r d) * v28 (ix3 0 d l) := by
  unfold k0_pay4
  generalize k0_pay2 v0 v1 v6 = u
  pointwise

/-- The sum of the first three branches at an entry. -/
theorem pay5_at (v9 : FVec Ideal S256x1024 .bf16) (v27 v32 : FVec Ideal S256x1024 .f32) (v38 : Vec Ideal S256x256 .f32) (v40 : Vec Ideal S1x256x1024 .bf16)
    (v45 : Vec Ideal S1x1024x1024 .bf16) (v55 : Vec Ideal S256x256 .f32) (v57 : Vec Ideal S1x256x1024 .bf16) (r : Fin 256) (l : Fin 1024) :
    k0_pay5 v9 v27 v32 v38 v40 v45 v55 v57 (ix2 r l) = v27 (ix2 r l)
      + Ideal.div 1 (1 + Ideal.exp (v32 (ix2 r l))) * (∑ w : Fin 256, v38 (ix2 r w) * v40 (ix3 0 w l))
      + sgm (∑ d : Fin 1024, v9 (ix2 r d) * v45 (ix3 0 d l)) * ∑ w : Fin 256, v55 (ix2 r w) * v57 (ix3 0 w l) := by
  unfold sgm
  pointwise [k0_pay5]

/-- The last gate's exponent at an entry. -/
theorem pay6_at (v9 : FVec Ideal S256x1024 .bf16) (v62 : Vec Ideal S1x1024x1024 .bf16) (r : Fin 256) (l : Fin 1024) :
    k0_pay6 v9 v62 (ix2 r l) = 0 - ∑ d : Fin 1024, v9 (ix2 r d) * v62 (ix3 0 d l) := by
  pointwise [k0_pay6]

/-- A residual row, over the sum `a` of the first three branches and the last gate's exponent `e`. -/
def resid (v0 : Vec Ideal S256x1024 .f32) (a e : FVec Ideal S256x1024 .f32) (v72 : Vec Ideal S256x256 .f32) (v74 : Vec Ideal S1x256x1024 .bf16)
    (v80 : Vec Ideal S1024x1024 .bf16) (v85 : Vec Ideal S1x1024 .f32) (r : Fin 256) (l : Fin 1024) : EReal :=
  Ideal.ofBits .f32 0x3FB504F3#32 * v0 (ix2 r l) + v85 (ix2 0 l) * ∑ n : Fin 1024,
    (a (ix2 r n) + Ideal.div 1 (1 + Ideal.exp (e (ix2 r n))) * ∑ w : Fin 256, v72 (ix2 r w) * v74 (ix3 0 w n)) * v80 (ix2 n l)

/-- A residual row less its mean. -/
theorem pay9_at (v0 : Vec Ideal S256x1024 .f32) (a e : FVec Ideal S256x1024 .f32) (v72 : Vec Ideal S256x256 .f32) (v74 : Vec Ideal S1x256x1024 .bf16)
    (v80 : Vec Ideal S1024x1024 .bf16) (v85 : Vec Ideal S1x1024 .f32) (r : Fin 256) (l : Fin 1024) :
    k0_pay9 v0 a e v72 v74 v80 v85 (ix2 r l) = resid v0 a e v72 v74 v80 v85 r l - mean (resid v0 a e v72 v74 v80 v85 r) := by
  unfold resid mean
  pointwise [k0_pay9]

/-- The layer norm over a row less its mean. -/
theorem norm_at (v0 : Vec Ideal S256x1024 .f32) (a e : FVec Ideal S256x1024 .f32) (v72 : Vec Ideal S256x256 .f32) (v74 : Vec Ideal S1x256x1024 .bf16)
    (v80 : Vec Ideal S1024x1024 .bf16) (v85 g b : Vec Ideal S1x1024 .f32) (r : Fin 256) (l : Fin 1024) :
    k0_pay1 (k0_pay7 g) (k0_pay8 b) (k0_pay9 v0 a e v72 v74 v80 v85) (k0_pay10 v0 a e v72 v74 v80 v85) (Scalar.ofBits .f32 0x3727C5AC#32) (ix2 r l)
      = Cert.Ffn.norm (resid v0 a e v72 v74 v80 v85 r) l (g (ix2 0 l)) (b (ix2 0 l)) := by
  have h (d : FVec Ideal S256x1024 .f32) (q : FVec Ideal S256x1 .f32) (hd : ∀ k, d (ix2 r k) = resid v0 a e v72 v74 v80 v85 r k - mean (resid v0 a e v72 v74 v80 v85 r))
      (hq : q (ix2 r 0) = mean fun k => d (ix2 r k) * d (ix2 r k)) :
      k0_pay1 (k0_pay7 g) (k0_pay8 b) d q (Scalar.ofBits .f32 0x3727C5AC#32) (ix2 r l) = Cert.Ffn.norm (resid v0 a e v72 v74 v80 v85 r) l (g (ix2 0 l)) (b (ix2 0 l)) := by
    have e1 : k0_pay1 (k0_pay7 g) (k0_pay8 b) d q (Scalar.ofBits .f32 0x3727C5AC#32) (ix2 r l)
        = d (ix2 r l) * Ideal.rsqrt (q (ix2 r 0) + Ideal.ofBits .f32 0x3727C5AC#32) * g (ix2 0 l) + b (ix2 0 l) := by
      pointwise [k0_pay1, k0_pay7, k0_pay8]
    rw [e1, hq]
    simp only [hd]
    rfl
  refine h _ _ (pay9_at v0 a e v72 v74 v80 v85 r) ?_
  unfold k0_pay10 mean
  generalize k0_pay9 v0 a e v72 v74 v80 v85 = d
  pointwise

/-- The gated sum, branch by branch. -/
theorem mix_eq (A : Args) (R : Fin 16384) (l : Fin 1024) :
    A.mix R l = A.gate R 0 l * A.proj R 0 l + A.gate R 1 l * A.proj R 1 l + A.gate R 2 l * A.proj R 2 l + A.gate R 3 l * A.proj R 3 l :=
  Fin.sum_univ_four _

end Cert.Merge
-- ==== Proof.Merge.Finals.lean ====
module

public import proofs.«01_k».proof.Proof.Merge.Value

@[expose] public section

/-!
The kernel's result array after the run.
-/

set_option maxRecDepth 16384

noncomputable section

namespace Cert.Merge

open Idealize.ShloMosaic Idealize.ShloMosaic.TcCoe Idealize.SL.Sem
open Idealize.ShloMosaic.Pipeline (Dat)
open Cert.Kernel3Ideal Cert.Kernel3Ideal.Gen
open Cert.Ffn (mean)

variable (m : (ℓ : Loc nD τ sig) → Buf (Elt Ideal) ℓ)

/-- A row and a channel in their block of 256 rows, given by their coordinates. -/
theorem out_at (A : Args) (t : Fin cfg0.N) (r : Fin 256) (l : Fin 1024) (a b : ℕ) (h : a < 16384) (h' : b < 1024) (ha : a = t.val * 256 + r.val) (hb : b = l.val) :
    A.out (rowOf t r) l = A.out ⟨a, h⟩ ⟨b, h'⟩ := by
  subst ha hb
  rfl

/-- The modulated row of the point's block. -/
theorem u_at (c : Dev nD) (t : Fin cfg0.N) (r : Fin 256) (d : Fin 1024) :
    k0_pay2 (iblk m c 0 t) (iblk m c 2 t) (iblk m c 1 t) (ix2 r d) = (kArgs m c).u (rowOf t r) d := by
  rw [pay2_at, b0, b1, b2]
  rfl

/-- The result of the body at a grid point, entry by entry. -/
theorem point_at (c : Dev nD) (t : Fin cfg0.N) (r : Fin 256) (l : Fin 1024) (s0 s1 s2 s3 : Vec Ideal S1x1024x1024 .bf16) (p0 p1 p2 p3 : Vec Ideal S1x256x1024 .bf16)
    (hs0 : ∀ d l, s0 (ix3 0 d l) = (kArgs m c).wi (ix2 d (gateCol 0 l))) (hp0 : ∀ w l, p0 (ix3 0 w l) = (kArgs m c).wb (ix3 0 w l))
    (hs1 : ∀ d l, s1 (ix3 0 d l) = (kArgs m c).wi (ix2 d (gateCol 1 l))) (hp1 : ∀ w l, p1 (ix3 0 w l) = (kArgs m c).wb (ix3 1 w l))
    (hs2 : ∀ d l, s2 (ix3 0 d l) = (kArgs m c).wi (ix2 d (gateCol 2 l))) (hp2 : ∀ w l, p2 (ix3 0 w l) = (kArgs m c).wb (ix3 2 w l))
    (hs3 : ∀ d l, s3 (ix3 0 d l) = (kArgs m c).wi (ix2 d (gateCol 3 l))) (hp3 : ∀ w l, p3 (ix3 0 w l) = (kArgs m c).wb (ix3 3 w l)) :
    k0_pay1 (k0_pay7 (iblk m c 11 t)) (k0_pay8 (iblk m c 12 t))
      (k0_pay9 (iblk m c 0 t) (k0_pay5 (k0_pay2 (iblk m c 0 t) (iblk m c 2 t) (iblk m c 1 t)) (k0_pay3 (iblk m c 0 t) (iblk m c 2 t) (iblk m c 1 t) s0 (iblk m c 4 t) p0) (k0_pay4 (iblk m c 0 t) (iblk m c 2 t) (iblk m c 1 t) s1) (iblk m c 5 t) p1 s2 (iblk m c 6 t) p2)
        (k0_pay6 (k0_pay2 (iblk m c 0 t) (iblk m c 2 t) (iblk m c 1 t)) s3) (iblk m c 7 t) p3 (iblk m c 10 t) (iblk m c 3 t))
      (k0_pay10 (iblk m c 0 t) (k0_pay5 (k0_pay2 (iblk m c 0 t) (iblk m c 2 t) (iblk m c 1 t)) (k0_pay3 (iblk m c 0 t) (iblk m c 2 t) (iblk m c 1 t) s0 (iblk m c 4 t) p0) (k0_pay4 (iblk m c 0 t) (iblk m c 2 t) (iblk m c 1 t) s1) (iblk m c 5 t) p1 s2 (iblk m c 6 t) p2)
        (k0_pay6 (k0_pay2 (iblk m c 0 t) (iblk m c 2 t) (iblk m c 1 t)) s3) (iblk m c 7 t) p3 (iblk m c 10 t) (iblk m c 3 t))
      (Scalar.ofBits .f32 0x3727C5AC#32) (ix2 r l) = (kArgs m c).out (rowOf t r) l := by
  rw [norm_at, b11, b12]
  unfold Args.out
  congr 1
  funext k
  unfold resid Args.pre
  rw [b0, b3]
  congr 2
  refine Finset.sum_congr rfl fun n _ => ?_
  rw [b10, mix_eq, pay5_at, pay3_at, pay4_at, pay6_at]
  simp only [u_at, hs0, hs1, hs2, hs3, hp0, hp1, hp2, hp3, b4, b5, b6, b7]
  rfl

set_option maxHeartbeats 1600000 in
/-- The sub-layer's output, at every grid point. -/
theorem final (c : Dev nD) : (dats m 0 c).arrAt 13 (cfgs 0).N = (kArgs m c).outs := by
  refine (dats m 0 c).arrAt_eq_of_covers 13 _ (by decide +kernel) fun t _ y => ?_
  blk_simp
  rw [after0_13]
  unfold out0_13 k0_pay12 k0_pay13 k0_pay11
  frame_out
  obtain ⟨r, l, rfl⟩ : ∃ (r : Fin 256) (l : Fin 1024), y = ix2 r l := ⟨y 0, y 1, eq_ix2 y⟩
  refine (point_at m c t r l _ _ _ _ _ _ _ _ (fun d l => (wide_at _ 0 _ d l).trans (b8 m c t 0 d l)) (fun w l => (tall_at _ 0 _ w l).trans (b9 m c t 0 w l)) (fun d l => (wide_at _ 1 _ d l).trans (b8 m c t 1 d l)) (fun w l => (tall_at _ 1 _ w l).trans (b9 m c t 1 w l)) (fun d l => (wide_at _ 2 _ d l).trans (b8 m c t 2 d l)) (fun w l => (tall_at _ 2 _ w l).trans (b9 m c t 2 w l)) (fun d l => (wide_at _ 3 _ d l).trans (b8 m c t 3 d l)) (fun w l => (tall_at _ 3 _ w l).trans (b9 m c t 3 w l))).trans ?_
  obtain ⟨-, -, -, -, -, -, -, -, -, -, -, -, -, e⟩ := idx t
  have e0 : win0_13.index t 0 = t.val := congrFun e 0
  have e1 : win0_13.index t 1 = 0 := congrFun e 1
  refine out_at (kArgs m c) t r l _ _ _ _ ?_ ?_
  · rw [View.emb_slice, Function.Embedding.trans_apply, View.emb_whole, Function.Embedding.refl_apply, Rect.emb_apply]
    show win0_13.index t 0 * 256 + 1 * r.val = t.val * 256 + r.val
    rw [e0, one_mul]
  · rw [View.emb_slice, Function.Embedding.trans_apply, View.emb_whole, Function.Embedding.refl_apply, Rect.emb_apply]
    show win0_13.index t 1 * 1024 + 1 * l.val = l.val
    rw [e1, Nat.zero_mul, Nat.zero_add, one_mul]

end Cert.Merge
-- ==== Proof.Merge.RefValue.lean ====
module

public import proofs.«01_k».proof.Proof.Gen.Reference3Ideal.Run
public import Idealize.ShloMosaic.Lib.Pipeline.ValueKit
public import proofs.«01_k».proof.Proof.Merge.Spec

@[expose] public section

/-!
The reference's result, entry by entry: each array it computes on the way, named, and read at an entry.
-/

set_option maxRecDepth 16384

noncomputable section

namespace Cert.Merge

open Idealize.ShloMosaic Idealize.ShloMosaic.TcCoe Idealize.SL.Sem Idealize.ShloMosaic.StableHlo
open Cert.Ffn (mean)
open Cert.Reference3Ideal Cert.Reference3Ideal.Gen Cert.Reference3Ideal.Value

/-- The reference's modulated rows. -/
def refU (x : FVec Ideal S16384x1024 .f32) (md : FVec Ideal S1x9216 .f32) : FVec Ideal S16384x1024 .f32 :=
  addf (mulf x (broadcastInDim S16384x1024 ![0, 1] bcast_S1x1024_S16384x1024_0_1 (broadcastInDim S1x1024 ![1] bcast_S1024_S1x1024_1 (addf (broadcastInDim S1024 ![] bcast_S_S1024 (constant S_ .f32 0x3F800000#32)) (shapeCast _ (extractStridedSlice S1x1024 ![4, 0] (shapeCast _ md shapeCasts_S1x9216_S9x1024) slices_S9x1024_S1x1024_4_0) shapeCasts_S1x1024_S1024))))) (broadcastInDim S16384x1024 ![0, 1] bcast_S1x1024_S16384x1024_0_1 (broadcastInDim S1x1024 ![1] bcast_S1024_S1x1024_1 (shapeCast _ (extractStridedSlice S1x1024 ![3, 0] (shapeCast _ md shapeCasts_S1x9216_S9x1024) slices_S9x1024_S1x1024_3_0) shapeCasts_S1x1024_S1024)))

/-- The reference's gates. -/
def refGate (u : FVec Ideal S16384x1024 .f32) (wi : FVec Ideal S1024x7768 .f32) : FVec Ideal S16384x4x1024 .f32 :=
  Host.divf (broadcastInDim S16384x4x1024 ![] bcast_S_S16384x4x1024 (constant S_ .f32 0x3F800000#32)) (addf (broadcastInDim S16384x4x1024 ![] bcast_S_S16384x4x1024 (constant S_ .f32 0x3F800000#32)) (Host.exp (Host.negf (shapeCast _ (Host.dotGeneral dot_S16384x1024_S1024x4096_S16384x4096_1_0_0_1_n_n none u (extractStridedSlice S1024x4096 ![0, 3672] wi slices_S1024x7768_S1024x4096_0_3672)) shapeCasts_S16384x4096_S16384x4x1024))))

/-- The reference's branches, side by side. -/
def refBranches (ya yb yc yd : FVec Ideal S16384x256 .f32) : FVec Ideal S16384x4x256 .f32 :=
  concatenate S16384x4x256 1 [⟨S16384x1x256, broadcastInDim S16384x1x256 ![0, 2] bcast_S16384x256_S16384x1x256_0_2 ya⟩, ⟨S16384x1x256, broadcastInDim S16384x1x256 ![0, 2] bcast_S16384x256_S16384x1x256_0_2 yb⟩, ⟨S16384x1x256, broadcastInDim S16384x1x256 ![0, 2] bcast_S16384x256_S16384x1x256_0_2 yc⟩, ⟨S16384x1x256, broadcastInDim S16384x1x256 ![0, 2] bcast_S16384x256_S16384x1x256_0_2 yd⟩] concatenates_S16384x1x256_S16384x1x256_S16384x1x256_S16384x1x256_S16384x4x256_d1

/-- The reference's projections of the branches. -/
def refProj (wb : FVec Ideal S4x256x1024 .f32) (y : FVec Ideal S16384x4x256 .f32) : FVec Ideal S16384x4x1024 .f32 :=
  transpose S16384x4x1024 [2, 0, 1] (Host.dotGeneral dot_S4x256x1024_S16384x4x256_S4x1024x16384_1_2_2_0_0_1 none wb y) transposes_S4x1024x16384_S16384x4x1024_2_0_1

/-- The reference's gated sum. -/
def refMix (g p : FVec Ideal S16384x4x1024 .f32) : FVec Ideal S16384x1024 .f32 :=
  Host.reduceAdd (mulf g p) (constant S_ .f32 0x00000000#32) reducesTo_S16384x4x1024_S16384x1024_d1 h_S_

/-- The reference's residual sum. -/
def refPre (x : FVec Ideal S16384x1024 .f32) (md : FVec Ideal S1x9216 .f32) (a : FVec Ideal S16384x1024 .f32) (wo : FVec Ideal S1024x1024 .f32) :
    FVec Ideal S16384x1024 .f32 :=
  addf (mulf (broadcastInDim S16384x1024 ![] bcast_S_S16384x1024 (constant S_ .f32 0x3FB504F3#32)) x) (mulf (broadcastInDim S16384x1024 ![0, 1] bcast_S1x1024_S16384x1024_0_1 (broadcastInDim S1x1024 ![1] bcast_S1024_S1x1024_1 (shapeCast _ (extractStridedSlice S1x1024 ![5, 0] (shapeCast _ md shapeCasts_S1x9216_S9x1024) slices_S9x1024_S1x1024_5_0) shapeCasts_S1x1024_S1024))) (Host.dotGeneral dot_S16384x1024_S1024x1024_S16384x1024_1_0_0_1_n_n none a wo))

/-- The reference's row means. -/
def refMean (y : FVec Ideal S16384x1024 .f32) : FVec Ideal S16384x1 .f32 :=
  Host.divf (broadcastInDim S16384x1 ![0] bcast_S16384_S16384x1_0 (Host.reduceAdd y (constant S_ .f32 0x00000000#32) reducesTo_S16384x1024_S16384_d1 h_S_)) (broadcastInDim S16384x1 ![] bcast_S_S16384x1 (constant S_ .f32 0x44800000#32))

/-- The reference's rows less a column. -/
def refLess (y : FVec Ideal S16384x1024 .f32) (mu : FVec Ideal S16384x1 .f32) : FVec Ideal S16384x1024 .f32 :=
  subf y (broadcastInDim S16384x1024 ![0, 1] bcast_S16384x1_S16384x1024_0_1 mu)

/-- The reference's layer norm. -/
def refNorm (d : FVec Ideal S16384x1024 .f32) (va : FVec Ideal S16384x1 .f32) (g b : FVec Ideal S1024 .f32) : FVec Ideal S16384x1024 .f32 :=
  addf (mulf (mulf d (broadcastInDim S16384x1024 ![0, 1] bcast_S16384x1_S16384x1024_0_1 (Host.rsqrt (addf va (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The reference's residual sum over its arguments. -/
def refRes (A : Args) : FVec Ideal S16384x1024 .f32 :=
  refPre A.x A.md (refMix (refGate (refU A.x A.md) A.wi) (refProj A.wb (refBranches A.ya A.yb A.yc A.yd))) A.wo

/-- The reference's result as the layer norm of its residual sum. -/
def refOut (A : Args) : FVec Ideal S16384x1024 .f32 :=
  refNorm (refLess (refRes A) (refMean (refRes A)))
    (refMean (mulf (refLess (refRes A) (refMean (refRes A))) (refLess (refRes A) (refMean (refRes A))))) A.g A.b

/-- The modulated rows at an entry. -/
theorem refU_at (A : Args) (r : Fin 16384) (d : Fin 1024) : refU A.x A.md (ix2 r d) = A.u r d := by
  unfold Args.u Args.mrow
  pointwise [refU]

/-- A gate at an entry. -/
theorem refGate_at (u : FVec Ideal S16384x1024 .f32) (wi : FVec Ideal S1024x7768 .f32) (r : Fin 16384) (j : Fin 4) (l : Fin 1024) :
    refGate u wi (ix3 r j l) = sgm (∑ d : Fin 1024, u (ix2 r d) * wi (ix2 d (gateCol j l))) := by
  unfold sgm gateCol
  rw [zero_sub]
  pointwise [refGate]

/-- The branches at an entry. -/
theorem refBranches_at (A : Args) (r : Fin 16384) (j : Fin 4) (w : Fin 256) :
    refBranches A.ya A.yb A.yc A.yd (ix3 r j w) = A.branch j (ix2 r w) := by
  unfold Args.branch
  fin_cases j
  · show refBranches A.ya A.yb A.yc A.yd (ix3 r 0 w) = A.ya (ix2 r w)
    pointwise [refBranches]
  · show refBranches A.ya A.yb A.yc A.yd (ix3 r 1 w) = A.yb (ix2 r w)
    pointwise [refBranches]
  · show refBranches A.ya A.yb A.yc A.yd (ix3 r 2 w) = A.yc (ix2 r w)
    pointwise [refBranches]
  · show refBranches A.ya A.yb A.yc A.yd (ix3 r 3 w) = A.yd (ix2 r w)
    pointwise [refBranches]

/-- A projection at an entry. -/
theorem refProj_at (wb : FVec Ideal S4x256x1024 .f32) (y : FVec Ideal S16384x4x256 .f32) (r : Fin 16384) (j : Fin 4) (l : Fin 1024) :
    refProj wb y (ix3 r j l) = ∑ w : Fin 256, y (ix3 r j w) * wb (ix3 j w l) := by
  have e : refProj wb y (ix3 r j l) = ∑ w : Fin 256, wb (ix3 j w l) * y (ix3 r j w) := by
    pointwise [refProj]
  rw [e]
  exact Finset.sum_congr rfl fun w _ => mul_comm _ _

/-- The gated sum at an entry. -/
theorem refMix_at (g p : FVec Ideal S16384x4x1024 .f32) (r : Fin 16384) (l : Fin 1024) :
    refMix g p (ix2 r l) = ∑ j : Fin 4, g (ix3 r j l) * p (ix3 r j l) := by
  pointwise [refMix]

/-- The residual sum at an entry. -/
theorem refPre_at (A : Args) (a : FVec Ideal S16384x1024 .f32) (r : Fin 16384) (l : Fin 1024) :
    refPre A.x A.md a A.wo (ix2 r l) = A.pre r (fun n => a (ix2 r n)) l := by
  unfold Args.pre Args.mrow
  pointwise [refPre]

/-- The residual sum over the arguments at an entry. -/
theorem refRes_at (A : Args) (r : Fin 16384) (l : Fin 1024) : refRes A (ix2 r l) = A.pre r (A.mix r) l := by
  unfold refRes
  simp only [refPre_at, refMix_at, refGate_at, refProj_at, refBranches_at, refU_at]
  rfl

/-- A row's mean. -/
theorem refMean_at (y : FVec Ideal S16384x1024 .f32) (r : Fin 16384) : refMean y (ix2 r 0) = mean (fun l => y (ix2 r l)) := by
  unfold mean
  pointwise [refMean]

/-- A row less its column's entry. -/
theorem refLess_at (y : FVec Ideal S16384x1024 .f32) (mu : FVec Ideal S16384x1 .f32) (r : Fin 16384) (l : Fin 1024) :
    refLess y mu (ix2 r l) = y (ix2 r l) - mu (ix2 r 0) := by
  pointwise [refLess]

/-- The layer norm at an entry. -/
theorem refNorm_at (d : FVec Ideal S16384x1024 .f32) (va : FVec Ideal S16384x1 .f32) (g b : FVec Ideal S1024 .f32) (r : Fin 16384) (l : Fin 1024) :
    refNorm d va g b (ix2 r l) = d (ix2 r l) * Ideal.rsqrt (va (ix2 r 0) + Ideal.ofBits .f32 0x3727C5AC#32) * g (ix1 l) + b (ix1 l) := by
  pointwise [refNorm]

/-- A product of arrays at an entry. -/
theorem square_at (d : FVec Ideal S16384x1024 .f32) (i : S16384x1024.Idx) : mulf d d i = d i * d i := rfl

/-- The reference's result at an entry. -/
theorem refOut_at (A : Args) (r : Fin 16384) (l : Fin 1024) : refOut A (ix2 r l) = A.out r l := by
  unfold refOut Args.out Cert.Ffn.norm
  simp only [refNorm_at, refLess_at, refMean_at, square_at, refRes_at]

/-- The reference's arguments as the sub-layer's. -/
def refArgs (m : (ℓ : Loc nD τ sig) → Buf (Elt Ideal) ℓ) (c : Dev nD) : Args where
  x := m ((c.tc : Thread nD τ).loc main_arg0)
  md := m ((c.tc : Thread nD τ).loc main_arg1)
  ya := m ((c.tc : Thread nD τ).loc main_arg2)
  yb := m ((c.tc : Thread nD τ).loc main_arg3)
  yc := m ((c.tc : Thread nD τ).loc main_arg4)
  yd := m ((c.tc : Thread nD τ).loc main_arg5)
  wi := m ((c.tc : Thread nD τ).loc main_arg6)
  wb := m ((c.tc : Thread nD τ).loc main_arg7)
  wo := m ((c.tc : Thread nD τ).loc main_arg8)
  g := m ((c.tc : Thread nD τ).loc main_arg9)
  b := m ((c.tc : Thread nD τ).loc main_arg10)

/-- The reference's result is that of the sub-layer. -/
theorem ref_out (m : (ℓ : Loc nD τ sig) → Buf (Elt Ideal) ℓ) (c : Dev nD) : res_main_v63 m c = refOut (refArgs m c) := rfl

end Cert.Merge
-- ==== Proof.Merge.Agreement.lean ====
module

public import proofs.«01_k».proof.Defs
public import proofs.«01_k».proof.Proof.Gen.Kernel3Ideal.Value
public import proofs.«01_k».proof.Proof.Merge.Finals
public import proofs.«01_k».proof.Proof.Merge.RefValue

@[expose] public section

/-!
The merge call and its reference end with equal results.
-/

noncomputable section

namespace Cert.Merge

open Idealize.ShloMosaic Idealize.ShloMosaic.TcCoe Idealize.SL.Sem

/-- Memories that agree on the arguments give both programs the same sub-layer. -/
theorem args_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) :
    refArgs m' c = kArgs m c := by
  obtain ⟨h0, h1, h2, h3, h4, h5, h6, h7, h8, h9, h10⟩ := h
  unfold refArgs kArgs
  rw [Args.mk.injEq]
  exact ⟨h0, h1, h2, h3, h4, h5, h6, h7, h8, h9, h10⟩

/-- Equal results, as the claim states them. -/
theorem equal : algebraic_Kernel3Ideal_Reference3Ideal (hKernel3Ideal := Cert.Kernel3Ideal.Gen.facts) (hReference3Ideal := Cert.Reference3Ideal.Gen.facts) := by
  intro m g m' g' hpre hagree
  refine ⟨fun c => (kArgs m c).outs,
    (θ_run _ _ _).mono (fun r h c => ⟨(h c).1.trans (final m c), (h c).2⟩) (Cert.Kernel3Ideal.Value.run_blocks m g),
    (θ_run _ _ _).mono (fun r h c => ⟨(h c).1.trans ?_, (h c).2⟩) (Cert.Reference3Ideal.Value.run m' g')⟩
  show _ = (kArgs m c).outs
  rw [← args_agree m m' c (hagree c)]
  exact outs_of _ _ (fun r l => (congrFun (ref_out m' c) (ix2 r l)).trans (refOut_at (refArgs m' c) r l))

end Cert.Merge
-- ==== Proof.Proj.Spec.lean ====
module

public import Idealize.ShloMosaic.Lib.Pipeline.ValueKit
public import Idealize.ShloMosaic.Lib.IdealHost

@[expose] public section

/-!
The input projection of one batch, one entry at a time: the modulated row, a projected column, and the rotary embedding of
a head of 64 columns. Both programs are compared with it.
-/

noncomputable section

namespace Cert.Proj

open Idealize.ShloMosaic

/-- The arrays the part reads: the rows, the layer's modulation, the projection's weights, and the cosines and sines of
the positions' angles. -/
structure Args where
  x : FVec Ideal ⟨2, ![16384, 1024]⟩ .f32
  md : FVec Ideal ⟨2, ![1, 9216]⟩ .f32
  w : FVec Ideal ⟨2, ![1024, 7768]⟩ .f32
  cs : FVec Ideal ⟨2, ![16384, 32]⟩ .f32
  sn : FVec Ideal ⟨2, ![16384, 32]⟩ .f32

/-- Entry `d` of row `q` of the nine modulation rows. -/
def Args.mrow (A : Args) (q : Fin 9) (d : Fin 1024) : EReal := A.md (ix2 0 ⟨q.val * 1024 + d.val, by omega⟩)

/-- The modulated row. -/
def Args.u (A : Args) (r : Fin 16384) (d : Fin 1024) : EReal :=
  A.x (ix2 r d) * (1 + A.mrow 4 d) + A.mrow 3 d

/-- Column `k` of the weights, zero past the last. -/
def Args.col (A : Args) (d : Fin 1024) (k : ℕ) : EReal := if h : k < 7768 then A.w (ix2 d ⟨k, h⟩) else 0

/-- Projected column `k` of row `r`. -/
def Args.pr (A : Args) (r : Fin 16384) (k : ℕ) : EReal := ∑ d : Fin 1024, A.u r d * A.col d k

/-- The rotary embedding of a head `p`, whose halves are the two coordinates of 32 pairs, by the angles' cosines and sines. -/
def rope (p : ℕ → EReal) (cs sn : Fin 32 → EReal) (j : ℕ) : EReal :=
  if j % 64 < 32 then p j * cs ⟨j % 32, by omega⟩ - p (j + 32) * sn ⟨j % 32, by omega⟩
  else p j * cs ⟨j % 32, by omega⟩ + p (j - 32) * sn ⟨j % 32, by omega⟩

/-- The rotary embedding of the columns from `b` on, at the `l`-th. -/
def Args.rot (A : Args) (r : Fin 16384) (b l : ℕ) : EReal :=
  rope (fun j => A.pr r (b + j)) (fun f => A.cs (ix2 r f)) (fun f => A.sn (ix2 r f)) l

/-- Whole heads may be counted with the first column. -/
theorem rot_shift (A : Args) (r : Fin 16384) (b q l : ℕ) : A.rot r b (64 * q + l) = A.rot r (b + 64 * q) l := by
  unfold Args.rot rope
  have e1 : (64 * q + l) % 64 = l % 64 := by omega
  have e2 : (64 * q + l) % 32 = l % 32 := by omega
  simp only [e1, e2]
  by_cases h : l % 64 < 32
  · rw [if_pos h, if_pos h, show b + (64 * q + l) = b + 64 * q + l by omega, show b + (64 * q + l + 32) = b + 64 * q + (l + 32) by omega]
  · rw [if_neg h, if_neg h, show b + (64 * q + l) = b + 64 * q + l by omega, show b + (64 * q + l - 32) = b + 64 * q + (l - 32) by omega]

/-- An array of rows of `n` entries, given entry by entry. -/
def rows {t : FTy} (n : ℕ) (f : Fin 16384 → ℕ → EReal) : FVec Ideal ⟨2, ![16384, n]⟩ t := fun i => f ⟨(i 0).val, (i 0).isLt⟩ (i 1).val

/-- An array of rows that agrees at each pair of coordinates. -/
theorem rows_of {t : FTy} (n : ℕ) (f : Fin 16384 → ℕ → EReal) (x : FVec Ideal ⟨2, ![16384, n]⟩ t)
    (h : ∀ (r : Fin 16384) (l : Fin n), x (ix2 r l) = f r l.val) : x = rows n f := by
  funext i
  obtain ⟨a, l, rfl⟩ : ∃ (a : Fin 16384) (l : Fin n), i = ix2 a l := ⟨i 0, i 1, eq_ix2 i⟩
  exact h a l

/-- Projected columns from `b` on. -/
def Args.plain (A : Args) (b : ℕ) (r : Fin 16384) (l : ℕ) : EReal := A.pr r (b + l)

/-- Projected columns from `b` on, each head turned by its position's angles. -/
def Args.turned (A : Args) (b : ℕ) (r : Fin 16384) (l : ℕ) : EReal := A.rot r b l

/-- The same, times an eighth. -/
def Args.scaled (A : Args) (b : ℕ) (r : Fin 16384) (l : ℕ) : EReal := A.rot r b l * Ideal.ofBits .f32 0x3E000000#32

/-- The indexer's weights of its heads. -/
def Args.weight (A : Args) (r : Fin 16384) (l : ℕ) : EReal := A.pr r (2880 + l) * Ideal.ofBits .f32 0x3EB504F3#32

/-- The last group's columns, with zeros after them. -/
def Args.padded (A : Args) (r : Fin 16384) (l : ℕ) : EReal := if l < 784 then A.pr r (2888 + l) else 0

end Cert.Proj
-- ==== Proof.Proj.Turn.lean ====
module

public import proofs.«01_k».proof.Proof.Gen.Kernel4Ideal.Value
public import Idealize.ShloMosaic.Lib.Pipeline.ValueKit
public import proofs.«01_k».proof.Proof.Proj.Spec
public import Idealize.ShloMosaic.Lib.KernelVsHost

@[expose] public section

/-!
The kernel's rotary embedding, entry by entry: each column with its partner in the other half of its head.
-/

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

/-- Which of 512 columns lie in the first half of their head, as the kernel computes it. -/
def mask512 : IVec S512x512 1 :=
  have v32 : IVec S512x512 32 := iota .tc S512x512 32 [1] iota_S512x512_d1_w32
  let v33 : BitVec 1 := Scalar.cmpi .eq 64#32 0#32
  let v34 : BitVec 32 := Scalar.select v33 1#32 64#32
  have v35 : IVec S512x512 32 := broadcast S512x512 v34
  have v36 : IVec S512x512 32 := remsi v32 v35
  have v37 : IVec S512x512 32 := broadcast S512x512 0#32
  have v38 : IVec S512x512 1 := cmpi .ne v36 v37
  have v39 : IVec S512x512 32 := broadcast S512x512 0#32
  have v40 : IVec S512x512 1 := cmpi .slt v36 v39
  let v41 : BitVec 1 := Scalar.cmpi .slt v34 0#32
  have v42 : IVec S512x512 1 := broadcast S512x512 v41
  have v43 : IVec S512x512 1 := broadcastTo S512x512 v42 broadcasts_S512x512_S512x512
  have v44 : IVec S512x512 1 := xori v40 v43
  have v45 : IVec S512x512 1 := andi v44 v38
  have v46 : IVec S512x512 32 := broadcast S512x512 v34
  have v47 : IVec S512x512 32 := addi v36 v46
  have v48 : IVec S512x512 32 := select v45 v47 v36
  have v49 : IVec S512x512 32 := broadcast S512x512 32#32
  cmpi .slt v48 v49

/-- The mask's row does not depend on the row's number. -/
theorem mask512_row (r : Fin 512) (l : Fin 512) : mask512 (ix2 r l) = mask512 (ix2 0 l) := rfl

/-- The mask at each column. -/
theorem mask512_zero : ∀ l : Fin 512, mask512 (ix2 0 l) = if l.val % 64 < 32 then 1#1 else 0#1 := by decide +kernel

/-- The kernel's rotary embedding of 512 columns. -/
def turn512 (x : FVec Ideal S512x512 .f32) (c s : FVec Ideal S512x128 .f32) : FVec Ideal S512x512 .f32 :=
  addf (mulf x (concatenate S512x512 1 (List.replicate 4 ⟨S512x128, c⟩) concatenates_S512x128_S512x128_S512x128_S512x128_S512x512_d1))
    (mulf (select mask512 (dynamicRotate 1 480#32 none x rotates_S512x512_d1) (dynamicRotate 1 32#32 none x rotates_S512x512_d1))
      (concatenate S512x512 1 (List.replicate 4 ⟨S512x128, s⟩) concatenates_S512x128_S512x128_S512x128_S512x128_S512x512_d1))

/-- A table repeated along the columns. -/
theorem cat512_at (c : FVec Ideal S512x128 .f32) (r : Fin 512) (l : Fin 512) :
    (concatenate S512x512 1 (List.replicate 4 ⟨S512x128, c⟩) concatenates_S512x128_S512x128_S512x128_S512x128_S512x512_d1) (ix2 r l) = c (ix2 r ⟨l.val % 128, by omega⟩) := by
  refine concatenate_replicate_apply (t := S512x512) 1 4 c _ rfl (ix2 r l) (ix2 r ⟨l.val % 128, by omega⟩) rfl ?_
  intro b hb
  fin_cases b
  · rfl
  · exact absurd rfl hb

/-- Columns rotated by half a head, seen from the first half. -/
theorem ahead512_at (x : FVec Ideal S512x512 .f32) (r : Fin 512) (l : Fin 512) (h : l.val + 32 < 512) :
    dynamicRotate 1 480#32 none x rotates_S512x512_d1 (ix2 r l) = x (ix2 r ⟨l.val + 32, h⟩) := by
  refine dynamicRotate_apply 1 _ x _ _ _ ?_
  intro b
  fin_cases b
  · rfl
  · show l.val + 32 = (l.val + 512 - 480 % 512) % 512
    omega

/-- Columns rotated by half a head, seen from the second half. -/
theorem behind512_at (x : FVec Ideal S512x512 .f32) (r : Fin 512) (l : Fin 512) (h : 32 ≤ l.val) :
    dynamicRotate 1 32#32 none x rotates_S512x512_d1 (ix2 r l) = x (ix2 r ⟨l.val - 32, by omega⟩) := by
  refine dynamicRotate_apply 1 _ x _ _ _ ?_
  intro b
  fin_cases b
  · rfl
  · show l.val - 32 = (l.val + 512 - 32 % 512) % 512
    omega

/-- The kernel's rotary embedding is the heads' one. -/
theorem turn512_at (A : Args) (R : Fin 16384) (b : ℕ) (x : FVec Ideal S512x512 .f32) (c s : FVec Ideal S512x128 .f32) (r : Fin 512)
    (n : ℕ) (hn : n % 64 = 0) (hx : ∀ k : Fin 512, k.val < n → x (ix2 r k) = A.pr R (b + k.val))
    (hc : ∀ e : Fin 128, c (ix2 r e) = A.cs (ix2 R ⟨e.val % 32, by omega⟩))
    (hs : ∀ e : Fin 128, s (ix2 r e) = if e.val % 64 < 32 then -A.sn (ix2 R ⟨e.val % 32, by omega⟩) else A.sn (ix2 R ⟨e.val % 32, by omega⟩))
    (l : Fin 512) (hl : l.val < n) : turn512 x c s (ix2 r l) = A.rot R b l.val := by
  have hl' : l.val < 512 := l.isLt
  have e1 : turn512 x c s (ix2 r l) = x (ix2 r l) * (concatenate S512x512 1 (List.replicate 4 ⟨S512x128, c⟩) concatenates_S512x128_S512x128_S512x128_S512x128_S512x512_d1) (ix2 r l)
      + (if mask512 (ix2 r l) = 1#1 then dynamicRotate 1 480#32 none x rotates_S512x512_d1 (ix2 r l) else dynamicRotate 1 32#32 none x rotates_S512x512_d1 (ix2 r l))
        * (concatenate S512x512 1 (List.replicate 4 ⟨S512x128, s⟩) concatenates_S512x128_S512x128_S512x128_S512x128_S512x512_d1) (ix2 r l) := rfl
  have m1 : l.val % 128 % 64 = l.val % 64 := by omega
  have m2 : l.val % 128 % 32 = l.val % 32 := by omega
  rw [e1, cat512_at, cat512_at, hc, hs, mask512_row, mask512_zero, hx l hl]
  unfold Args.rot rope
  simp only [m1, m2]
  by_cases h : l.val % 64 < 32
  · have h2 : l.val + 32 < 512 := by omega
    rw [if_pos h, if_pos rfl, if_pos h, if_pos h, ahead512_at x r l h2, hx ⟨l.val + 32, h2⟩ (by show l.val + 32 < n; omega), sub_eq_add_neg, mul_neg]
  · have h2 : 32 ≤ l.val := by omega
    rw [if_neg h, if_neg (by decide), if_neg h, if_neg h, behind512_at x r l h2, hx ⟨l.val - 32, by omega⟩ (by show l.val - 32 < n; omega)]

/-- Which of 640 columns lie in the first half of their head, as the kernel computes it. -/
def mask640 : IVec S512x640 1 :=
  have v32 : IVec S512x640 32 := iota .tc S512x640 32 [1] iota_S512x640_d1_w32
  let v33 : BitVec 1 := Scalar.cmpi .eq 64#32 0#32
  let v34 : BitVec 32 := Scalar.select v33 1#32 64#32
  have v35 : IVec S512x640 32 := broadcast S512x640 v34
  have v36 : IVec S512x640 32 := remsi v32 v35
  have v37 : IVec S512x640 32 := broadcast S512x640 0#32
  have v38 : IVec S512x640 1 := cmpi .ne v36 v37
  have v39 : IVec S512x640 32 := broadcast S512x640 0#32
  have v40 : IVec S512x640 1 := cmpi .slt v36 v39
  let v41 : BitVec 1 := Scalar.cmpi .slt v34 0#32
  have v42 : IVec S512x640 1 := broadcast S512x640 v41
  have v43 : IVec S512x640 1 := broadcastTo S512x640 v42 broadcasts_S512x640_S512x640
  have v44 : IVec S512x640 1 := xori v40 v43
  have v45 : IVec S512x640 1 := andi v44 v38
  have v46 : IVec S512x640 32 := broadcast S512x640 v34
  have v47 : IVec S512x640 32 := addi v36 v46
  have v48 : IVec S512x640 32 := select v45 v47 v36
  have v49 : IVec S512x640 32 := broadcast S512x640 32#32
  cmpi .slt v48 v49

/-- The mask's row does not depend on the row's number. -/
theorem mask640_row (r : Fin 512) (l : Fin 640) : mask640 (ix2 r l) = mask640 (ix2 0 l) := rfl

/-- The mask at each column. -/
theorem mask640_zero : ∀ l : Fin 640, mask640 (ix2 0 l) = if l.val % 64 < 32 then 1#1 else 0#1 := by decide +kernel

/-- The kernel's rotary embedding of 640 columns. -/
def turn640 (x : FVec Ideal S512x640 .f32) (c s : FVec Ideal S512x128 .f32) : FVec Ideal S512x640 .f32 :=
  addf (mulf x (concatenate S512x640 1 (List.replicate 5 ⟨S512x128, c⟩) concatenates_S512x128_S512x128_S512x128_S512x128_S512x128_S512x640_d1))
    (mulf (select mask640 (dynamicRotate 1 608#32 none x rotates_S512x640_d1) (dynamicRotate 1 32#32 none x rotates_S512x640_d1))
      (concatenate S512x640 1 (List.replicate 5 ⟨S512x128, s⟩) concatenates_S512x128_S512x128_S512x128_S512x128_S512x128_S512x640_d1))

/-- A table repeated along the columns. -/
theorem cat640_at (c : FVec Ideal S512x128 .f32) (r : Fin 512) (l : Fin 640) :
    (concatenate S512x640 1 (List.replicate 5 ⟨S512x128, c⟩) concatenates_S512x128_S512x128_S512x128_S512x128_S512x128_S512x640_d1) (ix2 r l) = c (ix2 r ⟨l.val % 128, by omega⟩) := by
  refine concatenate_replicate_apply (t := S512x640) 1 5 c _ rfl (ix2 r l) (ix2 r ⟨l.val % 128, by omega⟩) rfl ?_
  intro b hb
  fin_cases b
  · rfl
  · exact absurd rfl hb

/-- Columns rotated by half a head, seen from the first half. -/
theorem ahead640_at (x : FVec Ideal S512x640 .f32) (r : Fin 512) (l : Fin 640) (h : l.val + 32 < 640) :
    dynamicRotate 1 608#32 none x rotates_S512x640_d1 (ix2 r l) = x (ix2 r ⟨l.val + 32, h⟩) := by
  refine dynamicRotate_apply 1 _ x _ _ _ ?_
  intro b
  fin_cases b
  · rfl
  · show l.val + 32 = (l.val + 640 - 608 % 640) % 640
    omega

/-- Columns rotated by half a head, seen from the second half. -/
theorem behind640_at (x : FVec Ideal S512x640 .f32) (r : Fin 512) (l : Fin 640) (h : 32 ≤ l.val) :
    dynamicRotate 1 32#32 none x rotates_S512x640_d1 (ix2 r l) = x (ix2 r ⟨l.val - 32, by omega⟩) := by
  refine dynamicRotate_apply 1 _ x _ _ _ ?_
  intro b
  fin_cases b
  · rfl
  · show l.val - 32 = (l.val + 640 - 32 % 640) % 640
    omega

/-- The kernel's rotary embedding is the heads' one. -/
theorem turn640_at (A : Args) (R : Fin 16384) (b : ℕ) (x : FVec Ideal S512x640 .f32) (c s : FVec Ideal S512x128 .f32) (r : Fin 512)
    (n : ℕ) (hn : n % 64 = 0) (hx : ∀ k : Fin 640, k.val < n → x (ix2 r k) = A.pr R (b + k.val))
    (hc : ∀ e : Fin 128, c (ix2 r e) = A.cs (ix2 R ⟨e.val % 32, by omega⟩))
    (hs : ∀ e : Fin 128, s (ix2 r e) = if e.val % 64 < 32 then -A.sn (ix2 R ⟨e.val % 32, by omega⟩) else A.sn (ix2 R ⟨e.val % 32, by omega⟩))
    (l : Fin 640) (hl : l.val < n) : turn640 x c s (ix2 r l) = A.rot R b l.val := by
  have hl' : l.val < 640 := l.isLt
  have e1 : turn640 x c s (ix2 r l) = x (ix2 r l) * (concatenate S512x640 1 (List.replicate 5 ⟨S512x128, c⟩) concatenates_S512x128_S512x128_S512x128_S512x128_S512x128_S512x640_d1) (ix2 r l)
      + (if mask640 (ix2 r l) = 1#1 then dynamicRotate 1 608#32 none x rotates_S512x640_d1 (ix2 r l) else dynamicRotate 1 32#32 none x rotates_S512x640_d1 (ix2 r l))
        * (concatenate S512x640 1 (List.replicate 5 ⟨S512x128, s⟩) concatenates_S512x128_S512x128_S512x128_S512x128_S512x128_S512x640_d1) (ix2 r l) := rfl
  have m1 : l.val % 128 % 64 = l.val % 64 := by omega
  have m2 : l.val % 128 % 32 = l.val % 32 := by omega
  rw [e1, cat640_at, cat640_at, hc, hs, mask640_row, mask640_zero, hx l hl]
  unfold Args.rot rope
  simp only [m1, m2]
  by_cases h : l.val % 64 < 32
  · have h2 : l.val + 32 < 640 := by omega
    rw [if_pos h, if_pos rfl, if_pos h, if_pos h, ahead640_at x r l h2, hx ⟨l.val + 32, h2⟩ (by show l.val + 32 < n; omega), sub_eq_add_neg, mul_neg]
  · have h2 : 32 ≤ l.val := by omega
    rw [if_neg h, if_neg (by decide), if_neg h, if_neg h, behind640_at x r l h2, hx ⟨l.val - 32, by omega⟩ (by show l.val - 32 < n; omega)]

end Cert.Proj
-- ==== Proof.Proj.Value.lean ====
module

public import proofs.«01_k».proof.Proof.Proj.Turn

@[expose] public section

/-!
What the kernel's body computes at a grid point, entry by entry: the modulated rows, the projected columns, and the turned
heads, each group of columns as the body slices it.
-/

set_option maxRecDepth 16384

noncomputable section

namespace Cert.Proj

open Idealize.ShloMosaic Idealize.ShloMosaic.TcCoe Idealize.SL.Sem
open Cert.Kernel4Ideal Cert.Kernel4Ideal.Gen

/-- A product over the modulated row, given column by column. -/
theorem pr_of (A : Args) (R : Fin 16384) (k : ℕ) (f g : Fin 1024 → EReal) (hf : ∀ d, f d = A.u R d) (hg : ∀ d, g d = A.col d k) :
    (∑ d : Fin 1024, f d * g d) = A.pr R k := by
  unfold Args.pr
  exact Finset.sum_congr rfl fun d _ => by rw [hf, hg]

/-- The modulated rows at an entry. -/
theorem pay4_at (v0 : Vec Ideal S512x1024 .f32) (v1 v6 : Vec Ideal S1x1024 .f32) (r : Fin 512) (d : Fin 1024) :
    k0_pay4 v0 v1 v6 (ix2 r d) = v0 (ix2 r d) * (1 + v1 (ix2 0 d)) + v6 (ix2 0 d) := by
  pointwise [k0_pay4]

/-- The cosines as loaded. -/
theorem pay5_at (v : Vec Ideal S512x128 .f32) (r : Fin 512) (e : Fin 128) : k0_pay5 v (ix2 r e) = v (ix2 r e) := by
  pointwise [k0_pay5]

/-- The sines as loaded. -/
theorem pay6_at (v : Vec Ideal S512x128 .f32) (r : Fin 512) (e : Fin 128) : k0_pay6 v (ix2 r e) = v (ix2 r e) := by
  pointwise [k0_pay6]

/-- The attention columns' weights as loaded. -/
theorem pay10_at (v : Vec Ideal S1024x768 .bf16) (d : Fin 1024) (l : Fin 768) : k0_pay10 v (ix2 d l) = v (ix2 d l) := by
  pointwise [k0_pay10]

/-- The first group's columns. -/
theorem pay7_at (v0 : Vec Ideal S512x1024 .f32) (v1 v6 : Vec Ideal S1x1024 .f32) (w : Vec Ideal S1024x512 .bf16) (r : Fin 512) (l : Fin 512) :
    k0_pay7 v0 v1 v6 w (ix2 r l) = ∑ d : Fin 1024, k0_pay4 v0 v1 v6 (ix2 r d) * w (ix2 d l) := by
  unfold k0_pay7
  generalize k0_pay4 v0 v1 v6 = u
  pointwise

/-- The second group's columns. -/
theorem pay8_at (v0 : Vec Ideal S512x1024 .f32) (v1 v6 : Vec Ideal S1x1024 .f32) (w : Vec Ideal S1024x1024 .bf16) (r : Fin 512) (l : Fin 1024) :
    k0_pay8 v0 v1 v6 w (ix2 r l) = ∑ d : Fin 1024, k0_pay4 v0 v1 v6 (ix2 r d) * w (ix2 d l) := by
  unfold k0_pay8
  generalize k0_pay4 v0 v1 v6 = u
  pointwise

/-- The last group's columns. -/
theorem pay9_at (v0 : Vec Ideal S512x1024 .f32) (v1 v6 : Vec Ideal S1x1024 .f32) (w : Vec Ideal S1024x896 .bf16) (r : Fin 512) (l : Fin 896) :
    k0_pay9 v0 v1 v6 w (ix2 r l) = ∑ d : Fin 1024, k0_pay4 v0 v1 v6 (ix2 r d) * w (ix2 d l) := by
  unfold k0_pay9
  generalize k0_pay4 v0 v1 v6 = u
  pointwise

/-- The attention's columns. -/
theorem pay11_at (u : FVec Ideal S512x1024 .bf16) (w : FVec Ideal S1024x768 .bf16) (r : Fin 512) (l : Fin 768) :
    k0_pay11 u w (ix2 r l) = ∑ d : Fin 1024, u (ix2 r d) * w (ix2 d l) := by
  pointwise [k0_pay11]

/-- The indexer's columns. -/
theorem pay18_at (u : FVec Ideal S512x1024 .bf16) (w : Vec Ideal S1024x640 .bf16) (r : Fin 512) (l : Fin 640) :
    k0_pay18 u w (ix2 r l) = ∑ d : Fin 1024, u (ix2 r d) * w (ix2 d l) := by
  pointwise [k0_pay18]

section

variable (A : Args) (R : Fin 16384) (r : Fin 512) (u : FVec Ideal S512x1024 .bf16) (hu : ∀ d, u (ix2 r d) = A.u R d)
  (cs sn : FVec Ideal S512x128 .f32)
  (hc : ∀ e : Fin 128, cs (ix2 r e) = A.cs (ix2 R ⟨e.val % 32, Nat.mod_lt _ (Nat.succ_pos 31)⟩))
  (hs : ∀ e : Fin 128, sn (ix2 r e) = if e.val % 64 < 32 then -A.sn (ix2 R ⟨e.val % 32, Nat.mod_lt _ (Nat.succ_pos 31)⟩) else A.sn (ix2 R ⟨e.val % 32, Nat.mod_lt _ (Nat.succ_pos 31)⟩))
  (w : FVec Ideal S1024x768 .bf16) (hw : ∀ d (k : Fin 768), w (ix2 d k) = A.col d (1536 + k.val))
  (v : Vec Ideal S1024x640 .bf16) (hv : ∀ d (k : Fin 640), k.val < 584 → v (ix2 d k) = A.col d (2304 + k.val))

include hu hw in
/-- The attention's columns are the projection's from 1536 on. -/
theorem att_at (k : Fin 768) : k0_pay11 u w (ix2 r k) = A.pr R (1536 + k.val) := by
  rw [pay11_at]
  exact pr_of A R _ _ _ hu fun d => hw d k

include hu hv in
/-- The indexer's columns are the projection's from 2304 on. -/
theorem ind_at (k : Fin 640) (hk : k.val < 584) : k0_pay18 u v (ix2 r k) = A.pr R (2304 + k.val) := by
  rw [pay18_at]
  exact pr_of A R _ _ _ hu fun d => hv d k hk

include hu hw hc hs in
/-- The attention's queries and keys, turned. -/
theorem attTurn_at (l : Fin 512) : k0_pay12 u cs sn w (ix2 r l) = A.rot R 1536 l.val := by
  have e : k0_pay12 u cs sn w = turn512 (extractStridedSlice S512x512 ![0, 0] (k0_pay11 u w) slices_S512x768_o0_0_S512x512) cs sn := rfl
  rw [e]
  refine turn512_at A R 1536 _ cs sn r 512 rfl (fun k _ => ?_) hc hs l l.isLt
  have ha := att_at A R r u hu w hw ⟨k.val, by omega⟩
  generalize k0_pay11 u w = p at ha ⊢
  refine Eq.trans ?_ ha
  pointwise

include hu hv hc hs in
/-- The indexer's queries and key, turned. -/
theorem indTurn_at (l : Fin 640) (hl : l.val < 576) : k0_pay19 u cs sn v (ix2 r l) = A.rot R 2304 l.val := by
  have e : k0_pay19 u cs sn v = turn640 (k0_pay18 u v) cs sn := rfl
  rw [e]
  exact turn640_at A R 2304 _ cs sn r 576 rfl (fun k hk => ind_at A R r u hu v hv k (by omega)) hc hs l hl

include hu hw hc hs in
/-- The attention's queries. -/
theorem pay13_at (l : Fin 256) : k0_pay13 u cs sn w (ix2 r l) = A.scaled 1536 R l.val := by
  have h := attTurn_at A R r u hu cs sn hc hs w hw ⟨l.val, by omega⟩
  unfold Args.scaled k0_pay13
  rw [← h]
  generalize k0_pay12 u cs sn w = p
  pointwise

include hu hw hc hs in
/-- The attention's keys. -/
theorem pay14_at (l : Fin 256) : k0_pay14 u cs sn w (ix2 r l) = A.turned 1792 R l.val := by
  have h := attTurn_at A R r u hu cs sn hc hs w hw ⟨256 + l.val, by omega⟩
  refine Eq.trans ?_ (h.trans (rot_shift A R 1536 4 l.val))
  unfold k0_pay14
  generalize k0_pay12 u cs sn w = p
  pointwise

include hu hw hc hs in
/-- The attention's keys, as the scores read them. -/
theorem pay15_at (l : Fin 256) : k0_pay15 u cs sn w (ix2 r l) = A.turned 1792 R l.val := by
  have h := attTurn_at A R r u hu cs sn hc hs w hw ⟨256 + l.val, by omega⟩
  refine Eq.trans ?_ (h.trans (rot_shift A R 1536 4 l.val))
  unfold k0_pay15
  generalize k0_pay12 u cs sn w = p
  pointwise

include hu hw in
/-- The attention's values. -/
theorem pay16_at (l : Fin 256) : k0_pay16 u w (ix2 r l) = A.plain 2048 R l.val := by
  have h := att_at A R r u hu w hw ⟨512 + l.val, by omega⟩
  have e : 1536 + (512 + l.val) = 2048 + l.val := by omega
  refine Eq.trans ?_ (h.trans (congrArg (A.pr R) e))
  unfold k0_pay16
  generalize k0_pay11 u w = p
  pointwise

include hu hw in
/-- The attention's values, as the weighted sums read them. -/
theorem pay17_at (l : Fin 256) : k0_pay17 (k0_pay11 u w) (ix2 r l) = A.plain 2048 R l.val := by
  have h := att_at A R r u hu w hw ⟨512 + l.val, by omega⟩
  have e : 1536 + (512 + l.val) = 2048 + l.val := by omega
  refine Eq.trans ?_ (h.trans (congrArg (A.pr R) e))
  unfold k0_pay17
  generalize k0_pay11 u w = p
  pointwise

include hu hv hc hs in
/-- The indexer's queries. -/
theorem pay20_at (l : Fin 512) : k0_pay20 u cs sn v (ix2 r l) = A.scaled 2304 R l.val := by
  have h := indTurn_at A R r u hu cs sn hc hs v hv ⟨l.val, by omega⟩ (by show l.val < 576; omega)
  unfold Args.scaled k0_pay20
  rw [← h]
  generalize k0_pay19 u cs sn v = p
  pointwise

include hu hv hc hs in
/-- The indexer's key. -/
theorem pay1_at (l : Fin 64) : k0_pay1 (k0_pay19 u cs sn v) (ix2 r l) = A.turned 2816 R l.val := by
  have h := indTurn_at A R r u hu cs sn hc hs v hv ⟨512 + l.val, by omega⟩ (by show 512 + l.val < 576; omega)
  refine Eq.trans ?_ (h.trans (rot_shift A R 2304 8 l.val))
  unfold k0_pay1
  generalize k0_pay19 u cs sn v = p
  pointwise

include hu hv hc hs in
/-- The indexer's key, as its scores read it. -/
theorem pay2_at (l : Fin 64) : k0_pay2 (k0_pay19 u cs sn v) (ix2 r l) = A.turned 2816 R l.val :=
  pay1_at A R r u hu cs sn hc hs v hv l

include hu hv in
/-- The indexer's weights of its heads. -/
theorem pay3_at (l : Fin 8) : k0_pay3 (k0_pay18 u v) (ix2 r l) = A.weight R l.val := by
  have h := ind_at A R r u hu v hv ⟨576 + l.val, by omega⟩ (by show 576 + l.val < 584; omega)
  have e : 2304 + (576 + l.val) = 2880 + l.val := by omega
  unfold Args.weight k0_pay3
  rw [← e, ← h]
  generalize k0_pay18 u v = p
  pointwise

end

section

variable (A : Args) (R : Fin 16384) (r : Fin 512) (v0 : Vec Ideal S512x1024 .f32) (v1 v6 : Vec Ideal S1x1024 .f32)
  (hu : ∀ d, k0_pay4 v0 v1 v6 (ix2 r d) = A.u R d)

include hu in
/-- The first mixer's columns. -/
theorem first_at (w : Vec Ideal S1024x512 .bf16) (hw : ∀ d (k : Fin 512), w (ix2 d k) = A.col d (0 + k.val)) (l : Fin 512) :
    k0_pay7 v0 v1 v6 w (ix2 r l) = A.plain 0 R l.val := by
  rw [pay7_at]
  exact pr_of A R _ _ _ hu fun d => hw d l

include hu in
/-- The second mixer's columns. -/
theorem second_at (w : Vec Ideal S1024x1024 .bf16) (hw : ∀ d (k : Fin 1024), w (ix2 d k) = A.col d (512 + k.val)) (l : Fin 1024) :
    k0_pay8 v0 v1 v6 w (ix2 r l) = A.plain 512 R l.val := by
  rw [pay8_at]
  exact pr_of A R _ _ _ hu fun d => hw d l

include hu in
/-- The last mixer's columns, with zeros after them. -/
theorem last_at (w : Vec Ideal S1024x896 .bf16) (hw : ∀ d (k : Fin 896), k.val < 784 → w (ix2 d k) = A.col d (2888 + k.val))
    (hz : ∀ d (k : Fin 896), 784 ≤ k.val → (show EReal from w (ix2 d k)) = 0) (l : Fin 896) :
    k0_pay9 v0 v1 v6 w (ix2 r l) = A.padded R l.val := by
  rw [pay9_at]
  unfold Args.padded
  by_cases h : l.val < 784
  · rw [if_pos h]
    exact pr_of A R _ _ _ hu fun d => hw d l h
  · rw [if_neg h]
    refine Finset.sum_eq_zero fun d _ => ?_
    have e : (show EReal from w (ix2 d l)) = 0 := hz d l (by omega)
    exact (congrArg (fun x : EReal => (show EReal from k0_pay4 v0 v1 v6 (ix2 r d)) * x) e).trans (mul_zero _)

end

end Cert.Proj
-- ==== Proof.Proj.Tables.lean ====
module

public import proofs.«01_k».proof.Proof.Gen.Kernel4Ideal.Value
public import Idealize.ShloMosaic.Lib.Pipeline.ValueKit
public import proofs.«01_k».proof.Proof.Proj.Spec

@[expose] public section

/-!
The kernel's tables, as the host computes them before the run.
-/

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The positions' angles. -/
def kAng : FVec Ideal S16384x32 .f32 :=
  (mulf (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The kernel's arguments as the part's. -/
def kArgs (c : Dev nD) : Args where
  x := m ((c : Thread nD τ).loc main_arg0)
  md := m ((c : Thread nD τ).loc main_arg1)
  w := m ((c : Thread nD τ).loc main_arg2)
  cs := Host.cos kAng
  sn := Host.sin kAng

/-- The cosines, four times. -/
theorem host_v15 (c : Dev nD) : V m c main_v15 = concatenate S16384x128 1 (List.replicate 4 ⟨S16384x32, (kArgs m c).cs⟩) concatenates_S16384x32_S16384x32_S16384x32_S16384x32_S16384x128_d1 := by
  rfl

/-- The sines, the first half of each head negated. -/
theorem host_v17 (c : Dev nD) : V m c main_v17 = concatenate S16384x128 1 [⟨S16384x32, Host.negf (kArgs m c).sn⟩, ⟨S16384x32, (kArgs m c).sn⟩, ⟨S16384x32, Host.negf (kArgs m c).sn⟩, ⟨S16384x32, (kArgs m c).sn⟩] concatenates_S16384x32_S16384x32_S16384x32_S16384x32_S16384x128_d1 := by
  rfl

/-- The weights' columns, group by group, with zero columns between. -/
theorem host_v23 (c : Dev nD) : V m c main_v23 = truncf .bf16 (concatenate S1024x3840 1 [⟨S1024x2888, extractStridedSlice S1024x2888 ![0, 0] (kArgs m c).w slices_S1024x7768_S1024x2888_0_0⟩, ⟨S1024x56, broadcastInDim S1024x56 ![] bcast_S_S1024x56 (constant S_ .f32 0x00000000#32)⟩, ⟨S1024x784, extractStridedSlice S1024x784 ![0, 2888] (kArgs m c).w slices_S1024x7768_S1024x784_0_2888⟩, ⟨S1024x112, broadcastInDim S1024x112 ![] bcast_S_S1024x112 (constant S_ .f32 0x00000000#32)⟩] concatenates_S1024x2888_S1024x56_S1024x784_S1024x112_S1024x3840_d1) bitsLt_bf16_f32 := by
  rfl

end Cert.Proj
-- ==== Proof.Proj.Operands.lean ====
module

public import proofs.«01_k».proof.Proof.Gen.Kernel4Ideal.Value
public import Idealize.ShloMosaic.Lib.Pipeline.ValueKit
public import proofs.«01_k».proof.Proof.Proj.Tables

@[expose] public section

/-!
What the kernel's windows hold at a grid point, entry by entry, over the kernel's arguments.
-/

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The windows' block indices at every grid point. -/
theorem idx : ∀ t : Fin cfg0.N, win0_0.index t = ![t.val, 0] ∧ win0_1.index t = ![0, 3] ∧ win0_2.index t = ![0, 4] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

/-- Row `r` of the point's block of 512 rows. -/
def rowOf (t : Fin cfg0.N) (r : Fin 512) : Fin 16384 := ⟨t.val * 512 + r.val, by have : t.val < 32 := t.isLt; omega⟩

/-- The point's rows. -/
theorem b0 (c : Dev nD) (t : Fin cfg0.N) (r : Fin 512) (d : Fin 1024) : iblk m c 0 t (ix2 r d) = (kArgs m c).x (ix2 (rowOf t r) d) := by
  unfold kArgs rowOf
  blk_point [iblk, V, idx t]

/-- The modulation's shift. -/
theorem b1 (c : Dev nD) (t : Fin cfg0.N) (d : Fin 1024) : iblk m c 1 t (ix2 0 d) = (kArgs m c).mrow 3 d := by
  unfold kArgs Args.mrow
  blk_point [iblk, V, idx t]

/-- The modulation's scale. -/
theorem b2 (c : Dev nD) (t : Fin cfg0.N) (d : Fin 1024) : iblk m c 2 t (ix2 0 d) = (kArgs m c).mrow 4 d := by
  unfold kArgs Args.mrow
  blk_point [iblk, V, idx t]

/-- The weights' columns up to the first zero columns. -/
theorem b3_lo (c : Dev nD) (t : Fin cfg0.N) (d : Fin 1024) (k : Fin 3840) (h : k.val < 2888) : iblk m c 3 t (ix2 d k) = (kArgs m c).col d k.val := by
  have e : iblk m c 3 t (ix2 d k) = (V m c main_v23 : FVec Ideal S1024x3840 .bf16) (ix2 d k) := by
    blk_ext [iblk, idx t]
  rw [e, host_v23]
  unfold Args.col
  rw [dif_pos (by omega)]
  generalize (kArgs m c).w = w
  pointwise
  rw [dif_pos h]

/-- The weights' columns between the zero columns. -/
theorem b3_hi (c : Dev nD) (t : Fin cfg0.N) (d : Fin 1024) (k : Fin 3840) (h : 2944 ≤ k.val) (h' : k.val < 3728) :
    iblk m c 3 t (ix2 d k) = (kArgs m c).col d (k.val - 56) := by
  have e : iblk m c 3 t (ix2 d k) = (V m c main_v23 : FVec Ideal S1024x3840 .bf16) (ix2 d k) := by
    blk_ext [iblk, idx t]
  rw [e, host_v23]
  unfold Args.col
  rw [dif_pos (by omega)]
  generalize (kArgs m c).w = w
  pointwise
  rw [dif_neg (by omega), dif_neg (by omega), dif_pos (by omega)]
  refine congrArg w (congrArg (ix2 d) (Fin.ext ?_))
  show 2888 + (k.val - 2888 - 56) = k.val - 56
  omega

/-- The last zero columns. -/
theorem b3_end (c : Dev nD) (t : Fin cfg0.N) (d : Fin 1024) (k : Fin 3840) (h : 3728 ≤ k.val) : (show EReal from iblk m c 3 t (ix2 d k)) = 0 := by
  have e : iblk m c 3 t (ix2 d k) = (V m c main_v23 : FVec Ideal S1024x3840 .bf16) (ix2 d k) := by
    blk_ext [iblk, idx t]
  rw [e, host_v23]
  generalize (kArgs m c).w = w
  pointwise
  rw [dif_neg (by omega), dif_neg (by omega), dif_neg (by omega)]

/-- The cosines. -/
theorem b4 (c : Dev nD) (t : Fin cfg0.N) (r : Fin 512) (e : Fin 128) :
    iblk m c 4 t (ix2 r e) = (kArgs m c).cs (ix2 (rowOf t r) ⟨e.val % 32, by omega⟩) := by
  have h : iblk m c 4 t (ix2 r e) = (V m c main_v15 : FVec Ideal S16384x128 .f32) (ix2 (rowOf t r) e) := by
    unfold rowOf
    blk_point [iblk, idx t]
  rw [h, host_v15]
  refine concatenate_replicate_apply (t := S16384x128) 1 4 (kArgs m c).cs _ rfl (ix2 (rowOf t r) e) (ix2 (rowOf t r) ⟨e.val % 32, by omega⟩) rfl ?_
  intro b hb
  fin_cases b
  · rfl
  · exact absurd rfl hb

/-- The sines, the first half of each head negated. -/
theorem b5 (c : Dev nD) (t : Fin cfg0.N) (r : Fin 512) (e : Fin 128) :
    iblk m c 5 t (ix2 r e) = if e.val % 64 < 32 then -(kArgs m c).sn (ix2 (rowOf t r) ⟨e.val % 32, by omega⟩) else (kArgs m c).sn (ix2 (rowOf t r) ⟨e.val % 32, by omega⟩) := by
  have h : iblk m c 5 t (ix2 r e) = (V m c main_v17 : FVec Ideal S16384x128 .f32) (ix2 (rowOf t r) e) := by
    unfold rowOf
    blk_point [iblk, idx t]
  rw [h, host_v17]
  have hq (n : Fin 4) (hn : e.val / 32 = n.val) := concatenate_ofFn_apply 1
    (![Host.negf (kArgs m c).sn, (kArgs m c).sn, Host.negf (kArgs m c).sn, (kArgs m c).sn] : Fin 4 → FVec Ideal S16384x32 .f32)
    concatenates_S16384x32_S16384x32_S16384x32_S16384x32_S16384x128_d1 rfl 32 rfl (ix2 (rowOf t r) e) n hn
    (ix2 (rowOf t r) ⟨e.val % 32, by omega⟩) rfl (by
      intro b hb
      fin_cases b
      · rfl
      · exact absurd rfl hb)
  have he : e.val < 128 := e.isLt
  rcases (by omega : e.val / 32 = 0 ∨ e.val / 32 = 1 ∨ e.val / 32 = 2 ∨ e.val / 32 = 3) with h0 | h0 | h0 | h0
  · rw [if_pos (by omega)]; exact hq 0 h0
  · rw [if_neg (by omega)]; exact hq 1 h0
  · rw [if_pos (by omega)]; exact hq 2 h0
  · rw [if_neg (by omega)]; exact hq 3 h0

end Cert.Proj
-- ==== Proof.Proj.Loads.lean ====
module

public import proofs.«01_k».proof.Proof.Proj.Value
public import proofs.«01_k».proof.Proof.Proj.Operands

@[expose] public section

/-!
What the body loads at a grid point, and where its blocks lie in the result arrays.
-/

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- An entry of a row in its block of 512 rows, given by its coordinates. -/
theorem out_at (f : Fin 16384 → ℕ → EReal) (t : Fin cfg0.N) (r : Fin 512) (l a b : ℕ) (h : a < 16384) (ha : a = t.val * 512 + r.val) (hb : b = l) :
    f (rowOf t r) l = f ⟨a, h⟩ b := by
  subst ha hb
  rfl

/-- The modulated row of the point's block. -/
theorem u_at (c : Dev nD) (t : Fin cfg0.N) (r : Fin 512) (d : Fin 1024) :
    k0_pay4 (iblk m c 0 t) (iblk m c 2 t) (iblk m c 1 t) (ix2 r d) = (kArgs m c).u (rowOf t r) d := by
  rw [pay4_at, b0, b1, b2]
  rfl

/-- The cosines of the point's block. -/
theorem c_at (c : Dev nD) (t : Fin cfg0.N) (r : Fin 512) (e : Fin 128) :
    k0_pay5 (iblk m c 4 t) (ix2 r e) = (kArgs m c).cs (ix2 (rowOf t r) ⟨e.val % 32, by omega⟩) :=
  (pay5_at _ r e).trans (b4 m c t r e)

/-- The sines of the point's block, the first half of each head negated. -/
theorem s_at (c : Dev nD) (t : Fin cfg0.N) (r : Fin 512) (e : Fin 128) :
    k0_pay6 (iblk m c 5 t) (ix2 r e) = if e.val % 64 < 32 then -(kArgs m c).sn (ix2 (rowOf t r) ⟨e.val % 32, by omega⟩) else (kArgs m c).sn (ix2 (rowOf t r) ⟨e.val % 32, by omega⟩) :=
  (pay6_at _ r e).trans (b5 m c t r e)

/-- The first mixer's weights. -/
theorem w3_at (c : Dev nD) (t : Fin cfg0.N) (inb) (d : Fin 1024) (k : Fin 512) :
    View.ld (iblk m c 3 t) (Rect.unit (s := S1024x3840) ![0, 0] S1024x512.size inb) (ix2 d k) = (kArgs m c).col d (0 + k.val) := by
  rw [Nat.zero_add]
  exact (View.ld_unit_apply_of (iblk m c 3 t) _ _ inb (ix2 d k) (ix2 d ⟨k.val, by omega⟩) fun a => by fin_cases a <;> simp [ix2]).trans
    (b3_lo m c t d ⟨k.val, by omega⟩ (by show k.val < 2888; omega))

/-- The second mixer's weights. -/
theorem w5_at (c : Dev nD) (t : Fin cfg0.N) (inb) (d : Fin 1024) (k : Fin 1024) :
    View.ld (iblk m c 3 t) (Rect.unit (s := S1024x3840) ![0, 512] S1024x1024.size inb) (ix2 d k) = (kArgs m c).col d (512 + k.val) :=
  (View.ld_unit_apply_of (iblk m c 3 t) _ _ inb (ix2 d k) (ix2 d ⟨512 + k.val, by omega⟩) fun a => by fin_cases a <;> simp [ix2]).trans
    (b3_lo m c t d ⟨512 + k.val, by omega⟩ (by show 512 + k.val < 2888; omega))

/-- The attention's weights. -/
theorem w8_at (c : Dev nD) (t : Fin cfg0.N) (inb) (d : Fin 1024) (k : Fin 768) :
    k0_pay10 (View.ld (iblk m c 3 t) (Rect.unit (s := S1024x3840) ![0, 1536] S1024x768.size inb)) (ix2 d k) = (kArgs m c).col d (1536 + k.val) :=
  (pay10_at _ d k).trans ((View.ld_unit_apply_of (iblk m c 3 t) _ _ inb (ix2 d k) (ix2 d ⟨1536 + k.val, by omega⟩) fun a => by fin_cases a <;> simp [ix2]).trans
    (b3_lo m c t d ⟨1536 + k.val, by omega⟩ (by show 1536 + k.val < 2888; omega)))

/-- The indexer's weights. -/
theorem w10_at (c : Dev nD) (t : Fin cfg0.N) (inb) (d : Fin 1024) (k : Fin 640) (h : k.val < 584) :
    View.ld (iblk m c 3 t) (Rect.unit (s := S1024x3840) ![0, 2304] S1024x640.size inb) (ix2 d k) = (kArgs m c).col d (2304 + k.val) :=
  (View.ld_unit_apply_of (iblk m c 3 t) _ _ inb (ix2 d k) (ix2 d ⟨2304 + k.val, by omega⟩) fun a => by fin_cases a <;> simp [ix2]).trans
    (b3_lo m c t d ⟨2304 + k.val, by omega⟩ (by show 2304 + k.val < 2888; omega))

/-- The last mixer's weights. -/
theorem w6_at (c : Dev nD) (t : Fin cfg0.N) (inb) (d : Fin 1024) (k : Fin 896) (h : k.val < 784) :
    View.ld (iblk m c 3 t) (Rect.unit (s := S1024x3840) ![0, 2944] S1024x896.size inb) (ix2 d k) = (kArgs m c).col d (2888 + k.val) :=
  ((View.ld_unit_apply_of (iblk m c 3 t) _ _ inb (ix2 d k) (ix2 d ⟨2944 + k.val, by omega⟩) fun a => by fin_cases a <;> simp [ix2]).trans
    (b3_hi m c t d ⟨2944 + k.val, by omega⟩ (by show 2944 ≤ 2944 + k.val; omega) (by show 2944 + k.val < 3728; omega))).trans
    (congrArg ((kArgs m c).col d) (by show 2944 + k.val - 56 = 2888 + k.val; omega))

/-- The zero columns after them. -/
theorem z6_at (c : Dev nD) (t : Fin cfg0.N) (inb) (d : Fin 1024) (k : Fin 896) (h : 784 ≤ k.val) :
    (show EReal from View.ld (iblk m c 3 t) (Rect.unit (s := S1024x3840) ![0, 2944] S1024x896.size inb) (ix2 d k)) = 0 :=
  (View.ld_unit_apply_of (iblk m c 3 t) _ _ inb (ix2 d k) (ix2 d ⟨2944 + k.val, by omega⟩) fun a => by fin_cases a <;> simp [ix2]).trans
    (b3_end m c t d ⟨2944 + k.val, by omega⟩ (by show 3728 ≤ 2944 + k.val; omega))

end Cert.Proj
-- ==== Proof.Proj.FinalsPlain.lean ====
module

public import proofs.«01_k».proof.Proof.Proj.Loads

@[expose] public section

/-!
The kernel's result arrays that are projected columns as they are.
-/

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

set_option maxHeartbeats 1600000 in
/-- The first mixer's columns, at every grid point. -/
theorem final6 (c : Dev nD) : (dats m 0 c).arrAt 6 (cfgs 0).N = rows (t := .f32) 512 ((kArgs m c).plain 0) := by
  refine (dats m 0 c).arrAt_eq_of_covers 6 _ (by decide +kernel) fun t _ y => ?_
  blk_simp
  rw [after0_6]
  unfold out0_6
  frame_out
  obtain ⟨r, l, rfl⟩ : ∃ (r : Fin 512) (l : Fin 512), y = ix2 r l := ⟨y 0, y 1, eq_ix2 y⟩
  refine (first_at (kArgs m c) (rowOf t r) r _ _ _ (u_at m c t r) _ (w3_at m c t _) l).trans ?_
  obtain ⟨-, -, -, -, -, -, e, -⟩ := idx t
  have e0 : win0_6.index t 0 = t.val := congrFun e 0
  have e1 : win0_6.index t 1 = 0 := congrFun e 1
  refine out_at ((kArgs m c).plain 0) t r l.val _ _ _ ?_ ?_
  · rw [View.emb_slice, Function.Embedding.trans_apply, View.emb_whole, Function.Embedding.refl_apply, Rect.emb_apply]
    show win0_6.index t 0 * 512 + 1 * r.val = t.val * 512 + r.val
    rw [e0, one_mul]
  · rw [View.emb_slice, Function.Embedding.trans_apply, View.emb_whole, Function.Embedding.refl_apply, Rect.emb_apply]
    show win0_6.index t 1 * 512 + 1 * l.val = l.val
    rw [e1, Nat.zero_mul, Nat.zero_add, one_mul]

set_option maxHeartbeats 1600000 in
/-- The second mixer's columns, at every grid point. -/
theorem final7 (c : Dev nD) : (dats m 0 c).arrAt 7 (cfgs 0).N = rows (t := .f32) 1024 ((kArgs m c).plain 512) := by
  refine (dats m 0 c).arrAt_eq_of_covers 7 _ (by decide +kernel) fun t _ y => ?_
  blk_simp
  rw [after0_7]
  unfold out0_7
  frame_out
  obtain ⟨r, l, rfl⟩ : ∃ (r : Fin 512) (l : Fin 1024), y = ix2 r l := ⟨y 0, y 1, eq_ix2 y⟩
  refine (second_at (kArgs m c) (rowOf t r) r _ _ _ (u_at m c t r) _ (w5_at m c t _) l).trans ?_
  obtain ⟨-, -, -, -, -, -, -, e, -⟩ := idx t
  have e0 : win0_7.index t 0 = t.val := congrFun e 0
  have e1 : win0_7.index t 1 = 0 := congrFun e 1
  refine out_at ((kArgs m c).plain 512) t r l.val _ _ _ ?_ ?_
  · rw [View.emb_slice, Function.Embedding.trans_apply, View.emb_whole, Function.Embedding.refl_apply, Rect.emb_apply]
    show win0_7.index t 0 * 512 + 1 * r.val = t.val * 512 + r.val
    rw [e0, one_mul]
  · rw [View.emb_slice, Function.Embedding.trans_apply, View.emb_whole, Function.Embedding.refl_apply, Rect.emb_apply]
    show win0_7.index t 1 * 1024 + 1 * l.val = l.val
    rw [e1, Nat.zero_mul, Nat.zero_add, one_mul]

set_option maxHeartbeats 1600000 in
/-- The last mixer's columns, with zeros after them, at every grid point. -/
theorem final17 (c : Dev nD) : (dats m 0 c).arrAt 17 (cfgs 0).N = rows (t := .f32) 896 ((kArgs m c).padded) := by
  refine (dats m 0 c).arrAt_eq_of_covers 17 _ (by decide +kernel) fun t _ y => ?_
  blk_simp
  rw [after0_17]
  unfold out0_17
  frame_out
  obtain ⟨r, l, rfl⟩ : ∃ (r : Fin 512) (l : Fin 896), y = ix2 r l := ⟨y 0, y 1, eq_ix2 y⟩
  refine (last_at (kArgs m c) (rowOf t r) r _ _ _ (u_at m c t r) _ (w6_at m c t _) (z6_at m c t _) l).trans ?_
  obtain ⟨-, -, -, -, -, -, -, -, -, -, -, -, -, -, -, -, -, e⟩ := idx t
  have e0 : win0_17.index t 0 = t.val := congrFun e 0
  have e1 : win0_17.index t 1 = 0 := congrFun e 1
  refine out_at ((kArgs m c).padded) t r l.val _ _ _ ?_ ?_
  · rw [View.emb_slice, Function.Embedding.trans_apply, View.emb_whole, Function.Embedding.refl_apply, Rect.emb_apply]
    show win0_17.index t 0 * 512 + 1 * r.val = t.val * 512 + r.val
    rw [e0, one_mul]
  · rw [View.emb_slice, Function.Embedding.trans_apply, View.emb_whole, Function.Embedding.refl_apply, Rect.emb_apply]
    show win0_17.index t 1 * 896 + 1 * l.val = l.val
    rw [e1, Nat.zero_mul, Nat.zero_add, one_mul]

end Cert.Proj
-- ==== Proof.Proj.FinalsAtt.lean ====
module

public import proofs.«01_k».proof.Proof.Proj.Loads

@[expose] public section

/-!
The kernel's result arrays of the attention.
-/

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

set_option maxHeartbeats 1600000 in
/-- The attention's queries, at every grid point. -/
theorem final8 (c : Dev nD) : (dats m 0 c).arrAt 8 (cfgs 0).N = rows (t := .bf16) 256 ((kArgs m c).scaled 1536) := by
  refine (dats m 0 c).arrAt_eq_of_covers 8 _ (by decide +kernel) fun t _ y => ?_
  blk_simp
  rw [after0_8]
  unfold out0_8 k0_pay24 k0_pay23 k0_pay22 k0_pay21
  frame_out
  obtain ⟨r, l, rfl⟩ : ∃ (r : Fin 512) (l : Fin 256), y = ix2 r l := ⟨y 0, y 1, eq_ix2 y⟩
  refine (pay13_at (kArgs m c) (rowOf t r) r _ (u_at m c t r) _ _ (c_at m c t r) (s_at m c t r) _ (w8_at m c t _) l).trans ?_
  obtain ⟨-, -, -, -, -, -, -, -, e, -⟩ := idx t
  have e0 : win0_8.index t 0 = t.val := congrFun e 0
  have e1 : win0_8.index t 1 = 0 := congrFun e 1
  refine out_at ((kArgs m c).scaled 1536) t r l.val _ _ _ ?_ ?_
  · rw [View.emb_slice, Function.Embedding.trans_apply, View.emb_whole, Function.Embedding.refl_apply, Rect.emb_apply]
    show win0_8.index t 0 * 512 + 1 * r.val = t.val * 512 + r.val
    rw [e0, one_mul]
  · rw [View.emb_slice, Function.Embedding.trans_apply, View.emb_whole, Function.Embedding.refl_apply, Rect.emb_apply]
    show win0_8.index t 1 * 256 + 1 * l.val = l.val
    rw [e1, Nat.zero_mul, Nat.zero_add, one_mul]

set_option maxHeartbeats 1600000 in
/-- The attention's keys, at every grid point. -/
theorem final9 (c : Dev nD) : (dats m 0 c).arrAt 9 (cfgs 0).N = rows (t := .f32) 256 ((kArgs m c).turned 1792) := by
  refine (dats m 0 c).arrAt_eq_of_covers 9 _ (by decide +kernel) fun t _ y => ?_
  blk_simp
  rw [after0_9]
  unfold out0_9 k0_pay24 k0_pay23 k0_pay22 k0_pay21
  frame_out
  obtain ⟨r, l, rfl⟩ : ∃ (r : Fin 512) (l : Fin 256), y = ix2 r l := ⟨y 0, y 1, eq_ix2 y⟩
  refine (pay14_at (kArgs m c) (rowOf t r) r _ (u_at m c t r) _ _ (c_at m c t r) (s_at m c t r) _ (w8_at m c t _) l).trans ?_
  obtain ⟨-, -, -, -, -, -, -, -, -, e, -⟩ := idx t
  have e0 : win0_9.index t 0 = t.val := congrFun e 0
  have e1 : win0_9.index t 1 = 0 := congrFun e 1
  refine out_at ((kArgs m c).turned 1792) t r l.val _ _ _ ?_ ?_
  · rw [View.emb_slice, Function.Embedding.trans_apply, View.emb_whole, Function.Embedding.refl_apply, Rect.emb_apply]
    show win0_9.index t 0 * 512 + 1 * r.val = t.val * 512 + r.val
    rw [e0, one_mul]
  · rw [View.emb_slice, Function.Embedding.trans_apply, View.emb_whole, Function.Embedding.refl_apply, Rect.emb_apply]
    show win0_9.index t 1 * 256 + 1 * l.val = l.val
    rw [e1, Nat.zero_mul, Nat.zero_add, one_mul]

set_option maxHeartbeats 1600000 in
/-- The attention's values, at every grid point. -/
theorem final10 (c : Dev nD) : (dats m 0 c).arrAt 10 (cfgs 0).N = rows (t := .f32) 256 ((kArgs m c).plain 2048) := by
  refine (dats m 0 c).arrAt_eq_of_covers 10 _ (by decide +kernel) fun t _ y => ?_
  blk_simp
  rw [after0_10]
  unfold out0_10 k0_pay24 k0_pay21
  frame_out
  obtain ⟨r, l, rfl⟩ : ∃ (r : Fin 512) (l : Fin 256), y = ix2 r l := ⟨y 0, y 1, eq_ix2 y⟩
  refine (pay16_at (kArgs m c) (rowOf t r) r _ (u_at m c t r) _ (w8_at m c t _) l).trans ?_
  obtain ⟨-, -, -, -, -, -, -, -, -, -, e, -⟩ := idx t
  have e0 : win0_10.index t 0 = t.val := congrFun e 0
  have e1 : win0_10.index t 1 = 0 := congrFun e 1
  refine out_at ((kArgs m c).plain 2048) t r l.val _ _ _ ?_ ?_
  · rw [View.emb_slice, Function.Embedding.trans_apply, View.emb_whole, Function.Embedding.refl_apply, Rect.emb_apply]
    show win0_10.index t 0 * 512 + 1 * r.val = t.val * 512 + r.val
    rw [e0, one_mul]
  · rw [View.emb_slice, Function.Embedding.trans_apply, View.emb_whole, Function.Embedding.refl_apply, Rect.emb_apply]
    show win0_10.index t 1 * 256 + 1 * l.val = l.val
    rw [e1, Nat.zero_mul, Nat.zero_add, one_mul]

set_option maxHeartbeats 1600000 in
/-- The attention's keys, as the scores read them, at every grid point. -/
theorem final11 (c : Dev nD) : (dats m 0 c).arrAt 11 (cfgs 0).N = rows (t := .bf16) 256 ((kArgs m c).turned 1792) := by
  refine (dats m 0 c).arrAt_eq_of_covers 11 _ (by decide +kernel) fun t _ y => ?_
  blk_simp
  rw [after0_11]
  unfold out0_11 k0_pay24 k0_pay23 k0_pay22 k0_pay21
  frame_out
  obtain ⟨r, l, rfl⟩ : ∃ (r : Fin 512) (l : Fin 256), y = ix2 r l := ⟨y 0, y 1, eq_ix2 y⟩
  refine (pay15_at (kArgs m c) (rowOf t r) r _ (u_at m c t r) _ _ (c_at m c t r) (s_at m c t r) _ (w8_at m c t _) l).trans ?_
  obtain ⟨-, -, -, -, -, -, -, -, -, -, -, e, -⟩ := idx t
  have e0 : win0_11.index t 0 = t.val := congrFun e 0
  have e1 : win0_11.index t 1 = 0 := congrFun e 1
  refine out_at ((kArgs m c).turned 1792) t r l.val _ _ _ ?_ ?_
  · rw [View.emb_slice, Function.Embedding.trans_apply, View.emb_whole, Function.Embedding.refl_apply, Rect.emb_apply]
    show win0_11.index t 0 * 512 + 1 * r.val = t.val * 512 + r.val
    rw [e0, one_mul]
  · rw [View.emb_slice, Function.Embedding.trans_apply, View.emb_whole, Function.Embedding.refl_apply, Rect.emb_apply]
    show win0_11.index t 1 * 256 + 1 * l.val = l.val
    rw [e1, Nat.zero_mul, Nat.zero_add, one_mul]

set_option maxHeartbeats 1600000 in
/-- The attention's values, as the weighted sums read them, at every grid point. -/
theorem final12 (c : Dev nD) : (dats m 0 c).arrAt 12 (cfgs 0).N = rows (t := .bf16) 256 ((kArgs m c).plain 2048) := by
  refine (dats m 0 c).arrAt_eq_of_covers 12 _ (by decide +kernel) fun t _ y => ?_
  blk_simp
  rw [after0_12]
  unfold out0_12 k0_pay24 k0_pay21
  frame_out
  obtain ⟨r, l, rfl⟩ : ∃ (r : Fin 512) (l : Fin 256), y = ix2 r l := ⟨y 0, y 1, eq_ix2 y⟩
  refine (pay17_at (kArgs m c) (rowOf t r) r _ (u_at m c t r) _ (w8_at m c t _) l).trans ?_
  obtain ⟨-, -, -, -, -, -, -, -, -, -, -, -, e, -⟩ := idx t
  have e0 : win0_12.index t 0 = t.val := congrFun e 0
  have e1 : win0_12.index t 1 = 0 := congrFun e 1
  refine out_at ((kArgs m c).plain 2048) t r l.val _ _ _ ?_ ?_
  · rw [View.emb_slice, Function.Embedding.trans_apply, View.emb_whole, Function.Embedding.refl_apply, Rect.emb_apply]
    show win0_12.index t 0 * 512 + 1 * r.val = t.val * 512 + r.val
    rw [e0, one_mul]
  · rw [View.emb_slice, Function.Embedding.trans_apply, View.emb_whole, Function.Embedding.refl_apply, Rect.emb_apply]
    show win0_12.index t 1 * 256 + 1 * l.val = l.val
    rw [e1, Nat.zero_mul, Nat.zero_add, one_mul]

end Cert.Proj
-- ==== Proof.Proj.FinalsIndex.lean ====
module

public import proofs.«01_k».proof.Proof.Proj.Loads

@[expose] public section

/-!
The kernel's result arrays of the indexer.
-/

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

set_option maxHeartbeats 1600000 in
/-- The indexer's queries, at every grid point. -/
theorem final13 (c : Dev nD) : (dats m 0 c).arrAt 13 (cfgs 0).N = rows (t := .bf16) 512 ((kArgs m c).scaled 2304) := by
  refine (dats m 0 c).arrAt_eq_of_covers 13 _ (by decide +kernel) fun t _ y => ?_
  blk_simp
  rw [after0_13]
  unfold out0_13 k0_pay23 k0_pay22 k0_pay21
  frame_out
  obtain ⟨r, l, rfl⟩ : ∃ (r : Fin 512) (l : Fin 512), y = ix2 r l := ⟨y 0, y 1, eq_ix2 y⟩
  refine (pay20_at (kArgs m c) (rowOf t r) r _ (u_at m c t r) _ _ (c_at m c t r) (s_at m c t r) _ (w10_at m c t _) l).trans ?_
  obtain ⟨-, -, -, -, -, -, -, -, -, -, -, -, -, e, -⟩ := idx t
  have e0 : win0_13.index t 0 = t.val := congrFun e 0
  have e1 : win0_13.index t 1 = 0 := congrFun e 1
  refine out_at ((kArgs m c).scaled 2304) t r l.val _ _ _ ?_ ?_
  · rw [View.emb_slice, Function.Embedding.trans_apply, View.emb_whole, Function.Embedding.refl_apply, Rect.emb_apply]
    show win0_13.index t 0 * 512 + 1 * r.val = t.val * 512 + r.val
    rw [e0, one_mul]
  · rw [View.emb_slice, Function.Embedding.trans_apply, View.emb_whole, Function.Embedding.refl_apply, Rect.emb_apply]
    show win0_13.index t 1 * 512 + 1 * l.val = l.val
    rw [e1, Nat.zero_mul, Nat.zero_add, one_mul]

set_option maxHeartbeats 1600000 in
/-- The indexer's key, at every grid point. -/
theorem final14 (c : Dev nD) : (dats m 0 c).arrAt 14 (cfgs 0).N = rows (t := .f32) 64 ((kArgs m c).turned 2816) := by
  refine (dats m 0 c).arrAt_eq_of_covers 14 _ (by decide +kernel) fun t _ y => ?_
  blk_simp
  rw [after0_14]
  unfold out0_14 k0_pay25 k0_pay23 k0_pay22 k0_pay21
  frame_out
  obtain ⟨r, l, rfl⟩ : ∃ (r : Fin 512) (l : Fin 64), y = ix2 r l := ⟨y 0, y 1, eq_ix2 y⟩
  refine (pay1_at (kArgs m c) (rowOf t r) r _ (u_at m c t r) _ _ (c_at m c t r) (s_at m c t r) _ (w10_at m c t _) l).trans ?_
  obtain ⟨-, -, -, -, -, -, -, -, -, -, -, -, -, -, e, -⟩ := idx t
  have e0 : win0_14.index t 0 = t.val := congrFun e 0
  have e1 : win0_14.index t 1 = 0 := congrFun e 1
  refine out_at ((kArgs m c).turned 2816) t r l.val _ _ _ ?_ ?_
  · rw [View.emb_slice, Function.Embedding.trans_apply, View.emb_whole, Function.Embedding.refl_apply, Rect.emb_apply]
    show win0_14.index t 0 * 512 + 1 * r.val = t.val * 512 + r.val
    rw [e0, one_mul]
  · rw [View.emb_slice, Function.Embedding.trans_apply, View.emb_whole, Function.Embedding.refl_apply, Rect.emb_apply]
    show win0_14.index t 1 * 64 + 1 * l.val = l.val
    rw [e1, Nat.zero_mul, Nat.zero_add, one_mul]

set_option maxHeartbeats 1600000 in
/-- The indexer's key, as its scores read it, at every grid point. -/
theorem final15 (c : Dev nD) : (dats m 0 c).arrAt 15 (cfgs 0).N = rows (t := .bf16) 64 ((kArgs m c).turned 2816) := by
  refine (dats m 0 c).arrAt_eq_of_covers 15 _ (by decide +kernel) fun t _ y => ?_
  blk_simp
  rw [after0_15]
  unfold out0_15 k0_pay25 k0_pay23 k0_pay22 k0_pay21
  frame_out
  obtain ⟨r, l, rfl⟩ : ∃ (r : Fin 512) (l : Fin 64), y = ix2 r l := ⟨y 0, y 1, eq_ix2 y⟩
  refine (pay2_at (kArgs m c) (rowOf t r) r _ (u_at m c t r) _ _ (c_at m c t r) (s_at m c t r) _ (w10_at m c t _) l).trans ?_
  obtain ⟨-, -, -, -, -, -, -, -, -, -, -, -, -, -, -, e, -⟩ := idx t
  have e0 : win0_15.index t 0 = t.val := congrFun e 0
  have e1 : win0_15.index t 1 = 0 := congrFun e 1
  refine out_at ((kArgs m c).turned 2816) t r l.val _ _ _ ?_ ?_
  · rw [View.emb_slice, Function.Embedding.trans_apply, View.emb_whole, Function.Embedding.refl_apply, Rect.emb_apply]
    show win0_15.index t 0 * 512 + 1 * r.val = t.val * 512 + r.val
    rw [e0, one_mul]
  · rw [View.emb_slice, Function.Embedding.trans_apply, View.emb_whole, Function.Embedding.refl_apply, Rect.emb_apply]
    show win0_15.index t 1 * 64 + 1 * l.val = l.val
    rw [e1, Nat.zero_mul, Nat.zero_add, one_mul]

set_option maxHeartbeats 1600000 in
/-- The indexer's weights of its heads, at every grid point. -/
theorem final16 (c : Dev nD) : (dats m 0 c).arrAt 16 (cfgs 0).N = rows (t := .f32) 8 ((kArgs m c).weight) := by
  refine (dats m 0 c).arrAt_eq_of_covers 16 _ (by decide +kernel) fun t _ y => ?_
  blk_simp
  rw [after0_16]
  unfold out0_16 k0_pay21
  frame_out
  obtain ⟨r, l, rfl⟩ : ∃ (r : Fin 512) (l : Fin 8), y = ix2 r l := ⟨y 0, y 1, eq_ix2 y⟩
  refine (pay3_at (kArgs m c) (rowOf t r) r _ (u_at m c t r) _ (w10_at m c t _) l).trans ?_
  obtain ⟨-, -, -, -, -, -, -, -, -, -, -, -, -, -, -, -, e, -⟩ := idx t
  have e0 : win0_16.index t 0 = t.val := congrFun e 0
  have e1 : win0_16.index t 1 = 0 := congrFun e 1
  refine out_at ((kArgs m c).weight) t r l.val _ _ _ ?_ ?_
  · rw [View.emb_slice, Function.Embedding.trans_apply, View.emb_whole, Function.Embedding.refl_apply, Rect.emb_apply]
    show win0_16.index t 0 * 512 + 1 * r.val = t.val * 512 + r.val
    rw [e0, one_mul]
  · rw [View.emb_slice, Function.Embedding.trans_apply, View.emb_whole, Function.Embedding.refl_apply, Rect.emb_apply]
    show win0_16.index t 1 * 8 + 1 * l.val = l.val
    rw [e1, Nat.zero_mul, Nat.zero_add, one_mul]

end Cert.Proj
-- ==== Proof.Proj.RefRopes.lean ====
module

public import proofs.«01_k».proof.Proof.Gen.Reference4Ideal.Run
public import Idealize.ShloMosaic.Lib.Pipeline.ValueKit
public import proofs.«01_k».proof.Proof.Proj.Spec

@[expose] public section

/-!
The reference's arrays on the way to its results, each named and read at an entry.
-/

set_option maxRecDepth 16384

noncomputable section

namespace Cert.Proj

open Idealize.ShloMosaic Idealize.ShloMosaic.TcCoe Idealize.SL.Sem Idealize.ShloMosaic.StableHlo
open Cert.Reference4Ideal Cert.Reference4Ideal.Gen Cert.Reference4Ideal.Value

/-- The reference's modulated rows. -/
def refU (x : FVec Ideal S16384x1024 .f32) (md : FVec Ideal S1x9216 .f32) : FVec Ideal S16384x1024 .f32 :=
  addf (mulf x (broadcastInDim S16384x1024 ![0, 1] bcast_S1x1024_S16384x1024_0_1 (broadcastInDim S1x1024 ![1] bcast_S1024_S1x1024_1 (addf (broadcastInDim S1024 ![] bcast_S_S1024 (constant S_ .f32 0x3F800000#32)) (shapeCast _ (extractStridedSlice S1x1024 ![4, 0] (shapeCast _ md shapeCasts_S1x9216_S9x1024) slices_S9x1024_S1x1024_4_0) shapeCasts_S1x1024_S1024))))) (broadcastInDim S16384x1024 ![0, 1] bcast_S1x1024_S16384x1024_0_1 (broadcastInDim S1x1024 ![1] bcast_S1024_S1x1024_1 (shapeCast _ (extractStridedSlice S1x1024 ![3, 0] (shapeCast _ md shapeCasts_S1x9216_S9x1024) slices_S9x1024_S1x1024_3_0) shapeCasts_S1x1024_S1024)))

/-- The reference's projected columns. -/
def refUW (A : Args) : FVec Ideal S16384x7768 .f32 :=
  Host.dotGeneral dot_S16384x1024_S1024x7768_S16384x7768_1_0_0_1_n_n none (refU A.x A.md) A.w

/-- The modulated rows at an entry. -/
theorem refU_at (A : Args) (r : Fin 16384) (d : Fin 1024) : refU A.x A.md (ix2 r d) = A.u r d := by
  unfold Args.u Args.mrow
  pointwise [refU]

/-- The projected columns at an entry. -/
theorem refUW_at (A : Args) (r : Fin 16384) (k : Fin 7768) : refUW A (ix2 r k) = A.pr r k.val := by
  have e : refUW A (ix2 r k) = ∑ d : Fin 1024, refU A.x A.md (ix2 r d) * A.w (ix2 d k) := by
    unfold refUW
    generalize refU A.x A.md = u
    pointwise
  rw [e]
  unfold Args.pr
  refine Finset.sum_congr rfl fun d _ => ?_
  rw [refU_at]
  unfold Args.col
  rw [dif_pos k.isLt]

/-- The reference's rotary embedding of 4 heads. -/
def refRope4 (q : FVec Ideal S16384x4x64 .f32) (cs sn : FVec Ideal S16384x32 .f32) : FVec Ideal S16384x4x64 .f32 :=
  concatenate S16384x4x64 2 [⟨S16384x4x32, subf (mulf (extractStridedSlice S16384x4x32 ![0, 0, 0] q slices_S16384x4x64_S16384x4x32_0_0_0) (broadcastInDim S16384x4x32 ![0, 1, 2] bcast_S16384x1x32_S16384x4x32_0_1_2 (broadcastInDim S16384x1x32 ![0, 2] bcast_S16384x32_S16384x1x32_0_2 cs))) (mulf (extractStridedSlice S16384x4x32 ![0, 0, 32] q slices_S16384x4x64_S16384x4x32_0_0_32) (broadcastInDim S16384x4x32 ![0, 1, 2] bcast_S16384x1x32_S16384x4x32_0_1_2 (broadcastInDim S16384x1x32 ![0, 2] bcast_S16384x32_S16384x1x32_0_2 sn)))⟩, ⟨S16384x4x32, addf (mulf (extractStridedSlice S16384x4x32 ![0, 0, 32] q slices_S16384x4x64_S16384x4x32_0_0_32) (broadcastInDim S16384x4x32 ![0, 1, 2] bcast_S16384x1x32_S16384x4x32_0_1_2 (broadcastInDim S16384x1x32 ![0, 2] bcast_S16384x32_S16384x1x32_0_2 cs))) (mulf (extractStridedSlice S16384x4x32 ![0, 0, 0] q slices_S16384x4x64_S16384x4x32_0_0_0) (broadcastInDim S16384x4x32 ![0, 1, 2] bcast_S16384x1x32_S16384x4x32_0_1_2 (broadcastInDim S16384x1x32 ![0, 2] bcast_S16384x32_S16384x1x32_0_2 sn)))⟩] concatenates_S16384x4x32_S16384x4x32_S16384x4x64_d2

/-- The first half of a head, turned. -/
theorem refRope4_lo (q : FVec Ideal S16384x4x64 .f32) (cs sn : FVec Ideal S16384x32 .f32) (r : Fin 16384) (h : Fin 4) (j : Fin 64) (hj : j.val < 32) :
    refRope4 q cs sn (ix3 r h j) = q (ix3 r h j) * cs (ix2 r ⟨j.val, hj⟩) - q (ix3 r h ⟨j.val + 32, by omega⟩) * sn (ix2 r ⟨j.val, hj⟩) := by
  pointwise [refRope4]
  rw [dif_pos hj]
  simp only [Nat.add_comm]

/-- The second half of a head, turned. -/
theorem refRope4_hi (q : FVec Ideal S16384x4x64 .f32) (cs sn : FVec Ideal S16384x32 .f32) (r : Fin 16384) (h : Fin 4) (j : Fin 64) (hj : ¬ j.val < 32) :
    refRope4 q cs sn (ix3 r h j) = q (ix3 r h j) * cs (ix2 r ⟨j.val - 32, by omega⟩) + q (ix3 r h ⟨j.val - 32, by omega⟩) * sn (ix2 r ⟨j.val - 32, by omega⟩) := by
  pointwise [refRope4]
  rw [dif_neg hj]
  have e (p : 32 + (j.val - 32) < 64) : (⟨32 + (j.val - 32), p⟩ : Fin 64) = j := Fin.ext (by show 32 + (j.val - 32) = j.val; omega)
  rw [e]

/-- The columns of 4 heads, head by head. -/
def heads4 (q : FVec Ideal S16384x256 .f32) : FVec Ideal S16384x4x64 .f32 := shapeCast S16384x4x64 q shapeCasts_S16384x256_S16384x4x64

/-- A head's column. -/
theorem heads4_at (q : FVec Ideal S16384x256 .f32) (r : Fin 16384) (h : Fin 4) (j : Fin 64) :
    heads4 q (ix3 r h j) = q (ix2 r ⟨h.val * 64 + j.val, by omega⟩) := by
  pointwise [heads4]

/-- The turned heads side by side. -/
theorem flat4_at (x : FVec Ideal S16384x4x64 .f32) (r : Fin 16384) (l : Fin 256) :
    shapeCast S16384x256 x shapeCasts_S16384x4x64_S16384x256 (ix2 r l) = x (ix3 r ⟨l.val / 64, by omega⟩ ⟨l.val % 64, by omega⟩) := by
  pointwise

/-- The reference's turned columns are the heads' rotary embedding. -/
theorem refTurn4_at (A : Args) (b : ℕ) (q : FVec Ideal S16384x256 .f32) (r : Fin 16384) (hq : ∀ k : Fin 256, q (ix2 r k) = A.pr r (b + k.val)) (l : Fin 256) :
    refRope4 (heads4 q) A.cs A.sn (ix3 r ⟨l.val / 64, by omega⟩ ⟨l.val % 64, by omega⟩) = A.rot r b l.val := by
  unfold Args.rot rope
  have hl : l.val < 256 := l.isLt
  by_cases h : l.val % 64 < 32
  · have e1 : b + (l.val / 64 * 64 + l.val % 64) = b + l.val := by omega
    have e2 : b + (l.val / 64 * 64 + (l.val % 64 + 32)) = b + (l.val + 32) := by omega
    have e3 (p : l.val % 64 < 32) : (⟨l.val % 64, p⟩ : Fin 32) = ⟨l.val % 32, by omega⟩ := Fin.ext (by show l.val % 64 = l.val % 32; omega)
    rw [if_pos h, refRope4_lo _ _ _ r _ ⟨l.val % 64, by omega⟩ h, heads4_at, heads4_at, hq, hq]
    show A.pr r (b + (l.val / 64 * 64 + l.val % 64)) * A.cs (ix2 r ⟨l.val % 64, h⟩) - A.pr r (b + (l.val / 64 * 64 + (l.val % 64 + 32))) * A.sn (ix2 r ⟨l.val % 64, h⟩) = _
    rw [e1, e2, e3]
  · have e1 : b + (l.val / 64 * 64 + l.val % 64) = b + l.val := by omega
    have e2 : b + (l.val / 64 * 64 + (l.val % 64 - 32)) = b + (l.val - 32) := by omega
    have e3 (p : l.val % 64 - 32 < 32) : (⟨l.val % 64 - 32, p⟩ : Fin 32) = ⟨l.val % 32, by omega⟩ := Fin.ext (by show l.val % 64 - 32 = l.val % 32; omega)
    rw [if_neg h, refRope4_hi _ _ _ r _ ⟨l.val % 64, by omega⟩ h, heads4_at, heads4_at, hq, hq]
    show A.pr r (b + (l.val / 64 * 64 + l.val % 64)) * A.cs (ix2 r ⟨l.val % 64 - 32, by omega⟩) + A.pr r (b + (l.val / 64 * 64 + (l.val % 64 - 32))) * A.sn (ix2 r ⟨l.val % 64 - 32, by omega⟩) = _
    rw [e1, e2, e3]

/-- The reference's rotary embedding of 8 heads. -/
def refRope8 (q : FVec Ideal S16384x8x64 .f32) (cs sn : FVec Ideal S16384x32 .f32) : FVec Ideal S16384x8x64 .f32 :=
  concatenate S16384x8x64 2 [⟨S16384x8x32, subf (mulf (extractStridedSlice S16384x8x32 ![0, 0, 0] q slices_S16384x8x64_S16384x8x32_0_0_0) (broadcastInDim S16384x8x32 ![0, 1, 2] bcast_S16384x1x32_S16384x8x32_0_1_2 (broadcastInDim S16384x1x32 ![0, 2] bcast_S16384x32_S16384x1x32_0_2 cs))) (mulf (extractStridedSlice S16384x8x32 ![0, 0, 32] q slices_S16384x8x64_S16384x8x32_0_0_32) (broadcastInDim S16384x8x32 ![0, 1, 2] bcast_S16384x1x32_S16384x8x32_0_1_2 (broadcastInDim S16384x1x32 ![0, 2] bcast_S16384x32_S16384x1x32_0_2 sn)))⟩, ⟨S16384x8x32, addf (mulf (extractStridedSlice S16384x8x32 ![0, 0, 32] q slices_S16384x8x64_S16384x8x32_0_0_32) (broadcastInDim S16384x8x32 ![0, 1, 2] bcast_S16384x1x32_S16384x8x32_0_1_2 (broadcastInDim S16384x1x32 ![0, 2] bcast_S16384x32_S16384x1x32_0_2 cs))) (mulf (extractStridedSlice S16384x8x32 ![0, 0, 0] q slices_S16384x8x64_S16384x8x32_0_0_0) (broadcastInDim S16384x8x32 ![0, 1, 2] bcast_S16384x1x32_S16384x8x32_0_1_2 (broadcastInDim S16384x1x32 ![0, 2] bcast_S16384x32_S16384x1x32_0_2 sn)))⟩] concatenates_S16384x8x32_S16384x8x32_S16384x8x64_d2

/-- The first half of a head, turned. -/
theorem refRope8_lo (q : FVec Ideal S16384x8x64 .f32) (cs sn : FVec Ideal S16384x32 .f32) (r : Fin 16384) (h : Fin 8) (j : Fin 64) (hj : j.val < 32) :
    refRope8 q cs sn (ix3 r h j) = q (ix3 r h j) * cs (ix2 r ⟨j.val, hj⟩) - q (ix3 r h ⟨j.val + 32, by omega⟩) * sn (ix2 r ⟨j.val, hj⟩) := by
  pointwise [refRope8]
  rw [dif_pos hj]
  simp only [Nat.add_comm]

/-- The second half of a head, turned. -/
theorem refRope8_hi (q : FVec Ideal S16384x8x64 .f32) (cs sn : FVec Ideal S16384x32 .f32) (r : Fin 16384) (h : Fin 8) (j : Fin 64) (hj : ¬ j.val < 32) :
    refRope8 q cs sn (ix3 r h j) = q (ix3 r h j) * cs (ix2 r ⟨j.val - 32, by omega⟩) + q (ix3 r h ⟨j.val - 32, by omega⟩) * sn (ix2 r ⟨j.val - 32, by omega⟩) := by
  pointwise [refRope8]
  rw [dif_neg hj]
  have e (p : 32 + (j.val - 32) < 64) : (⟨32 + (j.val - 32), p⟩ : Fin 64) = j := Fin.ext (by show 32 + (j.val - 32) = j.val; omega)
  rw [e]

/-- The columns of 8 heads, head by head. -/
def heads8 (q : FVec Ideal S16384x512 .f32) : FVec Ideal S16384x8x64 .f32 := shapeCast S16384x8x64 q shapeCasts_S16384x512_S16384x8x64

/-- A head's column. -/
theorem heads8_at (q : FVec Ideal S16384x512 .f32) (r : Fin 16384) (h : Fin 8) (j : Fin 64) :
    heads8 q (ix3 r h j) = q (ix2 r ⟨h.val * 64 + j.val, by omega⟩) := by
  pointwise [heads8]

/-- The turned heads side by side. -/
theorem flat8_at (x : FVec Ideal S16384x8x64 .f32) (r : Fin 16384) (l : Fin 512) :
    shapeCast S16384x512 x shapeCasts_S16384x8x64_S16384x512 (ix2 r l) = x (ix3 r ⟨l.val / 64, by omega⟩ ⟨l.val % 64, by omega⟩) := by
  pointwise

/-- The reference's turned columns are the heads' rotary embedding. -/
theorem refTurn8_at (A : Args) (b : ℕ) (q : FVec Ideal S16384x512 .f32) (r : Fin 16384) (hq : ∀ k : Fin 512, q (ix2 r k) = A.pr r (b + k.val)) (l : Fin 512) :
    refRope8 (heads8 q) A.cs A.sn (ix3 r ⟨l.val / 64, by omega⟩ ⟨l.val % 64, by omega⟩) = A.rot r b l.val := by
  unfold Args.rot rope
  have hl : l.val < 512 := l.isLt
  by_cases h : l.val % 64 < 32
  · have e1 : b + (l.val / 64 * 64 + l.val % 64) = b + l.val := by omega
    have e2 : b + (l.val / 64 * 64 + (l.val % 64 + 32)) = b + (l.val + 32) := by omega
    have e3 (p : l.val % 64 < 32) : (⟨l.val % 64, p⟩ : Fin 32) = ⟨l.val % 32, by omega⟩ := Fin.ext (by show l.val % 64 = l.val % 32; omega)
    rw [if_pos h, refRope8_lo _ _ _ r _ ⟨l.val % 64, by omega⟩ h, heads8_at, heads8_at, hq, hq]
    show A.pr r (b + (l.val / 64 * 64 + l.val % 64)) * A.cs (ix2 r ⟨l.val % 64, h⟩) - A.pr r (b + (l.val / 64 * 64 + (l.val % 64 + 32))) * A.sn (ix2 r ⟨l.val % 64, h⟩) = _
    rw [e1, e2, e3]
  · have e1 : b + (l.val / 64 * 64 + l.val % 64) = b + l.val := by omega
    have e2 : b + (l.val / 64 * 64 + (l.val % 64 - 32)) = b + (l.val - 32) := by omega
    have e3 (p : l.val % 64 - 32 < 32) : (⟨l.val % 64 - 32, p⟩ : Fin 32) = ⟨l.val % 32, by omega⟩ := Fin.ext (by show l.val % 64 - 32 = l.val % 32; omega)
    rw [if_neg h, refRope8_hi _ _ _ r _ ⟨l.val % 64, by omega⟩ h, heads8_at, heads8_at, hq, hq]
    show A.pr r (b + (l.val / 64 * 64 + l.val % 64)) * A.cs (ix2 r ⟨l.val % 64 - 32, by omega⟩) + A.pr r (b + (l.val / 64 * 64 + (l.val % 64 - 32))) * A.sn (ix2 r ⟨l.val % 64 - 32, by omega⟩) = _
    rw [e1, e2, e3]

/-- The reference's rotary embedding of 1 head. -/
def refRope1 (q : FVec Ideal S16384x1x64 .f32) (cs sn : FVec Ideal S16384x32 .f32) : FVec Ideal S16384x1x64 .f32 :=
  concatenate S16384x1x64 2 [⟨S16384x1x32, subf (mulf (extractStridedSlice S16384x1x32 ![0, 0, 0] q slices_S16384x1x64_S16384x1x32_0_0_0) (broadcastInDim S16384x1x32 ![0, 2] bcast_S16384x32_S16384x1x32_0_2 cs)) (mulf (extractStridedSlice S16384x1x32 ![0, 0, 32] q slices_S16384x1x64_S16384x1x32_0_0_32) (broadcastInDim S16384x1x32 ![0, 2] bcast_S16384x32_S16384x1x32_0_2 sn))⟩, ⟨S16384x1x32, addf (mulf (extractStridedSlice S16384x1x32 ![0, 0, 32] q slices_S16384x1x64_S16384x1x32_0_0_32) (broadcastInDim S16384x1x32 ![0, 2] bcast_S16384x32_S16384x1x32_0_2 cs)) (mulf (extractStridedSlice S16384x1x32 ![0, 0, 0] q slices_S16384x1x64_S16384x1x32_0_0_0) (broadcastInDim S16384x1x32 ![0, 2] bcast_S16384x32_S16384x1x32_0_2 sn))⟩] concatenates_S16384x1x32_S16384x1x32_S16384x1x64_d2

/-- The first half of a head, turned. -/
theorem refRope1_lo (q : FVec Ideal S16384x1x64 .f32) (cs sn : FVec Ideal S16384x32 .f32) (r : Fin 16384) (j : Fin 64) (hj : j.val < 32) :
    refRope1 q cs sn (ix3 r 0 j) = q (ix3 r 0 j) * cs (ix2 r ⟨j.val, hj⟩) - q (ix3 r 0 ⟨j.val + 32, by omega⟩) * sn (ix2 r ⟨j.val, hj⟩) := by
  pointwise [refRope1]
  rw [dif_pos hj]
  simp only [Nat.add_comm]

/-- The second half of a head, turned. -/
theorem refRope1_hi (q : FVec Ideal S16384x1x64 .f32) (cs sn : FVec Ideal S16384x32 .f32) (r : Fin 16384) (j : Fin 64) (hj : ¬ j.val < 32) :
    refRope1 q cs sn (ix3 r 0 j) = q (ix3 r 0 j) * cs (ix2 r ⟨j.val - 32, by omega⟩) + q (ix3 r 0 ⟨j.val - 32, by omega⟩) * sn (ix2 r ⟨j.val - 32, by omega⟩) := by
  pointwise [refRope1]
  rw [dif_neg hj]
  have e (p : 32 + (j.val - 32) < 64) : (⟨32 + (j.val - 32), p⟩ : Fin 64) = j := Fin.ext (by show 32 + (j.val - 32) = j.val; omega)
  rw [e]

/-- The columns of 1 head, head by head. -/
def heads1 (q : FVec Ideal S16384x64 .f32) : FVec Ideal S16384x1x64 .f32 := broadcastInDim S16384x1x64 ![0, 2] bcast_S16384x64_S16384x1x64_0_2 q

/-- A head's column. -/
theorem heads1_at (q : FVec Ideal S16384x64 .f32) (r : Fin 16384) (j : Fin 64) :
    heads1 q (ix3 r 0 j) = q (ix2 r j) := by
  pointwise [heads1]

/-- The turned heads side by side. -/
theorem flat1_at (x : FVec Ideal S16384x1x64 .f32) (r : Fin 16384) (l : Fin 64) :
    shapeCast S16384x64 x shapeCasts_S16384x1x64_S16384x64 (ix2 r l) = x (ix3 r 0 l) := by
  pointwise

/-- The reference's turned columns are the heads' rotary embedding. -/
theorem refTurn1_at (A : Args) (b : ℕ) (q : FVec Ideal S16384x64 .f32) (r : Fin 16384) (hq : ∀ k : Fin 64, q (ix2 r k) = A.pr r (b + k.val)) (l : Fin 64) :
    refRope1 (heads1 q) A.cs A.sn (ix3 r 0 l) = A.rot r b l.val := by
  unfold Args.rot rope
  have hl : l.val < 64 := l.isLt
  by_cases h : l.val < 32
  · have e3 (p : l.val < 32) : (⟨l.val, p⟩ : Fin 32) = ⟨l.val % 32, by omega⟩ := Fin.ext (by show l.val = l.val % 32; omega)
    rw [if_pos (by omega), refRope1_lo _ _ _ r l h, heads1_at, heads1_at, hq, hq, e3]
  · have e3 (p : l.val - 32 < 32) : (⟨l.val - 32, p⟩ : Fin 32) = ⟨l.val % 32, by omega⟩ := Fin.ext (by show l.val - 32 = l.val % 32; omega)
    rw [if_neg (by omega), refRope1_hi _ _ _ r l h, heads1_at, heads1_at, hq, hq, e3]

end Cert.Proj
-- ==== Proof.Proj.RefValue.lean ====
module

public import proofs.«01_k».proof.Proof.Proj.RefRopes

@[expose] public section

/-!
The reference's results, entry by entry.
-/

set_option maxRecDepth 16384

noncomputable section

namespace Cert.Proj

open Idealize.ShloMosaic Idealize.ShloMosaic.TcCoe Idealize.SL.Sem Idealize.ShloMosaic.StableHlo
open Cert.Reference4Ideal Cert.Reference4Ideal.Gen Cert.Reference4Ideal.Value

/-- The positions' angles. -/
def refAng : FVec Ideal S16384x32 .f32 :=
  (mulf (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The reference's arguments as the part's. -/
def refArgs (m : (ℓ : Loc nD τ sig) → Buf (Elt Ideal) ℓ) (c : Dev nD) : Args where
  x := m ((c.tc : Thread nD τ).loc main_arg0)
  md := m ((c.tc : Thread nD τ).loc main_arg1)
  w := m ((c.tc : Thread nD τ).loc main_arg2)
  cs := Host.cos refAng
  sn := Host.sin refAng

/-- The first mixer's columns. -/
theorem ref14 (A : Args) : extractStridedSlice S16384x512 ![0, 0] (refUW A) slices_S16384x7768_S16384x512_0_0 = rows (t := .f32) 512 (A.plain 0) :=
  rows_of _ _ _ fun r l => by
    refine Eq.trans ?_ (refUW_at A r ⟨0 + l.val, by omega⟩)
    generalize refUW A = p
    pointwise

/-- The second mixer's columns. -/
theorem ref15 (A : Args) : extractStridedSlice S16384x1024 ![0, 512] (refUW A) slices_S16384x7768_S16384x1024_0_512 = rows (t := .f32) 1024 (A.plain 512) :=
  rows_of _ _ _ fun r l => by
    refine Eq.trans ?_ (refUW_at A r ⟨512 + l.val, by omega⟩)
    generalize refUW A = p
    pointwise

/-- The attention's values. -/
theorem ref18 (A : Args) : extractStridedSlice S16384x256 ![0, 2048] (refUW A) slices_S16384x7768_S16384x256_0_2048 = rows (t := .f32) 256 (A.plain 2048) :=
  rows_of _ _ _ fun r l => by
    refine Eq.trans ?_ (refUW_at A r ⟨2048 + l.val, by omega⟩)
    generalize refUW A = p
    pointwise

/-- The attention's values, as the weighted sums read them. -/
theorem ref148 (A : Args) : truncf .bf16 (extractStridedSlice S16384x256 ![0, 2048] (refUW A) slices_S16384x7768_S16384x256_0_2048) bitsLt_bf16_f32 = rows (t := .bf16) 256 (A.plain 2048) :=
  rows_of _ _ _ fun r l => congrFun (ref18 A) (ix2 r l)

/-- The attention's queries, before their cast. -/
def refQ32 (A : Args) : FVec Ideal S16384x256 .f32 :=
  shapeCast S16384x256 (mulf (refRope4 (heads4 (extractStridedSlice S16384x256 ![0, 1536] (refUW A) slices_S16384x7768_S16384x256_0_1536)) A.cs A.sn) (broadcastInDim S16384x4x64 ![] bcast_S_S16384x4x64 (constant S_ .f32 0x3E000000#32))) shapeCasts_S16384x4x64_S16384x256

/-- The attention's queries. -/
def refQ (A : Args) : FVec Ideal S16384x256 .bf16 := truncf .bf16 (refQ32 A) bitsLt_bf16_f32

/-- The attention's keys. -/
def refK (A : Args) : FVec Ideal S16384x256 .f32 :=
  shapeCast S16384x256 (refRope4 (heads4 (extractStridedSlice S16384x256 ![0, 1792] (refUW A) slices_S16384x7768_S16384x256_0_1792)) A.cs A.sn) shapeCasts_S16384x4x64_S16384x256

/-- The indexer's queries, before their cast. -/
def refIQ32 (A : Args) : FVec Ideal S16384x512 .f32 :=
  shapeCast S16384x512 (mulf (refRope8 (heads8 (extractStridedSlice S16384x512 ![0, 2304] (refUW A) slices_S16384x7768_S16384x512_0_2304)) A.cs A.sn) (broadcastInDim S16384x8x64 ![] bcast_S_S16384x8x64 (constant S_ .f32 0x3E000000#32))) shapeCasts_S16384x8x64_S16384x512

/-- The indexer's queries. -/
def refIQ (A : Args) : FVec Ideal S16384x512 .bf16 := truncf .bf16 (refIQ32 A) bitsLt_bf16_f32

/-- The indexer's key. -/
def refIK (A : Args) : FVec Ideal S16384x64 .f32 :=
  shapeCast S16384x64 (refRope1 (heads1 (extractStridedSlice S16384x64 ![0, 2816] (refUW A) slices_S16384x7768_S16384x64_0_2816)) A.cs A.sn) shapeCasts_S16384x1x64_S16384x64

/-- A scaled array of four heads at an entry. -/
theorem eighth4_at (x : FVec Ideal S16384x4x64 .f32) (i : S16384x4x64.Idx) :
    mulf x (broadcastInDim S16384x4x64 ![] bcast_S_S16384x4x64 (constant S_ .f32 0x3E000000#32)) i = x i * Ideal.ofBits .f32 0x3E000000#32 := rfl

/-- A scaled array of eight heads at an entry. -/
theorem eighth8_at (x : FVec Ideal S16384x8x64 .f32) (i : S16384x8x64.Idx) :
    mulf x (broadcastInDim S16384x8x64 ![] bcast_S_S16384x8x64 (constant S_ .f32 0x3E000000#32)) i = x i * Ideal.ofBits .f32 0x3E000000#32 := rfl

/-- The attention's queries, row by row. -/
theorem refQ_eq (A : Args) : refQ A = rows (t := .bf16) 256 (A.scaled 1536) :=
  rows_of _ _ _ fun r l => by
    refine Eq.trans (b := refQ32 A (ix2 r l)) rfl ?_
    refine (flat4_at _ r l).trans ?_
    unfold Args.scaled
    rw [eighth4_at]
    refine congrArg (fun x : EReal => x * Ideal.ofBits .f32 0x3E000000#32) (refTurn4_at A 1536 _ r (fun k => ?_) l)
    refine Eq.trans ?_ (refUW_at A r ⟨1536 + k.val, by omega⟩)
    generalize refUW A = p
    pointwise

/-- The attention's keys, row by row. -/
theorem refK_at (A : Args) (r : Fin 16384) (l : Fin 256) : refK A (ix2 r l) = A.turned 1792 r l.val := by
  refine (flat4_at _ r l).trans (refTurn4_at A 1792 _ r (fun k => ?_) l)
  refine Eq.trans ?_ (refUW_at A r ⟨1792 + k.val, by omega⟩)
  generalize refUW A = p
  pointwise

/-- The indexer's queries, row by row. -/
theorem refIQ_eq (A : Args) : refIQ A = rows (t := .bf16) 512 (A.scaled 2304) :=
  rows_of _ _ _ fun r l => by
    refine Eq.trans (b := refIQ32 A (ix2 r l)) rfl ?_
    refine (flat8_at _ r l).trans ?_
    unfold Args.scaled
    rw [eighth8_at]
    refine congrArg (fun x : EReal => x * Ideal.ofBits .f32 0x3E000000#32) (refTurn8_at A 2304 _ r (fun k => ?_) l)
    refine Eq.trans ?_ (refUW_at A r ⟨2304 + k.val, by omega⟩)
    generalize refUW A = p
    pointwise

/-- The indexer's key, row by row. -/
theorem refIK_at (A : Args) (r : Fin 16384) (l : Fin 64) : refIK A (ix2 r l) = A.turned 2816 r l.val := by
  refine (flat1_at _ r l).trans (refTurn1_at A 2816 _ r (fun k => ?_) l)
  refine Eq.trans ?_ (refUW_at A r ⟨2816 + k.val, by omega⟩)
  generalize refUW A = p
  pointwise

/-- The indexer's weights of its heads. -/
theorem ref155 (A : Args) : mulf (extractStridedSlice S16384x8 ![0, 2880] (refUW A) slices_S16384x7768_S16384x8_0_2880) (broadcastInDim S16384x8 ![] bcast_S_S16384x8 (constant S_ .f32 0x3EB504F3#32)) = rows (t := .f32) 8 A.weight :=
  rows_of _ _ _ fun r l => by
    unfold Args.weight
    rw [← refUW_at A r ⟨2880 + l.val, by omega⟩]
    generalize refUW A = p
    pointwise

/-- The last mixer's columns, with zeros after them. -/
theorem ref156 (A : Args) : pad S16384x896 ![0, 0] ![0, 112] ![0, 0] (extractStridedSlice S16384x784 ![0, 2888] (refUW A) slices_S16384x7768_S16384x784_0_2888) (sitofp (F := Ideal) .f32 (constantI S_ 32 0#32)) pads_S16384x784_S16384x896_000_01120 h_S_ = rows (t := .f32) 896 A.padded :=
  rows_of _ _ _ fun r l => by
    unfold Args.padded
    by_cases h : l.val < 784
    · rw [if_pos h, ← refUW_at A r ⟨2888 + l.val, by omega⟩]
      generalize refUW A = p
      pointwise
      rw [dif_pos h]
    · rw [if_neg h]
      generalize refUW A = p
      pointwise
      rw [dif_neg h]
      show ((((0#32 : BitVec 32).toInt : ℝ)) : EReal) = 0
      simp

set_option maxHeartbeats 1600000 in
/-- The reference's queries of the attention. -/
theorem ref146 (m : (ℓ : Loc nD τ sig) → Buf (Elt Ideal) ℓ) (c : Dev nD) : res_main_v146 m c = rows (t := .bf16) 256 ((refArgs m c).scaled 1536) := by
  have e : res_main_v146 m c = refQ (refArgs m c) := rfl
  exact e.trans (refQ_eq _)

set_option maxHeartbeats 1600000 in
/-- The reference's keys of the attention. -/
theorem ref142 (m : (ℓ : Loc nD τ sig) → Buf (Elt Ideal) ℓ) (c : Dev nD) : res_main_v142 m c = rows (t := .f32) 256 ((refArgs m c).turned 1792) := by
  have e : res_main_v142 m c = refK (refArgs m c) := rfl
  exact e.trans (rows_of _ _ _ (refK_at _))

set_option maxHeartbeats 1600000 in
/-- The reference's keys of the attention, as the scores read them. -/
theorem ref147 (m : (ℓ : Loc nD τ sig) → Buf (Elt Ideal) ℓ) (c : Dev nD) : res_main_v147 m c = rows (t := .bf16) 256 ((refArgs m c).turned 1792) := by
  have e : res_main_v147 m c = truncf .bf16 (refK (refArgs m c)) bitsLt_bf16_f32 := rfl
  exact e.trans (rows_of _ _ _ (refK_at _))

set_option maxHeartbeats 1600000 in
/-- The reference's queries of the indexer. -/
theorem ref152 (m : (ℓ : Loc nD τ sig) → Buf (Elt Ideal) ℓ) (c : Dev nD) : res_main_v152 m c = rows (t := .bf16) 512 ((refArgs m c).scaled 2304) := by
  have e : res_main_v152 m c = refIQ (refArgs m c) := rfl
  exact e.trans (refIQ_eq _)

set_option maxHeartbeats 1600000 in
/-- The reference's key of the indexer. -/
theorem ref141 (m : (ℓ : Loc nD τ sig) → Buf (Elt Ideal) ℓ) (c : Dev nD) : res_main_v141 m c = rows (t := .f32) 64 ((refArgs m c).turned 2816) := by
  have e : res_main_v141 m c = refIK (refArgs m c) := rfl
  exact e.trans (rows_of _ _ _ (refIK_at _))

set_option maxHeartbeats 1600000 in
/-- The reference's key of the indexer, as its scores read it. -/
theorem ref153 (m : (ℓ : Loc nD τ sig) → Buf (Elt Ideal) ℓ) (c : Dev nD) : res_main_v153 m c = rows (t := .bf16) 64 ((refArgs m c).turned 2816) := by
  have e : res_main_v153 m c = truncf .bf16 (refIK (refArgs m c)) bitsLt_bf16_f32 := rfl
  exact e.trans (rows_of _ _ _ (refIK_at _))

end Cert.Proj
-- ==== Proof.Proj.Agreement.lean ====
module

public import proofs.«01_k».proof.Defs
public import proofs.«01_k».proof.Proof.Gen.Kernel4Ideal.Value
public import proofs.«01_k».proof.Proof.Proj.FinalsPlain
public import proofs.«01_k».proof.Proof.Proj.FinalsAtt
public import proofs.«01_k».proof.Proof.Proj.FinalsIndex
public import proofs.«01_k».proof.Proof.Proj.RefValue

@[expose] public section

/-!
The input projection's call and its reference end with equal results.
-/

noncomputable section

namespace Cert.Proj

open Idealize.ShloMosaic Idealize.ShloMosaic.TcCoe Idealize.SL.Sem

/-- Memories that agree on the arguments give both programs the same part: the rotation's cosines and sines are the same constants in both. -/
theorem args_agree (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    refArgs m' c = kArgs m c := by
  obtain ⟨h0, h1, h2⟩ := h
  unfold refArgs kArgs
  rw [Args.mk.injEq]
  exact ⟨h0, h1, h2, rfl, rfl⟩

set_option maxHeartbeats 3200000 in
/-- Equal results, as the claim states them. -/
theorem equal : algebraic_Kernel4Ideal_Reference4Ideal (hKernel4Ideal := Cert.Kernel4Ideal.Gen.facts) (hReference4Ideal := Cert.Reference4Ideal.Gen.facts) := by
  intro m g m' g' hpre hagree
  refine ⟨fun c => rows (t := .f32) 512 ((kArgs m c).plain 0),
    fun c => rows (t := .f32) 1024 ((kArgs m c).plain 512),
    fun c => rows (t := .bf16) 256 ((kArgs m c).scaled 1536),
    fun c => rows (t := .f32) 256 ((kArgs m c).turned 1792),
    fun c => rows (t := .f32) 256 ((kArgs m c).plain 2048),
    fun c => rows (t := .bf16) 256 ((kArgs m c).turned 1792),
    fun c => rows (t := .bf16) 256 ((kArgs m c).plain 2048),
    fun c => rows (t := .bf16) 512 ((kArgs m c).scaled 2304),
    fun c => rows (t := .f32) 64 ((kArgs m c).turned 2816),
    fun c => rows (t := .bf16) 64 ((kArgs m c).turned 2816),
    fun c => rows (t := .f32) 8 ((kArgs m c).weight),
    fun c => rows (t := .f32) 896 ((kArgs m c).padded),
    (θ_run _ _ _).mono (fun r h c => ⟨(h c).1.trans (final6 m c), (h c).2.1.trans (final7 m c), (h c).2.2.1.trans (final8 m c), (h c).2.2.2.1.trans (final9 m c), (h c).2.2.2.2.1.trans (final10 m c), (h c).2.2.2.2.2.1.trans (final11 m c), (h c).2.2.2.2.2.2.1.trans (final12 m c), (h c).2.2.2.2.2.2.2.1.trans (final13 m c), (h c).2.2.2.2.2.2.2.2.1.trans (final14 m c), (h c).2.2.2.2.2.2.2.2.2.1.trans (final15 m c), (h c).2.2.2.2.2.2.2.2.2.2.1.trans (final16 m c), (h c).2.2.2.2.2.2.2.2.2.2.2.1.trans (final17 m c), (h c).2.2.2.2.2.2.2.2.2.2.2.2⟩)
      (Cert.Kernel4Ideal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩)
      (Cert.Reference4Ideal.Value.run m' g')⟩
  · show _ = rows (t := .f32) 512 ((kArgs m c).plain 0)
    rw [← args_agree m m' c (hagree c)]
    exact ref14 (refArgs m' c)
  · show _ = rows (t := .f32) 1024 ((kArgs m c).plain 512)
    rw [← args_agree m m' c (hagree c)]
    exact ref15 (refArgs m' c)
  · show _ = rows (t := .bf16) 256 ((kArgs m c).scaled 1536)
    rw [← args_agree m m' c (hagree c)]
    exact ref146 m' c
  · show _ = rows (t := .f32) 256 ((kArgs m c).turned 1792)
    rw [← args_agree m m' c (hagree c)]
    exact ref142 m' c
  · show _ = rows (t := .f32) 256 ((kArgs m c).plain 2048)
    rw [← args_agree m m' c (hagree c)]
    exact ref18 (refArgs m' c)
  · show _ = rows (t := .bf16) 256 ((kArgs m c).turned 1792)
    rw [← args_agree m m' c (hagree c)]
    exact ref147 m' c
  · show _ = rows (t := .bf16) 256 ((kArgs m c).plain 2048)
    rw [← args_agree m m' c (hagree c)]
    exact ref148 (refArgs m' c)
  · show _ = rows (t := .bf16) 512 ((kArgs m c).scaled 2304)
    rw [← args_agree m m' c (hagree c)]
    exact ref152 m' c
  · show _ = rows (t := .f32) 64 ((kArgs m c).turned 2816)
    rw [← args_agree m m' c (hagree c)]
    exact ref141 m' c
  · show _ = rows (t := .bf16) 64 ((kArgs m c).turned 2816)
    rw [← args_agree m m' c (hagree c)]
    exact ref153 m' c
  · show _ = rows (t := .f32) 8 ((kArgs m c).weight)
    rw [← args_agree m m' c (hagree c)]
    exact ref155 (refArgs m' c)
  · show _ = rows (t := .f32) 896 ((kArgs m c).padded)
    rw [← args_agree m m' c (hagree c)]
    exact ref156 (refArgs m' c)

end Cert.Proj
-- ==== Proof.ProjSample.Spec.lean ====
module

public import Idealize.ShloMosaic.Lib.Pipeline.ValueKit
public import Idealize.ShloMosaic.Lib.IdealHost

@[expose] public section

/-!
The input projection of the sample batch, one entry at a time: the modulated row, a projected column, and the rotary embedding of
a head of 64 columns. Both programs are compared with it.
-/

noncomputable section

namespace Cert.ProjSample

open Idealize.ShloMosaic

/-- The arrays the part reads: the rows, the layer's modulation of each sequence, the projection's weights, and the cosines and sines of
the positions' angles. -/
structure Args where
  x : FVec Ideal ⟨2, ![256, 1024]⟩ .f32
  md : FVec Ideal ⟨2, ![32, 9216]⟩ .f32
  w : FVec Ideal ⟨2, ![1024, 7768]⟩ .f32
  cs : FVec Ideal ⟨2, ![256, 32]⟩ .f32
  sn : FVec Ideal ⟨2, ![256, 32]⟩ .f32

/-- Entry `d` of row `q` of the nine modulation rows of the sequence that row `r` belongs to: eight rows in turn are one sequence. -/
def Args.mrow (A : Args) (r : Fin 256) (q : Fin 9) (d : Fin 1024) : EReal := A.md (ix2 ⟨r.val / 8, by omega⟩ ⟨q.val * 1024 + d.val, by omega⟩)

/-- The modulated row. -/
def Args.u (A : Args) (r : Fin 256) (d : Fin 1024) : EReal :=
  A.x (ix2 r d) * (1 + A.mrow r 4 d) + A.mrow r 3 d

/-- Column `k` of the weights, zero past the last. -/
def Args.col (A : Args) (d : Fin 1024) (k : ℕ) : EReal := if h : k < 7768 then A.w (ix2 d ⟨k, h⟩) else 0

/-- Projected column `k` of row `r`. -/
def Args.pr (A : Args) (r : Fin 256) (k : ℕ) : EReal := ∑ d : Fin 1024, A.u r d * A.col d k

/-- The rotary embedding of a head `p`, whose halves are the two coordinates of 32 pairs, by the angles' cosines and sines. -/
def rope (p : ℕ → EReal) (cs sn : Fin 32 → EReal) (j : ℕ) : EReal :=
  if j % 64 < 32 then p j * cs ⟨j % 32, by omega⟩ - p (j + 32) * sn ⟨j % 32, by omega⟩
  else p j * cs ⟨j % 32, by omega⟩ + p (j - 32) * sn ⟨j % 32, by omega⟩

/-- The rotary embedding of the columns from `b` on, at the `l`-th. -/
def Args.rot (A : Args) (r : Fin 256) (b l : ℕ) : EReal :=
  rope (fun j => A.pr r (b + j)) (fun f => A.cs (ix2 r f)) (fun f => A.sn (ix2 r f)) l

/-- Whole heads may be counted with the first column. -/
theorem rot_shift (A : Args) (r : Fin 256) (b q l : ℕ) : A.rot r b (64 * q + l) = A.rot r (b + 64 * q) l := by
  unfold Args.rot rope
  have e1 : (64 * q + l) % 64 = l % 64 := by omega
  have e2 : (64 * q + l) % 32 = l % 32 := by omega
  simp only [e1, e2]
  by_cases h : l % 64 < 32
  · rw [if_pos h, if_pos h, show b + (64 * q + l) = b + 64 * q + l by omega, show b + (64 * q + l + 32) = b + 64 * q + (l + 32) by omega]
  · rw [if_neg h, if_neg h, show b + (64 * q + l) = b + 64 * q + l by omega, show b + (64 * q + l - 32) = b + 64 * q + (l - 32) by omega]

/-- An array of rows of `n` entries, given entry by entry. -/
def rows {t : FTy} (n : ℕ) (f : Fin 256 → ℕ → EReal) : FVec Ideal ⟨2, ![256, n]⟩ t := fun i => f ⟨(i 0).val, (i 0).isLt⟩ (i 1).val

/-- An array of rows that agrees at each pair of coordinates. -/
theorem rows_of {t : FTy} (n : ℕ) (f : Fin 256 → ℕ → EReal) (x : FVec Ideal ⟨2, ![256, n]⟩ t)
    (h : ∀ (r : Fin 256) (l : Fin n), x (ix2 r l) = f r l.val) : x = rows n f := by
  funext i
  obtain ⟨a, l, rfl⟩ : ∃ (a : Fin 256) (l : Fin n), i = ix2 a l := ⟨i 0, i 1, eq_ix2 i⟩
  exact h a l

/-- Projected columns from `b` on. -/
def Args.plain (A : Args) (b : ℕ) (r : Fin 256) (l : ℕ) : EReal := A.pr r (b + l)

/-- Projected columns from `b` on, each head turned by its position's angles. -/
def Args.turned (A : Args) (b : ℕ) (r : Fin 256) (l : ℕ) : EReal := A.rot r b l

/-- The same, times an eighth. -/
def Args.scaled (A : Args) (b : ℕ) (r : Fin 256) (l : ℕ) : EReal := A.rot r b l * Ideal.ofBits .f32 0x3E000000#32

/-- The indexer's weights of its heads. -/
def Args.weight (A : Args) (r : Fin 256) (l : ℕ) : EReal := A.pr r (2880 + l) * Ideal.ofBits .f32 0x3EB504F3#32

/-- The last group's columns, with zeros after them. -/
def Args.padded (A : Args) (r : Fin 256) (l : ℕ) : EReal := if l < 784 then A.pr r (2888 + l) else 0

end Cert.ProjSample
-- ==== Proof.ProjSample.Turn.lean ====
module

public import proofs.«01_k».proof.Proof.Gen.Kernel5Ideal.Value
public import Idealize.ShloMosaic.Lib.Pipeline.ValueKit
public import proofs.«01_k».proof.Proof.ProjSample.Spec
public import Idealize.ShloMosaic.Lib.KernelVsHost

@[expose] public section

/-!
The kernel's rotary embedding, entry by entry: each column with its partner in the other half of its head.
-/

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

/-- Which of 512 columns lie in the first half of their head, as the kernel computes it. -/
def mask512 : IVec S256x512 1 :=
  have v32 : IVec S256x512 32 := iota .tc S256x512 32 [1] iota_S256x512_d1_w32
  let v33 : BitVec 1 := Scalar.cmpi .eq 64#32 0#32
  let v34 : BitVec 32 := Scalar.select v33 1#32 64#32
  have v35 : IVec S256x512 32 := broadcast S256x512 v34
  have v36 : IVec S256x512 32 := remsi v32 v35
  have v37 : IVec S256x512 32 := broadcast S256x512 0#32
  have v38 : IVec S256x512 1 := cmpi .ne v36 v37
  have v39 : IVec S256x512 32 := broadcast S256x512 0#32
  have v40 : IVec S256x512 1 := cmpi .slt v36 v39
  let v41 : BitVec 1 := Scalar.cmpi .slt v34 0#32
  have v42 : IVec S256x512 1 := broadcast S256x512 v41
  have v43 : IVec S256x512 1 := broadcastTo S256x512 v42 broadcasts_S256x512_S256x512
  have v44 : IVec S256x512 1 := xori v40 v43
  have v45 : IVec S256x512 1 := andi v44 v38
  have v46 : IVec S256x512 32 := broadcast S256x512 v34
  have v47 : IVec S256x512 32 := addi v36 v46
  have v48 : IVec S256x512 32 := select v45 v47 v36
  have v49 : IVec S256x512 32 := broadcast S256x512 32#32
  cmpi .slt v48 v49

/-- The mask's row does not depend on the row's number. -/
theorem mask512_row (r : Fin 256) (l : Fin 512) : mask512 (ix2 r l) = mask512 (ix2 0 l) := rfl

/-- The mask at each column. -/
theorem mask512_zero : ∀ l : Fin 512, mask512 (ix2 0 l) = if l.val % 64 < 32 then 1#1 else 0#1 := by decide +kernel

/-- The kernel's rotary embedding of 512 columns. -/
def turn512 (x : FVec Ideal S256x512 .f32) (c s : FVec Ideal S256x128 .f32) : FVec Ideal S256x512 .f32 :=
  addf (mulf x (concatenate S256x512 1 (List.replicate 4 ⟨S256x128, c⟩) concatenates_S256x128_S256x128_S256x128_S256x128_S256x512_d1))
    (mulf (select mask512 (dynamicRotate 1 480#32 none x rotates_S256x512_d1) (dynamicRotate 1 32#32 none x rotates_S256x512_d1))
      (concatenate S256x512 1 (List.replicate 4 ⟨S256x128, s⟩) concatenates_S256x128_S256x128_S256x128_S256x128_S256x512_d1))

/-- A table repeated along the columns. -/
theorem cat512_at (c : FVec Ideal S256x128 .f32) (r : Fin 256) (l : Fin 512) :
    (concatenate S256x512 1 (List.replicate 4 ⟨S256x128, c⟩) concatenates_S256x128_S256x128_S256x128_S256x128_S256x512_d1) (ix2 r l) = c (ix2 r ⟨l.val % 128, by omega⟩) := by
  refine concatenate_replicate_apply (t := S256x512) 1 4 c _ rfl (ix2 r l) (ix2 r ⟨l.val % 128, by omega⟩) rfl ?_
  intro b hb
  fin_cases b
  · rfl
  · exact absurd rfl hb

/-- Columns rotated by half a head, seen from the first half. -/
theorem ahead512_at (x : FVec Ideal S256x512 .f32) (r : Fin 256) (l : Fin 512) (h : l.val + 32 < 512) :
    dynamicRotate 1 480#32 none x rotates_S256x512_d1 (ix2 r l) = x (ix2 r ⟨l.val + 32, h⟩) := by
  refine dynamicRotate_apply 1 _ x _ _ _ ?_
  intro b
  fin_cases b
  · rfl
  · show l.val + 32 = (l.val + 512 - 480 % 512) % 512
    omega

/-- Columns rotated by half a head, seen from the second half. -/
theorem behind512_at (x : FVec Ideal S256x512 .f32) (r : Fin 256) (l : Fin 512) (h : 32 ≤ l.val) :
    dynamicRotate 1 32#32 none x rotates_S256x512_d1 (ix2 r l) = x (ix2 r ⟨l.val - 32, by omega⟩) := by
  refine dynamicRotate_apply 1 _ x _ _ _ ?_
  intro b
  fin_cases b
  · rfl
  · show l.val - 32 = (l.val + 512 - 32 % 512) % 512
    omega

/-- The kernel's rotary embedding is the heads' one. -/
theorem turn512_at (A : Args) (R : Fin 256) (b : ℕ) (x : FVec Ideal S256x512 .f32) (c s : FVec Ideal S256x128 .f32) (r : Fin 256)
    (n : ℕ) (hn : n % 64 = 0) (hx : ∀ k : Fin 512, k.val < n → x (ix2 r k) = A.pr R (b + k.val))
    (hc : ∀ e : Fin 128, c (ix2 r e) = A.cs (ix2 R ⟨e.val % 32, by omega⟩))
    (hs : ∀ e : Fin 128, s (ix2 r e) = if e.val % 64 < 32 then -A.sn (ix2 R ⟨e.val % 32, by omega⟩) else A.sn (ix2 R ⟨e.val % 32, by omega⟩))
    (l : Fin 512) (hl : l.val < n) : turn512 x c s (ix2 r l) = A.rot R b l.val := by
  have hl' : l.val < 512 := l.isLt
  have e1 : turn512 x c s (ix2 r l) = x (ix2 r l) * (concatenate S256x512 1 (List.replicate 4 ⟨S256x128, c⟩) concatenates_S256x128_S256x128_S256x128_S256x128_S256x512_d1) (ix2 r l)
      + (if mask512 (ix2 r l) = 1#1 then dynamicRotate 1 480#32 none x rotates_S256x512_d1 (ix2 r l) else dynamicRotate 1 32#32 none x rotates_S256x512_d1 (ix2 r l))
        * (concatenate S256x512 1 (List.replicate 4 ⟨S256x128, s⟩) concatenates_S256x128_S256x128_S256x128_S256x128_S256x512_d1) (ix2 r l) := rfl
  have m1 : l.val % 128 % 64 = l.val % 64 := by omega
  have m2 : l.val % 128 % 32 = l.val % 32 := by omega
  rw [e1, cat512_at, cat512_at, hc, hs, mask512_row, mask512_zero, hx l hl]
  unfold Args.rot rope
  simp only [m1, m2]
  by_cases h : l.val % 64 < 32
  · have h2 : l.val + 32 < 512 := by omega
    rw [if_pos h, if_pos rfl, if_pos h, if_pos h, ahead512_at x r l h2, hx ⟨l.val + 32, h2⟩ (by show l.val + 32 < n; omega), sub_eq_add_neg, mul_neg]
  · have h2 : 32 ≤ l.val := by omega
    rw [if_neg h, if_neg (by decide), if_neg h, if_neg h, behind512_at x r l h2, hx ⟨l.val - 32, by omega⟩ (by show l.val - 32 < n; omega)]

/-- Which of 640 columns lie in the first half of their head, as the kernel computes it. -/
def mask640 : IVec S256x640 1 :=
  have v32 : IVec S256x640 32 := iota .tc S256x640 32 [1] iota_S256x640_d1_w32
  let v33 : BitVec 1 := Scalar.cmpi .eq 64#32 0#32
  let v34 : BitVec 32 := Scalar.select v33 1#32 64#32
  have v35 : IVec S256x640 32 := broadcast S256x640 v34
  have v36 : IVec S256x640 32 := remsi v32 v35
  have v37 : IVec S256x640 32 := broadcast S256x640 0#32
  have v38 : IVec S256x640 1 := cmpi .ne v36 v37
  have v39 : IVec S256x640 32 := broadcast S256x640 0#32
  have v40 : IVec S256x640 1 := cmpi .slt v36 v39
  let v41 : BitVec 1 := Scalar.cmpi .slt v34 0#32
  have v42 : IVec S256x640 1 := broadcast S256x640 v41
  have v43 : IVec S256x640 1 := broadcastTo S256x640 v42 broadcasts_S256x640_S256x640
  have v44 : IVec S256x640 1 := xori v40 v43
  have v45 : IVec S256x640 1 := andi v44 v38
  have v46 : IVec S256x640 32 := broadcast S256x640 v34
  have v47 : IVec S256x640 32 := addi v36 v46
  have v48 : IVec S256x640 32 := select v45 v47 v36
  have v49 : IVec S256x640 32 := broadcast S256x640 32#32
  cmpi .slt v48 v49

/-- The mask's row does not depend on the row's number. -/
theorem mask640_row (r : Fin 256) (l : Fin 640) : mask640 (ix2 r l) = mask640 (ix2 0 l) := rfl

/-- The mask at each column. -/
theorem mask640_zero : ∀ l : Fin 640, mask640 (ix2 0 l) = if l.val % 64 < 32 then 1#1 else 0#1 := by decide +kernel

/-- The kernel's rotary embedding of 640 columns. -/
def turn640 (x : FVec Ideal S256x640 .f32) (c s : FVec Ideal S256x128 .f32) : FVec Ideal S256x640 .f32 :=
  addf (mulf x (concatenate S256x640 1 (List.replicate 5 ⟨S256x128, c⟩) concatenates_S256x128_S256x128_S256x128_S256x128_S256x128_S256x640_d1))
    (mulf (select mask640 (dynamicRotate 1 608#32 none x rotates_S256x640_d1) (dynamicRotate 1 32#32 none x rotates_S256x640_d1))
      (concatenate S256x640 1 (List.replicate 5 ⟨S256x128, s⟩) concatenates_S256x128_S256x128_S256x128_S256x128_S256x128_S256x640_d1))

/-- A table repeated along the columns. -/
theorem cat640_at (c : FVec Ideal S256x128 .f32) (r : Fin 256) (l : Fin 640) :
    (concatenate S256x640 1 (List.replicate 5 ⟨S256x128, c⟩) concatenates_S256x128_S256x128_S256x128_S256x128_S256x128_S256x640_d1) (ix2 r l) = c (ix2 r ⟨l.val % 128, by omega⟩) := by
  refine concatenate_replicate_apply (t := S256x640) 1 5 c _ rfl (ix2 r l) (ix2 r ⟨l.val % 128, by omega⟩) rfl ?_
  intro b hb
  fin_cases b
  · rfl
  · exact absurd rfl hb

/-- Columns rotated by half a head, seen from the first half. -/
theorem ahead640_at (x : FVec Ideal S256x640 .f32) (r : Fin 256) (l : Fin 640) (h : l.val + 32 < 640) :
    dynamicRotate 1 608#32 none x rotates_S256x640_d1 (ix2 r l) = x (ix2 r ⟨l.val + 32, h⟩) := by
  refine dynamicRotate_apply 1 _ x _ _ _ ?_
  intro b
  fin_cases b
  · rfl
  · show l.val + 32 = (l.val + 640 - 608 % 640) % 640
    omega

/-- Columns rotated by half a head, seen from the second half. -/
theorem behind640_at (x : FVec Ideal S256x640 .f32) (r : Fin 256) (l : Fin 640) (h : 32 ≤ l.val) :
    dynamicRotate 1 32#32 none x rotates_S256x640_d1 (ix2 r l) = x (ix2 r ⟨l.val - 32, by omega⟩) := by
  refine dynamicRotate_apply 1 _ x _ _ _ ?_
  intro b
  fin_cases b
  · rfl
  · show l.val - 32 = (l.val + 640 - 32 % 640) % 640
    omega

/-- The kernel's rotary embedding is the heads' one. -/
theorem turn640_at (A : Args) (R : Fin 256) (b : ℕ) (x : FVec Ideal S256x640 .f32) (c s : FVec Ideal S256x128 .f32) (r : Fin 256)
    (n : ℕ) (hn : n % 64 = 0) (hx : ∀ k : Fin 640, k.val < n → x (ix2 r k) = A.pr R (b + k.val))
    (hc : ∀ e : Fin 128, c (ix2 r e) = A.cs (ix2 R ⟨e.val % 32, by omega⟩))
    (hs : ∀ e : Fin 128, s (ix2 r e) = if e.val % 64 < 32 then -A.sn (ix2 R ⟨e.val % 32, by omega⟩) else A.sn (ix2 R ⟨e.val % 32, by omega⟩))
    (l : Fin 640) (hl : l.val < n) : turn640 x c s (ix2 r l) = A.rot R b l.val := by
  have hl' : l.val < 640 := l.isLt
  have e1 : turn640 x c s (ix2 r l) = x (ix2 r l) * (concatenate S256x640 1 (List.replicate 5 ⟨S256x128, c⟩) concatenates_S256x128_S256x128_S256x128_S256x128_S256x128_S256x640_d1) (ix2 r l)
      + (if mask640 (ix2 r l) = 1#1 then dynamicRotate 1 608#32 none x rotates_S256x640_d1 (ix2 r l) else dynamicRotate 1 32#32 none x rotates_S256x640_d1 (ix2 r l))
        * (concatenate S256x640 1 (List.replicate 5 ⟨S256x128, s⟩) concatenates_S256x128_S256x128_S256x128_S256x128_S256x128_S256x640_d1) (ix2 r l) := rfl
  have m1 : l.val % 128 % 64 = l.val % 64 := by omega
  have m2 : l.val % 128 % 32 = l.val % 32 := by omega
  rw [e1, cat640_at, cat640_at, hc, hs, mask640_row, mask640_zero, hx l hl]
  unfold Args.rot rope
  simp only [m1, m2]
  by_cases h : l.val % 64 < 32
  · have h2 : l.val + 32 < 640 := by omega
    rw [if_pos h, if_pos rfl, if_pos h, if_pos h, ahead640_at x r l h2, hx ⟨l.val + 32, h2⟩ (by show l.val + 32 < n; omega), sub_eq_add_neg, mul_neg]
  · have h2 : 32 ≤ l.val := by omega
    rw [if_neg h, if_neg (by decide), if_neg h, if_neg h, behind640_at x r l h2, hx ⟨l.val - 32, by omega⟩ (by show l.val - 32 < n; omega)]

end Cert.ProjSample
-- ==== Proof.ProjSample.Value.lean ====
module

public import proofs.«01_k».proof.Proof.ProjSample.Turn

@[expose] public section

/-!
What the kernel's body computes at a grid point, entry by entry: the modulated rows, the projected columns, and the turned
heads, each group of columns as the body slices it.
-/

set_option maxRecDepth 16384

noncomputable section

namespace Cert.ProjSample

open Idealize.ShloMosaic Idealize.ShloMosaic.TcCoe Idealize.SL.Sem
open Cert.Kernel5Ideal Cert.Kernel5Ideal.Gen

/-- A product over the modulated row, given column by column. -/
theorem pr_of (A : Args) (R : Fin 256) (k : ℕ) (f g : Fin 1024 → EReal) (hf : ∀ d, f d = A.u R d) (hg : ∀ d, g d = A.col d k) :
    (∑ d : Fin 1024, f d * g d) = A.pr R k := by
  unfold Args.pr
  exact Finset.sum_congr rfl fun d _ => by rw [hf, hg]

/-- The modulated rows at an entry. -/
theorem pay4_at (v0 : Vec Ideal S256x1024 .f32) (v1 v6 : Vec Ideal S256x1024 .f32) (r : Fin 256) (d : Fin 1024) :
    k0_pay4 v0 v1 v6 (ix2 r d) = v0 (ix2 r d) * (1 + v1 (ix2 r d)) + v6 (ix2 r d) := by
  pointwise [k0_pay4]

/-- The cosines as loaded. -/
theorem pay5_at (v : Vec Ideal S256x128 .f32) (r : Fin 256) (e : Fin 128) : k0_pay5 v (ix2 r e) = v (ix2 r e) := by
  pointwise [k0_pay5]

/-- The sines as loaded. -/
theorem pay6_at (v : Vec Ideal S256x128 .f32) (r : Fin 256) (e : Fin 128) : k0_pay6 v (ix2 r e) = v (ix2 r e) := by
  pointwise [k0_pay6]

/-- The attention columns' weights as loaded. -/
theorem pay10_at (v : Vec Ideal S1024x768 .bf16) (d : Fin 1024) (l : Fin 768) : k0_pay10 v (ix2 d l) = v (ix2 d l) := by
  pointwise [k0_pay10]

/-- The first group's columns. -/
theorem pay7_at (v0 : Vec Ideal S256x1024 .f32) (v1 v6 : Vec Ideal S256x1024 .f32) (w : Vec Ideal S1024x512 .bf16) (r : Fin 256) (l : Fin 512) :
    k0_pay7 v0 v1 v6 w (ix2 r l) = ∑ d : Fin 1024, k0_pay4 v0 v1 v6 (ix2 r d) * w (ix2 d l) := by
  unfold k0_pay7
  generalize k0_pay4 v0 v1 v6 = u
  pointwise

/-- The second group's columns. -/
theorem pay8_at (v0 : Vec Ideal S256x1024 .f32) (v1 v6 : Vec Ideal S256x1024 .f32) (w : Vec Ideal S1024x1024 .bf16) (r : Fin 256) (l : Fin 1024) :
    k0_pay8 v0 v1 v6 w (ix2 r l) = ∑ d : Fin 1024, k0_pay4 v0 v1 v6 (ix2 r d) * w (ix2 d l) := by
  unfold k0_pay8
  generalize k0_pay4 v0 v1 v6 = u
  pointwise

/-- The last group's columns. -/
theorem pay9_at (v0 : Vec Ideal S256x1024 .f32) (v1 v6 : Vec Ideal S256x1024 .f32) (w : Vec Ideal S1024x896 .bf16) (r : Fin 256) (l : Fin 896) :
    k0_pay9 v0 v1 v6 w (ix2 r l) = ∑ d : Fin 1024, k0_pay4 v0 v1 v6 (ix2 r d) * w (ix2 d l) := by
  unfold k0_pay9
  generalize k0_pay4 v0 v1 v6 = u
  pointwise

/-- The attention's columns. -/
theorem pay11_at (u : FVec Ideal S256x1024 .bf16) (w : FVec Ideal S1024x768 .bf16) (r : Fin 256) (l : Fin 768) :
    k0_pay11 u w (ix2 r l) = ∑ d : Fin 1024, u (ix2 r d) * w (ix2 d l) := by
  pointwise [k0_pay11]

/-- The indexer's columns. -/
theorem pay18_at (u : FVec Ideal S256x1024 .bf16) (w : Vec Ideal S1024x640 .bf16) (r : Fin 256) (l : Fin 640) :
    k0_pay18 u w (ix2 r l) = ∑ d : Fin 1024, u (ix2 r d) * w (ix2 d l) := by
  pointwise [k0_pay18]

section

variable (A : Args) (R : Fin 256) (r : Fin 256) (u : FVec Ideal S256x1024 .bf16) (hu : ∀ d, u (ix2 r d) = A.u R d)
  (cs sn : FVec Ideal S256x128 .f32)
  (hc : ∀ e : Fin 128, cs (ix2 r e) = A.cs (ix2 R ⟨e.val % 32, Nat.mod_lt _ (Nat.succ_pos 31)⟩))
  (hs : ∀ e : Fin 128, sn (ix2 r e) = if e.val % 64 < 32 then -A.sn (ix2 R ⟨e.val % 32, Nat.mod_lt _ (Nat.succ_pos 31)⟩) else A.sn (ix2 R ⟨e.val % 32, Nat.mod_lt _ (Nat.succ_pos 31)⟩))
  (w : FVec Ideal S1024x768 .bf16) (hw : ∀ d (k : Fin 768), w (ix2 d k) = A.col d (1536 + k.val))
  (v : Vec Ideal S1024x640 .bf16) (hv : ∀ d (k : Fin 640), k.val < 584 → v (ix2 d k) = A.col d (2304 + k.val))

include hu hw in
/-- The attention's columns are the projection's from 1536 on. -/
theorem att_at (k : Fin 768) : k0_pay11 u w (ix2 r k) = A.pr R (1536 + k.val) := by
  rw [pay11_at]
  exact pr_of A R _ _ _ hu fun d => hw d k

include hu hv in
/-- The indexer's columns are the projection's from 2304 on. -/
theorem ind_at (k : Fin 640) (hk : k.val < 584) : k0_pay18 u v (ix2 r k) = A.pr R (2304 + k.val) := by
  rw [pay18_at]
  exact pr_of A R _ _ _ hu fun d => hv d k hk

include hu hw hc hs in
/-- The attention's queries and keys, turned. -/
theorem attTurn_at (l : Fin 512) : k0_pay12 u cs sn w (ix2 r l) = A.rot R 1536 l.val := by
  have e : k0_pay12 u cs sn w = turn512 (extractStridedSlice S256x512 ![0, 0] (k0_pay11 u w) slices_S256x768_o0_0_S256x512) cs sn := rfl
  rw [e]
  refine turn512_at A R 1536 _ cs sn r 512 rfl (fun k _ => ?_) hc hs l l.isLt
  have ha := att_at A R r u hu w hw ⟨k.val, by omega⟩
  generalize k0_pay11 u w = p at ha ⊢
  refine Eq.trans ?_ ha
  pointwise

include hu hv hc hs in
/-- The indexer's queries and key, turned. -/
theorem indTurn_at (l : Fin 640) (hl : l.val < 576) : k0_pay19 u cs sn v (ix2 r l) = A.rot R 2304 l.val := by
  have e : k0_pay19 u cs sn v = turn640 (k0_pay18 u v) cs sn := rfl
  rw [e]
  exact turn640_at A R 2304 _ cs sn r 576 rfl (fun k hk => ind_at A R r u hu v hv k (by omega)) hc hs l hl

include hu hw hc hs in
/-- The attention's queries. -/
theorem pay13_at (l : Fin 256) : k0_pay13 u cs sn w (ix2 r l) = A.scaled 1536 R l.val := by
  have h := attTurn_at A R r u hu cs sn hc hs w hw ⟨l.val, by omega⟩
  unfold Args.scaled k0_pay13
  rw [← h]
  generalize k0_pay12 u cs sn w = p
  pointwise

include hu hw hc hs in
/-- The attention's keys. -/
theorem pay14_at (l : Fin 256) : k0_pay14 u cs sn w (ix2 r l) = A.turned 1792 R l.val := by
  have h := attTurn_at A R r u hu cs sn hc hs w hw ⟨256 + l.val, by omega⟩
  refine Eq.trans ?_ (h.trans (rot_shift A R 1536 4 l.val))
  unfold k0_pay14
  generalize k0_pay12 u cs sn w = p
  pointwise

include hu hw hc hs in
/-- The attention's keys, as the scores read them. -/
theorem pay15_at (l : Fin 256) : k0_pay15 u cs sn w (ix2 r l) = A.turned 1792 R l.val := by
  have h := attTurn_at A R r u hu cs sn hc hs w hw ⟨256 + l.val, by omega⟩
  refine Eq.trans ?_ (h.trans (rot_shift A R 1536 4 l.val))
  unfold k0_pay15
  generalize k0_pay12 u cs sn w = p
  pointwise

include hu hw in
/-- The attention's values. -/
theorem pay16_at (l : Fin 256) : k0_pay16 u w (ix2 r l) = A.plain 2048 R l.val := by
  have h := att_at A R r u hu w hw ⟨512 + l.val, by omega⟩
  have e : 1536 + (512 + l.val) = 2048 + l.val := by omega
  refine Eq.trans ?_ (h.trans (congrArg (A.pr R) e))
  unfold k0_pay16
  generalize k0_pay11 u w = p
  pointwise

include hu hw in
/-- The attention's values, as the weighted sums read them. -/
theorem pay17_at (l : Fin 256) : k0_pay17 (k0_pay11 u w) (ix2 r l) = A.plain 2048 R l.val := by
  have h := att_at A R r u hu w hw ⟨512 + l.val, by omega⟩
  have e : 1536 + (512 + l.val) = 2048 + l.val := by omega
  refine Eq.trans ?_ (h.trans (congrArg (A.pr R) e))
  unfold k0_pay17
  generalize k0_pay11 u w = p
  pointwise

include hu hv hc hs in
/-- The indexer's queries. -/
theorem pay20_at (l : Fin 512) : k0_pay20 u cs sn v (ix2 r l) = A.scaled 2304 R l.val := by
  have h := indTurn_at A R r u hu cs sn hc hs v hv ⟨l.val, by omega⟩ (by show l.val < 576; omega)
  unfold Args.scaled k0_pay20
  rw [← h]
  generalize k0_pay19 u cs sn v = p
  pointwise

include hu hv hc hs in
/-- The indexer's key. -/
theorem pay1_at (l : Fin 64) : k0_pay1 (k0_pay19 u cs sn v) (ix2 r l) = A.turned 2816 R l.val := by
  have h := indTurn_at A R r u hu cs sn hc hs v hv ⟨512 + l.val, by omega⟩ (by show 512 + l.val < 576; omega)
  refine Eq.trans ?_ (h.trans (rot_shift A R 2304 8 l.val))
  unfold k0_pay1
  generalize k0_pay19 u cs sn v = p
  pointwise

include hu hv hc hs in
/-- The indexer's key, as its scores read it. -/
theorem pay2_at (l : Fin 64) : k0_pay2 (k0_pay19 u cs sn v) (ix2 r l) = A.turned 2816 R l.val :=
  pay1_at A R r u hu cs sn hc hs v hv l

include hu hv in
/-- The indexer's weights of its heads. -/
theorem pay3_at (l : Fin 8) : k0_pay3 (k0_pay18 u v) (ix2 r l) = A.weight R l.val := by
  have h := ind_at A R r u hu v hv ⟨576 + l.val, by omega⟩ (by show 576 + l.val < 584; omega)
  have e : 2304 + (576 + l.val) = 2880 + l.val := by omega
  unfold Args.weight k0_pay3
  rw [← e, ← h]
  generalize k0_pay18 u v = p
  pointwise

end

section

variable (A : Args) (R : Fin 256) (r : Fin 256) (v0 : Vec Ideal S256x1024 .f32) (v1 v6 : Vec Ideal S256x1024 .f32)
  (hu : ∀ d, k0_pay4 v0 v1 v6 (ix2 r d) = A.u R d)

include hu in
/-- The first mixer's columns. -/
theorem first_at (w : Vec Ideal S1024x512 .bf16) (hw : ∀ d (k : Fin 512), w (ix2 d k) = A.col d (0 + k.val)) (l : Fin 512) :
    k0_pay7 v0 v1 v6 w (ix2 r l) = A.plain 0 R l.val := by
  rw [pay7_at]
  exact pr_of A R _ _ _ hu fun d => hw d l

include hu in
/-- The second mixer's columns. -/
theorem second_at (w : Vec Ideal S1024x1024 .bf16) (hw : ∀ d (k : Fin 1024), w (ix2 d k) = A.col d (512 + k.val)) (l : Fin 1024) :
    k0_pay8 v0 v1 v6 w (ix2 r l) = A.plain 512 R l.val := by
  rw [pay8_at]
  exact pr_of A R _ _ _ hu fun d => hw d l

include hu in
/-- The last mixer's columns, with zeros after them. -/
theorem last_at (w : Vec Ideal S1024x896 .bf16) (hw : ∀ d (k : Fin 896), k.val < 784 → w (ix2 d k) = A.col d (2888 + k.val))
    (hz : ∀ d (k : Fin 896), 784 ≤ k.val → (show EReal from w (ix2 d k)) = 0) (l : Fin 896) :
    k0_pay9 v0 v1 v6 w (ix2 r l) = A.padded R l.val := by
  rw [pay9_at]
  unfold Args.padded
  by_cases h : l.val < 784
  · rw [if_pos h]
    exact pr_of A R _ _ _ hu fun d => hw d l h
  · rw [if_neg h]
    refine Finset.sum_eq_zero fun d _ => ?_
    have e : (show EReal from w (ix2 d l)) = 0 := hz d l (by omega)
    exact (congrArg (fun x : EReal => (show EReal from k0_pay4 v0 v1 v6 (ix2 r d)) * x) e).trans (mul_zero _)

end

end Cert.ProjSample
-- ==== Proof.ProjSample.Tables.lean ====
module

public import proofs.«01_k».proof.Proof.Gen.Kernel5Ideal.Value
public import Idealize.ShloMosaic.Lib.Pipeline.ValueKit
public import proofs.«01_k».proof.Proof.ProjSample.Spec

@[expose] public section

/-!
The kernel's tables, as the host computes them before the run.
-/

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The angles of a sequence's eight positions. -/
def kAng : FVec Ideal S8x32 .f32 :=
  mulf (broadcastInDim S8x32 ![0, 1] bcast_S8x1_S8x32_0_1 (broadcastInDim S8x1 ![0] bcast_S8_S8x1_0 (sitofp .f32 (addi (broadcastInDim S8 ![] bcast_S_S8 (constantI S_ 32 16384#32)) (iotaInDim S8 32 0))))) (broadcastInDim S8x32 ![0, 1] bcast_S1x32_S8x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table of the eight positions, read at each of the batch's rows: eight rows in turn are one sequence. -/
def each (x : FVec Ideal S8x32 .f32) : FVec Ideal ⟨2, ![256, 32]⟩ .f32 := fun i => x (ix2 ⟨(i 0).val % 8, Nat.mod_lt _ (Nat.succ_pos 7)⟩ (i 1))

/-- The kernel's arguments as the part's. -/
def kArgs (c : Dev nD) : Args where
  x := m ((c : Thread nD τ).loc main_arg0)
  md := m ((c : Thread nD τ).loc main_arg1)
  w := m ((c : Thread nD τ).loc main_arg2)
  cs := each (Host.cos kAng)
  sn := each (Host.sin kAng)

/-- A table of eight positions, repeated for each sequence. -/
def tiled (x : FVec Ideal S8x128 .f32) : FVec Ideal S256x128 .f32 :=
  shapeCast S256x128 (broadcastInDim S32x8x1x128 ![0, 1, 2, 3] bcast_S1x8x1x128_S32x8x1x128_0_1_2_3 (shapeCast S1x8x1x128 x shapeCasts_S8x128_S1x8x1x128)) shapeCasts_S32x8x1x128_S256x128

/-- A repeated table at an entry. -/
theorem tiled_at (x : FVec Ideal S8x128 .f32) (r : Fin 256) (e : Fin 128) : tiled x (ix2 r e) = x (ix2 ⟨r.val % 8, Nat.mod_lt _ (Nat.succ_pos 7)⟩ e) := by
  pointwise [tiled]

/-- The cosines, four times. -/
theorem host_v22 (c : Dev nD) : V m c main_v22 = tiled (concatenate S8x128 1 (List.replicate 4 ⟨S8x32, Host.cos kAng⟩) concatenates_S8x32_S8x32_S8x32_S8x32_S8x128_d1) := by
  rfl

/-- The sines, the first half of each head negated. -/
theorem host_v25 (c : Dev nD) : V m c main_v25 = tiled (concatenate S8x128 1 [⟨S8x32, Host.negf (Host.sin kAng)⟩, ⟨S8x32, Host.sin kAng⟩, ⟨S8x32, Host.negf (Host.sin kAng)⟩, ⟨S8x32, Host.sin kAng⟩] concatenates_S8x32_S8x32_S8x32_S8x32_S8x128_d1) := by
  rfl

/-- Each sequence's modulation, once for each of its eight rows. -/
theorem host_v33 (c : Dev nD) : V m c main_v33 = shapeCast S256x9216 (broadcastInDim S32x8x9216 ![0, 2] bcast_S32x9216_S32x8x9216_0_2 (kArgs m c).md) shapeCasts_S32x8x9216_S256x9216 := by
  rfl

/-- A row's modulation. -/
theorem md_at (c : Dev nD) (R : Fin 256) (k : Fin 9216) : (V m c main_v33 : FVec Ideal S256x9216 .f32) (ix2 R k) = (kArgs m c).md (ix2 ⟨R.val / 8, by omega⟩ k) := by
  rw [host_v33]
  generalize (kArgs m c).md = w
  pointwise

/-- The weights' columns, group by group, with zero columns between. -/
theorem host_v31 (c : Dev nD) : V m c main_v31 = truncf .bf16 (concatenate S1024x3840 1 [⟨S1024x2888, extractStridedSlice S1024x2888 ![0, 0] (kArgs m c).w slices_S1024x7768_S1024x2888_0_0⟩, ⟨S1024x56, broadcastInDim S1024x56 ![] bcast_S_S1024x56 (constant S_ .f32 0x00000000#32)⟩, ⟨S1024x784, extractStridedSlice S1024x784 ![0, 2888] (kArgs m c).w slices_S1024x7768_S1024x784_0_2888⟩, ⟨S1024x112, broadcastInDim S1024x112 ![] bcast_S_S1024x112 (constant S_ .f32 0x00000000#32)⟩] concatenates_S1024x2888_S1024x56_S1024x784_S1024x112_S1024x3840_d1) bitsLt_bf16_f32 := by
  rfl

end Cert.ProjSample
-- ==== Proof.ProjSample.Operands.lean ====
module

public import proofs.«01_k».proof.Proof.Gen.Kernel5Ideal.Value
public import Idealize.ShloMosaic.Lib.Pipeline.ValueKit
public import proofs.«01_k».proof.Proof.ProjSample.Tables

@[expose] public section

/-!
What the kernel's windows hold at a grid point, entry by entry, over the kernel's arguments.
-/

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The windows' block indices at every grid point. -/
theorem idx : ∀ t : Fin cfg0.N, win0_0.index t = ![t.val, 0] ∧ win0_1.index t = ![t.val, 3] ∧ win0_2.index t = ![t.val, 4] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

/-- Row `r` of the point's block of 256 rows. -/
def rowOf (t : Fin cfg0.N) (r : Fin 256) : Fin 256 := ⟨t.val * 256 + r.val, by have : t.val < 1 := t.isLt; omega⟩

/-- The point's rows. -/
theorem b0 (c : Dev nD) (t : Fin cfg0.N) (r : Fin 256) (d : Fin 1024) : iblk m c 0 t (ix2 r d) = (kArgs m c).x (ix2 (rowOf t r) d) := by
  unfold kArgs rowOf
  blk_point [iblk, V, idx t]

/-- The modulation's shift. -/
theorem b1 (c : Dev nD) (t : Fin cfg0.N) (r : Fin 256) (d : Fin 1024) : iblk m c 1 t (ix2 r d) = (kArgs m c).mrow (rowOf t r) 3 d := by
  have e : iblk m c 1 t (ix2 r d) = (V m c main_v33 : FVec Ideal S256x9216 .f32) (ix2 (rowOf t r) ⟨3 * 1024 + d.val, by omega⟩) := by
    unfold rowOf
    blk_point [iblk, idx t]
  rw [e, md_at]
  rfl

/-- The modulation's scale. -/
theorem b2 (c : Dev nD) (t : Fin cfg0.N) (r : Fin 256) (d : Fin 1024) : iblk m c 2 t (ix2 r d) = (kArgs m c).mrow (rowOf t r) 4 d := by
  have e : iblk m c 2 t (ix2 r d) = (V m c main_v33 : FVec Ideal S256x9216 .f32) (ix2 (rowOf t r) ⟨4 * 1024 + d.val, by omega⟩) := by
    unfold rowOf
    blk_point [iblk, idx t]
  rw [e, md_at]
  rfl

/-- The weights' columns up to the first zero columns. -/
theorem b3_lo (c : Dev nD) (t : Fin cfg0.N) (d : Fin 1024) (k : Fin 3840) (h : k.val < 2888) : iblk m c 3 t (ix2 d k) = (kArgs m c).col d k.val := by
  have e : iblk m c 3 t (ix2 d k) = (V m c main_v31 : FVec Ideal S1024x3840 .bf16) (ix2 d k) := by
    blk_ext [iblk, idx t]
  rw [e, host_v31]
  unfold Args.col
  rw [dif_pos (by omega)]
  generalize (kArgs m c).w = w
  pointwise
  rw [dif_pos h]

/-- The weights' columns between the zero columns. -/
theorem b3_hi (c : Dev nD) (t : Fin cfg0.N) (d : Fin 1024) (k : Fin 3840) (h : 2944 ≤ k.val) (h' : k.val < 3728) :
    iblk m c 3 t (ix2 d k) = (kArgs m c).col d (k.val - 56) := by
  have e : iblk m c 3 t (ix2 d k) = (V m c main_v31 : FVec Ideal S1024x3840 .bf16) (ix2 d k) := by
    blk_ext [iblk, idx t]
  rw [e, host_v31]
  unfold Args.col
  rw [dif_pos (by omega)]
  generalize (kArgs m c).w = w
  pointwise
  rw [dif_neg (by omega), dif_neg (by omega), dif_pos (by omega)]
  refine congrArg w (congrArg (ix2 d) (Fin.ext ?_))
  show 2888 + (k.val - 2888 - 56) = k.val - 56
  omega

/-- The last zero columns. -/
theorem b3_end (c : Dev nD) (t : Fin cfg0.N) (d : Fin 1024) (k : Fin 3840) (h : 3728 ≤ k.val) : (show EReal from iblk m c 3 t (ix2 d k)) = 0 := by
  have e : iblk m c 3 t (ix2 d k) = (V m c main_v31 : FVec Ideal S1024x3840 .bf16) (ix2 d k) := by
    blk_ext [iblk, idx t]
  rw [e, host_v31]
  generalize (kArgs m c).w = w
  pointwise
  rw [dif_neg (by omega), dif_neg (by omega), dif_neg (by omega)]

/-- The cosines. -/
theorem b4 (c : Dev nD) (t : Fin cfg0.N) (r : Fin 256) (e : Fin 128) :
    iblk m c 4 t (ix2 r e) = (kArgs m c).cs (ix2 (rowOf t r) ⟨e.val % 32, by omega⟩) := by
  have h : iblk m c 4 t (ix2 r e) = (V m c main_v22 : FVec Ideal S256x128 .f32) (ix2 (rowOf t r) e) := by
    unfold rowOf
    blk_point [iblk, idx t]
  rw [h, host_v22, tiled_at]
  refine concatenate_replicate_apply (t := S8x128) 1 4 (Host.cos kAng) _ rfl (ix2 (⟨(rowOf t r).val % 8, Nat.mod_lt _ (Nat.succ_pos 7)⟩ : Fin 8) e) (ix2 (⟨(rowOf t r).val % 8, Nat.mod_lt _ (Nat.succ_pos 7)⟩ : Fin 8) ⟨e.val % 32, by omega⟩) rfl ?_
  intro b hb
  fin_cases b
  · rfl
  · exact absurd rfl hb

/-- The sines, the first half of each head negated. -/
theorem b5 (c : Dev nD) (t : Fin cfg0.N) (r : Fin 256) (e : Fin 128) :
    iblk m c 5 t (ix2 r e) = if e.val % 64 < 32 then -(kArgs m c).sn (ix2 (rowOf t r) ⟨e.val % 32, by omega⟩) else (kArgs m c).sn (ix2 (rowOf t r) ⟨e.val % 32, by omega⟩) := by
  have h : iblk m c 5 t (ix2 r e) = (V m c main_v25 : FVec Ideal S256x128 .f32) (ix2 (rowOf t r) e) := by
    unfold rowOf
    blk_point [iblk, idx t]
  rw [h, host_v25, tiled_at]
  have hq (n : Fin 4) (hn : e.val / 32 = n.val) := concatenate_ofFn_apply 1
    (![Host.negf (Host.sin kAng), Host.sin kAng, Host.negf (Host.sin kAng), Host.sin kAng] : Fin 4 → FVec Ideal S8x32 .f32)
    concatenates_S8x32_S8x32_S8x32_S8x32_S8x128_d1 rfl 32 rfl (ix2 (⟨(rowOf t r).val % 8, Nat.mod_lt _ (Nat.succ_pos 7)⟩ : Fin 8) e) n hn
    (ix2 (⟨(rowOf t r).val % 8, Nat.mod_lt _ (Nat.succ_pos 7)⟩ : Fin 8) ⟨e.val % 32, by omega⟩) rfl (by
      intro b hb
      fin_cases b
      · rfl
      · exact absurd rfl hb)
  have he : e.val < 128 := e.isLt
  rcases (by omega : e.val / 32 = 0 ∨ e.val / 32 = 1 ∨ e.val / 32 = 2 ∨ e.val / 32 = 3) with h0 | h0 | h0 | h0
  · rw [if_pos (by omega)]; exact hq 0 h0
  · rw [if_neg (by omega)]; exact hq 1 h0
  · rw [if_pos (by omega)]; exact hq 2 h0
  · rw [if_neg (by omega)]; exact hq 3 h0

end Cert.ProjSample
-- ==== Proof.ProjSample.Loads.lean ====
module

public import proofs.«01_k».proof.Proof.ProjSample.Value
public import proofs.«01_k».proof.Proof.ProjSample.Operands

@[expose] public section

/-!
What the body loads at a grid point, and where its blocks lie in the result arrays.
-/

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- An entry of a row in its block of 256 rows, given by its coordinates. -/
theorem out_at (f : Fin 256 → ℕ → EReal) (t : Fin cfg0.N) (r : Fin 256) (l a b : ℕ) (h : a < 256) (ha : a = t.val * 256 + r.val) (hb : b = l) :
    f (rowOf t r) l = f ⟨a, h⟩ b := by
  subst ha hb
  rfl

/-- The modulated row of the point's block. -/
theorem u_at (c : Dev nD) (t : Fin cfg0.N) (r : Fin 256) (d : Fin 1024) :
    k0_pay4 (iblk m c 0 t) (iblk m c 2 t) (iblk m c 1 t) (ix2 r d) = (kArgs m c).u (rowOf t r) d := by
  rw [pay4_at, b0, b1, b2]
  rfl

/-- The cosines of the point's block. -/
theorem c_at (c : Dev nD) (t : Fin cfg0.N) (r : Fin 256) (e : Fin 128) :
    k0_pay5 (iblk m c 4 t) (ix2 r e) = (kArgs m c).cs (ix2 (rowOf t r) ⟨e.val % 32, by omega⟩) :=
  (pay5_at _ r e).trans (b4 m c t r e)

/-- The sines of the point's block, the first half of each head negated. -/
theorem s_at (c : Dev nD) (t : Fin cfg0.N) (r : Fin 256) (e : Fin 128) :
    k0_pay6 (iblk m c 5 t) (ix2 r e) = if e.val % 64 < 32 then -(kArgs m c).sn (ix2 (rowOf t r) ⟨e.val % 32, by omega⟩) else (kArgs m c).sn (ix2 (rowOf t r) ⟨e.val % 32, by omega⟩) :=
  (pay6_at _ r e).trans (b5 m c t r e)

/-- The first mixer's weights. -/
theorem w3_at (c : Dev nD) (t : Fin cfg0.N) (inb) (d : Fin 1024) (k : Fin 512) :
    View.ld (iblk m c 3 t) (Rect.unit (s := S1024x3840) ![0, 0] S1024x512.size inb) (ix2 d k) = (kArgs m c).col d (0 + k.val) := by
  rw [Nat.zero_add]
  exact (View.ld_unit_apply_of (iblk m c 3 t) _ _ inb (ix2 d k) (ix2 d ⟨k.val, by omega⟩) fun a => by fin_cases a <;> simp [ix2]).trans
    (b3_lo m c t d ⟨k.val, by omega⟩ (by show k.val < 2888; omega))

/-- The second mixer's weights. -/
theorem w5_at (c : Dev nD) (t : Fin cfg0.N) (inb) (d : Fin 1024) (k : Fin 1024) :
    View.ld (iblk m c 3 t) (Rect.unit (s := S1024x3840) ![0, 512] S1024x1024.size inb) (ix2 d k) = (kArgs m c).col d (512 + k.val) :=
  (View.ld_unit_apply_of (iblk m c 3 t) _ _ inb (ix2 d k) (ix2 d ⟨512 + k.val, by omega⟩) fun a => by fin_cases a <;> simp [ix2]).trans
    (b3_lo m c t d ⟨512 + k.val, by omega⟩ (by show 512 + k.val < 2888; omega))

/-- The attention's weights. -/
theorem w8_at (c : Dev nD) (t : Fin cfg0.N) (inb) (d : Fin 1024) (k : Fin 768) :
    k0_pay10 (View.ld (iblk m c 3 t) (Rect.unit (s := S1024x3840) ![0, 1536] S1024x768.size inb)) (ix2 d k) = (kArgs m c).col d (1536 + k.val) :=
  (pay10_at _ d k).trans ((View.ld_unit_apply_of (iblk m c 3 t) _ _ inb (ix2 d k) (ix2 d ⟨1536 + k.val, by omega⟩) fun a => by fin_cases a <;> simp [ix2]).trans
    (b3_lo m c t d ⟨1536 + k.val, by omega⟩ (by show 1536 + k.val < 2888; omega)))

/-- The indexer's weights. -/
theorem w10_at (c : Dev nD) (t : Fin cfg0.N) (inb) (d : Fin 1024) (k : Fin 640) (h : k.val < 584) :
    View.ld (iblk m c 3 t) (Rect.unit (s := S1024x3840) ![0, 2304] S1024x640.size inb) (ix2 d k) = (kArgs m c).col d (2304 + k.val) :=
  (View.ld_unit_apply_of (iblk m c 3 t) _ _ inb (ix2 d k) (ix2 d ⟨2304 + k.val, by omega⟩) fun a => by fin_cases a <;> simp [ix2]).trans
    (b3_lo m c t d ⟨2304 + k.val, by omega⟩ (by show 2304 + k.val < 2888; omega))

/-- The last mixer's weights. -/
theorem w6_at (c : Dev nD) (t : Fin cfg0.N) (inb) (d : Fin 1024) (k : Fin 896) (h : k.val < 784) :
    View.ld (iblk m c 3 t) (Rect.unit (s := S1024x3840) ![0, 2944] S1024x896.size inb) (ix2 d k) = (kArgs m c).col d (2888 + k.val) :=
  ((View.ld_unit_apply_of (iblk m c 3 t) _ _ inb (ix2 d k) (ix2 d ⟨2944 + k.val, by omega⟩) fun a => by fin_cases a <;> simp [ix2]).trans
    (b3_hi m c t d ⟨2944 + k.val, by omega⟩ (by show 2944 ≤ 2944 + k.val; omega) (by show 2944 + k.val < 3728; omega))).trans
    (congrArg ((kArgs m c).col d) (by show 2944 + k.val - 56 = 2888 + k.val; omega))

/-- The zero columns after them. -/
theorem z6_at (c : Dev nD) (t : Fin cfg0.N) (inb) (d : Fin 1024) (k : Fin 896) (h : 784 ≤ k.val) :
    (show EReal from View.ld (iblk m c 3 t) (Rect.unit (s := S1024x3840) ![0, 2944] S1024x896.size inb) (ix2 d k)) = 0 :=
  (View.ld_unit_apply_of (iblk m c 3 t) _ _ inb (ix2 d k) (ix2 d ⟨2944 + k.val, by omega⟩) fun a => by fin_cases a <;> simp [ix2]).trans
    (b3_end m c t d ⟨2944 + k.val, by omega⟩ (by show 3728 ≤ 2944 + k.val; omega))

end Cert.ProjSample
-- ==== Proof.ProjSample.FinalsPlain.lean ====
module

public import proofs.«01_k».proof.Proof.ProjSample.Loads

@[expose] public section

/-!
The kernel's result arrays that are projected columns as they are.
-/

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

set_option maxHeartbeats 1600000 in
/-- The first mixer's columns, at every grid point. -/
theorem final6 (c : Dev nD) : (dats m 0 c).arrAt 6 (cfgs 0).N = rows (t := .f32) 512 ((kArgs m c).plain 0) := by
  refine (dats m 0 c).arrAt_eq_of_covers 6 _ (by decide +kernel) fun t _ y => ?_
  blk_simp
  rw [after0_6]
  unfold out0_6
  frame_out
  obtain ⟨r, l, rfl⟩ : ∃ (r : Fin 256) (l : Fin 512), y = ix2 r l := ⟨y 0, y 1, eq_ix2 y⟩
  refine (first_at (kArgs m c) (rowOf t r) r _ _ _ (u_at m c t r) _ (w3_at m c t _) l).trans ?_
  obtain ⟨-, -, -, -, -, -, e, -⟩ := idx t
  have e0 : win0_6.index t 0 = t.val := congrFun e 0
  have e1 : win0_6.index t 1 = 0 := congrFun e 1
  refine out_at ((kArgs m c).plain 0) t r l.val _ _ _ ?_ ?_
  · rw [View.emb_slice, Function.Embedding.trans_apply, View.emb_whole, Function.Embedding.refl_apply, Rect.emb_apply]
    show win0_6.index t 0 * 256 + 1 * r.val = t.val * 256 + r.val
    rw [e0, one_mul]
  · rw [View.emb_slice, Function.Embedding.trans_apply, View.emb_whole, Function.Embedding.refl_apply, Rect.emb_apply]
    show win0_6.index t 1 * 512 + 1 * l.val = l.val
    rw [e1, Nat.zero_mul, Nat.zero_add, one_mul]

set_option maxHeartbeats 1600000 in
/-- The second mixer's columns, at every grid point. -/
theorem final7 (c : Dev nD) : (dats m 0 c).arrAt 7 (cfgs 0).N = rows (t := .f32) 1024 ((kArgs m c).plain 512) := by
  refine (dats m 0 c).arrAt_eq_of_covers 7 _ (by decide +kernel) fun t _ y => ?_
  blk_simp
  rw [after0_7]
  unfold out0_7
  frame_out
  obtain ⟨r, l, rfl⟩ : ∃ (r : Fin 256) (l : Fin 1024), y = ix2 r l := ⟨y 0, y 1, eq_ix2 y⟩
  refine (second_at (kArgs m c) (rowOf t r) r _ _ _ (u_at m c t r) _ (w5_at m c t _) l).trans ?_
  obtain ⟨-, -, -, -, -, -, -, e, -⟩ := idx t
  have e0 : win0_7.index t 0 = t.val := congrFun e 0
  have e1 : win0_7.index t 1 = 0 := congrFun e 1
  refine out_at ((kArgs m c).plain 512) t r l.val _ _ _ ?_ ?_
  · rw [View.emb_slice, Function.Embedding.trans_apply, View.emb_whole, Function.Embedding.refl_apply, Rect.emb_apply]
    show win0_7.index t 0 * 256 + 1 * r.val = t.val * 256 + r.val
    rw [e0, one_mul]
  · rw [View.emb_slice, Function.Embedding.trans_apply, View.emb_whole, Function.Embedding.refl_apply, Rect.emb_apply]
    show win0_7.index t 1 * 1024 + 1 * l.val = l.val
    rw [e1, Nat.zero_mul, Nat.zero_add, one_mul]

set_option maxHeartbeats 1600000 in
/-- The last mixer's columns, with zeros after them, at every grid point. -/
theorem final17 (c : Dev nD) : (dats m 0 c).arrAt 17 (cfgs 0).N = rows (t := .f32) 896 ((kArgs m c).padded) := by
  refine (dats m 0 c).arrAt_eq_of_covers 17 _ (by decide +kernel) fun t _ y => ?_
  blk_simp
  rw [after0_17]
  unfold out0_17
  frame_out
  obtain ⟨r, l, rfl⟩ : ∃ (r : Fin 256) (l : Fin 896), y = ix2 r l := ⟨y 0, y 1, eq_ix2 y⟩
  refine (last_at (kArgs m c) (rowOf t r) r _ _ _ (u_at m c t r) _ (w6_at m c t _) (z6_at m c t _) l).trans ?_
  obtain ⟨-, -, -, -, -, -, -, -, -, -, -, -, -, -, -, -, -, e⟩ := idx t
  have e0 : win0_17.index t 0 = t.val := congrFun e 0
  have e1 : win0_17.index t 1 = 0 := congrFun e 1
  refine out_at ((kArgs m c).padded) t r l.val _ _ _ ?_ ?_
  · rw [View.emb_slice, Function.Embedding.trans_apply, View.emb_whole, Function.Embedding.refl_apply, Rect.emb_apply]
    show win0_17.index t 0 * 256 + 1 * r.val = t.val * 256 + r.val
    rw [e0, one_mul]
  · rw [View.emb_slice, Function.Embedding.trans_apply, View.emb_whole, Function.Embedding.refl_apply, Rect.emb_apply]
    show win0_17.index t 1 * 896 + 1 * l.val = l.val
    rw [e1, Nat.zero_mul, Nat.zero_add, one_mul]

end Cert.ProjSample
-- ==== Proof.ProjSample.FinalsAtt.lean ====
module

public import proofs.«01_k».proof.Proof.ProjSample.Loads

@[expose] public section

/-!
The kernel's result arrays of the attention.
-/

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

set_option maxHeartbeats 1600000 in
/-- The attention's queries, at every grid point. -/
theorem final8 (c : Dev nD) : (dats m 0 c).arrAt 8 (cfgs 0).N = rows (t := .bf16) 256 ((kArgs m c).scaled 1536) := by
  refine (dats m 0 c).arrAt_eq_of_covers 8 _ (by decide +kernel) fun t _ y => ?_
  blk_simp
  rw [after0_8]
  unfold out0_8 k0_pay24 k0_pay23 k0_pay22 k0_pay21
  frame_out
  obtain ⟨r, l, rfl⟩ : ∃ (r : Fin 256) (l : Fin 256), y = ix2 r l := ⟨y 0, y 1, eq_ix2 y⟩
  refine (pay13_at (kArgs m c) (rowOf t r) r _ (u_at m c t r) _ _ (c_at m c t r) (s_at m c t r) _ (w8_at m c t _) l).trans ?_
  obtain ⟨-, -, -, -, -, -, -, -, e, -⟩ := idx t
  have e0 : win0_8.index t 0 = t.val := congrFun e 0
  have e1 : win0_8.index t 1 = 0 := congrFun e 1
  refine out_at ((kArgs m c).scaled 1536) t r l.val _ _ _ ?_ ?_
  · rw [View.emb_slice, Function.Embedding.trans_apply, View.emb_whole, Function.Embedding.refl_apply, Rect.emb_apply]
    show win0_8.index t 0 * 256 + 1 * r.val = t.val * 256 + r.val
    rw [e0, one_mul]
  · rw [View.emb_slice, Function.Embedding.trans_apply, View.emb_whole, Function.Embedding.refl_apply, Rect.emb_apply]
    show win0_8.index t 1 * 256 + 1 * l.val = l.val
    rw [e1, Nat.zero_mul, Nat.zero_add, one_mul]

set_option maxHeartbeats 1600000 in
/-- The attention's keys, at every grid point. -/
theorem final9 (c : Dev nD) : (dats m 0 c).arrAt 9 (cfgs 0).N = rows (t := .f32) 256 ((kArgs m c).turned 1792) := by
  refine (dats m 0 c).arrAt_eq_of_covers 9 _ (by decide +kernel) fun t _ y => ?_
  blk_simp
  rw [after0_9]
  unfold out0_9 k0_pay24 k0_pay23 k0_pay22 k0_pay21
  frame_out
  obtain ⟨r, l, rfl⟩ : ∃ (r : Fin 256) (l : Fin 256), y = ix2 r l := ⟨y 0, y 1, eq_ix2 y⟩
  refine (pay14_at (kArgs m c) (rowOf t r) r _ (u_at m c t r) _ _ (c_at m c t r) (s_at m c t r) _ (w8_at m c t _) l).trans ?_
  obtain ⟨-, -, -, -, -, -, -, -, -, e, -⟩ := idx t
  have e0 : win0_9.index t 0 = t.val := congrFun e 0
  have e1 : win0_9.index t 1 = 0 := congrFun e 1
  refine out_at ((kArgs m c).turned 1792) t r l.val _ _ _ ?_ ?_
  · rw [View.emb_slice, Function.Embedding.trans_apply, View.emb_whole, Function.Embedding.refl_apply, Rect.emb_apply]
    show win0_9.index t 0 * 256 + 1 * r.val = t.val * 256 + r.val
    rw [e0, one_mul]
  · rw [View.emb_slice, Function.Embedding.trans_apply, View.emb_whole, Function.Embedding.refl_apply, Rect.emb_apply]
    show win0_9.index t 1 * 256 + 1 * l.val = l.val
    rw [e1, Nat.zero_mul, Nat.zero_add, one_mul]

set_option maxHeartbeats 1600000 in
/-- The attention's values, at every grid point. -/
theorem final10 (c : Dev nD) : (dats m 0 c).arrAt 10 (cfgs 0).N = rows (t := .f32) 256 ((kArgs m c).plain 2048) := by
  refine (dats m 0 c).arrAt_eq_of_covers 10 _ (by decide +kernel) fun t _ y => ?_
  blk_simp
  rw [after0_10]
  unfold out0_10 k0_pay24 k0_pay21
  frame_out
  obtain ⟨r, l, rfl⟩ : ∃ (r : Fin 256) (l : Fin 256), y = ix2 r l := ⟨y 0, y 1, eq_ix2 y⟩
  refine (pay16_at (kArgs m c) (rowOf t r) r _ (u_at m c t r) _ (w8_at m c t _) l).trans ?_
  obtain ⟨-, -, -, -, -, -, -, -, -, -, e, -⟩ := idx t
  have e0 : win0_10.index t 0 = t.val := congrFun e 0
  have e1 : win0_10.index t 1 = 0 := congrFun e 1
  refine out_at ((kArgs m c).plain 2048) t r l.val _ _ _ ?_ ?_
  · rw [View.emb_slice, Function.Embedding.trans_apply, View.emb_whole, Function.Embedding.refl_apply, Rect.emb_apply]
    show win0_10.index t 0 * 256 + 1 * r.val = t.val * 256 + r.val
    rw [e0, one_mul]
  · rw [View.emb_slice, Function.Embedding.trans_apply, View.emb_whole, Function.Embedding.refl_apply, Rect.emb_apply]
    show win0_10.index t 1 * 256 + 1 * l.val = l.val
    rw [e1, Nat.zero_mul, Nat.zero_add, one_mul]

set_option maxHeartbeats 1600000 in
/-- The attention's keys, as the scores read them, at every grid point. -/
theorem final11 (c : Dev nD) : (dats m 0 c).arrAt 11 (cfgs 0).N = rows (t := .bf16) 256 ((kArgs m c).turned 1792) := by
  refine (dats m 0 c).arrAt_eq_of_covers 11 _ (by decide +kernel) fun t _ y => ?_
  blk_simp
  rw [after0_11]
  unfold out0_11 k0_pay24 k0_pay23 k0_pay22 k0_pay21
  frame_out
  obtain ⟨r, l, rfl⟩ : ∃ (r : Fin 256) (l : Fin 256), y = ix2 r l := ⟨y 0, y 1, eq_ix2 y⟩
  refine (pay15_at (kArgs m c) (rowOf t r) r _ (u_at m c t r) _ _ (c_at m c t r) (s_at m c t r) _ (w8_at m c t _) l).trans ?_
  obtain ⟨-, -, -, -, -, -, -, -, -, -, -, e, -⟩ := idx t
  have e0 : win0_11.index t 0 = t.val := congrFun e 0
  have e1 : win0_11.index t 1 = 0 := congrFun e 1
  refine out_at ((kArgs m c).turned 1792) t r l.val _ _ _ ?_ ?_
  · rw [View.emb_slice, Function.Embedding.trans_apply, View.emb_whole, Function.Embedding.refl_apply, Rect.emb_apply]
    show win0_11.index t 0 * 256 + 1 * r.val = t.val * 256 + r.val
    rw [e0, one_mul]
  · rw [View.emb_slice, Function.Embedding.trans_apply, View.emb_whole, Function.Embedding.refl_apply, Rect.emb_apply]
    show win0_11.index t 1 * 256 + 1 * l.val = l.val
    rw [e1, Nat.zero_mul, Nat.zero_add, one_mul]

set_option maxHeartbeats 1600000 in
/-- The attention's values, as the weighted sums read them, at every grid point. -/
theorem final12 (c : Dev nD) : (dats m 0 c).arrAt 12 (cfgs 0).N = rows (t := .bf16) 256 ((kArgs m c).plain 2048) := by
  refine (dats m 0 c).arrAt_eq_of_covers 12 _ (by decide +kernel) fun t _ y => ?_
  blk_simp
  rw [after0_12]
  unfold out0_12 k0_pay24 k0_pay21
  frame_out
  obtain ⟨r, l, rfl⟩ : ∃ (r : Fin 256) (l : Fin 256), y = ix2 r l := ⟨y 0, y 1, eq_ix2 y⟩
  refine (pay17_at (kArgs m c) (rowOf t r) r _ (u_at m c t r) _ (w8_at m c t _) l).trans ?_
  obtain ⟨-, -, -, -, -, -, -, -, -, -, -, -, e, -⟩ := idx t
  have e0 : win0_12.index t 0 = t.val := congrFun e 0
  have e1 : win0_12.index t 1 = 0 := congrFun e 1
  refine out_at ((kArgs m c).plain 2048) t r l.val _ _ _ ?_ ?_
  · rw [View.emb_slice, Function.Embedding.trans_apply, View.emb_whole, Function.Embedding.refl_apply, Rect.emb_apply]
    show win0_12.index t 0 * 256 + 1 * r.val = t.val * 256 + r.val
    rw [e0, one_mul]
  · rw [View.emb_slice, Function.Embedding.trans_apply, View.emb_whole, Function.Embedding.refl_apply, Rect.emb_apply]
    show win0_12.index t 1 * 256 + 1 * l.val = l.val
    rw [e1, Nat.zero_mul, Nat.zero_add, one_mul]

end Cert.ProjSample
-- ==== Proof.ProjSample.FinalsIndex.lean ====
module

public import proofs.«01_k».proof.Proof.ProjSample.Loads

@[expose] public section

/-!
The kernel's result arrays of the indexer.
-/

set_option maxRecDepth 16384

noncomputable section

namespace Cert.ProjSample

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

set_option maxHeartbeats 1600000 in
/-- The indexer's queries, at every grid point. -/
theorem final13 (c : Dev nD) : (dats m 0 c).arrAt 13 (cfgs 0).N = rows (t := .bf16) 512 ((kArgs m c).scaled 2304) := by
  refine (dats m 0 c).arrAt_eq_of_covers 13 _ (by decide +kernel) fun t _ y => ?_
  blk_simp
  rw [after0_13]
  unfold out0_13 k0_pay23 k0_pay22 k0_pay21
  frame_out
  obtain ⟨r, l, rfl⟩ : ∃ (r : Fin 256) (l : Fin 512), y = ix2 r l := ⟨y 0, y 1, eq_ix2 y⟩
  refine (pay20_at (kArgs m c) (rowOf t r) r _ (u_at m c t r) _ _ (c_at m c t r) (s_at m c t r) _ (w10_at m c t _) l).trans ?_
  obtain ⟨-, -, -, -, -, -, -, -, -, -, -, -, -, e, -⟩ := idx t
  have e0 : win0_13.index t 0 = t.val := congrFun e 0
  have e1 : win0_13.index t 1 = 0 := congrFun e 1
  refine out_at ((kArgs m c).scaled 2304) t r l.val _ _ _ ?_ ?_
  · rw [View.emb_slice, Function.Embedding.trans_apply, View.emb_whole, Function.Embedding.refl_apply, Rect.emb_apply]
    show win0_13.index t 0 * 256 + 1 * r.val = t.val * 256 + r.val
    rw [e0, one_mul]
  · rw [View.emb_slice, Function.Embedding.trans_apply, View.emb_whole, Function.Embedding.refl_apply, Rect.emb_apply]
    show win0_13.index t 1 * 512 + 1 * l.val = l.val
    rw [e1, Nat.zero_mul, Nat.zero_add, one_mul]

set_option maxHeartbeats 1600000 in
/-- The indexer's key, at every grid point. -/
theorem final14 (c : Dev nD) : (dats m 0 c).arrAt 14 (cfgs 0).N = rows (t := .f32) 64 ((kArgs m c).turned 2816) := by
  refine (dats m 0 c).arrAt_eq_of_covers 14 _ (by decide +kernel) fun t _ y => ?_
  blk_simp
  rw [after0_14]
  unfold out0_14 k0_pay25 k0_pay23 k0_pay22 k0_pay21
  frame_out
  obtain ⟨r, l, rfl⟩ : ∃ (r : Fin 256) (l : Fin 64), y = ix2 r l := ⟨y 0, y 1, eq_ix2 y⟩
  refine (pay1_at (kArgs m c) (rowOf t r) r _ (u_at m c t r) _ _ (c_at m c t r) (s_at m c t r) _ (w10_at m c t _) l).trans ?_
  obtain ⟨-, -, -, -, -, -, -, -, -, -, -, -, -, -, e, -⟩ := idx t
  have e0 : win0_14.index t 0 = t.val := congrFun e 0
  have e1 : win0_14.index t 1 = 0 := congrFun e 1
  refine out_at ((kArgs m c).turned 2816) t r l.val _ _ _ ?_ ?_
  · rw [View.emb_slice, Function.Embedding.trans_apply, View.emb_whole, Function.Embedding.refl_apply, Rect.emb_apply]
    show win0_14.index t 0 * 256 + 1 * r.val = t.val * 256 + r.val
    rw [e0, one_mul]
  · rw [View.emb_slice, Function.Embedding.trans_apply, View.emb_whole, Function.Embedding.refl_apply, Rect.emb_apply]
    show win0_14.index t 1 * 64 + 1 * l.val = l.val
    rw [e1, Nat.zero_mul, Nat.zero_add, one_mul]

set_option maxHeartbeats 1600000 in
/-- The indexer's key, as its scores read it, at every grid point. -/
theorem final15 (c : Dev nD) : (dats m 0 c).arrAt 15 (cfgs 0).N = rows (t := .bf16) 64 ((kArgs m c).turned 2816) := by
  refine (dats m 0 c).arrAt_eq_of_covers 15 _ (by decide +kernel) fun t _ y => ?_
  blk_simp
  rw [after0_15]
  unfold out0_15 k0_pay25 k0_pay23 k0_pay22 k0_pay21
  frame_out
  obtain ⟨r, l, rfl⟩ : ∃ (r : Fin 256) (l : Fin 64), y = ix2 r l := ⟨y 0, y 1, eq_ix2 y⟩
  refine (pay2_at (kArgs m c) (rowOf t r) r _ (u_at m c t r) _ _ (c_at m c t r) (s_at m c t r) _ (w10_at m c t _) l).trans ?_
  obtain ⟨-, -, -, -, -, -, -, -, -, -, -, -, -, -, -, e, -⟩ := idx t
  have e0 : win0_15.index t 0 = t.val := congrFun e 0
  have e1 : win0_15.index t 1 = 0 := congrFun e 1
  refine out_at ((kArgs m c).turned 2816) t r l.val _ _ _ ?_ ?_
  · rw [View.emb_slice, Function.Embedding.trans_apply, View.emb_whole, Function.Embedding.refl_apply, Rect.emb_apply]
    show win0_15.index t 0 * 256 + 1 * r.val = t.val * 256 + r.val
    rw [e0, one_mul]
  · rw [View.emb_slice, Function.Embedding.trans_apply, View.emb_whole, Function.Embedding.refl_apply, Rect.emb_apply]
    show win0_15.index t 1 * 64 + 1 * l.val = l.val
    rw [e1, Nat.zero_mul, Nat.zero_add, one_mul]

set_option maxHeartbeats 1600000 in
/-- The indexer's weights of its heads, at every grid point. -/
theorem final16 (c : Dev nD) : (dats m 0 c).arrAt 16 (cfgs 0).N = rows (t := .f32) 8 ((kArgs m c).weight) := by
  refine (dats m 0 c).arrAt_eq_of_covers 16 _ (by decide +kernel) fun t _ y => ?_
  blk_simp
  rw [after0_16]
  unfold out0_16 k0_pay21
  frame_out
  obtain ⟨r, l, rfl⟩ : ∃ (r : Fin 256) (l : Fin 8), y = ix2 r l := ⟨y 0, y 1, eq_ix2 y⟩
  refine (pay3_at (kArgs m c) (rowOf t r) r _ (u_at m c t r) _ (w10_at m c t _) l).trans ?_
  obtain ⟨-, -, -, -, -, -, -, -, -, -, -, -, -, -, -, -, e, -⟩ := idx t
  have e0 : win0_16.index t 0 = t.val := congrFun e 0
  have e1 : win0_16.index t 1 = 0 := congrFun e 1
  refine out_at ((kArgs m c).weight) t r l.val _ _ _ ?_ ?_
  · rw [View.emb_slice, Function.Embedding.trans_apply, View.emb_whole, Function.Embedding.refl_apply, Rect.emb_apply]
    show win0_16.index t 0 * 256 + 1 * r.val = t.val * 256 + r.val
    rw [e0, one_mul]
  · rw [View.emb_slice, Function.Embedding.trans_apply, View.emb_whole, Function.Embedding.refl_apply, Rect.emb_apply]
    show win0_16.index t 1 * 8 + 1 * l.val = l.val
    rw [e1, Nat.zero_mul, Nat.zero_add, one_mul]

end Cert.ProjSample
-- ==== Proof.ProjSample.RefRopes.lean ====
module

public import proofs.«01_k».proof.Proof.Gen.Reference5Ideal.Run
public import Idealize.ShloMosaic.Lib.Pipeline.ValueKit
public import proofs.«01_k».proof.Proof.ProjSample.Spec

@[expose] public section

/-!
The reference's arrays on the way to its results, each named and read at an entry.
-/

set_option maxRecDepth 16384

noncomputable section

namespace Cert.ProjSample

open Idealize.ShloMosaic Idealize.ShloMosaic.TcCoe Idealize.SL.Sem Idealize.ShloMosaic.StableHlo
open Cert.Reference5Ideal Cert.Reference5Ideal.Gen Cert.Reference5Ideal.Value

/-- The reference's modulated rows. -/
def refU (x : FVec Ideal S256x1024 .f32) (md : FVec Ideal S32x9216 .f32) : FVec Ideal S256x1024 .f32 :=
  shapeCast S256x1024 (addf (mulf (shapeCast S32x8x1024 x shapeCasts_S256x1024_S32x8x1024) (broadcastInDim S32x8x1024 ![0, 1, 2] bcast_S32x1x1024_S32x8x1024_0_1_2 (addf (broadcastInDim S32x1x1024 ![] bcast_S_S32x1x1024 (constant S_ .f32 0x3F800000#32)) (broadcastInDim S32x1x1024 ![0, 2] bcast_S32x1024_S32x1x1024_0_2 (shapeCast S32x1024 (extractStridedSlice S32x1x1024 ![0, 4, 0] (shapeCast S32x9x1024 md shapeCasts_S32x9216_S32x9x1024) slices_S32x9x1024_S32x1x1024_0_4_0) shapeCasts_S32x1x1024_S32x1024))))) (broadcastInDim S32x8x1024 ![0, 1, 2] bcast_S32x1x1024_S32x8x1024_0_1_2 (broadcastInDim S32x1x1024 ![0, 2] bcast_S32x1024_S32x1x1024_0_2 (shapeCast S32x1024 (extractStridedSlice S32x1x1024 ![0, 3, 0] (shapeCast S32x9x1024 md shapeCasts_S32x9216_S32x9x1024) slices_S32x9x1024_S32x1x1024_0_3_0) shapeCasts_S32x1x1024_S32x1024)))) shapeCasts_S32x8x1024_S256x1024

/-- The reference's projected columns. -/
def refUW (A : Args) : FVec Ideal S256x7768 .f32 :=
  Host.dotGeneral dot_S256x1024_S1024x7768_S256x7768_1_0_0_1_n_n none (refU A.x A.md) A.w

/-- The modulated rows at an entry. -/
theorem refU_at (A : Args) (r : Fin 256) (d : Fin 1024) : refU A.x A.md (ix2 r d) = A.u r d := by
  unfold Args.u Args.mrow
  pointwise [refU]

/-- The projected columns at an entry. -/
theorem refUW_at (A : Args) (r : Fin 256) (k : Fin 7768) : refUW A (ix2 r k) = A.pr r k.val := by
  have e : refUW A (ix2 r k) = ∑ d : Fin 1024, refU A.x A.md (ix2 r d) * A.w (ix2 d k) := by
    unfold refUW
    generalize refU A.x A.md = u
    pointwise
  rw [e]
  unfold Args.pr
  refine Finset.sum_congr rfl fun d _ => ?_
  rw [refU_at]
  unfold Args.col
  rw [dif_pos k.isLt]

/-- The reference's rotary embedding of 4 heads. -/
def refRope4 (q : FVec Ideal S256x4x64 .f32) (cs sn : FVec Ideal S256x32 .f32) : FVec Ideal S256x4x64 .f32 :=
  concatenate S256x4x64 2 [⟨S256x4x32, subf (mulf (extractStridedSlice S256x4x32 ![0, 0, 0] q slices_S256x4x64_S256x4x32_0_0_0) (broadcastInDim S256x4x32 ![0, 1, 2] bcast_S256x1x32_S256x4x32_0_1_2 (broadcastInDim S256x1x32 ![0, 2] bcast_S256x32_S256x1x32_0_2 cs))) (mulf (extractStridedSlice S256x4x32 ![0, 0, 32] q slices_S256x4x64_S256x4x32_0_0_32) (broadcastInDim S256x4x32 ![0, 1, 2] bcast_S256x1x32_S256x4x32_0_1_2 (broadcastInDim S256x1x32 ![0, 2] bcast_S256x32_S256x1x32_0_2 sn)))⟩, ⟨S256x4x32, addf (mulf (extractStridedSlice S256x4x32 ![0, 0, 32] q slices_S256x4x64_S256x4x32_0_0_32) (broadcastInDim S256x4x32 ![0, 1, 2] bcast_S256x1x32_S256x4x32_0_1_2 (broadcastInDim S256x1x32 ![0, 2] bcast_S256x32_S256x1x32_0_2 cs))) (mulf (extractStridedSlice S256x4x32 ![0, 0, 0] q slices_S256x4x64_S256x4x32_0_0_0) (broadcastInDim S256x4x32 ![0, 1, 2] bcast_S256x1x32_S256x4x32_0_1_2 (broadcastInDim S256x1x32 ![0, 2] bcast_S256x32_S256x1x32_0_2 sn)))⟩] concatenates_S256x4x32_S256x4x32_S256x4x64_d2

/-- The first half of a head, turned. -/
theorem refRope4_lo (q : FVec Ideal S256x4x64 .f32) (cs sn : FVec Ideal S256x32 .f32) (r : Fin 256) (h : Fin 4) (j : Fin 64) (hj : j.val < 32) :
    refRope4 q cs sn (ix3 r h j) = q (ix3 r h j) * cs (ix2 r ⟨j.val, hj⟩) - q (ix3 r h ⟨j.val + 32, by omega⟩) * sn (ix2 r ⟨j.val, hj⟩) := by
  pointwise [refRope4]
  rw [dif_pos hj]
  simp only [Nat.add_comm]

/-- The second half of a head, turned. -/
theorem refRope4_hi (q : FVec Ideal S256x4x64 .f32) (cs sn : FVec Ideal S256x32 .f32) (r : Fin 256) (h : Fin 4) (j : Fin 64) (hj : ¬ j.val < 32) :
    refRope4 q cs sn (ix3 r h j) = q (ix3 r h j) * cs (ix2 r ⟨j.val - 32, by omega⟩) + q (ix3 r h ⟨j.val - 32, by omega⟩) * sn (ix2 r ⟨j.val - 32, by omega⟩) := by
  pointwise [refRope4]
  rw [dif_neg hj]
  have e (p : 32 + (j.val - 32) < 64) : (⟨32 + (j.val - 32), p⟩ : Fin 64) = j := Fin.ext (by show 32 + (j.val - 32) = j.val; omega)
  rw [e]

/-- The columns of 4 heads, head by head. -/
def heads4 (q : FVec Ideal S256x256 .f32) : FVec Ideal S256x4x64 .f32 := shapeCast S256x4x64 q shapeCasts_S256x256_S256x4x64

/-- A head's column. -/
theorem heads4_at (q : FVec Ideal S256x256 .f32) (r : Fin 256) (h : Fin 4) (j : Fin 64) :
    heads4 q (ix3 r h j) = q (ix2 r ⟨h.val * 64 + j.val, by omega⟩) := by
  pointwise [heads4]

/-- The turned heads side by side. -/
theorem flat4_at (x : FVec Ideal S256x4x64 .f32) (r : Fin 256) (l : Fin 256) :
    shapeCast S256x256 x shapeCasts_S256x4x64_S256x256 (ix2 r l) = x (ix3 r ⟨l.val / 64, by omega⟩ ⟨l.val % 64, by omega⟩) := by
  pointwise

/-- The reference's turned columns are the heads' rotary embedding. -/
theorem refTurn4_at (A : Args) (b : ℕ) (q : FVec Ideal S256x256 .f32) (r : Fin 256) (hq : ∀ k : Fin 256, q (ix2 r k) = A.pr r (b + k.val)) (l : Fin 256) :
    refRope4 (heads4 q) A.cs A.sn (ix3 r ⟨l.val / 64, by omega⟩ ⟨l.val % 64, by omega⟩) = A.rot r b l.val := by
  unfold Args.rot rope
  have hl : l.val < 256 := l.isLt
  by_cases h : l.val % 64 < 32
  · have e1 : b + (l.val / 64 * 64 + l.val % 64) = b + l.val := by omega
    have e2 : b + (l.val / 64 * 64 + (l.val % 64 + 32)) = b + (l.val + 32) := by omega
    have e3 (p : l.val % 64 < 32) : (⟨l.val % 64, p⟩ : Fin 32) = ⟨l.val % 32, by omega⟩ := Fin.ext (by show l.val % 64 = l.val % 32; omega)
    rw [if_pos h, refRope4_lo _ _ _ r _ ⟨l.val % 64, by omega⟩ h, heads4_at, heads4_at, hq, hq]
    show A.pr r (b + (l.val / 64 * 64 + l.val % 64)) * A.cs (ix2 r ⟨l.val % 64, h⟩) - A.pr r (b + (l.val / 64 * 64 + (l.val % 64 + 32))) * A.sn (ix2 r ⟨l.val % 64, h⟩) = _
    rw [e1, e2, e3]
  · have e1 : b + (l.val / 64 * 64 + l.val % 64) = b + l.val := by omega
    have e2 : b + (l.val / 64 * 64 + (l.val % 64 - 32)) = b + (l.val - 32) := by omega
    have e3 (p : l.val % 64 - 32 < 32) : (⟨l.val % 64 - 32, p⟩ : Fin 32) = ⟨l.val % 32, by omega⟩ := Fin.ext (by show l.val % 64 - 32 = l.val % 32; omega)
    rw [if_neg h, refRope4_hi _ _ _ r _ ⟨l.val % 64, by omega⟩ h, heads4_at, heads4_at, hq, hq]
    show A.pr r (b + (l.val / 64 * 64 + l.val % 64)) * A.cs (ix2 r ⟨l.val % 64 - 32, by omega⟩) + A.pr r (b + (l.val / 64 * 64 + (l.val % 64 - 32))) * A.sn (ix2 r ⟨l.val % 64 - 32, by omega⟩) = _
    rw [e1, e2, e3]

/-- The reference's rotary embedding of 8 heads. -/
def refRope8 (q : FVec Ideal S256x8x64 .f32) (cs sn : FVec Ideal S256x32 .f32) : FVec Ideal S256x8x64 .f32 :=
  concatenate S256x8x64 2 [⟨S256x8x32, subf (mulf (extractStridedSlice S256x8x32 ![0, 0, 0] q slices_S256x8x64_S256x8x32_0_0_0) (broadcastInDim S256x8x32 ![0, 1, 2] bcast_S256x1x32_S256x8x32_0_1_2 (broadcastInDim S256x1x32 ![0, 2] bcast_S256x32_S256x1x32_0_2 cs))) (mulf (extractStridedSlice S256x8x32 ![0, 0, 32] q slices_S256x8x64_S256x8x32_0_0_32) (broadcastInDim S256x8x32 ![0, 1, 2] bcast_S256x1x32_S256x8x32_0_1_2 (broadcastInDim S256x1x32 ![0, 2] bcast_S256x32_S256x1x32_0_2 sn)))⟩, ⟨S256x8x32, addf (mulf (extractStridedSlice S256x8x32 ![0, 0, 32] q slices_S256x8x64_S256x8x32_0_0_32) (broadcastInDim S256x8x32 ![0, 1, 2] bcast_S256x1x32_S256x8x32_0_1_2 (broadcastInDim S256x1x32 ![0, 2] bcast_S256x32_S256x1x32_0_2 cs))) (mulf (extractStridedSlice S256x8x32 ![0, 0, 0] q slices_S256x8x64_S256x8x32_0_0_0) (broadcastInDim S256x8x32 ![0, 1, 2] bcast_S256x1x32_S256x8x32_0_1_2 (broadcastInDim S256x1x32 ![0, 2] bcast_S256x32_S256x1x32_0_2 sn)))⟩] concatenates_S256x8x32_S256x8x32_S256x8x64_d2

/-- The first half of a head, turned. -/
theorem refRope8_lo (q : FVec Ideal S256x8x64 .f32) (cs sn : FVec Ideal S256x32 .f32) (r : Fin 256) (h : Fin 8) (j : Fin 64) (hj : j.val < 32) :
    refRope8 q cs sn (ix3 r h j) = q (ix3 r h j) * cs (ix2 r ⟨j.val, hj⟩) - q (ix3 r h ⟨j.val + 32, by omega⟩) * sn (ix2 r ⟨j.val, hj⟩) := by
  pointwise [refRope8]
  rw [dif_pos hj]
  simp only [Nat.add_comm]

/-- The second half of a head, turned. -/
theorem refRope8_hi (q : FVec Ideal S256x8x64 .f32) (cs sn : FVec Ideal S256x32 .f32) (r : Fin 256) (h : Fin 8) (j : Fin 64) (hj : ¬ j.val < 32) :
    refRope8 q cs sn (ix3 r h j) = q (ix3 r h j) * cs (ix2 r ⟨j.val - 32, by omega⟩) + q (ix3 r h ⟨j.val - 32, by omega⟩) * sn (ix2 r ⟨j.val - 32, by omega⟩) := by
  pointwise [refRope8]
  rw [dif_neg hj]
  have e (p : 32 + (j.val - 32) < 64) : (⟨32 + (j.val - 32), p⟩ : Fin 64) = j := Fin.ext (by show 32 + (j.val - 32) = j.val; omega)
  rw [e]

/-- The columns of 8 heads, head by head. -/
def heads8 (q : FVec Ideal S256x512 .f32) : FVec Ideal S256x8x64 .f32 := shapeCast S256x8x64 q shapeCasts_S256x512_S256x8x64

/-- A head's column. -/
theorem heads8_at (q : FVec Ideal S256x512 .f32) (r : Fin 256) (h : Fin 8) (j : Fin 64) :
    heads8 q (ix3 r h j) = q (ix2 r ⟨h.val * 64 + j.val, by omega⟩) := by
  pointwise [heads8]

/-- The turned heads side by side. -/
theorem flat8_at (x : FVec Ideal S256x8x64 .f32) (r : Fin 256) (l : Fin 512) :
    shapeCast S256x512 x shapeCasts_S256x8x64_S256x512 (ix2 r l) = x (ix3 r ⟨l.val / 64, by omega⟩ ⟨l.val % 64, by omega⟩) := by
  pointwise

/-- The reference's turned columns are the heads' rotary embedding. -/
theorem refTurn8_at (A : Args) (b : ℕ) (q : FVec Ideal S256x512 .f32) (r : Fin 256) (hq : ∀ k : Fin 512, q (ix2 r k) = A.pr r (b + k.val)) (l : Fin 512) :
    refRope8 (heads8 q) A.cs A.sn (ix3 r ⟨l.val / 64, by omega⟩ ⟨l.val % 64, by omega⟩) = A.rot r b l.val := by
  unfold Args.rot rope
  have hl : l.val < 512 := l.isLt
  by_cases h : l.val % 64 < 32
  · have e1 : b + (l.val / 64 * 64 + l.val % 64) = b + l.val := by omega
    have e2 : b + (l.val / 64 * 64 + (l.val % 64 + 32)) = b + (l.val + 32) := by omega
    have e3 (p : l.val % 64 < 32) : (⟨l.val % 64, p⟩ : Fin 32) = ⟨l.val % 32, by omega⟩ := Fin.ext (by show l.val % 64 = l.val % 32; omega)
    rw [if_pos h, refRope8_lo _ _ _ r _ ⟨l.val % 64, by omega⟩ h, heads8_at, heads8_at, hq, hq]
    show A.pr r (b + (l.val / 64 * 64 + l.val % 64)) * A.cs (ix2 r ⟨l.val % 64, h⟩) - A.pr r (b + (l.val / 64 * 64 + (l.val % 64 + 32))) * A.sn (ix2 r ⟨l.val % 64, h⟩) = _
    rw [e1, e2, e3]
  · have e1 : b + (l.val / 64 * 64 + l.val % 64) = b + l.val := by omega
    have e2 : b + (l.val / 64 * 64 + (l.val % 64 - 32)) = b + (l.val - 32) := by omega
    have e3 (p : l.val % 64 - 32 < 32) : (⟨l.val % 64 - 32, p⟩ : Fin 32) = ⟨l.val % 32, by omega⟩ := Fin.ext (by show l.val % 64 - 32 = l.val % 32; omega)
    rw [if_neg h, refRope8_hi _ _ _ r _ ⟨l.val % 64, by omega⟩ h, heads8_at, heads8_at, hq, hq]
    show A.pr r (b + (l.val / 64 * 64 + l.val % 64)) * A.cs (ix2 r ⟨l.val % 64 - 32, by omega⟩) + A.pr r (b + (l.val / 64 * 64 + (l.val % 64 - 32))) * A.sn (ix2 r ⟨l.val % 64 - 32, by omega⟩) = _
    rw [e1, e2, e3]

/-- The reference's rotary embedding of 1 head. -/
def refRope1 (q : FVec Ideal S256x1x64 .f32) (cs sn : FVec Ideal S256x32 .f32) : FVec Ideal S256x1x64 .f32 :=
  concatenate S256x1x64 2 [⟨S256x1x32, subf (mulf (extractStridedSlice S256x1x32 ![0, 0, 0] q slices_S256x1x64_S256x1x32_0_0_0) (broadcastInDim S256x1x32 ![0, 2] bcast_S256x32_S256x1x32_0_2 cs)) (mulf (extractStridedSlice S256x1x32 ![0, 0, 32] q slices_S256x1x64_S256x1x32_0_0_32) (broadcastInDim S256x1x32 ![0, 2] bcast_S256x32_S256x1x32_0_2 sn))⟩, ⟨S256x1x32, addf (mulf (extractStridedSlice S256x1x32 ![0, 0, 32] q slices_S256x1x64_S256x1x32_0_0_32) (broadcastInDim S256x1x32 ![0, 2] bcast_S256x32_S256x1x32_0_2 cs)) (mulf (extractStridedSlice S256x1x32 ![0, 0, 0] q slices_S256x1x64_S256x1x32_0_0_0) (broadcastInDim S256x1x32 ![0, 2] bcast_S256x32_S256x1x32_0_2 sn))⟩] concatenates_S256x1x32_S256x1x32_S256x1x64_d2

/-- The first half of a head, turned. -/
theorem refRope1_lo (q : FVec Ideal S256x1x64 .f32) (cs sn : FVec Ideal S256x32 .f32) (r : Fin 256) (j : Fin 64) (hj : j.val < 32) :
    refRope1 q cs sn (ix3 r 0 j) = q (ix3 r 0 j) * cs (ix2 r ⟨j.val, hj⟩) - q (ix3 r 0 ⟨j.val + 32, by omega⟩) * sn (ix2 r ⟨j.val, hj⟩) := by
  pointwise [refRope1]
  rw [dif_pos hj]
  simp only [Nat.add_comm]

/-- The second half of a head, turned. -/
theorem refRope1_hi (q : FVec Ideal S256x1x64 .f32) (cs sn : FVec Ideal S256x32 .f32) (r : Fin 256) (j : Fin 64) (hj : ¬ j.val < 32) :
    refRope1 q cs sn (ix3 r 0 j) = q (ix3 r 0 j) * cs (ix2 r ⟨j.val - 32, by omega⟩) + q (ix3 r 0 ⟨j.val - 32, by omega⟩) * sn (ix2 r ⟨j.val - 32, by omega⟩) := by
  pointwise [refRope1]
  rw [dif_neg hj]
  have e (p : 32 + (j.val - 32) < 64) : (⟨32 + (j.val - 32), p⟩ : Fin 64) = j := Fin.ext (by show 32 + (j.val - 32) = j.val; omega)
  rw [e]

/-- The columns of 1 head, head by head. -/
def heads1 (q : FVec Ideal S256x64 .f32) : FVec Ideal S256x1x64 .f32 := broadcastInDim S256x1x64 ![0, 2] bcast_S256x64_S256x1x64_0_2 q

/-- A head's column. -/
theorem heads1_at (q : FVec Ideal S256x64 .f32) (r : Fin 256) (j : Fin 64) :
    heads1 q (ix3 r 0 j) = q (ix2 r j) := by
  pointwise [heads1]

/-- The turned heads side by side. -/
theorem flat1_at (x : FVec Ideal S256x1x64 .f32) (r : Fin 256) (l : Fin 64) :
    shapeCast S256x64 x shapeCasts_S256x1x64_S256x64 (ix2 r l) = x (ix3 r 0 l) := by
  pointwise

/-- The reference's turned columns are the heads' rotary embedding. -/
theorem refTurn1_at (A : Args) (b : ℕ) (q : FVec Ideal S256x64 .f32) (r : Fin 256) (hq : ∀ k : Fin 64, q (ix2 r k) = A.pr r (b + k.val)) (l : Fin 64) :
    refRope1 (heads1 q) A.cs A.sn (ix3 r 0 l) = A.rot r b l.val := by
  unfold Args.rot rope
  have hl : l.val < 64 := l.isLt
  by_cases h : l.val < 32
  · have e3 (p : l.val < 32) : (⟨l.val, p⟩ : Fin 32) = ⟨l.val % 32, by omega⟩ := Fin.ext (by show l.val = l.val % 32; omega)
    rw [if_pos (by omega), refRope1_lo _ _ _ r l h, heads1_at, heads1_at, hq, hq, e3]
  · have e3 (p : l.val - 32 < 32) : (⟨l.val - 32, p⟩ : Fin 32) = ⟨l.val % 32, by omega⟩ := Fin.ext (by show l.val - 32 = l.val % 32; omega)
    rw [if_neg (by omega), refRope1_hi _ _ _ r l h, heads1_at, heads1_at, hq, hq, e3]

end Cert.ProjSample
-- ==== Proof.ProjSample.RefValue.lean ====
module

public import proofs.«01_k».proof.Proof.ProjSample.RefRopes

@[expose] public section

/-!
The reference's results, entry by entry.
-/

set_option maxRecDepth 16384

noncomputable section

namespace Cert.ProjSample

open Idealize.ShloMosaic Idealize.ShloMosaic.TcCoe Idealize.SL.Sem Idealize.ShloMosaic.StableHlo
open Cert.Reference5Ideal Cert.Reference5Ideal.Gen Cert.Reference5Ideal.Value

/-- The positions of a sequence's eight tokens. -/
def refPos : IVec S8 32 := addi (broadcastInDim S8 ![] bcast_S_S8 (constantI S_ 32 16384#32)) (iotaInDim S8 32 0)

/-- The positions of the batch's rows: the eight positions, sequence after sequence. -/
def refAllPos : IVec S256 32 := shapeCast S256 (broadcastInDim S32x8 ![0, 1] bcast_S1x8_S32x8_0_1 (shapeCast S1x8 refPos shapeCasts_S8_S1x8)) shapeCasts_S32x8_S256

/-- A row's position. -/
theorem refAllPos_at (r : Fin 256) : refAllPos (ix1 r) = refPos (ix1 ⟨r.val % 8, Nat.mod_lt _ (Nat.succ_pos 7)⟩) := by
  unfold refAllPos
  generalize refPos = p
  pointwise

/-- The angles' frequencies. -/
def refInv : FVec Ideal S1x32 .f32 := (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))

/-- The positions' angles. -/
def refAng : FVec Ideal S256x32 .f32 :=
  mulf (broadcastInDim S256x32 ![0, 1] bcast_S256x1_S256x32_0_1 (broadcastInDim S256x1 ![0] bcast_S256_S256x1_0 (sitofp .f32 refAllPos))) (broadcastInDim S256x32 ![0, 1] bcast_S1x32_S256x32_0_1 refInv)

/-- An angle of a row. -/
theorem refAng_at (r : Fin 256) (f : Fin 32) : refAng (ix2 r f) = sitofp (F := Ideal) .f32 refPos (ix1 ⟨r.val % 8, Nat.mod_lt _ (Nat.succ_pos 7)⟩) * refInv (ix2 0 f) := by
  have e : refAng (ix2 r f) = sitofp (F := Ideal) .f32 refAllPos (ix1 r) * refInv (ix2 0 f) := by
    unfold refAng
    generalize sitofp (F := Ideal) .f32 refAllPos = p
    generalize refInv = q
    pointwise
  rw [e]
  exact congrArg (fun k : BitVec 32 => (((k.toInt : ℝ)) : EReal) * refInv (ix2 0 f)) (refAllPos_at r)

/-- The reference's arguments as the part's. -/
def refArgs (m : (ℓ : Loc nD τ sig) → Buf (Elt Ideal) ℓ) (c : Dev nD) : Args where
  x := m ((c.tc : Thread nD τ).loc main_arg0)
  md := m ((c.tc : Thread nD τ).loc main_arg1)
  w := m ((c.tc : Thread nD τ).loc main_arg2)
  cs := Host.cos refAng
  sn := Host.sin refAng

/-- The first mixer's columns. -/
theorem ref16 (A : Args) : extractStridedSlice S256x512 ![0, 0] (refUW A) slices_S256x7768_S256x512_0_0 = rows (t := .f32) 512 (A.plain 0) :=
  rows_of _ _ _ fun r l => by
    refine Eq.trans ?_ (refUW_at A r ⟨0 + l.val, by omega⟩)
    generalize refUW A = p
    pointwise

/-- The second mixer's columns. -/
theorem ref17 (A : Args) : extractStridedSlice S256x1024 ![0, 512] (refUW A) slices_S256x7768_S256x1024_0_512 = rows (t := .f32) 1024 (A.plain 512) :=
  rows_of _ _ _ fun r l => by
    refine Eq.trans ?_ (refUW_at A r ⟨512 + l.val, by omega⟩)
    generalize refUW A = p
    pointwise

/-- The attention's values. -/
theorem ref20 (A : Args) : extractStridedSlice S256x256 ![0, 2048] (refUW A) slices_S256x7768_S256x256_0_2048 = rows (t := .f32) 256 (A.plain 2048) :=
  rows_of _ _ _ fun r l => by
    refine Eq.trans ?_ (refUW_at A r ⟨2048 + l.val, by omega⟩)
    generalize refUW A = p
    pointwise

/-- The attention's values, as the weighted sums read them. -/
theorem ref155 (A : Args) : truncf .bf16 (extractStridedSlice S256x256 ![0, 2048] (refUW A) slices_S256x7768_S256x256_0_2048) bitsLt_bf16_f32 = rows (t := .bf16) 256 (A.plain 2048) :=
  rows_of _ _ _ fun r l => congrFun (ref20 A) (ix2 r l)

/-- The attention's queries, before their cast. -/
def refQ32 (A : Args) : FVec Ideal S256x256 .f32 :=
  shapeCast S256x256 (mulf (refRope4 (heads4 (extractStridedSlice S256x256 ![0, 1536] (refUW A) slices_S256x7768_S256x256_0_1536)) A.cs A.sn) (broadcastInDim S256x4x64 ![] bcast_S_S256x4x64 (constant S_ .f32 0x3E000000#32))) shapeCasts_S256x4x64_S256x256

/-- The attention's queries. -/
def refQ (A : Args) : FVec Ideal S256x256 .bf16 := truncf .bf16 (refQ32 A) bitsLt_bf16_f32

/-- The attention's keys. -/
def refK (A : Args) : FVec Ideal S256x256 .f32 :=
  shapeCast S256x256 (refRope4 (heads4 (extractStridedSlice S256x256 ![0, 1792] (refUW A) slices_S256x7768_S256x256_0_1792)) A.cs A.sn) shapeCasts_S256x4x64_S256x256

/-- The indexer's queries, before their cast. -/
def refIQ32 (A : Args) : FVec Ideal S256x512 .f32 :=
  shapeCast S256x512 (mulf (refRope8 (heads8 (extractStridedSlice S256x512 ![0, 2304] (refUW A) slices_S256x7768_S256x512_0_2304)) A.cs A.sn) (broadcastInDim S256x8x64 ![] bcast_S_S256x8x64 (constant S_ .f32 0x3E000000#32))) shapeCasts_S256x8x64_S256x512

/-- The indexer's queries. -/
def refIQ (A : Args) : FVec Ideal S256x512 .bf16 := truncf .bf16 (refIQ32 A) bitsLt_bf16_f32

/-- The indexer's key. -/
def refIK (A : Args) : FVec Ideal S256x64 .f32 :=
  shapeCast S256x64 (refRope1 (heads1 (extractStridedSlice S256x64 ![0, 2816] (refUW A) slices_S256x7768_S256x64_0_2816)) A.cs A.sn) shapeCasts_S256x1x64_S256x64

/-- A scaled array of four heads at an entry. -/
theorem eighth4_at (x : FVec Ideal S256x4x64 .f32) (i : S256x4x64.Idx) :
    mulf x (broadcastInDim S256x4x64 ![] bcast_S_S256x4x64 (constant S_ .f32 0x3E000000#32)) i = x i * Ideal.ofBits .f32 0x3E000000#32 := rfl

/-- A scaled array of eight heads at an entry. -/
theorem eighth8_at (x : FVec Ideal S256x8x64 .f32) (i : S256x8x64.Idx) :
    mulf x (broadcastInDim S256x8x64 ![] bcast_S_S256x8x64 (constant S_ .f32 0x3E000000#32)) i = x i * Ideal.ofBits .f32 0x3E000000#32 := rfl

/-- The attention's queries, row by row. -/
theorem refQ_eq (A : Args) : refQ A = rows (t := .bf16) 256 (A.scaled 1536) :=
  rows_of _ _ _ fun r l => by
    refine Eq.trans (b := refQ32 A (ix2 r l)) rfl ?_
    refine (flat4_at _ r l).trans ?_
    unfold Args.scaled
    rw [eighth4_at]
    refine congrArg (fun x : EReal => x * Ideal.ofBits .f32 0x3E000000#32) (refTurn4_at A 1536 _ r (fun k => ?_) l)
    refine Eq.trans ?_ (refUW_at A r ⟨1536 + k.val, by omega⟩)
    generalize refUW A = p
    pointwise

/-- The attention's keys, row by row. -/
theorem refK_at (A : Args) (r : Fin 256) (l : Fin 256) : refK A (ix2 r l) = A.turned 1792 r l.val := by
  refine (flat4_at _ r l).trans (refTurn4_at A 1792 _ r (fun k => ?_) l)
  refine Eq.trans ?_ (refUW_at A r ⟨1792 + k.val, by omega⟩)
  generalize refUW A = p
  pointwise

/-- The indexer's queries, row by row. -/
theorem refIQ_eq (A : Args) : refIQ A = rows (t := .bf16) 512 (A.scaled 2304) :=
  rows_of _ _ _ fun r l => by
    refine Eq.trans (b := refIQ32 A (ix2 r l)) rfl ?_
    refine (flat8_at _ r l).trans ?_
    unfold Args.scaled
    rw [eighth8_at]
    refine congrArg (fun x : EReal => x * Ideal.ofBits .f32 0x3E000000#32) (refTurn8_at A 2304 _ r (fun k => ?_) l)
    refine Eq.trans ?_ (refUW_at A r ⟨2304 + k.val, by omega⟩)
    generalize refUW A = p
    pointwise

/-- The indexer's key, row by row. -/
theorem refIK_at (A : Args) (r : Fin 256) (l : Fin 64) : refIK A (ix2 r l) = A.turned 2816 r l.val := by
  refine (flat1_at _ r l).trans (refTurn1_at A 2816 _ r (fun k => ?_) l)
  refine Eq.trans ?_ (refUW_at A r ⟨2816 + k.val, by omega⟩)
  generalize refUW A = p
  pointwise

/-- The indexer's weights of its heads. -/
theorem ref162 (A : Args) : mulf (extractStridedSlice S256x8 ![0, 2880] (refUW A) slices_S256x7768_S256x8_0_2880) (broadcastInDim S256x8 ![] bcast_S_S256x8 (constant S_ .f32 0x3EB504F3#32)) = rows (t := .f32) 8 A.weight :=
  rows_of _ _ _ fun r l => by
    unfold Args.weight
    rw [← refUW_at A r ⟨2880 + l.val, by omega⟩]
    generalize refUW A = p
    pointwise

/-- The last mixer's columns, with zeros after them. -/
theorem ref163 (A : Args) : pad S256x896 ![0, 0] ![0, 112] ![0, 0] (extractStridedSlice S256x784 ![0, 2888] (refUW A) slices_S256x7768_S256x784_0_2888) (sitofp (F := Ideal) .f32 (constantI S_ 32 0#32)) pads_S256x784_S256x896_000_01120 h_S_ = rows (t := .f32) 896 A.padded :=
  rows_of _ _ _ fun r l => by
    unfold Args.padded
    by_cases h : l.val < 784
    · rw [if_pos h, ← refUW_at A r ⟨2888 + l.val, by omega⟩]
      generalize refUW A = p
      pointwise
      rw [dif_pos h]
    · rw [if_neg h]
      generalize refUW A = p
      pointwise
      rw [dif_neg h]
      show ((((0#32 : BitVec 32).toInt : ℝ)) : EReal) = 0
      simp

set_option maxHeartbeats 1600000 in
/-- The reference's queries of the attention. -/
theorem ref153 (m : (ℓ : Loc nD τ sig) → Buf (Elt Ideal) ℓ) (c : Dev nD) : res_main_v153 m c = rows (t := .bf16) 256 ((refArgs m c).scaled 1536) := by
  have e : res_main_v153 m c = refQ (refArgs m c) := rfl
  exact e.trans (refQ_eq _)

set_option maxHeartbeats 1600000 in
/-- The reference's keys of the attention. -/
theorem ref149 (m : (ℓ : Loc nD τ sig) → Buf (Elt Ideal) ℓ) (c : Dev nD) : res_main_v149 m c = rows (t := .f32) 256 ((refArgs m c).turned 1792) := by
  have e : res_main_v149 m c = refK (refArgs m c) := rfl
  exact e.trans (rows_of _ _ _ (refK_at _))

set_option maxHeartbeats 1600000 in
/-- The reference's keys of the attention, as the scores read them. -/
theorem ref154 (m : (ℓ : Loc nD τ sig) → Buf (Elt Ideal) ℓ) (c : Dev nD) : res_main_v154 m c = rows (t := .bf16) 256 ((refArgs m c).turned 1792) := by
  have e : res_main_v154 m c = truncf .bf16 (refK (refArgs m c)) bitsLt_bf16_f32 := rfl
  exact e.trans (rows_of _ _ _ (refK_at _))

set_option maxHeartbeats 1600000 in
/-- The reference's queries of the indexer. -/
theorem ref159 (m : (ℓ : Loc nD τ sig) → Buf (Elt Ideal) ℓ) (c : Dev nD) : res_main_v159 m c = rows (t := .bf16) 512 ((refArgs m c).scaled 2304) := by
  have e : res_main_v159 m c = refIQ (refArgs m c) := rfl
  exact e.trans (refIQ_eq _)

set_option maxHeartbeats 1600000 in
/-- The reference's key of the indexer. -/
theorem ref148 (m : (ℓ : Loc nD τ sig) → Buf (Elt Ideal) ℓ) (c : Dev nD) : res_main_v148 m c = rows (t := .f32) 64 ((refArgs m c).turned 2816) := by
  have e : res_main_v148 m c = refIK (refArgs m c) := rfl
  exact e.trans (rows_of _ _ _ (refIK_at _))

set_option maxHeartbeats 1600000 in
/-- The reference's key of the indexer, as its scores read it. -/
theorem ref160 (m : (ℓ : Loc nD τ sig) → Buf (Elt Ideal) ℓ) (c : Dev nD) : res_main_v160 m c = rows (t := .bf16) 64 ((refArgs m c).turned 2816) := by
  have e : res_main_v160 m c = truncf .bf16 (refIK (refArgs m c)) bitsLt_bf16_f32 := rfl
  exact e.trans (rows_of _ _ _ (refIK_at _))

end Cert.ProjSample
-- ==== Proof.ProjSample.Agreement.lean ====
module

public import proofs.«01_k».proof.Defs
public import proofs.«01_k».proof.Proof.Gen.Kernel5Ideal.Value
public import proofs.«01_k».proof.Proof.ProjSample.FinalsPlain
public import proofs.«01_k».proof.Proof.ProjSample.FinalsAtt
public import proofs.«01_k».proof.Proof.ProjSample.FinalsIndex
public import proofs.«01_k».proof.Proof.ProjSample.RefValue

@[expose] public section

/-!
The sample batch's input projection and its reference end with equal results.
-/

noncomputable section

namespace Cert.ProjSample

open Idealize.ShloMosaic Idealize.ShloMosaic.TcCoe Idealize.SL.Sem

/-- The kernel's angles of the eight positions are the reference's of the batch's rows. -/
theorem ang_agree (r : Fin 256) (f : Fin 32) : refAng (ix2 r f) = kAng (ix2 ⟨r.val % 8, Nat.mod_lt _ (Nat.succ_pos 7)⟩ f) := by
  rw [refAng_at]
  rfl

/-- The cosines of the batch's rows. -/
theorem cos_agree : Host.cos refAng = each (Host.cos kAng) := by
  funext i
  obtain ⟨r, f, rfl⟩ : ∃ (r : Fin 256) (f : Fin 32), i = ix2 r f := ⟨i 0, i 1, eq_ix2 i⟩
  exact congrArg (fun x : Ideal .f32 => FloatOps.hostUnary .cos x) (ang_agree r f)

/-- The sines of the batch's rows. -/
theorem sin_agree : Host.sin refAng = each (Host.sin kAng) := by
  funext i
  obtain ⟨r, f, rfl⟩ : ∃ (r : Fin 256) (f : Fin 32), i = ix2 r f := ⟨i 0, i 1, eq_ix2 i⟩
  exact congrArg (fun x : Ideal .f32 => FloatOps.hostUnary .sin x) (ang_agree r f)

/-- Memories that agree on the arguments give both programs the same part: the rotation's cosines and sines are the same constants in both. -/
theorem args_agree (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    refArgs m' c = kArgs m c := by
  obtain ⟨h0, h1, h2⟩ := h
  unfold refArgs kArgs
  rw [Args.mk.injEq]
  exact ⟨h0, h1, h2, cos_agree, sin_agree⟩

set_option maxHeartbeats 3200000 in
/-- Equal results, as the claim states them. -/
theorem equal : algebraic_Kernel5Ideal_Reference5Ideal (hKernel5Ideal := Cert.Kernel5Ideal.Gen.facts) (hReference5Ideal := Cert.Reference5Ideal.Gen.facts) := by
  intro m g m' g' hpre hagree
  refine ⟨fun c => rows (t := .f32) 512 ((kArgs m c).plain 0),
    fun c => rows (t := .f32) 1024 ((kArgs m c).plain 512),
    fun c => rows (t := .bf16) 256 ((kArgs m c).scaled 1536),
    fun c => rows (t := .f32) 256 ((kArgs m c).turned 1792),
    fun c => rows (t := .f32) 256 ((kArgs m c).plain 2048),
    fun c => rows (t := .bf16) 256 ((kArgs m c).turned 1792),
    fun c => rows (t := .bf16) 256 ((kArgs m c).plain 2048),
    fun c => rows (t := .bf16) 512 ((kArgs m c).scaled 2304),
    fun c => rows (t := .f32) 64 ((kArgs m c).turned 2816),
    fun c => rows (t := .bf16) 64 ((kArgs m c).turned 2816),
    fun c => rows (t := .f32) 8 ((kArgs m c).weight),
    fun c => rows (t := .f32) 896 ((kArgs m c).padded),
    (θ_run _ _ _).mono (fun r h c => ⟨(h c).1.trans (final6 m c), (h c).2.1.trans (final7 m c), (h c).2.2.1.trans (final8 m c), (h c).2.2.2.1.trans (final9 m c), (h c).2.2.2.2.1.trans (final10 m c), (h c).2.2.2.2.2.1.trans (final11 m c), (h c).2.2.2.2.2.2.1.trans (final12 m c), (h c).2.2.2.2.2.2.2.1.trans (final13 m c), (h c).2.2.2.2.2.2.2.2.1.trans (final14 m c), (h c).2.2.2.2.2.2.2.2.2.1.trans (final15 m c), (h c).2.2.2.2.2.2.2.2.2.2.1.trans (final16 m c), (h c).2.2.2.2.2.2.2.2.2.2.2.1.trans (final17 m c), (h c).2.2.2.2.2.2.2.2.2.2.2.2⟩)
      (Cert.Kernel5Ideal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩)
      (Cert.Reference5Ideal.Value.run m' g')⟩
  · show _ = rows (t := .f32) 512 ((kArgs m c).plain 0)
    rw [← args_agree m m' c (hagree c)]
    exact ref16 (refArgs m' c)
  · show _ = rows (t := .f32) 1024 ((kArgs m c).plain 512)
    rw [← args_agree m m' c (hagree c)]
    exact ref17 (refArgs m' c)
  · show _ = rows (t := .bf16) 256 ((kArgs m c).scaled 1536)
    rw [← args_agree m m' c (hagree c)]
    exact ref153 m' c
  · show _ = rows (t := .f32) 256 ((kArgs m c).turned 1792)
    rw [← args_agree m m' c (hagree c)]
    exact ref149 m' c
  · show _ = rows (t := .f32) 256 ((kArgs m c).plain 2048)
    rw [← args_agree m m' c (hagree c)]
    exact ref20 (refArgs m' c)
  · show _ = rows (t := .bf16) 256 ((kArgs m c).turned 1792)
    rw [← args_agree m m' c (hagree c)]
    exact ref154 m' c
  · show _ = rows (t := .bf16) 256 ((kArgs m c).plain 2048)
    rw [← args_agree m m' c (hagree c)]
    exact ref155 (refArgs m' c)
  · show _ = rows (t := .bf16) 512 ((kArgs m c).scaled 2304)
    rw [← args_agree m m' c (hagree c)]
    exact ref159 m' c
  · show _ = rows (t := .f32) 64 ((kArgs m c).turned 2816)
    rw [← args_agree m m' c (hagree c)]
    exact ref148 m' c
  · show _ = rows (t := .bf16) 64 ((kArgs m c).turned 2816)
    rw [← args_agree m m' c (hagree c)]
    exact ref160 m' c
  · show _ = rows (t := .f32) 8 ((kArgs m c).weight)
    rw [← args_agree m m' c (hagree c)]
    exact ref162 (refArgs m' c)
  · show _ = rows (t := .f32) 896 ((kArgs m c).padded)
    rw [← args_agree m m' c (hagree c)]
    exact ref163 (refArgs m' c)

end Cert.ProjSample
-- ==== Proof.FfnSample.Spec.lean ====
module

public import Idealize.ShloMosaic.Lib.Pipeline.ValueKit
public import Idealize.ShloMosaic.Lib.IdealHost

@[expose] public section

/-!
The feed-forward sub-layer of the sample batch, one entry at a time: the modulated row, the gated hidden channel, the residual sum and the
layer norm. Both programs are compared with it.
-/

noncomputable section

namespace Cert.FfnSample

open Idealize.ShloMosaic

/-- The arrays the sub-layer reads: the rows, the layer's modulation of each sequence, the gate, up and down weights, and the layer norm's
scale and shift. -/
structure Args where
  x : FVec Ideal ⟨2, ![256, 1024]⟩ .f32
  md : FVec Ideal ⟨2, ![32, 9216]⟩ .f32
  wg : FVec Ideal ⟨2, ![1024, 2816]⟩ .f32
  wu : FVec Ideal ⟨2, ![1024, 2816]⟩ .f32
  wd : FVec Ideal ⟨2, ![2816, 1024]⟩ .f32
  g : FVec Ideal ⟨1, ![1024]⟩ .f32
  b : FVec Ideal ⟨1, ![1024]⟩ .f32

/-- Entry `d` of row `q` of the nine modulation rows of the sequence that row `r` belongs to: eight rows in turn are one sequence. -/
def Args.mrow (A : Args) (r : Fin 256) (q : Fin 9) (d : Fin 1024) : EReal := A.md (ix2 ⟨r.val / 8, by omega⟩ ⟨q.val * 1024 + d.val, by omega⟩)

/-- The modulated row. -/
def Args.u (A : Args) (r : Fin 256) (d : Fin 1024) : EReal :=
  A.x (ix2 r d) * (1 + A.mrow r 7 d) + A.mrow r 6 d

/-- A gated hidden channel: `s * sigmoid(s) * v`. -/
def act (s v : EReal) : EReal :=
  s * Ideal.div 1 (1 + Ideal.exp (0 - s)) * v

/-- Hidden channel `n` of row `r`. -/
def Args.hid (A : Args) (r : Fin 256) (n : Fin 2816) : EReal :=
  act (∑ d : Fin 1024, A.u r d * A.wg (ix2 d n)) (∑ d : Fin 1024, A.u r d * A.wu (ix2 d n))

/-- The down projection of row `r` at channel `l`. -/
def Args.down (A : Args) (r : Fin 256) (l : Fin 1024) : EReal := ∑ n : Fin 2816, A.hid r n * A.wd (ix2 n l)

/-- The residual sum before the layer norm, over a down projection `f`. -/
def Args.pre (A : Args) (r : Fin 256) (f : Fin 1024 → EReal) (l : Fin 1024) : EReal :=
  Ideal.ofBits .f32 0x3FB504F3#32 * A.x (ix2 r l) + Ideal.ofBits .f32 0x3F000000#32 * A.mrow r 8 l * f l

/-- The mean of a row of 1024 entries. -/
def mean (y : Fin 1024 → EReal) : EReal := Ideal.div (∑ l : Fin 1024, y l) (Ideal.ofBits .f32 0x44800000#32)

/-- The layer norm of a row `y` at channel `l`, with scale `g` and shift `b`. -/
def norm (y : Fin 1024 → EReal) (l : Fin 1024) (g b : EReal) : EReal :=
  (y l - mean y) * Ideal.rsqrt (mean (fun k => (y k - mean y) * (y k - mean y)) + Ideal.ofBits .f32 0x3727C5AC#32) * g + b

/-- The sub-layer's output. -/
def Args.out (A : Args) (r : Fin 256) (l : Fin 1024) : EReal :=
  norm (A.pre r (A.down r)) l (A.g (ix1 l)) (A.b (ix1 l))

/-- The output as an array. -/
def Args.outs (A : Args) : FVec Ideal ⟨2, ![256, 1024]⟩ .f32 := fun i => A.out ⟨(i 0).val, (i 0).isLt⟩ ⟨(i 1).val, (i 1).isLt⟩

/-- An array of rows that agrees at each pair of coordinates. -/
theorem outs_of (A : Args) (x : FVec Ideal ⟨2, ![256, 1024]⟩ .f32) (h : ∀ (r : Fin 256) (l : Fin 1024), x (ix2 r l) = A.out r l) :
    x = A.outs := by
  funext i
  obtain ⟨a, l, rfl⟩ : ∃ (a : Fin 256) (l : Fin 1024), i = ix2 a l := ⟨i 0, i 1, eq_ix2 i⟩
  exact h a l

end Cert.FfnSample
-- ==== Proof.FfnSample.Loop.lean ====
module

public import proofs.«01_k».proof.Proof.Gen.Kernel6Ideal.Value
public import Idealize.ShloMosaic.Lib.Pipeline.ValueKit
public import Idealize.ShloMosaic.Lib.VecWindow
public import proofs.«01_k».proof.Proof.FfnSample.Spec

@[expose] public section

/-!
The kernel's accumulator after any number of chunks.
-/

set_option maxRecDepth 16384

noncomputable section

namespace Cert.FfnSample

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- A chunk of the gate or up weights as a trip loads it. -/
def wide (x : Vec Ideal S11x1024x256 .bf16) (k : Fin k0_t1_loop.trips) : Vec Ideal S1x1024x256 .bf16 :=
  View.ld x (Rect.unit (s := S11x1024x256) (k0_off1 k) S1x1024x256.size (k0_off1_inb k))

/-- A chunk of the down weights as a trip loads it. -/
def tall (x : Vec Ideal S11x256x1024 .bf16) (k : Fin k0_t1_loop.trips) : Vec Ideal S1x256x1024 .bf16 :=
  View.ld x (Rect.unit (s := S11x256x1024) (k0_off2 k) S1x256x1024.size (k0_off2_inb k))

/-- The accumulator after `n` chunks. -/
def accAt (c : Dev nD) (t : Fin cfg0.N) : ℕ → Vec Ideal S256x1024 .f32
  | 0 => (k0_pay2 : FVec Ideal S256x1024 .f32)
  | n + 1 => if h : n < k0_t1_loop.trips then
      k0_pay3 (iblk m c 0 t) (iblk m c 2 t) (iblk m c 1 t) (wide (iblk m c 4 t) ⟨n, h⟩) (wide (iblk m c 5 t) ⟨n, h⟩)
        (accAt c t n) (tall (iblk m c 6 t) ⟨n, h⟩)
    else accAt c t n

/-- The pieces stored by the first `n` chunks. -/
abbrev pieces (c : Dev nD) (t : Fin cfg0.N) (G : BufTy.Contents (Elt Ideal) scM0_0.view.ty) (n : ℕ) : List (View.Piece (Elt Ideal) S256x1024 .f32) :=
  pb_k0_t1 Variants.none c none (grid0.coords t) (ms0_0 t) (hs0_0 t) (ms0_1 t) (hs0_1 t) (ms0_2 t) (hs0_2 t) (ms0_3 t) (hs0_3 t) (ms0_4 t) (hs0_4 t)
              (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 2 t)
              (iblk m c 1 t) ((hs0_4 t).unread (iblk m c 4 t)) ((hs0_5 t).unread (iblk m c 5 t)) ((hs0_6 t).unread (iblk m c 6 t)) G n

/-- The accumulator's contents after `n` chunks' stores. -/
theorem acc_of_pieces (c : Dev nD) (t : Fin cfg0.N) (G : BufTy.Contents (Elt Ideal) scM0_0.view.ty)
    (hG : View.readAt (Elt Ideal) (View.whole cc0_scratch0) (Rect.unit ![0, 0] ![256, 1024] inb_S256x1024_S256x1024_0_0).toLoadRect G = (k0_pay2 : FVec Ideal S256x1024 .f32))
    (n : ℕ) (hn : n ≤ k0_t1_loop.trips) :
    View.readAt (Elt Ideal) (View.whole cc0_scratch0) (Rect.unit ![0, 0] ![256, 1024] inb_S256x1024_S256x1024_0_0).toLoadRect
      (View.writes (View.whole cc0_scratch0) (Elt Ideal) G (pieces m c t G n)) = accAt m c t n := by
  induction n with
  | zero => exact hG
  | succ n ih =>
    have e := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t)
              (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 2 t)
              (iblk m c 1 t) ((hs0_4 t).unread (iblk m c 4 t)) ((hs0_5 t).unread (iblk m c 5 t)) ((hs0_6 t).unread (iblk m c 6 t)) G ⟨n, hn⟩
    unfold pieces
    rw [e]
    unfold tripL_k0_t1
    unfold trip_k0_t1
    dsimp only
    rw [List.singleton_append]
    refine (View.readAt_writes_full (View.whole cc0_scratch0) G inb_S256x1024_S256x1024_0_0 inb_S256x1024_S256x1024_0_0 _ _).trans ?_
    have ih' := ih (Nat.le_of_succ_le hn)
    unfold pieces at ih'
    rw [accAt, dif_pos (Nat.lt_of_succ_le hn)]
    have hw (p : Memref sig .tc .vmem S11x1024x256 .bf16) (hp : p.IsWhole) (x : Vec Ideal S11x1024x256 .bf16) (k : Fin k0_t1_loop.trips) :
      View.readAt (Elt Ideal) p.view (Rect.unit (k0_off1 k) ![1, 1024, 256] (k0_off1_inb k)).toLoadRect (hp.unread x) = wide x k := by
      show View.ld (p.view.read (Elt Ideal) (hp.unread x)) _ = _
      rw [hp.read_unread]
      rfl
    have ht (p : Memref sig .tc .vmem S11x256x1024 .bf16) (hp : p.IsWhole) (x : Vec Ideal S11x256x1024 .bf16) (k : Fin k0_t1_loop.trips) :
      View.readAt (Elt Ideal) p.view (Rect.unit (k0_off2 k) ![1, 256, 1024] (k0_off2_inb k)).toLoadRect (hp.unread x) = tall x k := by
      show View.ld (p.view.read (Elt Ideal) (hp.unread x)) _ = _
      rw [hp.read_unread]
      rfl
    rw [hw, hw, ht]
    exact congrArg (fun a => k0_pay3 (iblk m c 0 t) (iblk m c 2 t) (iblk m c 1 t) (wide (iblk m c 4 t) ⟨n, hn⟩) (wide (iblk m c 5 t) ⟨n, hn⟩)
        a (tall (iblk m c 6 t) ⟨n, hn⟩)) ih'

end Cert.FfnSample
-- ==== Proof.FfnSample.Operands.lean ====
module

public import proofs.«01_k».proof.Proof.Gen.Kernel6Ideal.Value
public import Idealize.ShloMosaic.Lib.Pipeline.ValueKit
public import proofs.«01_k».proof.Proof.FfnSample.Spec

@[expose] public section

/-!
What the kernel's windows hold at a grid point, entry by entry, over the kernel's arguments.
-/

set_option maxRecDepth 16384

noncomputable section

namespace Cert.FfnSample

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The kernel's arguments as the sub-layer's. -/
def kArgs (c : Dev nD) : Args where
  x := m ((c : Thread nD τ).loc main_arg0)
  md := m ((c : Thread nD τ).loc main_arg1)
  wg := m ((c : Thread nD τ).loc main_arg2)
  wu := m ((c : Thread nD τ).loc main_arg3)
  wd := m ((c : Thread nD τ).loc main_arg4)
  g := m ((c : Thread nD τ).loc main_arg5)
  b := m ((c : Thread nD τ).loc main_arg6)

/-- Each sequence's modulation, once for each of its eight rows. -/
theorem host_v1 (c : Dev nD) : V m c main_v1 = shapeCast S256x9216 (broadcastInDim S32x8x9216 ![0, 2] bcast_S32x9216_S32x8x9216_0_2 (kArgs m c).md) shapeCasts_S32x8x9216_S256x9216 := by
  rfl

/-- A row's modulation. -/
theorem md_at (c : Dev nD) (R : Fin 256) (k : Fin 9216) : (V m c main_v1 : FVec Ideal S256x9216 .f32) (ix2 R k) = (kArgs m c).md (ix2 ⟨R.val / 8, by omega⟩ k) := by
  rw [host_v1]
  generalize (kArgs m c).md = w
  pointwise

/-- The gate weights, one chunk of 256 hidden channels after another. -/
theorem host_v4 (c : Dev nD) : V m c main_v4 = truncf .bf16 (transpose S11x1024x256 [1, 0, 2] (shapeCast S1024x11x256 (kArgs m c).wg shapeCasts_S1024x2816_S1024x11x256) transposes_S1024x11x256_S11x1024x256_1_0_2) bitsLt_bf16_f32 := by
  unfold V
  simp only [hostOps0]
  simp only [Idealize.ShloMosaic.StableHlo.after_cons, Idealize.ShloMosaic.StableHlo.after_nil]
  after_results_simp
  after_results_loop
  rfl

/-- The up weights, one chunk after another. -/
theorem host_v7 (c : Dev nD) : V m c main_v7 = truncf .bf16 (transpose S11x1024x256 [1, 0, 2] (shapeCast S1024x11x256 (kArgs m c).wu shapeCasts_S1024x2816_S1024x11x256) transposes_S1024x11x256_S11x1024x256_1_0_2) bitsLt_bf16_f32 := by
  unfold V
  simp only [hostOps0]
  simp only [Idealize.ShloMosaic.StableHlo.after_cons, Idealize.ShloMosaic.StableHlo.after_nil]
  after_results_simp
  after_results_loop
  rfl

/-- The down weights, one chunk after another. -/
theorem host_v9 (c : Dev nD) : V m c main_v9 = truncf .bf16 (shapeCast S11x256x1024 (kArgs m c).wd shapeCasts_S2816x1024_S11x256x1024) bitsLt_bf16_f32 := by
  unfold V
  simp only [hostOps0]
  simp only [Idealize.ShloMosaic.StableHlo.after_cons, Idealize.ShloMosaic.StableHlo.after_nil]
  after_results_simp
  after_results_loop
  rfl

/-- The layer norm's scale as a row. -/
theorem host_v10 (c : Dev nD) : V m c main_v10 = broadcastInDim S1x1024 ![1] bcast_S1024_S1x1024_1 (kArgs m c).g := by
  unfold V
  simp only [hostOps0]
  simp only [Idealize.ShloMosaic.StableHlo.after_cons, Idealize.ShloMosaic.StableHlo.after_nil]
  after_results_simp
  after_results_loop
  rfl

/-- The layer norm's shift as a row. -/
theorem host_v11 (c : Dev nD) : V m c main_v11 = broadcastInDim S1x1024 ![1] bcast_S1024_S1x1024_1 (kArgs m c).b := by
  unfold V
  simp only [hostOps0]
  simp only [Idealize.ShloMosaic.StableHlo.after_cons, Idealize.ShloMosaic.StableHlo.after_nil]
  after_results_simp
  after_results_loop
  rfl

/-- The windows' block indices at every grid point. -/
theorem idx : ∀ t : Fin cfg0.N, win0_0.index t = ![t.val, 0] ∧ win0_1.index t = ![t.val, 6] ∧ win0_2.index t = ![t.val, 7]
    ∧ win0_3.index t = ![t.val, 8] ∧ win0_4.index t = ![0, 0, 0] ∧ win0_5.index t = ![0, 0, 0] ∧ win0_6.index t = ![0, 0, 0]
    ∧ win0_7.index t = ![0, 0] ∧ win0_8.index t = ![0, 0] ∧ win0_9.index t = ![t.val, 0] :=
  (by decide +kernel : ∀ t : Fin grid0.N, _)

/-- Row `r` of the point's block of 256 rows. -/
def rowOf (t : Fin cfg0.N) (r : Fin 256) : Fin 256 := ⟨t.val * 256 + r.val, by have : t.val < 1 := t.isLt; omega⟩

/-- Hidden channel `k` of chunk `j`. -/
def chanOf (j : Fin 11) (k : Fin 256) : Fin 2816 := ⟨j.val * 256 + k.val, by omega⟩

/-- The point's rows. -/
theorem b0 (c : Dev nD) (t : Fin cfg0.N) (r : Fin 256) (d : Fin 1024) : iblk m c 0 t (ix2 r d) = (kArgs m c).x (ix2 (rowOf t r) d) := by
  unfold kArgs rowOf
  blk_point [iblk, V, idx t]

/-- The modulation's shift. -/
theorem b1 (c : Dev nD) (t : Fin cfg0.N) (r : Fin 256) (d : Fin 1024) : iblk m c 1 t (ix2 r d) = (kArgs m c).mrow (rowOf t r) 6 d := by
  have e : iblk m c 1 t (ix2 r d) = (V m c main_v1 : FVec Ideal S256x9216 .f32) (ix2 (rowOf t r) ⟨6 * 1024 + d.val, by omega⟩) := by
    unfold rowOf
    blk_point [iblk, idx t]
  rw [e, md_at]
  rfl

/-- The modulation's scale. -/
theorem b2 (c : Dev nD) (t : Fin cfg0.N) (r : Fin 256) (d : Fin 1024) : iblk m c 2 t (ix2 r d) = (kArgs m c).mrow (rowOf t r) 7 d := by
  have e : iblk m c 2 t (ix2 r d) = (V m c main_v1 : FVec Ideal S256x9216 .f32) (ix2 (rowOf t r) ⟨7 * 1024 + d.val, by omega⟩) := by
    unfold rowOf
    blk_point [iblk, idx t]
  rw [e, md_at]
  rfl

/-- The modulation's gate. -/
theorem b3 (c : Dev nD) (t : Fin cfg0.N) (r : Fin 256) (d : Fin 1024) : iblk m c 3 t (ix2 r d) = (kArgs m c).mrow (rowOf t r) 8 d := by
  have e : iblk m c 3 t (ix2 r d) = (V m c main_v1 : FVec Ideal S256x9216 .f32) (ix2 (rowOf t r) ⟨8 * 1024 + d.val, by omega⟩) := by
    unfold rowOf
    blk_point [iblk, idx t]
  rw [e, md_at]
  rfl

/-- A chunk of the gate weights. -/
theorem b4 (c : Dev nD) (t : Fin cfg0.N) (j : Fin 11) (d : Fin 1024) (k : Fin 256) :
    iblk m c 4 t (ix3 j d k) = (kArgs m c).wg (ix2 d (chanOf j k)) := by
  have e : iblk m c 4 t (ix3 j d k) = (V m c main_v4 : FVec Ideal S11x1024x256 .bf16) (ix3 j d k) := by
    blk_ext [iblk, idx t]
  rw [e, host_v4]
  unfold chanOf
  pointwise

/-- A chunk of the up weights. -/
theorem b5 (c : Dev nD) (t : Fin cfg0.N) (j : Fin 11) (d : Fin 1024) (k : Fin 256) :
    iblk m c 5 t (ix3 j d k) = (kArgs m c).wu (ix2 d (chanOf j k)) := by
  have e : iblk m c 5 t (ix3 j d k) = (V m c main_v7 : FVec Ideal S11x1024x256 .bf16) (ix3 j d k) := by
    blk_ext [iblk, idx t]
  rw [e, host_v7]
  unfold chanOf
  pointwise

/-- A chunk of the down weights. -/
theorem b6 (c : Dev nD) (t : Fin cfg0.N) (j : Fin 11) (k : Fin 256) (l : Fin 1024) :
    iblk m c 6 t (ix3 j k l) = (kArgs m c).wd (ix2 (chanOf j k) l) := by
  have e : iblk m c 6 t (ix3 j k l) = (V m c main_v9 : FVec Ideal S11x256x1024 .bf16) (ix3 j k l) := by
    blk_ext [iblk, idx t]
  rw [e, host_v9]
  unfold chanOf
  pointwise

/-- The layer norm's scale. -/
theorem b7 (c : Dev nD) (t : Fin cfg0.N) (l : Fin 1024) : iblk m c 7 t (ix2 0 l) = (kArgs m c).g (ix1 l) := by
  have e : iblk m c 7 t (ix2 0 l) = (V m c main_v10 : FVec Ideal S1x1024 .f32) (ix2 0 l) := by
    blk_ext [iblk, idx t]
  rw [e, host_v10]
  pointwise

/-- The layer norm's shift. -/
theorem b8 (c : Dev nD) (t : Fin cfg0.N) (l : Fin 1024) : iblk m c 8 t (ix2 0 l) = (kArgs m c).b (ix1 l) := by
  have e : iblk m c 8 t (ix2 0 l) = (V m c main_v11 : FVec Ideal S1x1024 .f32) (ix2 0 l) := by
    blk_ext [iblk, idx t]
  rw [e, host_v11]
  pointwise

end Cert.FfnSample
-- ==== Proof.FfnSample.Value.lean ====
module

public import proofs.«01_k».proof.Proof.FfnSample.Loop
public import proofs.«01_k».proof.Proof.FfnSample.Operands

@[expose] public section

/-!
The kernel's result after the run, entry by entry, over its arguments.
-/

set_option maxRecDepth 16384

noncomputable section

namespace Cert.FfnSample

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The loop makes eleven trips. -/
theorem trips_eq : k0_t1_loop.trips = 11 := by decide +kernel

/-- A trip as a chunk. -/
def chunkOf (k : Fin k0_t1_loop.trips) : Fin 11 := ⟨k.val, lt_of_lt_of_eq k.isLt trips_eq⟩

/-- A loaded chunk of the gate or up weights at an entry. -/
theorem wide_at (x : Vec Ideal S11x1024x256 .bf16) (k : Fin k0_t1_loop.trips) (d : Fin 1024) (j : Fin 256) :
    wide x k (ix3 0 d j) = x (ix3 (chunkOf k) d j) := by
  unfold wide
  refine View.ld_unit_apply_of x (k0_off1 k) S1x1024x256.size (k0_off1_inb k) (ix3 0 d j) (ix3 (chunkOf k) d j) fun a => ?_
  have e := congrFun (k0_off1_eq k) a
  refine Eq.trans ?_ (congrArg (· + ((ix3 0 d j : S1x1024x256.Idx) a).val) e.symm)
  fin_cases a <;> simp [ix3, chunkOf]

/-- A loaded chunk of the down weights at an entry. -/
theorem tall_at (x : Vec Ideal S11x256x1024 .bf16) (k : Fin k0_t1_loop.trips) (j : Fin 256) (l : Fin 1024) :
    tall x k (ix3 0 j l) = x (ix3 (chunkOf k) j l) := by
  unfold tall
  refine View.ld_unit_apply_of x (k0_off2 k) S1x256x1024.size (k0_off2_inb k) (ix3 0 j l) (ix3 (chunkOf k) j l) fun a => ?_
  have e := congrFun (k0_off2_eq k) a
  refine Eq.trans ?_ (congrArg (· + ((ix3 0 j l : S1x256x1024.Idx) a).val) e.symm)
  fin_cases a <;> simp [ix3, chunkOf]

/-- A trip's new accumulator at an entry. -/
theorem pay3_at (v0 : Vec Ideal S256x1024 .f32) (v1 v6 : Vec Ideal S256x1024 .f32) (v50 v54 : Vec Ideal S1x1024x256 .bf16) (v67 : Vec Ideal S256x1024 .f32)
    (v69 : Vec Ideal S1x256x1024 .bf16) (r : Fin 256) (l : Fin 1024) :
    k0_pay3 v0 v1 v6 v50 v54 v67 v69 (ix2 r l) = v67 (ix2 r l)
      + ∑ j : Fin 256, act (∑ d : Fin 1024, (v0 (ix2 r d) * (1 + v1 (ix2 r d)) + v6 (ix2 r d)) * v50 (ix3 0 d j))
          (∑ d : Fin 1024, (v0 (ix2 r d) * (1 + v1 (ix2 r d)) + v6 (ix2 r d)) * v54 (ix3 0 d j)) * v69 (ix3 0 j l) := by
  unfold act
  pointwise [k0_pay3]

/-- The part of the down projection that chunk `j` contributes. -/
def Args.part (A : Args) (R : Fin 256) (l : Fin 1024) (j : Fin 11) : EReal :=
  ∑ k : Fin 256, A.hid R (chanOf j k) * A.wd (ix2 (chanOf j k) l)

/-- What a trip adds at an entry. -/
theorem trip_at (c : Dev nD) (t : Fin cfg0.N) (k : Fin k0_t1_loop.trips) (a : Vec Ideal S256x1024 .f32) (r : Fin 256) (l : Fin 1024) :
    k0_pay3 (iblk m c 0 t) (iblk m c 2 t) (iblk m c 1 t) (wide (iblk m c 4 t) k) (wide (iblk m c 5 t) k) a (tall (iblk m c 6 t) k) (ix2 r l)
      = a (ix2 r l) + (kArgs m c).part (rowOf t r) l (chunkOf k) := by
  refine (pay3_at _ _ _ _ _ _ _ r l).trans ?_
  simp only [wide_at, tall_at, b0, b1, b2, b4, b5, b6]
  rfl

/-- The parts of the first chunks. -/
theorem acc_at (c : Dev nD) (t : Fin cfg0.N) (r : Fin 256) (l : Fin 1024) (n : ℕ) (hn : n ≤ k0_t1_loop.trips) :
    accAt m c t n (ix2 r l) = ∑ j ∈ Finset.range n, (if h : j < 11 then (kArgs m c).part (rowOf t r) l ⟨j, h⟩ else 0) := by
  induction n with
  | zero =>
    rw [Finset.range_zero, Finset.sum_empty]
    show (k0_pay2 : FVec Ideal S256x1024 .f32) (ix2 r l) = 0
    pointwise [k0_pay2]
  | succ n ih =>
    have h11 : n < 11 := lt_of_lt_of_eq hn trips_eq
    rw [Finset.sum_range_succ, ← ih (Nat.le_of_succ_le hn), dif_pos h11, accAt, dif_pos (Nat.lt_of_succ_le hn)]
    exact trip_at m c t ⟨n, hn⟩ _ r l

/-- All chunks together are the down projection. -/
theorem parts_eq (A : Args) (R : Fin 256) (l : Fin 1024) :
    ∑ j ∈ Finset.range 11, (if h : j < 11 then A.part R l ⟨j, h⟩ else 0) = A.down R l := by
  rw [Finset.sum_range]
  unfold Args.down
  refine Eq.trans ?_ (Fin.sum_univ_tiles 11 256 rfl (fun n : Fin 2816 => A.hid R n * A.wd (ix2 n l))).symm
  refine Finset.sum_congr rfl fun j _ => ?_
  rw [dif_pos j.isLt]
  rfl

/-- The accumulator after the last chunk. -/
theorem acc_last (c : Dev nD) (t : Fin cfg0.N) (r : Fin 256) (l : Fin 1024) :
    accAt m c t k0_t1_loop.trips (ix2 r l) = (kArgs m c).down (rowOf t r) l := by
  rw [acc_at m c t r l _ le_rfl, trips_eq, parts_eq]

/-- The residual sum at an entry. -/
theorem pay4_at (c : Dev nD) (t : Fin cfg0.N) (a : Vec Ideal S256x1024 .f32) (r : Fin 256) (l : Fin 1024) :
    k0_pay4 (iblk m c 0 t) (iblk m c 3 t) a (ix2 r l) = (kArgs m c).pre (rowOf t r) (fun k => a (ix2 r k)) l := by
  have e (v0 : Vec Ideal S256x1024 .f32) (v17 : Vec Ideal S256x1024 .f32) : k0_pay4 v0 v17 a (ix2 r l)
      = Ideal.ofBits .f32 0x3FB504F3#32 * v0 (ix2 r l) + Ideal.ofBits .f32 0x3F000000#32 * v17 (ix2 r l) * a (ix2 r l) := by
    pointwise [k0_pay4]
  rw [e, b0, b3]
  rfl

/-- The layer norm at an entry. -/
theorem norm_at (v0 : Vec Ideal S256x1024 .f32) (v17 : Vec Ideal S256x1024 .f32) (a : Vec Ideal S256x1024 .f32) (g b : Vec Ideal S1x1024 .f32)
    (r : Fin 256) (l : Fin 1024) :
    k0_pay1 (k0_pay4 v0 v17 a) (k0_pay5 g) (k0_pay6 b) (k0_pay7 v0 v17 a) k0_pay8 (ix2 r l)
      = norm (fun k => k0_pay4 v0 v17 a (ix2 r k)) l (g (ix2 0 l)) (b (ix2 0 l)) := by
  unfold k0_pay7 norm mean
  generalize k0_pay4 v0 v17 a = y
  pointwise [k0_pay1, k0_pay5, k0_pay6, k0_pay8]

/-- The point's block of the result. -/
theorem point_at (c : Dev nD) (t : Fin cfg0.N) (a : Vec Ideal S256x1024 .f32) (r : Fin 256) (l : Fin 1024)
    (ha : ∀ l, a (ix2 r l) = (kArgs m c).down (rowOf t r) l) :
    k0_pay1 (k0_pay4 (iblk m c 0 t) (iblk m c 3 t) a) (k0_pay5 (iblk m c 7 t)) (k0_pay6 (iblk m c 8 t)) (k0_pay7 (iblk m c 0 t) (iblk m c 3 t) a) k0_pay8 (ix2 r l)
      = (kArgs m c).out (rowOf t r) l := by
  refine (norm_at _ _ _ _ _ r l).trans ?_
  simp only [pay4_at, b7, b8, ha]
  rfl

end Cert.FfnSample
-- ==== Proof.FfnSample.Finals.lean ====
module

public import proofs.«01_k».proof.Proof.FfnSample.Value

@[expose] public section

/-!
The kernel's result array after the run.
-/

set_option maxRecDepth 16384

noncomputable section

namespace Cert.FfnSample

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- What the body loads after the loop: the accumulator after the last chunk. -/
theorem loaded (c : Dev nD) (t : Fin cfg0.N) (G : BufTy.Contents (Elt Ideal) scM0_0.view.ty)
    (hG : G = (View.whole cc0_scratch0).writes (Elt Ideal) (View.whole cc0_scratch0).junk
      [⟨Rect.unit ![0, 0] ![256, 1024] inb_S256x1024_S256x1024_0_0, (k0_pay2 : FVec Ideal S256x1024 .f32)⟩]) :
    (View.whole cc0_scratch0).readCov (Val := Elt Ideal) (pieces m c t G k0_t1_loop.trips
        ++ [⟨Rect.unit ![0, 0] ![256, 1024] inb_S256x1024_S256x1024_0_0, (k0_pay2 : FVec Ideal S256x1024 .f32)⟩])
      (Rect.unit (s := S256x1024) ![0, 0] ![256, 1024] inb_S256x1024_S256x1024_0_0).toLoadRect = accAt m c t k0_t1_loop.trips := by
  refine Eq.trans ?_ (acc_of_pieces m c t G ?_ k0_t1_loop.trips le_rfl)
  · unfold View.readCov
    rw [View.writes_append, ← hG]
  · rw [hG]
    exact View.readAt_writes_full (View.whole cc0_scratch0) _ inb_S256x1024_S256x1024_0_0 inb_S256x1024_S256x1024_0_0 _ _

/-- A row and a channel in their block of 256 rows, given by their coordinates. -/
theorem out_at (A : Args) (t : Fin cfg0.N) (r : Fin 256) (l : Fin 1024) (a b : ℕ) (h : a < 256) (h' : b < 1024) (ha : a = t.val * 256 + r.val) (hb : b = l.val) :
    A.out (rowOf t r) l = A.out ⟨a, h⟩ ⟨b, h'⟩ := by
  subst ha hb
  rfl

set_option maxHeartbeats 1600000 in
/-- The sub-layer's output, at every grid point. -/
theorem final (c : Dev nD) : (dats m 0 c).arrAt 9 (cfgs 0).N = (kArgs m c).outs := by
  refine (dats m 0 c).arrAt_eq_of_covers 9 _ (by decide +kernel) fun t _ y => ?_
  blk_simp
  rw [after0_9]
  unfold outsAt0
  frame_out
  obtain ⟨r, l, rfl⟩ : ∃ (r : Fin 256) (l : Fin 1024), y = ix2 r l := ⟨y 0, y 1, eq_ix2 y⟩
  refine (point_at m c t _ r l fun l => (congrFun (loaded m c t _ rfl) (ix2 r l)).trans (acc_last m c t r l)).trans ?_
  obtain ⟨-, -, -, -, -, -, -, -, -, e⟩ := idx t
  have e0 : win0_9.index t 0 = t.val := congrFun e 0
  have e1 : win0_9.index t 1 = 0 := congrFun e 1
  refine out_at (kArgs m c) t r l _ _ _ _ ?_ ?_
  · rw [View.emb_slice, Function.Embedding.trans_apply, View.emb_whole, Function.Embedding.refl_apply, Rect.emb_apply]
    show win0_9.index t 0 * 256 + 1 * r.val = t.val * 256 + r.val
    rw [e0, one_mul]
  · rw [View.emb_slice, Function.Embedding.trans_apply, View.emb_whole, Function.Embedding.refl_apply, Rect.emb_apply]
    show win0_9.index t 1 * 1024 + 1 * l.val = l.val
    rw [e1, Nat.zero_mul, Nat.zero_add, one_mul]

end Cert.FfnSample
-- ==== Proof.FfnSample.RefValue.lean ====
module

public import proofs.«01_k».proof.Proof.Gen.Reference6Ideal.Run
public import Idealize.ShloMosaic.Lib.Pipeline.ValueKit
public import proofs.«01_k».proof.Proof.FfnSample.Spec

@[expose] public section

/-!
The reference's result, entry by entry: each array it computes on the way, named, and read at an entry.
-/

set_option maxRecDepth 16384

noncomputable section

namespace Cert.FfnSample

open Idealize.ShloMosaic Idealize.ShloMosaic.TcCoe Idealize.SL.Sem Idealize.ShloMosaic.StableHlo
open Cert.Reference6Ideal Cert.Reference6Ideal.Gen Cert.Reference6Ideal.Value

/-- The reference's modulated rows. -/
def refU (x : FVec Ideal S256x1024 .f32) (md : FVec Ideal S32x9216 .f32) : FVec Ideal S256x1024 .f32 :=
  shapeCast S256x1024 (addf (mulf (shapeCast S32x8x1024 x shapeCasts_S256x1024_S32x8x1024) (broadcastInDim S32x8x1024 ![0, 1, 2] bcast_S32x1x1024_S32x8x1024_0_1_2 (addf (broadcastInDim S32x1x1024 ![] bcast_S_S32x1x1024 (constant S_ .f32 0x3F800000#32)) (broadcastInDim S32x1x1024 ![0, 2] bcast_S32x1024_S32x1x1024_0_2 (shapeCast S32x1024 (extractStridedSlice S32x1x1024 ![0, 7, 0] (shapeCast S32x9x1024 md shapeCasts_S32x9216_S32x9x1024) slices_S32x9x1024_S32x1x1024_0_7_0) shapeCasts_S32x1x1024_S32x1024))))) (broadcastInDim S32x8x1024 ![0, 1, 2] bcast_S32x1x1024_S32x8x1024_0_1_2 (broadcastInDim S32x1x1024 ![0, 2] bcast_S32x1024_S32x1x1024_0_2 (shapeCast S32x1024 (extractStridedSlice S32x1x1024 ![0, 6, 0] (shapeCast S32x9x1024 md shapeCasts_S32x9216_S32x9x1024) slices_S32x9x1024_S32x1x1024_0_6_0) shapeCasts_S32x1x1024_S32x1024)))) shapeCasts_S32x8x1024_S256x1024

/-- The reference's gated hidden channels. -/
def refHid (u : FVec Ideal S256x1024 .f32) (wg wu : FVec Ideal S1024x2816 .f32) : FVec Ideal S256x2816 .f32 :=
  mulf (mulf (Host.dotGeneral dot_S256x1024_S1024x2816_S256x2816_1_0_0_1_n_n none u wg) (Host.divf (broadcastInDim S256x2816 ![] bcast_S_S256x2816 (constant S_ .f32 0x3F800000#32)) (addf (broadcastInDim S256x2816 ![] bcast_S_S256x2816 (constant S_ .f32 0x3F800000#32)) (Host.exp (Host.negf (Host.dotGeneral dot_S256x1024_S1024x2816_S256x2816_1_0_0_1_n_n none u wg)))))) (Host.dotGeneral dot_S256x1024_S1024x2816_S256x2816_1_0_0_1_n_n none u wu)

/-- The reference's residual sum. -/
def refPre (x : FVec Ideal S256x1024 .f32) (md : FVec Ideal S32x9216 .f32) (a : FVec Ideal S256x2816 .f32) (wd : FVec Ideal S2816x1024 .f32) :
    FVec Ideal S256x1024 .f32 :=
  addf (mulf (broadcastInDim S256x1024 ![] bcast_S_S256x1024 (constant S_ .f32 0x3FB504F3#32)) x) (shapeCast S256x1024 (mulf (broadcastInDim S32x8x1024 ![0, 1, 2] bcast_S32x1x1024_S32x8x1024_0_1_2 (mulf (broadcastInDim S32x1x1024 ![] bcast_S_S32x1x1024 (constant S_ .f32 0x3F000000#32)) (broadcastInDim S32x1x1024 ![0, 2] bcast_S32x1024_S32x1x1024_0_2 (shapeCast S32x1024 (extractStridedSlice S32x1x1024 ![0, 8, 0] (shapeCast S32x9x1024 md shapeCasts_S32x9216_S32x9x1024) slices_S32x9x1024_S32x1x1024_0_8_0) shapeCasts_S32x1x1024_S32x1024)))) (shapeCast S32x8x1024 (Host.dotGeneral dot_S256x2816_S2816x1024_S256x1024_1_0_0_1_n_n none a wd) shapeCasts_S256x1024_S32x8x1024)) shapeCasts_S32x8x1024_S256x1024)

/-- The reference's row means. -/
def refMean (y : FVec Ideal S256x1024 .f32) : FVec Ideal S256x1 .f32 :=
  Host.divf (broadcastInDim S256x1 ![0] bcast_S256_S256x1_0 (Host.reduceAdd y (constant S_ .f32 0x00000000#32) reducesTo_S256x1024_S256_d1 h_S_)) (broadcastInDim S256x1 ![] bcast_S_S256x1 (constant S_ .f32 0x44800000#32))

/-- The reference's rows less a column. -/
def refLess (y : FVec Ideal S256x1024 .f32) (mu : FVec Ideal S256x1 .f32) : FVec Ideal S256x1024 .f32 :=
  subf y (broadcastInDim S256x1024 ![0, 1] bcast_S256x1_S256x1024_0_1 mu)

/-- The reference's layer norm. -/
def refNorm (d : FVec Ideal S256x1024 .f32) (va : FVec Ideal S256x1 .f32) (g b : FVec Ideal S1024 .f32) : FVec Ideal S256x1024 .f32 :=
  addf (mulf (mulf d (broadcastInDim S256x1024 ![0, 1] bcast_S256x1_S256x1024_0_1 (Host.rsqrt (addf va (broadcastInDim S256x1 ![] bcast_S_S256x1 (constant S_ .f32 0x3727C5AC#32)))))) (broadcastInDim S256x1024 ![0, 1] bcast_S1x1024_S256x1024_0_1 (broadcastInDim S1x1024 ![1] bcast_S1024_S1x1024_1 g))) (broadcastInDim S256x1024 ![0, 1] bcast_S1x1024_S256x1024_0_1 (broadcastInDim S1x1024 ![1] bcast_S1024_S1x1024_1 b))

/-- The reference's result as the layer norm of its residual sum. -/
def refOut (A : Args) : FVec Ideal S256x1024 .f32 :=
  refNorm (refLess (refPre A.x A.md (refHid (refU A.x A.md) A.wg A.wu) A.wd) (refMean (refPre A.x A.md (refHid (refU A.x A.md) A.wg A.wu) A.wd)))
    (refMean (mulf (refLess (refPre A.x A.md (refHid (refU A.x A.md) A.wg A.wu) A.wd) (refMean (refPre A.x A.md (refHid (refU A.x A.md) A.wg A.wu) A.wd))) (refLess (refPre A.x A.md (refHid (refU A.x A.md) A.wg A.wu) A.wd) (refMean (refPre A.x A.md (refHid (refU A.x A.md) A.wg A.wu) A.wd))))) A.g A.b

/-- The modulated rows at an entry. -/
theorem refU_at (A : Args) (r : Fin 256) (d : Fin 1024) : refU A.x A.md (ix2 r d) = A.u r d := by
  unfold Args.u Args.mrow
  pointwise [refU]

/-- The gated hidden channels at an entry. -/
theorem refHid_at (u : FVec Ideal S256x1024 .f32) (wg wu : FVec Ideal S1024x2816 .f32) (r : Fin 256) (n : Fin 2816) :
    refHid u wg wu (ix2 r n) = act (∑ d : Fin 1024, u (ix2 r d) * wg (ix2 d n)) (∑ d : Fin 1024, u (ix2 r d) * wu (ix2 d n)) := by
  unfold act
  rw [zero_sub]
  pointwise [refHid]

/-- The residual sum at an entry. -/
theorem refPre_at (A : Args) (a : FVec Ideal S256x2816 .f32) (r : Fin 256) (l : Fin 1024) :
    refPre A.x A.md a A.wd (ix2 r l) = A.pre r (fun l => ∑ n : Fin 2816, a (ix2 r n) * A.wd (ix2 n l)) l := by
  unfold Args.pre Args.mrow
  pointwise [refPre]

/-- A row's mean. -/
theorem refMean_at (y : FVec Ideal S256x1024 .f32) (r : Fin 256) : refMean y (ix2 r 0) = mean (fun l => y (ix2 r l)) := by
  unfold mean
  pointwise [refMean]

/-- A row less its column's entry. -/
theorem refLess_at (y : FVec Ideal S256x1024 .f32) (mu : FVec Ideal S256x1 .f32) (r : Fin 256) (l : Fin 1024) :
    refLess y mu (ix2 r l) = y (ix2 r l) - mu (ix2 r 0) := by
  pointwise [refLess]

/-- The layer norm at an entry. -/
theorem refNorm_at (d : FVec Ideal S256x1024 .f32) (va : FVec Ideal S256x1 .f32) (g b : FVec Ideal S1024 .f32) (r : Fin 256) (l : Fin 1024) :
    refNorm d va g b (ix2 r l) = d (ix2 r l) * Ideal.rsqrt (va (ix2 r 0) + Ideal.ofBits .f32 0x3727C5AC#32) * g (ix1 l) + b (ix1 l) := by
  pointwise [refNorm]

/-- A product of arrays at an entry. -/
theorem square_at (d : FVec Ideal S256x1024 .f32) (i : S256x1024.Idx) : mulf d d i = d i * d i := rfl

/-- The reference's result at an entry. -/
theorem refOut_at (A : Args) (r : Fin 256) (l : Fin 1024) : refOut A (ix2 r l) = A.out r l := by
  unfold refOut Args.out norm
  simp only [refNorm_at, refLess_at, refMean_at, square_at, refPre_at, refHid_at, refU_at]
  rfl

/-- The reference's arguments as the sub-layer's. -/
def refArgs (m : (ℓ : Loc nD τ sig) → Buf (Elt Ideal) ℓ) (c : Dev nD) : Args where
  x := m ((c.tc : Thread nD τ).loc main_arg0)
  md := m ((c.tc : Thread nD τ).loc main_arg1)
  wg := m ((c.tc : Thread nD τ).loc main_arg2)
  wu := m ((c.tc : Thread nD τ).loc main_arg3)
  wd := m ((c.tc : Thread nD τ).loc main_arg4)
  g := m ((c.tc : Thread nD τ).loc main_arg5)
  b := m ((c.tc : Thread nD τ).loc main_arg6)

/-- The reference's result is that of the sub-layer. -/
theorem ref_out (m : (ℓ : Loc nD τ sig) → Buf (Elt Ideal) ℓ) (c : Dev nD) : res_main_v56 m c = refOut (refArgs m c) := rfl

end Cert.FfnSample
-- ==== Proof.FfnSample.Agreement.lean ====
module

public import proofs.«01_k».proof.Defs
public import proofs.«01_k».proof.Proof.Gen.Kernel6Ideal.Value
public import proofs.«01_k».proof.Proof.FfnSample.Finals
public import proofs.«01_k».proof.Proof.FfnSample.RefValue

@[expose] public section

/-!
The sample batch's feed-forward call and its reference end with equal results.
-/

noncomputable section

namespace Cert.FfnSample

open Idealize.ShloMosaic Idealize.ShloMosaic.TcCoe Idealize.SL.Sem

/-- Memories that agree on the arguments give both programs the same sub-layer. -/
theorem args_agree (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) :
    refArgs m' c = kArgs m c := by
  obtain ⟨h0, h1, h2, h3, h4, h5, h6⟩ := h
  unfold refArgs kArgs
  rw [Args.mk.injEq]
  exact ⟨h0, h1, h2, h3, h4, h5, h6⟩

/-- Equal results, as the claim states them. -/
theorem equal : algebraic_Kernel6Ideal_Reference6Ideal (hKernel6Ideal := Cert.Kernel6Ideal.Gen.facts) (hReference6Ideal := Cert.Reference6Ideal.Gen.facts) := by
  intro m g m' g' hpre hagree
  refine ⟨fun c => (kArgs m c).outs,
    (θ_run _ _ _).mono (fun r h c => ⟨(h c).1.trans (final m c), (h c).2⟩) (Cert.Kernel6Ideal.Value.run_blocks m g),
    (θ_run _ _ _).mono (fun r h c => ⟨(h c).1.trans ?_, (h c).2⟩) (Cert.Reference6Ideal.Value.run m' g')⟩
  show _ = (kArgs m c).outs
  rw [← args_agree m m' c (hagree c)]
  exact outs_of _ _ (fun r l => (congrFun (ref_out m' c) (ix2 r l)).trans (refOut_at (refArgs m' c) r l))

end Cert.FfnSample
-- ==== Proof.MergeSample.Spec.lean ====
module

public import Idealize.ShloMosaic.Lib.Pipeline.ValueKit
public import Idealize.ShloMosaic.Lib.IdealHost
public import proofs.«01_k».proof.Proof.Ffn.Spec

@[expose] public section

/-!
The merge of the four branches of the sample batch, one entry at a time: the modulated row, the four gates, the gated sum of the branches'
projections, the residual sum and the layer norm. Both programs are compared with it.
-/

noncomputable section

namespace Cert.MergeSample

open Idealize.ShloMosaic
open Cert.Ffn (mean)

/-- The arrays the sub-layer reads: the rows, the layer's modulation of each sequence, the four branches, the input projection (its last
columns make the gates), the branches' projections, the output projection, and the layer norm's scale and shift. -/
structure Args where
  x : FVec Ideal ⟨2, ![256, 1024]⟩ .f32
  md : FVec Ideal ⟨2, ![32, 9216]⟩ .f32
  ya : FVec Ideal ⟨2, ![256, 256]⟩ .f32
  yb : FVec Ideal ⟨2, ![256, 256]⟩ .f32
  yc : FVec Ideal ⟨2, ![256, 256]⟩ .f32
  yd : FVec Ideal ⟨2, ![256, 256]⟩ .f32
  wi : FVec Ideal ⟨2, ![1024, 7768]⟩ .f32
  wb : FVec Ideal ⟨3, ![4, 256, 1024]⟩ .f32
  wo : FVec Ideal ⟨2, ![1024, 1024]⟩ .f32
  g : FVec Ideal ⟨1, ![1024]⟩ .f32
  b : FVec Ideal ⟨1, ![1024]⟩ .f32

/-- Entry `d` of row `q` of the nine modulation rows of the sequence that row `r` belongs to: eight rows in turn are one sequence. -/
def Args.mrow (A : Args) (r : Fin 256) (q : Fin 9) (d : Fin 1024) : EReal := A.md (ix2 ⟨r.val / 8, by omega⟩ ⟨q.val * 1024 + d.val, by omega⟩)

/-- The modulated row. -/
def Args.u (A : Args) (r : Fin 256) (d : Fin 1024) : EReal :=
  A.x (ix2 r d) * (1 + A.mrow r 4 d) + A.mrow r 3 d

/-- The column of the input projection that makes gate `j` at channel `l`. -/
def gateCol (j : Fin 4) (l : Fin 1024) : Fin 7768 := ⟨3672 + (j.val * 1024 + l.val), by omega⟩

/-- The sigmoid. -/
def sgm (s : EReal) : EReal := Ideal.div 1 (1 + Ideal.exp (0 - s))

/-- Gate `j` of row `r` at channel `l`. -/
def Args.gate (A : Args) (r : Fin 256) (j : Fin 4) (l : Fin 1024) : EReal :=
  sgm (∑ d : Fin 1024, A.u r d * A.wi (ix2 d (gateCol j l)))

/-- Branch `j`. -/
def Args.branch (A : Args) (j : Fin 4) : FVec Ideal ⟨2, ![256, 256]⟩ .f32 := ![A.ya, A.yb, A.yc, A.yd] j

/-- The projection of branch `j` of row `r` at channel `l`. -/
def Args.proj (A : Args) (r : Fin 256) (j : Fin 4) (l : Fin 1024) : EReal :=
  ∑ w : Fin 256, A.branch j (ix2 r w) * A.wb (ix3 j w l)

/-- The gated sum of the four branches. -/
def Args.mix (A : Args) (r : Fin 256) (l : Fin 1024) : EReal := ∑ j : Fin 4, A.gate r j l * A.proj r j l

/-- The residual sum before the layer norm, over a merged row `f`. -/
def Args.pre (A : Args) (r : Fin 256) (f : Fin 1024 → EReal) (l : Fin 1024) : EReal :=
  Ideal.ofBits .f32 0x3FB504F3#32 * A.x (ix2 r l) + A.mrow r 5 l * ∑ n : Fin 1024, f n * A.wo (ix2 n l)

/-- The sub-layer's output. -/
def Args.out (A : Args) (r : Fin 256) (l : Fin 1024) : EReal :=
  Cert.Ffn.norm (A.pre r (A.mix r)) l (A.g (ix1 l)) (A.b (ix1 l))

/-- The output as an array. -/
def Args.outs (A : Args) : FVec Ideal ⟨2, ![256, 1024]⟩ .f32 := fun i => A.out ⟨(i 0).val, (i 0).isLt⟩ ⟨(i 1).val, (i 1).isLt⟩

/-- An array of rows that agrees at each pair of coordinates. -/
theorem outs_of (A : Args) (x : FVec Ideal ⟨2, ![256, 1024]⟩ .f32) (h : ∀ (r : Fin 256) (l : Fin 1024), x (ix2 r l) = A.out r l) :
    x = A.outs := by
  funext i
  obtain ⟨a, l, rfl⟩ : ∃ (a : Fin 256) (l : Fin 1024), i = ix2 a l := ⟨i 0, i 1, eq_ix2 i⟩
  exact h a l

end Cert.MergeSample
-- ==== Proof.MergeSample.Operands.lean ====
module

public import proofs.«01_k».proof.Proof.Gen.Kernel7Ideal.Value
public import Idealize.ShloMosaic.Lib.Pipeline.ValueKit
public import proofs.«01_k».proof.Proof.MergeSample.Spec

@[expose] public section

/-!
What the kernel's windows hold at a grid point, entry by entry, over the kernel's arguments.
-/

set_option maxRecDepth 16384

noncomputable section

namespace Cert.MergeSample

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The kernel's arguments as the sub-layer's. -/
def kArgs (c : Dev nD) : Args where
  x := m ((c : Thread nD τ).loc main_arg0)
  md := m ((c : Thread nD τ).loc main_arg1)
  ya := m ((c : Thread nD τ).loc main_arg2)
  yb := m ((c : Thread nD τ).loc main_arg3)
  yc := m ((c : Thread nD τ).loc main_arg4)
  yd := m ((c : Thread nD τ).loc main_arg5)
  wi := m ((c : Thread nD τ).loc main_arg6)
  wb := m ((c : Thread nD τ).loc main_arg7)
  wo := m ((c : Thread nD τ).loc main_arg8)
  g := m ((c : Thread nD τ).loc main_arg9)
  b := m ((c : Thread nD τ).loc main_arg10)

/-- The gates' columns of the input projection, one gate after another. -/
theorem host_v3 (c : Dev nD) : V m c main_v3 = truncf .bf16 (transpose S4x1024x1024 [1, 0, 2] (shapeCast S1024x4x1024 (extractStridedSlice S1024x4096 ![0, 3672] (kArgs m c).wi slices_S1024x7768_S1024x4096_0_3672) shapeCasts_S1024x4096_S1024x4x1024) transposes_S1024x4x1024_S4x1024x1024_1_0_2) bitsLt_bf16_f32 := by
  unfold V
  simp only [hostOps0]
  simp only [Idealize.ShloMosaic.StableHlo.after_cons, Idealize.ShloMosaic.StableHlo.after_nil]
  after_results_simp
  after_results_loop
  rfl

/-- Each sequence's modulation, once for each of its eight rows. -/
theorem host_v5 (c : Dev nD) : V m c main_v5 = shapeCast S256x9216 (broadcastInDim S32x8x9216 ![0, 2] bcast_S32x9216_S32x8x9216_0_2 (kArgs m c).md) shapeCasts_S32x8x9216_S256x9216 := by
  rfl

/-- A row's modulation. -/
theorem md_at (c : Dev nD) (R : Fin 256) (k : Fin 9216) : (V m c main_v5 : FVec Ideal S256x9216 .f32) (ix2 R k) = (kArgs m c).md (ix2 ⟨R.val / 8, by omega⟩ k) := by
  rw [host_v5]
  generalize (kArgs m c).md = w
  pointwise

/-- The branches' projections. -/
theorem host_v6 (c : Dev nD) : V m c main_v6 = truncf .bf16 (kArgs m c).wb bitsLt_bf16_f32 := by
  unfold V
  simp only [hostOps0]
  simp only [Idealize.ShloMosaic.StableHlo.after_cons, Idealize.ShloMosaic.StableHlo.after_nil]
  after_results_simp
  after_results_loop
  rfl

/-- The output projection. -/
theorem host_v7 (c : Dev nD) : V m c main_v7 = truncf .bf16 (kArgs m c).wo bitsLt_bf16_f32 := by
  unfold V
  simp only [hostOps0]
  simp only [Idealize.ShloMosaic.StableHlo.after_cons, Idealize.ShloMosaic.StableHlo.after_nil]
  after_results_simp
  after_results_loop
  rfl

/-- The layer norm's scale as a row. -/
theorem host_v8 (c : Dev nD) : V m c main_v8 = broadcastInDim S1x1024 ![1] bcast_S1024_S1x1024_1 (kArgs m c).g := by
  unfold V
  simp only [hostOps0]
  simp only [Idealize.ShloMosaic.StableHlo.after_cons, Idealize.ShloMosaic.StableHlo.after_nil]
  after_results_simp
  after_results_loop
  rfl

/-- The layer norm's shift as a row. -/
theorem host_v9 (c : Dev nD) : V m c main_v9 = broadcastInDim S1x1024 ![1] bcast_S1024_S1x1024_1 (kArgs m c).b := by
  unfold V
  simp only [hostOps0]
  simp only [Idealize.ShloMosaic.StableHlo.after_cons, Idealize.ShloMosaic.StableHlo.after_nil]
  after_results_simp
  after_results_loop
  rfl

/-- The windows' block indices at every grid point. -/
theorem idx : ∀ t : Fin cfg0.N, win0_0.index t = ![t.val, 0] ∧ win0_1.index t = ![t.val, 3] ∧ win0_2.index t = ![t.val, 4] ∧ win0_3.index t = ![t.val, 5] ∧ win0_4.index t = ![t.val, 0] ∧ win0_5.index t = ![t.val, 0] ∧ win0_6.index t = ![t.val, 0] ∧ win0_7.index t = ![t.val, 0] ∧ win0_8.index t = ![0, 0, 0] ∧ win0_9.index t = ![0, 0, 0] ∧ win0_10.index t = ![0, 0] ∧ win0_11.index t = ![0, 0] ∧ win0_12.index t = ![0, 0] ∧ win0_13.index t = ![t.val, 0] :=
  (by decide +kernel : ∀ t : Fin grid0.N, _)

/-- Row `r` of the point's block of 256 rows. -/
def rowOf (t : Fin cfg0.N) (r : Fin 256) : Fin 256 := ⟨t.val * 256 + r.val, by have : t.val < 1 := t.isLt; omega⟩

/-- The point's rows. -/
theorem b0 (c : Dev nD) (t : Fin cfg0.N) (r : Fin 256) (d : Fin 1024) : iblk m c 0 t (ix2 r d) = (kArgs m c).x (ix2 (rowOf t r) d) := by
  unfold kArgs rowOf
  blk_point [iblk, V, idx t]

/-- The modulation's shift. -/
theorem b1 (c : Dev nD) (t : Fin cfg0.N) (r : Fin 256) (d : Fin 1024) : iblk m c 1 t (ix2 r d) = (kArgs m c).mrow (rowOf t r) 3 d := by
  have e : iblk m c 1 t (ix2 r d) = (V m c main_v5 : FVec Ideal S256x9216 .f32) (ix2 (rowOf t r) ⟨3 * 1024 + d.val, by omega⟩) := by
    unfold rowOf
    blk_point [iblk, idx t]
  rw [e, md_at]
  rfl

/-- The modulation's scale. -/
theorem b2 (c : Dev nD) (t : Fin cfg0.N) (r : Fin 256) (d : Fin 1024) : iblk m c 2 t (ix2 r d) = (kArgs m c).mrow (rowOf t r) 4 d := by
  have e : iblk m c 2 t (ix2 r d) = (V m c main_v5 : FVec Ideal S256x9216 .f32) (ix2 (rowOf t r) ⟨4 * 1024 + d.val, by omega⟩) := by
    unfold rowOf
    blk_point [iblk, idx t]
  rw [e, md_at]
  rfl

/-- The modulation's gate. -/
theorem b3 (c : Dev nD) (t : Fin cfg0.N) (r : Fin 256) (d : Fin 1024) : iblk m c 3 t (ix2 r d) = (kArgs m c).mrow (rowOf t r) 5 d := by
  have e : iblk m c 3 t (ix2 r d) = (V m c main_v5 : FVec Ideal S256x9216 .f32) (ix2 (rowOf t r) ⟨5 * 1024 + d.val, by omega⟩) := by
    unfold rowOf
    blk_point [iblk, idx t]
  rw [e, md_at]
  rfl

/-- The point's rows of the first branch. -/
theorem b4 (c : Dev nD) (t : Fin cfg0.N) (r : Fin 256) (w : Fin 256) : iblk m c 4 t (ix2 r w) = (kArgs m c).ya (ix2 (rowOf t r) w) := by
  unfold kArgs rowOf
  blk_point [iblk, V, idx t]

/-- The point's rows of the second branch. -/
theorem b5 (c : Dev nD) (t : Fin cfg0.N) (r : Fin 256) (w : Fin 256) : iblk m c 5 t (ix2 r w) = (kArgs m c).yb (ix2 (rowOf t r) w) := by
  unfold kArgs rowOf
  blk_point [iblk, V, idx t]

/-- The point's rows of the third branch. -/
theorem b6 (c : Dev nD) (t : Fin cfg0.N) (r : Fin 256) (w : Fin 256) : iblk m c 6 t (ix2 r w) = (kArgs m c).yc (ix2 (rowOf t r) w) := by
  unfold kArgs rowOf
  blk_point [iblk, V, idx t]

/-- The point's rows of the fourth branch. -/
theorem b7 (c : Dev nD) (t : Fin cfg0.N) (r : Fin 256) (w : Fin 256) : iblk m c 7 t (ix2 r w) = (kArgs m c).yd (ix2 (rowOf t r) w) := by
  unfold kArgs rowOf
  blk_point [iblk, V, idx t]

/-- The gates' columns. -/
theorem b8 (c : Dev nD) (t : Fin cfg0.N) (j : Fin 4) (d l : Fin 1024) :
    iblk m c 8 t (ix3 j d l) = (kArgs m c).wi (ix2 d (gateCol j l)) := by
  have e : iblk m c 8 t (ix3 j d l) = (V m c main_v3 : FVec Ideal S4x1024x1024 .bf16) (ix3 j d l) := by
    blk_ext [iblk, idx t]
  rw [e, host_v3]
  unfold gateCol
  pointwise

/-- A branch's projection. -/
theorem b9 (c : Dev nD) (t : Fin cfg0.N) (j : Fin 4) (w : Fin 256) (l : Fin 1024) :
    iblk m c 9 t (ix3 j w l) = (kArgs m c).wb (ix3 j w l) := by
  have e : iblk m c 9 t (ix3 j w l) = (V m c main_v6 : FVec Ideal S4x256x1024 .bf16) (ix3 j w l) := by
    blk_ext [iblk, idx t]
  rw [e, host_v6]
  pointwise

/-- The output projection. -/
theorem b10 (c : Dev nD) (t : Fin cfg0.N) (n l : Fin 1024) : iblk m c 10 t (ix2 n l) = (kArgs m c).wo (ix2 n l) := by
  have e : iblk m c 10 t (ix2 n l) = (V m c main_v7 : FVec Ideal S1024x1024 .bf16) (ix2 n l) := by
    blk_ext [iblk, idx t]
  rw [e, host_v7]
  pointwise

/-- The layer norm's scale. -/
theorem b11 (c : Dev nD) (t : Fin cfg0.N) (l : Fin 1024) : iblk m c 11 t (ix2 0 l) = (kArgs m c).g (ix1 l) := by
  have e : iblk m c 11 t (ix2 0 l) = (V m c main_v8 : FVec Ideal S1x1024 .f32) (ix2 0 l) := by
    blk_ext [iblk, idx t]
  rw [e, host_v8]
  pointwise

/-- The layer norm's shift. -/
theorem b12 (c : Dev nD) (t : Fin cfg0.N) (l : Fin 1024) : iblk m c 12 t (ix2 0 l) = (kArgs m c).b (ix1 l) := by
  have e : iblk m c 12 t (ix2 0 l) = (V m c main_v9 : FVec Ideal S1x1024 .f32) (ix2 0 l) := by
    blk_ext [iblk, idx t]
  rw [e, host_v9]
  pointwise

end Cert.MergeSample
-- ==== Proof.MergeSample.Value.lean ====
module

public import proofs.«01_k».proof.Proof.MergeSample.Operands

@[expose] public section

/-!
The kernel's result after the run, entry by entry, over its arguments.
-/

set_option maxRecDepth 16384

noncomputable section

namespace Cert.MergeSample

open Idealize.ShloMosaic Idealize.ShloMosaic.TcCoe Idealize.SL.Sem
open Idealize.ShloMosaic.Pipeline (Dat)
open Cert.Kernel7Ideal Cert.Kernel7Ideal.Gen
open Cert.Ffn (mean)

variable (m : (ℓ : Loc nD τ sig) → Buf (Elt Ideal) ℓ)

/-- A loaded gate's columns at an entry. -/
theorem wide_at (x : Vec Ideal S4x1024x1024 .bf16) (j : Fin 4) (inb) (d l : Fin 1024) :
    View.ld x (Rect.unit (s := S4x1024x1024) ![j.val, 0, 0] S1x1024x1024.size inb) (ix3 0 d l) = x (ix3 j d l) :=
  View.ld_unit_apply_of x _ _ inb (ix3 0 d l) (ix3 j d l) fun a => by fin_cases a <;> simp [ix3]

/-- A loaded branch's projection at an entry. -/
theorem tall_at (x : Vec Ideal S4x256x1024 .bf16) (j : Fin 4) (inb) (w : Fin 256) (l : Fin 1024) :
    View.ld x (Rect.unit (s := S4x256x1024) ![j.val, 0, 0] S1x256x1024.size inb) (ix3 0 w l) = x (ix3 j w l) :=
  View.ld_unit_apply_of x _ _ inb (ix3 0 w l) (ix3 j w l) fun a => by fin_cases a <;> simp [ix3]

/-- The modulated rows at an entry. -/
theorem pay2_at (v0 : Vec Ideal S256x1024 .f32) (v1 v6 : Vec Ideal S256x1024 .f32) (r : Fin 256) (d : Fin 1024) :
    k0_pay2 v0 v1 v6 (ix2 r d) = v0 (ix2 r d) * (1 + v1 (ix2 r d)) + v6 (ix2 r d) := by
  pointwise [k0_pay2]

/-- The first branch's gated projection at an entry. -/
theorem pay3_at (v0 : Vec Ideal S256x1024 .f32) (v1 v6 : Vec Ideal S256x1024 .f32) (v11 : Vec Ideal S1x1024x1024 .bf16) (v21 : Vec Ideal S256x256 .f32)
    (v23 : Vec Ideal S1x256x1024 .bf16) (r : Fin 256) (l : Fin 1024) :
    k0_pay3 v0 v1 v6 v11 v21 v23 (ix2 r l) = sgm (∑ d : Fin 1024, k0_pay2 v0 v1 v6 (ix2 r d) * v11 (ix3 0 d l))
      * ∑ w : Fin 256, v21 (ix2 r w) * v23 (ix3 0 w l) := by
  unfold sgm k0_pay3
  generalize k0_pay2 v0 v1 v6 = u
  pointwise

/-- The second gate's exponent at an entry. -/
theorem pay4_at (v0 : Vec Ideal S256x1024 .f32) (v1 v6 : Vec Ideal S256x1024 .f32) (v28 : Vec Ideal S1x1024x1024 .bf16) (r : Fin 256) (l : Fin 1024) :
    k0_pay4 v0 v1 v6 v28 (ix2 r l) = 0 - ∑ d : Fin 1024, k0_pay2 v0 v1 v6 (ix2 r d) * v28 (ix3 0 d l) := by
  unfold k0_pay4
  generalize k0_pay2 v0 v1 v6 = u
  pointwise

/-- The sum of the first three branches at an entry. -/
theorem pay5_at (v9 : FVec Ideal S256x1024 .bf16) (v27 v32 : FVec Ideal S256x1024 .f32) (v38 : Vec Ideal S256x256 .f32) (v40 : Vec Ideal S1x256x1024 .bf16)
    (v45 : Vec Ideal S1x1024x1024 .bf16) (v55 : Vec Ideal S256x256 .f32) (v57 : Vec Ideal S1x256x1024 .bf16) (r : Fin 256) (l : Fin 1024) :
    k0_pay5 v9 v27 v32 v38 v40 v45 v55 v57 (ix2 r l) = v27 (ix2 r l)
      + Ideal.div 1 (1 + Ideal.exp (v32 (ix2 r l))) * (∑ w : Fin 256, v38 (ix2 r w) * v40 (ix3 0 w l))
      + sgm (∑ d : Fin 1024, v9 (ix2 r d) * v45 (ix3 0 d l)) * ∑ w : Fin 256, v55 (ix2 r w) * v57 (ix3 0 w l) := by
  unfold sgm
  pointwise [k0_pay5]

/-- The last gate's exponent at an entry. -/
theorem pay6_at (v9 : FVec Ideal S256x1024 .bf16) (v62 : Vec Ideal S1x1024x1024 .bf16) (r : Fin 256) (l : Fin 1024) :
    k0_pay6 v9 v62 (ix2 r l) = 0 - ∑ d : Fin 1024, v9 (ix2 r d) * v62 (ix3 0 d l) := by
  pointwise [k0_pay6]

/-- A residual row, over the sum `a` of the first three branches and the last gate's exponent `e`. -/
def resid (v0 : Vec Ideal S256x1024 .f32) (a e : FVec Ideal S256x1024 .f32) (v72 : Vec Ideal S256x256 .f32) (v74 : Vec Ideal S1x256x1024 .bf16)
    (v80 : Vec Ideal S1024x1024 .bf16) (v85 : Vec Ideal S256x1024 .f32) (r : Fin 256) (l : Fin 1024) : EReal :=
  Ideal.ofBits .f32 0x3FB504F3#32 * v0 (ix2 r l) + v85 (ix2 r l) * ∑ n : Fin 1024,
    (a (ix2 r n) + Ideal.div 1 (1 + Ideal.exp (e (ix2 r n))) * ∑ w : Fin 256, v72 (ix2 r w) * v74 (ix3 0 w n)) * v80 (ix2 n l)

/-- A residual row less its mean. -/
theorem pay9_at (v0 : Vec Ideal S256x1024 .f32) (a e : FVec Ideal S256x1024 .f32) (v72 : Vec Ideal S256x256 .f32) (v74 : Vec Ideal S1x256x1024 .bf16)
    (v80 : Vec Ideal S1024x1024 .bf16) (v85 : Vec Ideal S256x1024 .f32) (r : Fin 256) (l : Fin 1024) :
    k0_pay9 v0 a e v72 v74 v80 v85 (ix2 r l) = resid v0 a e v72 v74 v80 v85 r l - mean (resid v0 a e v72 v74 v80 v85 r) := by
  unfold resid mean
  pointwise [k0_pay9]

/-- The layer norm over a row less its mean. -/
theorem norm_at (v0 : Vec Ideal S256x1024 .f32) (a e : FVec Ideal S256x1024 .f32) (v72 : Vec Ideal S256x256 .f32) (v74 : Vec Ideal S1x256x1024 .bf16)
    (v80 : Vec Ideal S1024x1024 .bf16) (v85 : Vec Ideal S256x1024 .f32) (g b : Vec Ideal S1x1024 .f32) (r : Fin 256) (l : Fin 1024) :
    k0_pay1 (k0_pay7 g) (k0_pay8 b) (k0_pay9 v0 a e v72 v74 v80 v85) (k0_pay10 v0 a e v72 v74 v80 v85) (Scalar.ofBits .f32 0x3727C5AC#32) (ix2 r l)
      = Cert.Ffn.norm (resid v0 a e v72 v74 v80 v85 r) l (g (ix2 0 l)) (b (ix2 0 l)) := by
  have h (d : FVec Ideal S256x1024 .f32) (q : FVec Ideal S256x1 .f32) (hd : ∀ k, d (ix2 r k) = resid v0 a e v72 v74 v80 v85 r k - mean (resid v0 a e v72 v74 v80 v85 r))
      (hq : q (ix2 r 0) = mean fun k => d (ix2 r k) * d (ix2 r k)) :
      k0_pay1 (k0_pay7 g) (k0_pay8 b) d q (Scalar.ofBits .f32 0x3727C5AC#32) (ix2 r l) = Cert.Ffn.norm (resid v0 a e v72 v74 v80 v85 r) l (g (ix2 0 l)) (b (ix2 0 l)) := by
    have e1 : k0_pay1 (k0_pay7 g) (k0_pay8 b) d q (Scalar.ofBits .f32 0x3727C5AC#32) (ix2 r l)
        = d (ix2 r l) * Ideal.rsqrt (q (ix2 r 0) + Ideal.ofBits .f32 0x3727C5AC#32) * g (ix2 0 l) + b (ix2 0 l) := by
      pointwise [k0_pay1, k0_pay7, k0_pay8]
    rw [e1, hq]
    simp only [hd]
    rfl
  refine h _ _ (pay9_at v0 a e v72 v74 v80 v85 r) ?_
  unfold k0_pay10 mean
  generalize k0_pay9 v0 a e v72 v74 v80 v85 = d
  pointwise

/-- The gated sum, branch by branch. -/
theorem mix_eq (A : Args) (R : Fin 256) (l : Fin 1024) :
    A.mix R l = A.gate R 0 l * A.proj R 0 l + A.gate R 1 l * A.proj R 1 l + A.gate R 2 l * A.proj R 2 l + A.gate R 3 l * A.proj R 3 l :=
  Fin.sum_univ_four _

end Cert.MergeSample
-- ==== Proof.MergeSample.Finals.lean ====
module

public import proofs.«01_k».proof.Proof.MergeSample.Value

@[expose] public section

/-!
The kernel's result array after the run.
-/

set_option maxRecDepth 16384

noncomputable section

namespace Cert.MergeSample

open Idealize.ShloMosaic Idealize.ShloMosaic.TcCoe Idealize.SL.Sem
open Idealize.ShloMosaic.Pipeline (Dat)
open Cert.Kernel7Ideal Cert.Kernel7Ideal.Gen
open Cert.Ffn (mean)

variable (m : (ℓ : Loc nD τ sig) → Buf (Elt Ideal) ℓ)

/-- A row and a channel in their block of 256 rows, given by their coordinates. -/
theorem out_at (A : Args) (t : Fin cfg0.N) (r : Fin 256) (l : Fin 1024) (a b : ℕ) (h : a < 256) (h' : b < 1024) (ha : a = t.val * 256 + r.val) (hb : b = l.val) :
    A.out (rowOf t r) l = A.out ⟨a, h⟩ ⟨b, h'⟩ := by
  subst ha hb
  rfl

/-- The modulated row of the point's block. -/
theorem u_at (c : Dev nD) (t : Fin cfg0.N) (r : Fin 256) (d : Fin 1024) :
    k0_pay2 (iblk m c 0 t) (iblk m c 2 t) (iblk m c 1 t) (ix2 r d) = (kArgs m c).u (rowOf t r) d := by
  rw [pay2_at, b0, b1, b2]
  rfl

set_option maxHeartbeats 3200000 in
/-- The result of the body at a grid point, entry by entry. -/
theorem point_at (c : Dev nD) (t : Fin cfg0.N) (r : Fin 256) (l : Fin 1024) (s0 s1 s2 s3 : Vec Ideal S1x1024x1024 .bf16) (p0 p1 p2 p3 : Vec Ideal S1x256x1024 .bf16)
    (hs0 : ∀ d l, s0 (ix3 0 d l) = (kArgs m c).wi (ix2 d (gateCol 0 l))) (hp0 : ∀ w l, p0 (ix3 0 w l) = (kArgs m c).wb (ix3 0 w l))
    (hs1 : ∀ d l, s1 (ix3 0 d l) = (kArgs m c).wi (ix2 d (gateCol 1 l))) (hp1 : ∀ w l, p1 (ix3 0 w l) = (kArgs m c).wb (ix3 1 w l))
    (hs2 : ∀ d l, s2 (ix3 0 d l) = (kArgs m c).wi (ix2 d (gateCol 2 l))) (hp2 : ∀ w l, p2 (ix3 0 w l) = (kArgs m c).wb (ix3 2 w l))
    (hs3 : ∀ d l, s3 (ix3 0 d l) = (kArgs m c).wi (ix2 d (gateCol 3 l))) (hp3 : ∀ w l, p3 (ix3 0 w l) = (kArgs m c).wb (ix3 3 w l)) :
    k0_pay1 (k0_pay7 (iblk m c 11 t)) (k0_pay8 (iblk m c 12 t))
      (k0_pay9 (iblk m c 0 t) (k0_pay5 (k0_pay2 (iblk m c 0 t) (iblk m c 2 t) (iblk m c 1 t)) (k0_pay3 (iblk m c 0 t) (iblk m c 2 t) (iblk m c 1 t) s0 (iblk m c 4 t) p0) (k0_pay4 (iblk m c 0 t) (iblk m c 2 t) (iblk m c 1 t) s1) (iblk m c 5 t) p1 s2 (iblk m c 6 t) p2)
        (k0_pay6 (k0_pay2 (iblk m c 0 t) (iblk m c 2 t) (iblk m c 1 t)) s3) (iblk m c 7 t) p3 (iblk m c 10 t) (iblk m c 3 t))
      (k0_pay10 (iblk m c 0 t) (k0_pay5 (k0_pay2 (iblk m c 0 t) (iblk m c 2 t) (iblk m c 1 t)) (k0_pay3 (iblk m c 0 t) (iblk m c 2 t) (iblk m c 1 t) s0 (iblk m c 4 t) p0) (k0_pay4 (iblk m c 0 t) (iblk m c 2 t) (iblk m c 1 t) s1) (iblk m c 5 t) p1 s2 (iblk m c 6 t) p2)
        (k0_pay6 (k0_pay2 (iblk m c 0 t) (iblk m c 2 t) (iblk m c 1 t)) s3) (iblk m c 7 t) p3 (iblk m c 10 t) (iblk m c 3 t))
      (Scalar.ofBits .f32 0x3727C5AC#32) (ix2 r l) = (kArgs m c).out (rowOf t r) l := by
  rw [norm_at, b11, b12]
  unfold Args.out
  congr 1
  funext k
  unfold resid Args.pre
  rw [b0, b3]
  congr 2
  refine Finset.sum_congr rfl fun n _ => ?_
  rw [b10, mix_eq, pay5_at, pay3_at, pay4_at, pay6_at]
  simp only [u_at, hs0, hs1, hs2, hs3, hp0, hp1, hp2, hp3, b4, b5, b6, b7]
  rfl

set_option maxHeartbeats 1600000 in
/-- The sub-layer's output, at every grid point. -/
theorem final (c : Dev nD) : (dats m 0 c).arrAt 13 (cfgs 0).N = (kArgs m c).outs := by
  refine (dats m 0 c).arrAt_eq_of_covers 13 _ (by decide +kernel) fun t _ y => ?_
  blk_simp
  rw [after0_13]
  unfold out0_13 k0_pay12 k0_pay13 k0_pay11
  frame_out
  obtain ⟨r, l, rfl⟩ : ∃ (r : Fin 256) (l : Fin 1024), y = ix2 r l := ⟨y 0, y 1, eq_ix2 y⟩
  refine (point_at m c t r l _ _ _ _ _ _ _ _ (fun d l => (wide_at _ 0 _ d l).trans (b8 m c t 0 d l)) (fun w l => (tall_at _ 0 _ w l).trans (b9 m c t 0 w l)) (fun d l => (wide_at _ 1 _ d l).trans (b8 m c t 1 d l)) (fun w l => (tall_at _ 1 _ w l).trans (b9 m c t 1 w l)) (fun d l => (wide_at _ 2 _ d l).trans (b8 m c t 2 d l)) (fun w l => (tall_at _ 2 _ w l).trans (b9 m c t 2 w l)) (fun d l => (wide_at _ 3 _ d l).trans (b8 m c t 3 d l)) (fun w l => (tall_at _ 3 _ w l).trans (b9 m c t 3 w l))).trans ?_
  obtain ⟨-, -, -, -, -, -, -, -, -, -, -, -, -, e⟩ := idx t
  have e0 : win0_13.index t 0 = t.val := congrFun e 0
  have e1 : win0_13.index t 1 = 0 := congrFun e 1
  refine out_at (kArgs m c) t r l _ _ _ _ ?_ ?_
  · rw [View.emb_slice, Function.Embedding.trans_apply, View.emb_whole, Function.Embedding.refl_apply, Rect.emb_apply]
    show win0_13.index t 0 * 256 + 1 * r.val = t.val * 256 + r.val
    rw [e0, one_mul]
  · rw [View.emb_slice, Function.Embedding.trans_apply, View.emb_whole, Function.Embedding.refl_apply, Rect.emb_apply]
    show win0_13.index t 1 * 1024 + 1 * l.val = l.val
    rw [e1, Nat.zero_mul, Nat.zero_add, one_mul]

end Cert.MergeSample
-- ==== Proof.MergeSample.RefValue.lean ====
module

public import proofs.«01_k».proof.Proof.Gen.Reference7Ideal.Run
public import Idealize.ShloMosaic.Lib.Pipeline.ValueKit
public import proofs.«01_k».proof.Proof.MergeSample.Spec

@[expose] public section

/-!
The reference's result, entry by entry: each array it computes on the way, named, and read at an entry.
-/

set_option maxRecDepth 16384

noncomputable section

namespace Cert.MergeSample

open Idealize.ShloMosaic Idealize.ShloMosaic.TcCoe Idealize.SL.Sem Idealize.ShloMosaic.StableHlo
open Cert.Ffn (mean)
open Cert.Reference7Ideal Cert.Reference7Ideal.Gen Cert.Reference7Ideal.Value

/-- The reference's modulated rows. -/
def refU (x : FVec Ideal S256x1024 .f32) (md : FVec Ideal S32x9216 .f32) : FVec Ideal S256x1024 .f32 :=
  shapeCast S256x1024 (addf (mulf (shapeCast S32x8x1024 x shapeCasts_S256x1024_S32x8x1024) (broadcastInDim S32x8x1024 ![0, 1, 2] bcast_S32x1x1024_S32x8x1024_0_1_2 (addf (broadcastInDim S32x1x1024 ![] bcast_S_S32x1x1024 (constant S_ .f32 0x3F800000#32)) (broadcastInDim S32x1x1024 ![0, 2] bcast_S32x1024_S32x1x1024_0_2 (shapeCast S32x1024 (extractStridedSlice S32x1x1024 ![0, 4, 0] (shapeCast S32x9x1024 md shapeCasts_S32x9216_S32x9x1024) slices_S32x9x1024_S32x1x1024_0_4_0) shapeCasts_S32x1x1024_S32x1024))))) (broadcastInDim S32x8x1024 ![0, 1, 2] bcast_S32x1x1024_S32x8x1024_0_1_2 (broadcastInDim S32x1x1024 ![0, 2] bcast_S32x1024_S32x1x1024_0_2 (shapeCast S32x1024 (extractStridedSlice S32x1x1024 ![0, 3, 0] (shapeCast S32x9x1024 md shapeCasts_S32x9216_S32x9x1024) slices_S32x9x1024_S32x1x1024_0_3_0) shapeCasts_S32x1x1024_S32x1024)))) shapeCasts_S32x8x1024_S256x1024

/-- The reference's gates. -/
def refGate (u : FVec Ideal S256x1024 .f32) (wi : FVec Ideal S1024x7768 .f32) : FVec Ideal S256x4x1024 .f32 :=
  Host.divf (broadcastInDim S256x4x1024 ![] bcast_S_S256x4x1024 (constant S_ .f32 0x3F800000#32)) (addf (broadcastInDim S256x4x1024 ![] bcast_S_S256x4x1024 (constant S_ .f32 0x3F800000#32)) (Host.exp (Host.negf (shapeCast _ (Host.dotGeneral dot_S256x1024_S1024x4096_S256x4096_1_0_0_1_n_n none u (extractStridedSlice S1024x4096 ![0, 3672] wi slices_S1024x7768_S1024x4096_0_3672)) shapeCasts_S256x4096_S256x4x1024))))

/-- The reference's branches, side by side. -/
def refBranches (ya yb yc yd : FVec Ideal S256x256 .f32) : FVec Ideal S256x4x256 .f32 :=
  concatenate S256x4x256 1 [⟨S256x1x256, broadcastInDim S256x1x256 ![0, 2] bcast_S256x256_S256x1x256_0_2 ya⟩, ⟨S256x1x256, broadcastInDim S256x1x256 ![0, 2] bcast_S256x256_S256x1x256_0_2 yb⟩, ⟨S256x1x256, broadcastInDim S256x1x256 ![0, 2] bcast_S256x256_S256x1x256_0_2 yc⟩, ⟨S256x1x256, broadcastInDim S256x1x256 ![0, 2] bcast_S256x256_S256x1x256_0_2 yd⟩] concatenates_S256x1x256_S256x1x256_S256x1x256_S256x1x256_S256x4x256_d1

/-- The reference's projections of the branches. -/
def refProj (wb : FVec Ideal S4x256x1024 .f32) (y : FVec Ideal S256x4x256 .f32) : FVec Ideal S256x4x1024 .f32 :=
  transpose S256x4x1024 [2, 0, 1] (Host.dotGeneral dot_S4x256x1024_S256x4x256_S4x1024x256_1_2_2_0_0_1 none wb y) transposes_S4x1024x256_S256x4x1024_2_0_1

/-- The reference's gated sum. -/
def refMix (g p : FVec Ideal S256x4x1024 .f32) : FVec Ideal S256x1024 .f32 :=
  Host.reduceAdd (mulf g p) (constant S_ .f32 0x00000000#32) reducesTo_S256x4x1024_S256x1024_d1 h_S_

/-- The reference's residual sum. -/
def refPre (x : FVec Ideal S256x1024 .f32) (md : FVec Ideal S32x9216 .f32) (a : FVec Ideal S256x1024 .f32) (wo : FVec Ideal S1024x1024 .f32) :
    FVec Ideal S256x1024 .f32 :=
  addf (mulf (broadcastInDim S256x1024 ![] bcast_S_S256x1024 (constant S_ .f32 0x3FB504F3#32)) x) (shapeCast S256x1024 (mulf (broadcastInDim S32x8x1024 ![0, 1, 2] bcast_S32x1x1024_S32x8x1024_0_1_2 (broadcastInDim S32x1x1024 ![0, 2] bcast_S32x1024_S32x1x1024_0_2 (shapeCast S32x1024 (extractStridedSlice S32x1x1024 ![0, 5, 0] (shapeCast S32x9x1024 md shapeCasts_S32x9216_S32x9x1024) slices_S32x9x1024_S32x1x1024_0_5_0) shapeCasts_S32x1x1024_S32x1024))) (shapeCast S32x8x1024 (Host.dotGeneral dot_S256x1024_S1024x1024_S256x1024_1_0_0_1_n_n none a wo) shapeCasts_S256x1024_S32x8x1024)) shapeCasts_S32x8x1024_S256x1024)

/-- The reference's row means. -/
def refMean (y : FVec Ideal S256x1024 .f32) : FVec Ideal S256x1 .f32 :=
  Host.divf (broadcastInDim S256x1 ![0] bcast_S256_S256x1_0 (Host.reduceAdd y (constant S_ .f32 0x00000000#32) reducesTo_S256x1024_S256_d1 h_S_)) (broadcastInDim S256x1 ![] bcast_S_S256x1 (constant S_ .f32 0x44800000#32))

/-- The reference's rows less a column. -/
def refLess (y : FVec Ideal S256x1024 .f32) (mu : FVec Ideal S256x1 .f32) : FVec Ideal S256x1024 .f32 :=
  subf y (broadcastInDim S256x1024 ![0, 1] bcast_S256x1_S256x1024_0_1 mu)

/-- The reference's layer norm. -/
def refNorm (d : FVec Ideal S256x1024 .f32) (va : FVec Ideal S256x1 .f32) (g b : FVec Ideal S1024 .f32) : FVec Ideal S256x1024 .f32 :=
  addf (mulf (mulf d (broadcastInDim S256x1024 ![0, 1] bcast_S256x1_S256x1024_0_1 (Host.rsqrt (addf va (broadcastInDim S256x1 ![] bcast_S_S256x1 (constant S_ .f32 0x3727C5AC#32)))))) (broadcastInDim S256x1024 ![0, 1] bcast_S1x1024_S256x1024_0_1 (broadcastInDim S1x1024 ![1] bcast_S1024_S1x1024_1 g))) (broadcastInDim S256x1024 ![0, 1] bcast_S1x1024_S256x1024_0_1 (broadcastInDim S1x1024 ![1] bcast_S1024_S1x1024_1 b))

/-- The reference's residual sum over its arguments. -/
def refRes (A : Args) : FVec Ideal S256x1024 .f32 :=
  refPre A.x A.md (refMix (refGate (refU A.x A.md) A.wi) (refProj A.wb (refBranches A.ya A.yb A.yc A.yd))) A.wo

/-- The reference's result as the layer norm of its residual sum. -/
def refOut (A : Args) : FVec Ideal S256x1024 .f32 :=
  refNorm (refLess (refRes A) (refMean (refRes A)))
    (refMean (mulf (refLess (refRes A) (refMean (refRes A))) (refLess (refRes A) (refMean (refRes A))))) A.g A.b

/-- The modulated rows at an entry. -/
theorem refU_at (A : Args) (r : Fin 256) (d : Fin 1024) : refU A.x A.md (ix2 r d) = A.u r d := by
  unfold Args.u Args.mrow
  pointwise [refU]

/-- A gate at an entry. -/
theorem refGate_at (u : FVec Ideal S256x1024 .f32) (wi : FVec Ideal S1024x7768 .f32) (r : Fin 256) (j : Fin 4) (l : Fin 1024) :
    refGate u wi (ix3 r j l) = sgm (∑ d : Fin 1024, u (ix2 r d) * wi (ix2 d (gateCol j l))) := by
  unfold sgm gateCol
  rw [zero_sub]
  pointwise [refGate]

/-- The branches at an entry. -/
theorem refBranches_at (A : Args) (r : Fin 256) (j : Fin 4) (w : Fin 256) :
    refBranches A.ya A.yb A.yc A.yd (ix3 r j w) = A.branch j (ix2 r w) := by
  unfold Args.branch
  fin_cases j
  · show refBranches A.ya A.yb A.yc A.yd (ix3 r 0 w) = A.ya (ix2 r w)
    pointwise [refBranches]
  · show refBranches A.ya A.yb A.yc A.yd (ix3 r 1 w) = A.yb (ix2 r w)
    pointwise [refBranches]
  · show refBranches A.ya A.yb A.yc A.yd (ix3 r 2 w) = A.yc (ix2 r w)
    pointwise [refBranches]
  · show refBranches A.ya A.yb A.yc A.yd (ix3 r 3 w) = A.yd (ix2 r w)
    pointwise [refBranches]

/-- A projection at an entry. -/
theorem refProj_at (wb : FVec Ideal S4x256x1024 .f32) (y : FVec Ideal S256x4x256 .f32) (r : Fin 256) (j : Fin 4) (l : Fin 1024) :
    refProj wb y (ix3 r j l) = ∑ w : Fin 256, y (ix3 r j w) * wb (ix3 j w l) := by
  have e : refProj wb y (ix3 r j l) = ∑ w : Fin 256, wb (ix3 j w l) * y (ix3 r j w) := by
    pointwise [refProj]
  rw [e]
  exact Finset.sum_congr rfl fun w _ => mul_comm _ _

/-- The gated sum at an entry. -/
theorem refMix_at (g p : FVec Ideal S256x4x1024 .f32) (r : Fin 256) (l : Fin 1024) :
    refMix g p (ix2 r l) = ∑ j : Fin 4, g (ix3 r j l) * p (ix3 r j l) := by
  pointwise [refMix]

/-- The residual sum at an entry. -/
theorem refPre_at (A : Args) (a : FVec Ideal S256x1024 .f32) (r : Fin 256) (l : Fin 1024) :
    refPre A.x A.md a A.wo (ix2 r l) = A.pre r (fun n => a (ix2 r n)) l := by
  unfold Args.pre Args.mrow
  pointwise [refPre]

/-- The residual sum over the arguments at an entry. -/
theorem refRes_at (A : Args) (r : Fin 256) (l : Fin 1024) : refRes A (ix2 r l) = A.pre r (A.mix r) l := by
  unfold refRes
  simp only [refPre_at, refMix_at, refGate_at, refProj_at, refBranches_at, refU_at]
  rfl

/-- A row's mean. -/
theorem refMean_at (y : FVec Ideal S256x1024 .f32) (r : Fin 256) : refMean y (ix2 r 0) = mean (fun l => y (ix2 r l)) := by
  unfold mean
  pointwise [refMean]

/-- A row less its column's entry. -/
theorem refLess_at (y : FVec Ideal S256x1024 .f32) (mu : FVec Ideal S256x1 .f32) (r : Fin 256) (l : Fin 1024) :
    refLess y mu (ix2 r l) = y (ix2 r l) - mu (ix2 r 0) := by
  pointwise [refLess]

/-- The layer norm at an entry. -/
theorem refNorm_at (d : FVec Ideal S256x1024 .f32) (va : FVec Ideal S256x1 .f32) (g b : FVec Ideal S1024 .f32) (r : Fin 256) (l : Fin 1024) :
    refNorm d va g b (ix2 r l) = d (ix2 r l) * Ideal.rsqrt (va (ix2 r 0) + Ideal.ofBits .f32 0x3727C5AC#32) * g (ix1 l) + b (ix1 l) := by
  pointwise [refNorm]

/-- A product of arrays at an entry. -/
theorem square_at (d : FVec Ideal S256x1024 .f32) (i : S256x1024.Idx) : mulf d d i = d i * d i := rfl

/-- The reference's result at an entry. -/
theorem refOut_at (A : Args) (r : Fin 256) (l : Fin 1024) : refOut A (ix2 r l) = A.out r l := by
  unfold refOut Args.out Cert.Ffn.norm
  simp only [refNorm_at, refLess_at, refMean_at, square_at, refRes_at]

/-- The reference's arguments as the sub-layer's. -/
def refArgs (m : (ℓ : Loc nD τ sig) → Buf (Elt Ideal) ℓ) (c : Dev nD) : Args where
  x := m ((c.tc : Thread nD τ).loc main_arg0)
  md := m ((c.tc : Thread nD τ).loc main_arg1)
  ya := m ((c.tc : Thread nD τ).loc main_arg2)
  yb := m ((c.tc : Thread nD τ).loc main_arg3)
  yc := m ((c.tc : Thread nD τ).loc main_arg4)
  yd := m ((c.tc : Thread nD τ).loc main_arg5)
  wi := m ((c.tc : Thread nD τ).loc main_arg6)
  wb := m ((c.tc : Thread nD τ).loc main_arg7)
  wo := m ((c.tc : Thread nD τ).loc main_arg8)
  g := m ((c.tc : Thread nD τ).loc main_arg9)
  b := m ((c.tc : Thread nD τ).loc main_arg10)

/-- The reference's result is that of the sub-layer. -/
theorem ref_out (m : (ℓ : Loc nD τ sig) → Buf (Elt Ideal) ℓ) (c : Dev nD) : res_main_v68 m c = refOut (refArgs m c) := rfl

end Cert.MergeSample
-- ==== Proof.MergeSample.Agreement.lean ====
module

public import proofs.«01_k».proof.Defs
public import proofs.«01_k».proof.Proof.Gen.Kernel7Ideal.Value
public import proofs.«01_k».proof.Proof.MergeSample.Finals
public import proofs.«01_k».proof.Proof.MergeSample.RefValue

@[expose] public section

/-!
The merge call of the sample batch and its reference end with equal results.
-/

noncomputable section

namespace Cert.MergeSample

open Idealize.ShloMosaic Idealize.ShloMosaic.TcCoe Idealize.SL.Sem

/-- Memories that agree on the arguments give both programs the same sub-layer. -/
theorem args_agree (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) :
    refArgs m' c = kArgs m c := by
  obtain ⟨h0, h1, h2, h3, h4, h5, h6, h7, h8, h9, h10⟩ := h
  unfold refArgs kArgs
  rw [Args.mk.injEq]
  exact ⟨h0, h1, h2, h3, h4, h5, h6, h7, h8, h9, h10⟩

/-- Equal results, as the claim states them. -/
theorem equal : algebraic_Kernel7Ideal_Reference7Ideal (hKernel7Ideal := Cert.Kernel7Ideal.Gen.facts) (hReference7Ideal := Cert.Reference7Ideal.Gen.facts) := by
  intro m g m' g' hpre hagree
  refine ⟨fun c => (kArgs m c).outs,
    (θ_run _ _ _).mono (fun r h c => ⟨(h c).1.trans (final m c), (h c).2⟩) (Cert.Kernel7Ideal.Value.run_blocks m g),
    (θ_run _ _ _).mono (fun r h c => ⟨(h c).1.trans ?_, (h c).2⟩) (Cert.Reference7Ideal.Value.run m' g')⟩
  show _ = (kArgs m c).outs
  rw [← args_agree m m' c (hagree c)]
  exact outs_of _ _ (fun r l => (congrFun (ref_out m' c) (ix2 r l)).trans (refOut_at (refArgs m' c) r l))

end Cert.MergeSample
-- ==== Proof.Carry.Finals.lean ====
module

public import proofs.«01_k».proof.Proof.Gen.Kernel8Ideal.Frame
public import Idealize.ShloMosaic.Lib.Pipeline.ValueKit

@[expose] public section

/-!
The rows the prompt batch's recurrent mixer carries out of its last chunk, entry by entry.
-/

set_option maxRecDepth 16384

noncomputable section

namespace Cert.Carry

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- The projected rows a memory holds. -/
def rows (c : Dev nD) : FVec Ideal S16384x512 .f32 := m ((c.tc : Thread nD τ).loc main_arg0)

/-- The block indices, at every grid point, of the projected rows and of the carried ones. -/
theorem idx : ∀ t : Fin cfg0.N, win0_0.index t = ![t.val, 0] ∧ win0_11.index t = ![0, 0, 0] :=
  (by decide +kernel : ∀ t : Fin grid0.N, _)

/-- Only the last point writes the carried rows back. -/
theorem last_point : ∀ t : Fin cfg0.N, (cfg0.win 11).flush t = true → t.val = 63 :=
  (by decide +kernel : ∀ t : Fin grid0.N, _)

/-- The projected rows of a point's chunk. -/
theorem b0 (c : Dev nD) (t : Fin cfg0.N) (ht : t.val = 63) (r : Fin 256) (l : Fin 512) :
    iblk m c 0 t (ix2 r l) = rows m c (ix2 ⟨16128 + r.val, by omega⟩ l) := by
  unfold rows
  blk_point [iblk, V, idx t, ht]

/-- The carried rows, with a leading axis of one. -/
theorem pay9_at (v : Vec Ideal S8x256 .f32) (r : Fin 8) (ch : Fin 256) : k0_pay9 v (ix3 0 r ch) = v (ix2 r ch) := by
  pointwise [k0_pay9]

/-- Storing the rows changes no entry. -/
theorem pay4_at (v : Vec Ideal S256x256 .f32) (r ch : Fin 256) : k0_pay4 v (ix2 r ch) = v (ix2 r ch) := by
  pointwise [k0_pay4]

/-- The last eight extended rows are the last eight new ones. -/
theorem ext_last (p : FVec Ideal S256x256 .f32) (r : Fin 8) (ch : Fin 256) :
    (View.whole cc0_scratch0).readCov (Val := Elt Ideal) [⟨Rect.unit ![8, 0] ![256, 256] inb_S264x256_S256x256_8_0, p⟩]
      (Rect.unit (s := S264x256) ![256, 0] ![8, 256] inb_S264x256_S8x256_256_0).toLoadRect (ix2 r ch) = p (ix2 ⟨248 + r.val, by omega⟩ ch) := by
  rw [View.readCov_eq_canon']
  have e0 : ((Rect.unit (s := S264x256) ![256, 0] ![8, 256] inb_S264x256_S8x256_256_0).toLoadRect.idx (ix2 r ch) 0).val = 256 + r.val := by
    exact Rect.idx_unit_val ..
  have e1 : ((Rect.unit (s := S264x256) ![256, 0] ![8, 256] inb_S264x256_S8x256_256_0).toLoadRect.idx (ix2 r ch) 1).val = ch.val := by
    exact (Rect.idx_unit_val ..).trans (Nat.zero_add _)
  show View.canon _ ((Rect.unit (s := S264x256) ![256, 0] ![8, 256] inb_S264x256_S8x256_256_0).toLoadRect.idx (ix2 r ch)) = _
  generalize (Rect.unit (s := S264x256) ![256, 0] ![8, 256] inb_S264x256_S8x256_256_0).toLoadRect.idx (ix2 r ch) = y at e0 e1 ⊢
  have hy : y ∈ (Rect.unit (s := S264x256) ![8, 0] ![256, 256] inb_S264x256_S256x256_8_0).set := Rect.mem_set_unit.2 fun a => by
    fin_cases a
    · exact ⟨show 8 ≤ (y 0).val by omega, show (y 0).val < 8 + 256 by omega⟩
    · exact ⟨show 0 ≤ (y 1).val by omega, show (y 1).val < 0 + 256 by omega⟩
  canon_tiles x h using ⟨_, List.mem_singleton_self _, hy⟩
  obtain ⟨r', ch', rfl⟩ : ∃ (r' : Fin 256) (ch' : Fin 256), x = ix2 r' ch' := ⟨x 0, x 1, eq_ix2 x⟩
  have er : (y 0).val = 8 + r'.val := h0
  have ec : (y 1).val = ch'.val := h1
  exact congrArg p (congrArg₂ ix2 (Fin.ext (by dsimp only; omega)) (Fin.ext (by omega)))

set_option maxHeartbeats 1600000 in
/-- The carried rows after the run are the last eight projected rows' first half. -/
theorem final (c : Dev nD) : (dats m 0 c).arrAt 11 (cfgs 0).N
    = fun i => rows m c (ix2 ⟨16376 + (i 1).val, by have h : (i 1).val < 8 := (i 1).isLt; omega⟩ ⟨(i 2).val, by have h : (i 2).val < 256 := (i 2).isLt; omega⟩) := by
  refine (dats m 0 c).arrAt_eq_of_covers 11 _ (by decide +kernel) fun t hf y => ?_
  have ht : t.val = 63 := last_point t hf
  blk_simp
  rw [after0_11, outsAt0_B m c t (by rw [ht]; decide)]
  frame_out
  obtain ⟨r, ch, rfl⟩ : ∃ (r : Fin 8) (ch : Fin 256), y = ix3 0 r ch := ⟨y 1, y 2, by
    funext a; fin_cases a
    · exact Subsingleton.elim (α := Fin 1) _ _
    · rfl
    · rfl⟩
  refine (pay9_at _ r ch).trans ((ext_last _ r ch).trans ((pay4_at _ _ _).trans ?_))
  refine (View.ld_unit_apply_of (iblk m c 0 t) ![0, 0] ![256, 256] inb_S256x512_S256x256_0_0 (ix2 ⟨248 + r.val, by omega⟩ ch)
    (ix2 ⟨248 + r.val, by omega⟩ ⟨ch.val, by omega⟩) (fun a => by fin_cases a <;> simp [ix2])).trans ((b0 m c t ht _ _).trans ?_)
  have e1 : win0_11.index t 1 = 0 := congrFun (idx t).2 1
  have e2 : win0_11.index t 2 = 0 := congrFun (idx t).2 2
  refine congrArg (rows m c) (congrArg₂ ix2 (Fin.ext ?_) (Fin.ext ?_))
  · show 16128 + (248 + r.val) = 16376 + (win0_11.index t 1 * 8 + r.val)
    rw [e1]; omega
  · show ch.val = win0_11.index t 2 * 256 + ch.val
    rw [e2]; omega

end Cert.Carry
-- ==== Proof.Carry.RefValue.lean ====
module

public import proofs.«01_k».proof.Proof.Gen.Reference8Ideal.Run
public import Idealize.ShloMosaic.Lib.Pipeline.ValueKit

@[expose] public section

/-!
The rows the reference carries out of the prompt batch, entry by entry.
-/

set_option maxRecDepth 16384

noncomputable section

namespace Cert.Carry

open Idealize.ShloMosaic Idealize.ShloMosaic.TcCoe Idealize.SL.Sem
open Cert.Reference8Ideal Cert.Reference8Ideal.Gen

/-- The last eight rows of the zeros followed by the first half of the projected rows. -/
theorem ref_at (x : FVec Ideal S16384x512 .f32) (r : Fin 8) (ch : Fin 256) :
    extractStridedSlice S1x8x256 ![0, 16379, 0] (concatenate S1x16387x256 1 [⟨S1x3x256, (broadcastInDim S1x3x256 ![] bcast_S_S1x3x256 (constant (F := Ideal) S_ .f32 0x00000000#32))⟩, ⟨S1x16384x256, (shapeCast _ (extractStridedSlice S16384x256 ![0, 0] x slices_S16384x512_S16384x256_0_0) shapeCasts_S16384x256_S1x16384x256)⟩] concatenates_S1x3x256_S1x16384x256_S1x16387x256_d1) slices_S1x16387x256_S1x8x256_0_16379_0 (ix3 0 r ch)
      = x (ix2 ⟨16376 + r.val, by omega⟩ ⟨ch.val, by omega⟩) := by
  pointwise
  rw [dif_neg (by omega)]
  exact congrArg x (congrArg₂ ix2 (Fin.ext (by dsimp only; omega)) rfl)

end Cert.Carry
-- ==== Proof.Carry.Agreement.lean ====
module

public import proofs.«01_k».proof.Defs
public import proofs.«01_k».proof.Proof.Gen.Kernel8Ideal.Value
public import proofs.«01_k».proof.Proof.Carry.Finals
public import proofs.«01_k».proof.Proof.Carry.RefValue

@[expose] public section

/-!
The prompt batch's recurrent mixer and its reference carry equal rows out of the batch.
-/

noncomputable section

namespace Cert.Carry

open Idealize.ShloMosaic Idealize.ShloMosaic.TcCoe Idealize.SL.Sem

/-- A function of the carried rows' index that agrees with the projected rows entry by entry is the carried rows. -/
theorem carried_of (x : FVec Ideal Cert.Kernel8Ideal.S16384x512 .f32) (f : FVec Ideal Cert.Kernel8Ideal.S1x8x256 .f32)
    (h : ∀ (r : Fin 8) (ch : Fin 256), f (ix3 0 r ch) = x (ix2 ⟨16376 + r.val, by omega⟩ ⟨ch.val, by omega⟩)) :
    f = fun i => x (ix2 ⟨16376 + (i 1).val, by have h : (i 1).val < 8 := (i 1).isLt; omega⟩ ⟨(i 2).val, by have h : (i 2).val < 256 := (i 2).isLt; omega⟩) := by
  funext i
  obtain ⟨r, ch, rfl⟩ : ∃ (r : Fin 8) (ch : Fin 256), i = ix3 0 r ch := ⟨i 1, i 2, by
    funext a; fin_cases a
    · exact Subsingleton.elim (α := Fin 1) _ _
    · rfl
    · rfl⟩
  exact h r ch

/-- Equal carried rows, as the claim states them. -/
theorem equal : algebraic_Kernel8Ideal_Reference8Ideal (hKernel8Ideal := Cert.Kernel8Ideal.Gen.facts) (hReference8Ideal := Cert.Reference8Ideal.Gen.facts) := by
  intro m g m' g' hpre hagree
  refine ⟨fun c => fun i => rows m c (ix2 ⟨16376 + (i 1).val, by have h : (i 1).val < 8 := (i 1).isLt; omega⟩ ⟨(i 2).val, by have h : (i 2).val < 256 := (i 2).isLt; omega⟩),
    (θ_run _ _ _).mono (fun r h c => ⟨(h c).2.1.trans (final m c), (h c).2.2.2⟩) (Cert.Kernel8Ideal.Value.run_blocks m g),
    (θ_run _ _ _).mono (fun r h c => ⟨(h c).1.trans ?_, (h c).2⟩) (Cert.Reference8Ideal.Value.run m' g')⟩
  have e : m' ((c.tc : Thread Cert.Reference8Ideal.nD Cert.Reference8Ideal.τ).loc Cert.Reference8Ideal.main_arg0) = rows m c := (hagree c).1
  rw [e]
  exact carried_of (rows m c) _ (ref_at (rows m c))

end Cert.Carry
-- ==== Proof.RgLru.Frames.lean ====
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import Idealize.ShloMosaic.Adequacy
public import Idealize.ShloMosaic.Init

@[expose] public section

/-!
The references terminate without fault and leave their arguments and every counter as they were.
-/

noncomputable section

namespace Cert.RgLru

open Idealize.ShloMosaic Idealize.ShloMosaic.TcCoe Idealize.SL.Sem

/-- The recurrent mixer's reference. -/
theorem frame_reference : quiescent_ReferenceIdeal (hReferenceIdeal := Cert.ReferenceIdeal.Gen.facts) := by
  intro m g hpre
  exact (θ_run _ _ _).mono (fun r h => ⟨fun c => (h c).2.2.2, sem_eq_zero_of_no_sems (by decide) r.2⟩) (Cert.ReferenceIdeal.Value.run m g)

/-- The feed-forward part's reference. -/
theorem frame_reference2 : quiescent_Reference2Ideal (hReference2Ideal := Cert.Reference2Ideal.Gen.facts) := by
  intro m g hpre
  exact (θ_run _ _ _).mono (fun r h => ⟨fun c => (h c).2, sem_eq_zero_of_no_sems (by decide) r.2⟩) (Cert.Reference2Ideal.Value.run m g)

/-- The merge's reference. -/
theorem frame_reference3 : quiescent_Reference3Ideal (hReference3Ideal := Cert.Reference3Ideal.Gen.facts) := by
  intro m g hpre
  exact (θ_run _ _ _).mono (fun r h => ⟨fun c => (h c).2, sem_eq_zero_of_no_sems (by decide) r.2⟩) (Cert.Reference3Ideal.Value.run m g)

/-- The input projection's reference. -/
theorem frame_reference4 : quiescent_Reference4Ideal (hReference4Ideal := Cert.Reference4Ideal.Gen.facts) := by
  intro m g hpre
  exact (θ_run _ _ _).mono (fun r h => ⟨fun c => (h c).2.2.2.2.2.2.2.2.2.2.2.2, sem_eq_zero_of_no_sems (by decide) r.2⟩) (Cert.Reference4Ideal.Value.run m g)

/-- The sample batch's input projection's reference. -/
theorem frame_reference5 : quiescent_Reference5Ideal (hReference5Ideal := Cert.Reference5Ideal.Gen.facts) := by
  intro m g hpre
  exact (θ_run _ _ _).mono (fun r h => ⟨fun c => (h c).2.2.2.2.2.2.2.2.2.2.2.2, sem_eq_zero_of_no_sems (by decide) r.2⟩) (Cert.Reference5Ideal.Value.run m g)

/-- The sample batch's feed-forward part's reference. -/
theorem frame_reference6 : quiescent_Reference6Ideal (hReference6Ideal := Cert.Reference6Ideal.Gen.facts) := by
  intro m g hpre
  exact (θ_run _ _ _).mono (fun r h => ⟨fun c => (h c).2, sem_eq_zero_of_no_sems (by decide) r.2⟩) (Cert.Reference6Ideal.Value.run m g)

/-- The sample batch's merge's reference. -/
theorem frame_reference7 : quiescent_Reference7Ideal (hReference7Ideal := Cert.Reference7Ideal.Gen.facts) := by
  intro m g hpre
  exact (θ_run _ _ _).mono (fun r h => ⟨fun c => (h c).2, sem_eq_zero_of_no_sems (by decide) r.2⟩) (Cert.Reference7Ideal.Value.run m g)

/-- The prompt batch's recurrent mixer's reference. -/
theorem frame_reference8 : quiescent_Reference8Ideal (hReference8Ideal := Cert.Reference8Ideal.Gen.facts) := by
  intro m g hpre
  exact (θ_run _ _ _).mono (fun r h => ⟨fun c => (h c).2, sem_eq_zero_of_no_sems (by decide) r.2⟩) (Cert.Reference8Ideal.Value.run m g)

end Cert.RgLru
-- ==== Proof.lean ====
/- The proof of the claims: frames of all programs, and the agreement of each kernel with its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.RgLru.Agreement
public import proofs.«01_k».proof.Proof.Ffn.Agreement
public import proofs.«01_k».proof.Proof.Merge.Agreement
public import proofs.«01_k».proof.Proof.Proj.Agreement
public import proofs.«01_k».proof.Proof.ProjSample.Agreement
public import proofs.«01_k».proof.Proof.FfnSample.Agreement
public import proofs.«01_k».proof.Proof.MergeSample.Agreement
public import proofs.«01_k».proof.Proof.Carry.Agreement
public import proofs.«01_k».proof.Proof.RgLru.Frames
public import Idealize.ShloMosaic.Adequacy
public import Idealize.ShloMosaic.Init

@[expose] public section

noncomputable section

namespace Cert.Proof

open Idealize.ShloMosaic Idealize.SL.Sem Cert.Kernel

/-- Every claim, in the order in which it is stated. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, by
  exact ⟨fun m g _ => Cert.Kernel.Gen.frame m g, fun m g _ => Cert.KernelIdeal.Gen.frame m g, Cert.RgLru.frame_reference,
    fun m g _ => Cert.Kernel2.Gen.frame m g, fun m g _ => Cert.Kernel2Ideal.Gen.frame m g, Cert.RgLru.frame_reference2,
    fun m g _ => Cert.Kernel3.Gen.frame m g, fun m g _ => Cert.Kernel3Ideal.Gen.frame m g, Cert.RgLru.frame_reference3,
    fun m g _ => Cert.Kernel4.Gen.frame m g, fun m g _ => Cert.Kernel4Ideal.Gen.frame m g, Cert.RgLru.frame_reference4,
    fun m g _ => Cert.Kernel5.Gen.frame m g, fun m g _ => Cert.Kernel5Ideal.Gen.frame m g, Cert.RgLru.frame_reference5,
    fun m g _ => Cert.Kernel6.Gen.frame m g, fun m g _ => Cert.Kernel6Ideal.Gen.frame m g, Cert.RgLru.frame_reference6,
    fun m g _ => Cert.Kernel7.Gen.frame m g, fun m g _ => Cert.Kernel7Ideal.Gen.frame m g, Cert.RgLru.frame_reference7,
    fun m g _ => Cert.Kernel8.Gen.frame m g, fun m g _ => Cert.Kernel8Ideal.Gen.frame m g, Cert.RgLru.frame_reference8,
    trivial, Cert.RgLru.equal, trivial, Cert.Ffn.equal, trivial, Cert.Merge.equal, trivial, Cert.Proj.equal, trivial, Cert.ProjSample.equal, trivial, Cert.FfnSample.equal, trivial, Cert.MergeSample.equal, trivial, Cert.Carry.equal⟩⟩

end Cert.Proof

end
